-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 4096]⟩ ⟨2, ![8192, 4096]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = Layout.block ⟨2, ![256, 4096]⟩ ⟨2, ![8192, 4096]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x256 : Shape := ⟨2, ![8192, 256]⟩
abbrev S256x4096 : Shape := ⟨2, ![256, 4096]⟩
abbrev S32 : Shape := ⟨1, ![32]⟩
abbrev S_ : Shape := ⟨0, ![]⟩
abbrev S1 : Shape := ⟨1, ![1]⟩
abbrev S3 : Shape := ⟨1, ![3]⟩
abbrev S3x256x2048 : Shape := ⟨3, ![3, 256, 2048]⟩
abbrev S3x2 : Shape := ⟨2, ![3, 2]⟩
abbrev S256x256 : Shape := ⟨2, ![256, 256]⟩
abbrev S256x2048 : Shape := ⟨2, ![256, 2048]⟩
abbrev S1x256x2048 : Shape := ⟨3, ![1, 256, 2048]⟩
abbrev S1x1 : Shape := ⟨2, ![1, 1]⟩
abbrev S1x128x2048 : Shape := ⟨3, ![1, 128, 2048]⟩
abbrev S128x2048 : Shape := ⟨2, ![128, 2048]⟩

abbrev nBuf : Space → Nat
  | .hbm => 76
  | .vmem => 5
  | .smem => 2
  | _ => 0

abbrev bufTy : (tb : Table) → Fin (tcTables nBuf tb) → BufTy
  | .hbm, ⟨0, _⟩ => ⟨S8192x256, .bf16⟩
  | .hbm, ⟨1, _⟩ => ⟨S256x4096, .bf16⟩
  | .hbm, ⟨2, _⟩ => ⟨S32, .i32⟩
  | .hbm, ⟨3, _⟩ => ⟨S32, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i1⟩
  | .hbm, ⟨34, _⟩ => ⟨S_, .i1⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i1⟩
  | .hbm, ⟨60, _⟩ => ⟨S_, .i1⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S1, .i32⟩
  | .hbm, ⟨73, _⟩ => ⟨S1, .i32⟩
  | .hbm, ⟨74, _⟩ => ⟨S3, .i32⟩
  | .hbm, ⟨75, _⟩ => ⟨S256x4096, .f32⟩
  | .local _ .vmem, ⟨0, _⟩ => ⟨S8192x256, .bf16⟩
  | .local _ .vmem, ⟨1, _⟩ => ⟨S256x4096, .bf16⟩
  | .local _ .vmem, ⟨2, _⟩ => ⟨S256x4096, .f32⟩
  | .local _ .vmem, ⟨3, _⟩ => ⟨S3x256x2048, .bf16⟩
  | .local _ .vmem, ⟨4, _⟩ => ⟨S3x256x2048, .bf16⟩
  | .local _ .smem, ⟨0, _⟩ => ⟨S3, .i32⟩
  | .local _ .smem, ⟨1, _⟩ => ⟨S32, .i32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 3 29 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_v11 : Ref sig .tc := ⟨.hbm, 20, rfl⟩
abbrev main_c_7 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_c_1 : Ref sig .tc := ⟨.hbm, 28, rfl⟩
abbrev main_call0_v4 : Ref sig .tc := ⟨.hbm, 29, rfl⟩
abbrev main_call0_c_2 : Ref sig .tc := ⟨.hbm, 30, rfl⟩
abbrev main_call0_v5 : Ref sig .tc := ⟨.hbm, 31, rfl⟩
abbrev main_call0_c_3 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_v12 : Ref sig .tc := ⟨.hbm, 37, rfl⟩
abbrev main_c_8 : Ref sig .tc := ⟨.hbm, 38, rfl⟩
abbrev main_v13 : Ref sig .tc := ⟨.hbm, 39, rfl⟩
abbrev main_c_9 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_10 : Ref sig .tc := ⟨.hbm, 45, rfl⟩
abbrev main_v18 : Ref sig .tc := ⟨.hbm, 46, rfl⟩
abbrev main_c_11 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_c_1 : Ref sig .tc := ⟨.hbm, 54, rfl⟩
abbrev main_call1_v4 : Ref sig .tc := ⟨.hbm, 55, rfl⟩
abbrev main_call1_c_2 : Ref sig .tc := ⟨.hbm, 56, rfl⟩
abbrev main_call1_v5 : Ref sig .tc := ⟨.hbm, 57, rfl⟩
abbrev main_call1_c_3 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_v19 : Ref sig .tc := ⟨.hbm, 63, rfl⟩
abbrev main_c_12 : Ref sig .tc := ⟨.hbm, 64, rfl⟩
abbrev main_v20 : Ref sig .tc := ⟨.hbm, 65, rfl⟩
abbrev main_c_13 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k0_dev2 (v2 : BitVec 32) : Nat :=
  let c0_i32_3 : BitVec 32 := 0#32
  let c1_i32_2 : BitVec 32 := 1#32
  let v6 : BitVec 32 := Scalar.muli v2 c1_i32_2
  let v7 : BitVec 32 := Scalar.addi c0_i32_3 v6
  v7.toNat

def k0_off1 (v0 : BitVec 32) : Fin 1 → Nat :=
  let c64_i32 : BitVec 32 := 64#32
  let v8 : BitVec 32 := Scalar.addi v0 c64_i32
  let c1_i32_4 : BitVec 32 := 1#32
  let v9 : BitVec 32 := Scalar.subi v8 c1_i32_4
  let c0_i32_5 : BitVec 32 := 0#32
  let v10 : BitVec 32 := Scalar.subi v9 c0_i32_5
  let c32_i32 : BitVec 32 := 32#32
  let c0_i32_6 : BitVec 32 := 0#32
  let v11 : BitVec 1 := Scalar.cmpi .eq c32_i32 c0_i32_6
  let c1_i32_7 : BitVec 32 := 1#32
  let v12 : BitVec 32 := Scalar.select v11 c1_i32_7 c32_i32
  let v13 : BitVec 32 := Scalar.remsi v10 v12
  let c0_i32_9 : BitVec 32 := 0#32
  let v15 : BitVec 1 := Scalar.cmpi .slt v13 c0_i32_9
  let c0_i32_10 : BitVec 32 := 0#32
  let v16 : BitVec 1 := Scalar.cmpi .slt v12 c0_i32_10
  let v17 : BitVec 1 := Scalar.xori v15 v16
  let c0_i32_8 : BitVec 32 := 0#32
  let v14 : BitVec 1 := Scalar.cmpi .ne v13 c0_i32_8
  let v18 : BitVec 1 := Scalar.andi v17 v14
  let v19 : BitVec 32 := Scalar.addi v13 v12
  let v20 : BitVec 32 := Scalar.select v18 v19 v13
  let v21 : Index := Scalar.indexCast v20
  ![v21.toNat]

def k0_off2 (v22 : BitVec 32) : Fin 2 → Nat :=
  let c256_i32 : BitVec 32 := 256#32
  let v23 : BitVec 32 := Scalar.muli v22 c256_i32
  let v24 : Index := Scalar.indexCast v23
  let c0_11 : Index := 0#32
  ![v24.toNat, 0]

def k0_chk4 (v22 : BitVec 32) : Prop :=
  (∀ a, (k0_off2 v22) a + S256x256.size a ≤ S8192x256.size a)
theorem k0_off2_inb : ∀ (v22 : BitVec 32) (k0_hw4 : k0_chk4 v22), ∀ a, (k0_off2 v22) a + S256x256.size a ≤ S8192x256.size a := fun v22 k0_hw4 => k0_hw4

def k0_dev3 (v2 : BitVec 32) : Nat :=
  let c0_i32_24 : BitVec 32 := 0#32
  let c1_i32_23 : BitVec 32 := 1#32
  let v34 : BitVec 32 := Scalar.muli v2 c1_i32_23
  let v35 : BitVec 32 := Scalar.addi c0_i32_24 v34
  v35.toNat
def k0_dev4 (v2 : BitVec 32) : Nat :=
  let c0_i32_36 : BitVec 32 := 0#32
  let c1_i32_35 : BitVec 32 := 1#32
  let v44 : BitVec 32 := Scalar.muli v2 c1_i32_35
  let v45 : BitVec 32 := Scalar.addi c0_i32_36 v44
  v45.toNat
def k0_off3 (v0 : BitVec 32) : Fin 1 → Nat :=
  let c1_i32_40 : BitVec 32 := 1#32
  let v54 : BitVec 32 := Scalar.addi v0 c1_i32_40
  let c0_i32_41 : BitVec 32 := 0#32
  let v55 : BitVec 32 := Scalar.addi v54 c0_i32_41
  let c32_i32_42 : BitVec 32 := 32#32
  let c0_i32_43 : BitVec 32 := 0#32
  let v56 : BitVec 1 := Scalar.cmpi .eq c32_i32_42 c0_i32_43
  let c1_i32_44 : BitVec 32 := 1#32
  let v57 : BitVec 32 := Scalar.select v56 c1_i32_44 c32_i32_42
  let v58 : BitVec 32 := Scalar.remsi v55 v57
  let c0_i32_46 : BitVec 32 := 0#32
  let v60 : BitVec 1 := Scalar.cmpi .slt v58 c0_i32_46
  let c0_i32_47 : BitVec 32 := 0#32
  let v61 : BitVec 1 := Scalar.cmpi .slt v57 c0_i32_47
  let v62 : BitVec 1 := Scalar.xori v60 v61
  let c0_i32_45 : BitVec 32 := 0#32
  let v59 : BitVec 1 := Scalar.cmpi .ne v58 c0_i32_45
  let v63 : BitVec 1 := Scalar.andi v62 v59
  let v64 : BitVec 32 := Scalar.addi v58 v57
  let v65 : BitVec 32 := Scalar.select v63 v64 v58
  let v66 : Index := Scalar.indexCast v65
  ![v66.toNat]
def k0_off4 (v67 : BitVec 32) : Fin 2 → Nat :=
  let c256_i32_48 : BitVec 32 := 256#32
  let v68 : BitVec 32 := Scalar.muli v67 c256_i32_48
  let v69 : Index := Scalar.indexCast v68
  let c0_49 : Index := 0#32
  ![v69.toNat, 0]

def k0_chk5 (v67 : BitVec 32) : Prop :=
  (∀ a, (k0_off4 v67) a + S256x256.size a ≤ S8192x256.size a)
theorem k0_off4_inb : ∀ (v67 : BitVec 32) (k0_hw5 : k0_chk5 v67), ∀ a, (k0_off4 v67) a + S256x256.size a ≤ S8192x256.size a := fun v67 k0_hw5 => k0_hw5

def k0_dev5 (v1 : BitVec 32) : Nat :=
  let c0_i32_62 : BitVec 32 := 0#32
  let c1_i32_61 : BitVec 32 := 1#32
  let v79 : BitVec 32 := Scalar.muli v1 c1_i32_61
  let v80 : BitVec 32 := Scalar.addi c0_i32_62 v79
  v80.toNat
def k0_dev6 (v1 : BitVec 32) : Nat :=
  let c0_i32_74 : BitVec 32 := 0#32
  let c1_i32_73 : BitVec 32 := 1#32
  let v89 : BitVec 32 := Scalar.muli v1 c1_i32_73
  let v90 : BitVec 32 := Scalar.addi c0_i32_74 v89
  v90.toNat
def k0_off5 (v0 : BitVec 32) : Fin 1 → Nat :=
  let c64_i32_79 : BitVec 32 := 64#32
  let v99 : BitVec 32 := Scalar.addi v0 c64_i32_79
  let c2_i32_80 : BitVec 32 := 2#32
  let v100 : BitVec 32 := Scalar.subi v99 c2_i32_80
  let c0_i32_81 : BitVec 32 := 0#32
  let v101 : BitVec 32 := Scalar.subi v100 c0_i32_81
  let c32_i32_82 : BitVec 32 := 32#32
  let c0_i32_83 : BitVec 32 := 0#32
  let v102 : BitVec 1 := Scalar.cmpi .eq c32_i32_82 c0_i32_83
  let c1_i32_84 : BitVec 32 := 1#32
  let v103 : BitVec 32 := Scalar.select v102 c1_i32_84 c32_i32_82
  let v104 : BitVec 32 := Scalar.remsi v101 v103
  let c0_i32_86 : BitVec 32 := 0#32
  let v106 : BitVec 1 := Scalar.cmpi .slt v104 c0_i32_86
  let c0_i32_87 : BitVec 32 := 0#32
  let v107 : BitVec 1 := Scalar.cmpi .slt v103 c0_i32_87
  let v108 : BitVec 1 := Scalar.xori v106 v107
  let c0_i32_85 : BitVec 32 := 0#32
  let v105 : BitVec 1 := Scalar.cmpi .ne v104 c0_i32_85
  let v109 : BitVec 1 := Scalar.andi v108 v105
  let v110 : BitVec 32 := Scalar.addi v104 v103
  let v111 : BitVec 32 := Scalar.select v109 v110 v104
  let v112 : Index := Scalar.indexCast v111
  ![v112.toNat]
def k0_off6 (v113 : BitVec 32) : Fin 2 → Nat :=
  let c256_i32_88 : BitVec 32 := 256#32
  let v114 : BitVec 32 := Scalar.muli v113 c256_i32_88
  let v115 : Index := Scalar.indexCast v114
  let c0_89 : Index := 0#32
  ![v115.toNat, 0]

def k0_chk6 (v113 : BitVec 32) : Prop :=
  (∀ a, (k0_off6 v113) a + S256x256.size a ≤ S8192x256.size a)
theorem k0_off6_inb : ∀ (v113 : BitVec 32) (k0_hw6 : k0_chk6 v113), ∀ a, (k0_off6 v113) a + S256x256.size a ≤ S8192x256.size a := fun v113 k0_hw6 => k0_hw6

def k0_off7 (v0 : BitVec 32) : Fin 1 → Nat :=
  let c2_i32_93 : BitVec 32 := 2#32
  let v121 : BitVec 32 := Scalar.addi v0 c2_i32_93
  let c0_i32_94 : BitVec 32 := 0#32
  let v122 : BitVec 32 := Scalar.addi v121 c0_i32_94
  let c32_i32_95 : BitVec 32 := 32#32
  let c0_i32_96 : BitVec 32 := 0#32
  let v123 : BitVec 1 := Scalar.cmpi .eq c32_i32_95 c0_i32_96
  let c1_i32_97 : BitVec 32 := 1#32
  let v124 : BitVec 32 := Scalar.select v123 c1_i32_97 c32_i32_95
  let v125 : BitVec 32 := Scalar.remsi v122 v124
  let c0_i32_99 : BitVec 32 := 0#32
  let v127 : BitVec 1 := Scalar.cmpi .slt v125 c0_i32_99
  let c0_i32_100 : BitVec 32 := 0#32
  let v128 : BitVec 1 := Scalar.cmpi .slt v124 c0_i32_100
  let v129 : BitVec 1 := Scalar.xori v127 v128
  let c0_i32_98 : BitVec 32 := 0#32
  let v126 : BitVec 1 := Scalar.cmpi .ne v125 c0_i32_98
  let v130 : BitVec 1 := Scalar.andi v129 v126
  let v131 : BitVec 32 := Scalar.addi v125 v124
  let v132 : BitVec 32 := Scalar.select v130 v131 v125
  let v133 : Index := Scalar.indexCast v132
  ![v133.toNat]
def k0_off8 (v134 : BitVec 32) : Fin 2 → Nat :=
  let c256_i32_101 : BitVec 32 := 256#32
  let v135 : BitVec 32 := Scalar.muli v134 c256_i32_101
  let v136 : Index := Scalar.indexCast v135
  let c0_102 : Index := 0#32
  ![v136.toNat, 0]

def k0_chk7 (v134 : BitVec 32) : Prop :=
  (∀ a, (k0_off8 v134) a + S256x256.size a ≤ S8192x256.size a)
theorem k0_off8_inb : ∀ (v134 : BitVec 32) (k0_hw7 : k0_chk7 v134), ∀ a, (k0_off8 v134) a + S256x256.size a ≤ S8192x256.size a := fun v134 k0_hw7 => k0_hw7

def k0_dev7 (v2 : BitVec 32) : Nat :=
  let c0_i32_131 : BitVec 32 := 0#32
  let c1_i32_130 : BitVec 32 := 1#32
  let v159 : BitVec 32 := Scalar.muli v2 c1_i32_130
  let v160 : BitVec 32 := Scalar.addi c0_i32_131 v159
  v160.toNat
def k0_dev8 (v1 : BitVec 32) : Nat :=
  let c0_i32_161 : BitVec 32 := 0#32
  let c1_i32_160 : BitVec 32 := 1#32
  let v186 : BitVec 32 := Scalar.muli v1 c1_i32_160
  let v187 : BitVec 32 := Scalar.addi c0_i32_161 v186
  v187.toNat
def k0_dev9 (v2 : BitVec 32) : Nat :=
  let c0_i32_190 : BitVec 32 := 0#32
  let c1_i32_189 : BitVec 32 := 1#32
  let v213 : BitVec 32 := Scalar.muli v2 c1_i32_189
  let v214 : BitVec 32 := Scalar.addi c0_i32_190 v213
  v214.toNat
def k0_dev10 (v1 : BitVec 32) : Nat :=
  let c0_i32_220 : BitVec 32 := 0#32
  let c1_i32_219 : BitVec 32 := 1#32
  let v240 : BitVec 32 := Scalar.muli v1 c1_i32_219
  let v241 : BitVec 32 := Scalar.addi c0_i32_220 v240
  v241.toNat
def k0_dev11 (v1 : BitVec 32) : Nat :=
  let c0_i32_249 : BitVec 32 := 0#32
  let c1_i32_248 : BitVec 32 := 1#32
  let v262 : BitVec 32 := Scalar.muli v1 c1_i32_248
  let v263 : BitVec 32 := Scalar.addi c0_i32_249 v262
  v263.toNat
def k0_dev12 (v2 : BitVec 32) : Nat :=
  let c0_i32_274 : BitVec 32 := 0#32
  let c1_i32_273 : BitVec 32 := 1#32
  let v276 : BitVec 32 := Scalar.muli v2 c1_i32_273
  let v277 : BitVec 32 := Scalar.addi c0_i32_274 v276
  v277.toNat
def k0_off9 (v0 : BitVec 32) : Fin 1 → Nat :=
  let c64_i32_275 : BitVec 32 := 64#32
  let v278 : BitVec 32 := Scalar.addi v0 c64_i32_275
  let c2_i32_276 : BitVec 32 := 2#32
  let v279 : BitVec 32 := Scalar.subi v278 c2_i32_276
  let c1_i32_277 : BitVec 32 := 1#32
  let v280 : BitVec 32 := Scalar.subi v279 c1_i32_277
  let c32_i32_278 : BitVec 32 := 32#32
  let c0_i32_279 : BitVec 32 := 0#32
  let v281 : BitVec 1 := Scalar.cmpi .eq c32_i32_278 c0_i32_279
  let c1_i32_280 : BitVec 32 := 1#32
  let v282 : BitVec 32 := Scalar.select v281 c1_i32_280 c32_i32_278
  let v283 : BitVec 32 := Scalar.remsi v280 v282
  let c0_i32_282 : BitVec 32 := 0#32
  let v285 : BitVec 1 := Scalar.cmpi .slt v283 c0_i32_282
  let c0_i32_283 : BitVec 32 := 0#32
  let v286 : BitVec 1 := Scalar.cmpi .slt v282 c0_i32_283
  let v287 : BitVec 1 := Scalar.xori v285 v286
  let c0_i32_281 : BitVec 32 := 0#32
  let v284 : BitVec 1 := Scalar.cmpi .ne v283 c0_i32_281
  let v288 : BitVec 1 := Scalar.andi v287 v284
  let v289 : BitVec 32 := Scalar.addi v283 v282
  let v290 : BitVec 32 := Scalar.select v288 v289 v283
  let v291 : Index := Scalar.indexCast v290
  ![v291.toNat]
def k0_off10 (v292 : BitVec 32) : Fin 2 → Nat :=
  let c256_i32_284 : BitVec 32 := 256#32
  let v293 : BitVec 32 := Scalar.muli v292 c256_i32_284
  let v294 : Index := Scalar.indexCast v293
  let c0_285 : Index := 0#32
  ![v294.toNat, 0]

def k0_chk8 (v292 : BitVec 32) : Prop :=
  (∀ a, (k0_off10 v292) a + S256x256.size a ≤ S8192x256.size a)
theorem k0_off10_inb : ∀ (v292 : BitVec 32) (k0_hw8 : k0_chk8 v292), ∀ a, (k0_off10 v292) a + S256x256.size a ≤ S8192x256.size a := fun v292 k0_hw8 => k0_hw8

def k0_off11 (v0 : BitVec 32) : Fin 1 → Nat :=
  let c2_i32_289 : BitVec 32 := 2#32
  let v300 : BitVec 32 := Scalar.addi v0 c2_i32_289
  let c1_i32_290 : BitVec 32 := 1#32
  let v301 : BitVec 32 := Scalar.addi v300 c1_i32_290
  let c32_i32_291 : BitVec 32 := 32#32
  let c0_i32_292 : BitVec 32 := 0#32
  let v302 : BitVec 1 := Scalar.cmpi .eq c32_i32_291 c0_i32_292
  let c1_i32_293 : BitVec 32 := 1#32
  let v303 : BitVec 32 := Scalar.select v302 c1_i32_293 c32_i32_291
  let v304 : BitVec 32 := Scalar.remsi v301 v303
  let c0_i32_295 : BitVec 32 := 0#32
  let v306 : BitVec 1 := Scalar.cmpi .slt v304 c0_i32_295
  let c0_i32_296 : BitVec 32 := 0#32
  let v307 : BitVec 1 := Scalar.cmpi .slt v303 c0_i32_296
  let v308 : BitVec 1 := Scalar.xori v306 v307
  let c0_i32_294 : BitVec 32 := 0#32
  let v305 : BitVec 1 := Scalar.cmpi .ne v304 c0_i32_294
  let v309 : BitVec 1 := Scalar.andi v308 v305
  let v310 : BitVec 32 := Scalar.addi v304 v303
  let v311 : BitVec 32 := Scalar.select v309 v310 v304
  let v312 : Index := Scalar.indexCast v311
  ![v312.toNat]
def k0_off12 (v313 : BitVec 32) : Fin 2 → Nat :=
  let c256_i32_297 : BitVec 32 := 256#32
  let v314 : BitVec 32 := Scalar.muli v313 c256_i32_297
  let v315 : Index := Scalar.indexCast v314
  let c0_298 : Index := 0#32
  ![v315.toNat, 0]

def k0_chk9 (v313 : BitVec 32) : Prop :=
  (∀ a, (k0_off12 v313) a + S256x256.size a ≤ S8192x256.size a)
theorem k0_off12_inb : ∀ (v313 : BitVec 32) (k0_hw9 : k0_chk9 v313), ∀ a, (k0_off12 v313) a + S256x256.size a ≤ S8192x256.size a := fun v313 k0_hw9 => k0_hw9

def k0_dev13 (v2 : BitVec 32) : Nat :=
  let c0_i32_331 : BitVec 32 := 0#32
  let c1_i32_330 : BitVec 32 := 1#32
  let v338 : BitVec 32 := Scalar.muli v2 c1_i32_330
  let v339 : BitVec 32 := Scalar.addi c0_i32_331 v338
  v339.toNat
def k0_dev14 (v1 : BitVec 32) : Nat :=
  let c0_i32_361 : BitVec 32 := 0#32
  let c1_i32_360 : BitVec 32 := 1#32
  let v365 : BitVec 32 := Scalar.muli v1 c1_i32_360
  let v366 : BitVec 32 := Scalar.addi c0_i32_361 v365
  v366.toNat
def k0_dev15 (v2 : BitVec 32) : Nat :=
  let c0_i32_391 : BitVec 32 := 0#32
  let c1_i32_390 : BitVec 32 := 1#32
  let v392 : BitVec 32 := Scalar.muli v2 c1_i32_390
  let v393 : BitVec 32 := Scalar.addi c0_i32_391 v392
  v393.toNat
def k0_dev16 (v1 : BitVec 32) : Nat :=
  let c0_i32_421 : BitVec 32 := 0#32
  let c1_i32_420 : BitVec 32 := 1#32
  let v419 : BitVec 32 := Scalar.muli v1 c1_i32_420
  let v420 : BitVec 32 := Scalar.addi c0_i32_421 v419
  v420.toNat
def k0_dev17 (v1 : BitVec 32) : Nat :=
  let c0_i32_450 : BitVec 32 := 0#32
  let c1_i32_449 : BitVec 32 := 1#32
  let v441 : BitVec 32 := Scalar.muli v1 c1_i32_449
  let v442 : BitVec 32 := Scalar.addi c0_i32_450 v441
  v442.toNat
def k0_dev18 (v2 : BitVec 32) : Nat :=
  let c0_i32_475 : BitVec 32 := 0#32
  let c1_i32_474 : BitVec 32 := 1#32
  let v455 : BitVec 32 := Scalar.muli v2 c1_i32_474
  let v456 : BitVec 32 := Scalar.addi c0_i32_475 v455
  v456.toNat
def k0_off13 (v0 : BitVec 32) : Fin 1 → Nat :=
  let c64_i32_476 : BitVec 32 := 64#32
  let v457 : BitVec 32 := Scalar.addi v0 c64_i32_476
  let c2_i32_477 : BitVec 32 := 2#32
  let v458 : BitVec 32 := Scalar.subi v457 c2_i32_477
  let c2_i32_478 : BitVec 32 := 2#32
  let v459 : BitVec 32 := Scalar.subi v458 c2_i32_478
  let c32_i32_479 : BitVec 32 := 32#32
  let c0_i32_480 : BitVec 32 := 0#32
  let v460 : BitVec 1 := Scalar.cmpi .eq c32_i32_479 c0_i32_480
  let c1_i32_481 : BitVec 32 := 1#32
  let v461 : BitVec 32 := Scalar.select v460 c1_i32_481 c32_i32_479
  let v462 : BitVec 32 := Scalar.remsi v459 v461
  let c0_i32_483 : BitVec 32 := 0#32
  let v464 : BitVec 1 := Scalar.cmpi .slt v462 c0_i32_483
  let c0_i32_484 : BitVec 32 := 0#32
  let v465 : BitVec 1 := Scalar.cmpi .slt v461 c0_i32_484
  let v466 : BitVec 1 := Scalar.xori v464 v465
  let c0_i32_482 : BitVec 32 := 0#32
  let v463 : BitVec 1 := Scalar.cmpi .ne v462 c0_i32_482
  let v467 : BitVec 1 := Scalar.andi v466 v463
  let v468 : BitVec 32 := Scalar.addi v462 v461
  let v469 : BitVec 32 := Scalar.select v467 v468 v462
  let v470 : Index := Scalar.indexCast v469
  ![v470.toNat]
def k0_off14 (v471 : BitVec 32) : Fin 2 → Nat :=
  let c256_i32_485 : BitVec 32 := 256#32
  let v472 : BitVec 32 := Scalar.muli v471 c256_i32_485
  let v473 : Index := Scalar.indexCast v472
  let c0_486 : Index := 0#32
  ![v473.toNat, 0]

def k0_chk10 (v471 : BitVec 32) : Prop :=
  (∀ a, (k0_off14 v471) a + S256x256.size a ≤ S8192x256.size a)
theorem k0_off14_inb : ∀ (v471 : BitVec 32) (k0_hw10 : k0_chk10 v471), ∀ a, (k0_off14 v471) a + S256x256.size a ≤ S8192x256.size a := fun v471 k0_hw10 => k0_hw10

def k0_off15 (v0 : BitVec 32) : Fin 1 → Nat :=
  let c2_i32_490 : BitVec 32 := 2#32
  let v479 : BitVec 32 := Scalar.addi v0 c2_i32_490
  let c2_i32_491 : BitVec 32 := 2#32
  let v480 : BitVec 32 := Scalar.addi v479 c2_i32_491
  let c32_i32_492 : BitVec 32 := 32#32
  let c0_i32_493 : BitVec 32 := 0#32
  let v481 : BitVec 1 := Scalar.cmpi .eq c32_i32_492 c0_i32_493
  let c1_i32_494 : BitVec 32 := 1#32
  let v482 : BitVec 32 := Scalar.select v481 c1_i32_494 c32_i32_492
  let v483 : BitVec 32 := Scalar.remsi v480 v482
  let c0_i32_496 : BitVec 32 := 0#32
  let v485 : BitVec 1 := Scalar.cmpi .slt v483 c0_i32_496
  let c0_i32_497 : BitVec 32 := 0#32
  let v486 : BitVec 1 := Scalar.cmpi .slt v482 c0_i32_497
  let v487 : BitVec 1 := Scalar.xori v485 v486
  let c0_i32_495 : BitVec 32 := 0#32
  let v484 : BitVec 1 := Scalar.cmpi .ne v483 c0_i32_495
  let v488 : BitVec 1 := Scalar.andi v487 v484
  let v489 : BitVec 32 := Scalar.addi v483 v482
  let v490 : BitVec 32 := Scalar.select v488 v489 v483
  let v491 : Index := Scalar.indexCast v490
  ![v491.toNat]
def k0_off16 (v492 : BitVec 32) : Fin 2 → Nat :=
  let c256_i32_498 : BitVec 32 := 256#32
  let v493 : BitVec 32 := Scalar.muli v492 c256_i32_498
  let v494 : Index := Scalar.indexCast v493
  let c0_499 : Index := 0#32
  ![v494.toNat, 0]

def k0_chk11 (v492 : BitVec 32) : Prop :=
  (∀ a, (k0_off16 v492) a + S256x256.size a ≤ S8192x256.size a)
theorem k0_off16_inb : ∀ (v492 : BitVec 32) (k0_hw11 : k0_chk11 v492), ∀ a, (k0_off16 v492) a + S256x256.size a ≤ S8192x256.size a := fun v492 k0_hw11 => k0_hw11

def k0_dev19 (v2 : BitVec 32) : Nat :=
  let c0_i32_532 : BitVec 32 := 0#32
  let c1_i32_531 : BitVec 32 := 1#32
  let v517 : BitVec 32 := Scalar.muli v2 c1_i32_531
  let v518 : BitVec 32 := Scalar.addi c0_i32_532 v517
  v518.toNat
def k0_dev20 (v1 : BitVec 32) : Nat :=
  let c0_i32_562 : BitVec 32 := 0#32
  let c1_i32_561 : BitVec 32 := 1#32
  let v544 : BitVec 32 := Scalar.muli v1 c1_i32_561
  let v545 : BitVec 32 := Scalar.addi c0_i32_562 v544
  v545.toNat
def k0_dev21 (v2 : BitVec 32) : Nat :=
  let c0_i32_592 : BitVec 32 := 0#32
  let c1_i32_591 : BitVec 32 := 1#32
  let v571 : BitVec 32 := Scalar.muli v2 c1_i32_591
  let v572 : BitVec 32 := Scalar.addi c0_i32_592 v571
  v572.toNat
def k0_dev22 (v1 : BitVec 32) : Nat :=
  let c0_i32_622 : BitVec 32 := 0#32
  let c1_i32_621 : BitVec 32 := 1#32
  let v598 : BitVec 32 := Scalar.muli v1 c1_i32_621
  let v599 : BitVec 32 := Scalar.addi c0_i32_622 v598
  v599.toNat
def k0_dev23 (v1 : BitVec 32) : Nat :=
  let c0_i32_651 : BitVec 32 := 0#32
  let c1_i32_650 : BitVec 32 := 1#32
  let v620 : BitVec 32 := Scalar.muli v1 c1_i32_650
  let v621 : BitVec 32 := Scalar.addi c0_i32_651 v620
  v621.toNat
def k0_dev24 (v2 : BitVec 32) : Nat :=
  let c0_i32_676 : BitVec 32 := 0#32
  let c1_i32_675 : BitVec 32 := 1#32
  let v634 : BitVec 32 := Scalar.muli v2 c1_i32_675
  let v635 : BitVec 32 := Scalar.addi c0_i32_676 v634
  v635.toNat
def k0_off17 (v0 : BitVec 32) : Fin 1 → Nat :=
  let c64_i32_677 : BitVec 32 := 64#32
  let v636 : BitVec 32 := Scalar.addi v0 c64_i32_677
  let c2_i32_678 : BitVec 32 := 2#32
  let v637 : BitVec 32 := Scalar.subi v636 c2_i32_678
  let c3_i32 : BitVec 32 := 3#32
  let v638 : BitVec 32 := Scalar.subi v637 c3_i32
  let c32_i32_679 : BitVec 32 := 32#32
  let c0_i32_680 : BitVec 32 := 0#32
  let v639 : BitVec 1 := Scalar.cmpi .eq c32_i32_679 c0_i32_680
  let c1_i32_681 : BitVec 32 := 1#32
  let v640 : BitVec 32 := Scalar.select v639 c1_i32_681 c32_i32_679
  let v641 : BitVec 32 := Scalar.remsi v638 v640
  let c0_i32_683 : BitVec 32 := 0#32
  let v643 : BitVec 1 := Scalar.cmpi .slt v641 c0_i32_683
  let c0_i32_684 : BitVec 32 := 0#32
  let v644 : BitVec 1 := Scalar.cmpi .slt v640 c0_i32_684
  let v645 : BitVec 1 := Scalar.xori v643 v644
  let c0_i32_682 : BitVec 32 := 0#32
  let v642 : BitVec 1 := Scalar.cmpi .ne v641 c0_i32_682
  let v646 : BitVec 1 := Scalar.andi v645 v642
  let v647 : BitVec 32 := Scalar.addi v641 v640
  let v648 : BitVec 32 := Scalar.select v646 v647 v641
  let v649 : Index := Scalar.indexCast v648
  ![v649.toNat]
def k0_off18 (v650 : BitVec 32) : Fin 2 → Nat :=
  let c256_i32_685 : BitVec 32 := 256#32
  let v651 : BitVec 32 := Scalar.muli v650 c256_i32_685
  let v652 : Index := Scalar.indexCast v651
  let c0_686 : Index := 0#32
  ![v652.toNat, 0]

def k0_chk12 (v650 : BitVec 32) : Prop :=
  (∀ a, (k0_off18 v650) a + S256x256.size a ≤ S8192x256.size a)
theorem k0_off18_inb : ∀ (v650 : BitVec 32) (k0_hw12 : k0_chk12 v650), ∀ a, (k0_off18 v650) a + S256x256.size a ≤ S8192x256.size a := fun v650 k0_hw12 => k0_hw12

def k0_off19 (v0 : BitVec 32) : Fin 1 → Nat :=
  let c2_i32_690 : BitVec 32 := 2#32
  let v658 : BitVec 32 := Scalar.addi v0 c2_i32_690
  let c3_i32_691 : BitVec 32 := 3#32
  let v659 : BitVec 32 := Scalar.addi v658 c3_i32_691
  let c32_i32_692 : BitVec 32 := 32#32
  let c0_i32_693 : BitVec 32 := 0#32
  let v660 : BitVec 1 := Scalar.cmpi .eq c32_i32_692 c0_i32_693
  let c1_i32_694 : BitVec 32 := 1#32
  let v661 : BitVec 32 := Scalar.select v660 c1_i32_694 c32_i32_692
  let v662 : BitVec 32 := Scalar.remsi v659 v661
  let c0_i32_696 : BitVec 32 := 0#32
  let v664 : BitVec 1 := Scalar.cmpi .slt v662 c0_i32_696
  let c0_i32_697 : BitVec 32 := 0#32
  let v665 : BitVec 1 := Scalar.cmpi .slt v661 c0_i32_697
  let v666 : BitVec 1 := Scalar.xori v664 v665
  let c0_i32_695 : BitVec 32 := 0#32
  let v663 : BitVec 1 := Scalar.cmpi .ne v662 c0_i32_695
  let v667 : BitVec 1 := Scalar.andi v666 v663
  let v668 : BitVec 32 := Scalar.addi v662 v661
  let v669 : BitVec 32 := Scalar.select v667 v668 v662
  let v670 : Index := Scalar.indexCast v669
  ![v670.toNat]
def k0_off20 (v671 : BitVec 32) : Fin 2 → Nat :=
  let c256_i32_698 : BitVec 32 := 256#32
  let v672 : BitVec 32 := Scalar.muli v671 c256_i32_698
  let v673 : Index := Scalar.indexCast v672
  let c0_699 : Index := 0#32
  ![v673.toNat, 0]

def k0_chk13 (v671 : BitVec 32) : Prop :=
  (∀ a, (k0_off20 v671) a + S256x256.size a ≤ S8192x256.size a)
theorem k0_off20_inb : ∀ (v671 : BitVec 32) (k0_hw13 : k0_chk13 v671), ∀ a, (k0_off20 v671) a + S256x256.size a ≤ S8192x256.size a := fun v671 k0_hw13 => k0_hw13

def k0_dev25 (v2 : BitVec 32) : Nat :=
  let c0_i32_732 : BitVec 32 := 0#32
  let c1_i32_731 : BitVec 32 := 1#32
  let v696 : BitVec 32 := Scalar.muli v2 c1_i32_731
  let v697 : BitVec 32 := Scalar.addi c0_i32_732 v696
  v697.toNat
def k0_dev26 (v1 : BitVec 32) : Nat :=
  let c0_i32_762 : BitVec 32 := 0#32
  let c1_i32_761 : BitVec 32 := 1#32
  let v723 : BitVec 32 := Scalar.muli v1 c1_i32_761
  let v724 : BitVec 32 := Scalar.addi c0_i32_762 v723
  v724.toNat
def k0_dev27 (v2 : BitVec 32) : Nat :=
  let c0_i32_792 : BitVec 32 := 0#32
  let c1_i32_791 : BitVec 32 := 1#32
  let v750 : BitVec 32 := Scalar.muli v2 c1_i32_791
  let v751 : BitVec 32 := Scalar.addi c0_i32_792 v750
  v751.toNat
def k0_dev28 (v1 : BitVec 32) : Nat :=
  let c0_i32_822 : BitVec 32 := 0#32
  let c1_i32_821 : BitVec 32 := 1#32
  let v777 : BitVec 32 := Scalar.muli v1 c1_i32_821
  let v778 : BitVec 32 := Scalar.addi c0_i32_822 v777
  v778.toNat
def k0_dev29 (v1 : BitVec 32) : Nat :=
  let c0_i32_851 : BitVec 32 := 0#32
  let c1_i32_850 : BitVec 32 := 1#32
  let v799 : BitVec 32 := Scalar.muli v1 c1_i32_850
  let v800 : BitVec 32 := Scalar.addi c0_i32_851 v799
  v800.toNat
def k0_dev30 (v2 : BitVec 32) : Nat :=
  let c0_i32_876 : BitVec 32 := 0#32
  let c1_i32_875 : BitVec 32 := 1#32
  let v813 : BitVec 32 := Scalar.muli v2 c1_i32_875
  let v814 : BitVec 32 := Scalar.addi c0_i32_876 v813
  v814.toNat
def k0_off21 (v0 : BitVec 32) : Fin 1 → Nat :=
  let c64_i32_877 : BitVec 32 := 64#32
  let v815 : BitVec 32 := Scalar.addi v0 c64_i32_877
  let c2_i32_878 : BitVec 32 := 2#32
  let v816 : BitVec 32 := Scalar.subi v815 c2_i32_878
  let c4_i32 : BitVec 32 := 4#32
  let v817 : BitVec 32 := Scalar.subi v816 c4_i32
  let c32_i32_879 : BitVec 32 := 32#32
  let c0_i32_880 : BitVec 32 := 0#32
  let v818 : BitVec 1 := Scalar.cmpi .eq c32_i32_879 c0_i32_880
  let c1_i32_881 : BitVec 32 := 1#32
  let v819 : BitVec 32 := Scalar.select v818 c1_i32_881 c32_i32_879
  let v820 : BitVec 32 := Scalar.remsi v817 v819
  let c0_i32_883 : BitVec 32 := 0#32
  let v822 : BitVec 1 := Scalar.cmpi .slt v820 c0_i32_883
  let c0_i32_884 : BitVec 32 := 0#32
  let v823 : BitVec 1 := Scalar.cmpi .slt v819 c0_i32_884
  let v824 : BitVec 1 := Scalar.xori v822 v823
  let c0_i32_882 : BitVec 32 := 0#32
  let v821 : BitVec 1 := Scalar.cmpi .ne v820 c0_i32_882
  let v825 : BitVec 1 := Scalar.andi v824 v821
  let v826 : BitVec 32 := Scalar.addi v820 v819
  let v827 : BitVec 32 := Scalar.select v825 v826 v820
  let v828 : Index := Scalar.indexCast v827
  ![v828.toNat]
def k0_off22 (v829 : BitVec 32) : Fin 2 → Nat :=
  let c256_i32_885 : BitVec 32 := 256#32
  let v830 : BitVec 32 := Scalar.muli v829 c256_i32_885
  let v831 : Index := Scalar.indexCast v830
  let c0_886 : Index := 0#32
  ![v831.toNat, 0]

def k0_chk14 (v829 : BitVec 32) : Prop :=
  (∀ a, (k0_off22 v829) a + S256x256.size a ≤ S8192x256.size a)
theorem k0_off22_inb : ∀ (v829 : BitVec 32) (k0_hw14 : k0_chk14 v829), ∀ a, (k0_off22 v829) a + S256x256.size a ≤ S8192x256.size a := fun v829 k0_hw14 => k0_hw14

def k0_off23 (v0 : BitVec 32) : Fin 1 → Nat :=
  let c2_i32_890 : BitVec 32 := 2#32
  let v837 : BitVec 32 := Scalar.addi v0 c2_i32_890
  let c4_i32_891 : BitVec 32 := 4#32
  let v838 : BitVec 32 := Scalar.addi v837 c4_i32_891
  let c32_i32_892 : BitVec 32 := 32#32
  let c0_i32_893 : BitVec 32 := 0#32
  let v839 : BitVec 1 := Scalar.cmpi .eq c32_i32_892 c0_i32_893
  let c1_i32_894 : BitVec 32 := 1#32
  let v840 : BitVec 32 := Scalar.select v839 c1_i32_894 c32_i32_892
  let v841 : BitVec 32 := Scalar.remsi v838 v840
  let c0_i32_896 : BitVec 32 := 0#32
  let v843 : BitVec 1 := Scalar.cmpi .slt v841 c0_i32_896
  let c0_i32_897 : BitVec 32 := 0#32
  let v844 : BitVec 1 := Scalar.cmpi .slt v840 c0_i32_897
  let v845 : BitVec 1 := Scalar.xori v843 v844
  let c0_i32_895 : BitVec 32 := 0#32
  let v842 : BitVec 1 := Scalar.cmpi .ne v841 c0_i32_895
  let v846 : BitVec 1 := Scalar.andi v845 v842
  let v847 : BitVec 32 := Scalar.addi v841 v840
  let v848 : BitVec 32 := Scalar.select v846 v847 v841
  let v849 : Index := Scalar.indexCast v848
  ![v849.toNat]
def k0_off24 (v850 : BitVec 32) : Fin 2 → Nat :=
  let c256_i32_898 : BitVec 32 := 256#32
  let v851 : BitVec 32 := Scalar.muli v850 c256_i32_898
  let v852 : Index := Scalar.indexCast v851
  let c0_899 : Index := 0#32
  ![v852.toNat, 0]

def k0_chk15 (v850 : BitVec 32) : Prop :=
  (∀ a, (k0_off24 v850) a + S256x256.size a ≤ S8192x256.size a)
theorem k0_off24_inb : ∀ (v850 : BitVec 32) (k0_hw15 : k0_chk15 v850), ∀ a, (k0_off24 v850) a + S256x256.size a ≤ S8192x256.size a := fun v850 k0_hw15 => k0_hw15

def k0_dev31 (v2 : BitVec 32) : Nat :=
  let c0_i32_932 : BitVec 32 := 0#32
  let c1_i32_931 : BitVec 32 := 1#32
  let v875 : BitVec 32 := Scalar.muli v2 c1_i32_931
  let v876 : BitVec 32 := Scalar.addi c0_i32_932 v875
  v876.toNat
def k0_dev32 (v1 : BitVec 32) : Nat :=
  let c0_i32_962 : BitVec 32 := 0#32
  let c1_i32_961 : BitVec 32 := 1#32
  let v902 : BitVec 32 := Scalar.muli v1 c1_i32_961
  let v903 : BitVec 32 := Scalar.addi c0_i32_962 v902
  v903.toNat
def k0_dev33 (v2 : BitVec 32) : Nat :=
  let c0_i32_992 : BitVec 32 := 0#32
  let c1_i32_991 : BitVec 32 := 1#32
  let v929 : BitVec 32 := Scalar.muli v2 c1_i32_991
  let v930 : BitVec 32 := Scalar.addi c0_i32_992 v929
  v930.toNat
def k0_dev34 (v1 : BitVec 32) : Nat :=
  let c0_i32_1022 : BitVec 32 := 0#32
  let c1_i32_1021 : BitVec 32 := 1#32
  let v956 : BitVec 32 := Scalar.muli v1 c1_i32_1021
  let v957 : BitVec 32 := Scalar.addi c0_i32_1022 v956
  v957.toNat
def k0_dev35 (v1 : BitVec 32) : Nat :=
  let c0_i32_1051 : BitVec 32 := 0#32
  let c1_i32_1050 : BitVec 32 := 1#32
  let v978 : BitVec 32 := Scalar.muli v1 c1_i32_1050
  let v979 : BitVec 32 := Scalar.addi c0_i32_1051 v978
  v979.toNat
def k0_dev36 (v2 : BitVec 32) : Nat :=
  let c0_i32_1076 : BitVec 32 := 0#32
  let c1_i32_1075 : BitVec 32 := 1#32
  let v992 : BitVec 32 := Scalar.muli v2 c1_i32_1075
  let v993 : BitVec 32 := Scalar.addi c0_i32_1076 v992
  v993.toNat
def k0_off25 (v0 : BitVec 32) : Fin 1 → Nat :=
  let c64_i32_1077 : BitVec 32 := 64#32
  let v994 : BitVec 32 := Scalar.addi v0 c64_i32_1077
  let c2_i32_1078 : BitVec 32 := 2#32
  let v995 : BitVec 32 := Scalar.subi v994 c2_i32_1078
  let c5_i32 : BitVec 32 := 5#32
  let v996 : BitVec 32 := Scalar.subi v995 c5_i32
  let c32_i32_1079 : BitVec 32 := 32#32
  let c0_i32_1080 : BitVec 32 := 0#32
  let v997 : BitVec 1 := Scalar.cmpi .eq c32_i32_1079 c0_i32_1080
  let c1_i32_1081 : BitVec 32 := 1#32
  let v998 : BitVec 32 := Scalar.select v997 c1_i32_1081 c32_i32_1079
  let v999 : BitVec 32 := Scalar.remsi v996 v998
  let c0_i32_1083 : BitVec 32 := 0#32
  let v1001 : BitVec 1 := Scalar.cmpi .slt v999 c0_i32_1083
  let c0_i32_1084 : BitVec 32 := 0#32
  let v1002 : BitVec 1 := Scalar.cmpi .slt v998 c0_i32_1084
  let v1003 : BitVec 1 := Scalar.xori v1001 v1002
  let c0_i32_1082 : BitVec 32 := 0#32
  let v1000 : BitVec 1 := Scalar.cmpi .ne v999 c0_i32_1082
  let v1004 : BitVec 1 := Scalar.andi v1003 v1000
  let v1005 : BitVec 32 := Scalar.addi v999 v998
  let v1006 : BitVec 32 := Scalar.select v1004 v1005 v999
  let v1007 : Index := Scalar.indexCast v1006
  ![v1007.toNat]
def k0_off26 (v1008 : BitVec 32) : Fin 2 → Nat :=
  let c256_i32_1085 : BitVec 32 := 256#32
  let v1009 : BitVec 32 := Scalar.muli v1008 c256_i32_1085
  let v1010 : Index := Scalar.indexCast v1009
  let c0_1086 : Index := 0#32
  ![v1010.toNat, 0]

def k0_chk16 (v1008 : BitVec 32) : Prop :=
  (∀ a, (k0_off26 v1008) a + S256x256.size a ≤ S8192x256.size a)
theorem k0_off26_inb : ∀ (v1008 : BitVec 32) (k0_hw16 : k0_chk16 v1008), ∀ a, (k0_off26 v1008) a + S256x256.size a ≤ S8192x256.size a := fun v1008 k0_hw16 => k0_hw16

def k0_off27 (v0 : BitVec 32) : Fin 1 → Nat :=
  let c2_i32_1090 : BitVec 32 := 2#32
  let v1016 : BitVec 32 := Scalar.addi v0 c2_i32_1090
  let c5_i32_1091 : BitVec 32 := 5#32
  let v1017 : BitVec 32 := Scalar.addi v1016 c5_i32_1091
  let c32_i32_1092 : BitVec 32 := 32#32
  let c0_i32_1093 : BitVec 32 := 0#32
  let v1018 : BitVec 1 := Scalar.cmpi .eq c32_i32_1092 c0_i32_1093
  let c1_i32_1094 : BitVec 32 := 1#32
  let v1019 : BitVec 32 := Scalar.select v1018 c1_i32_1094 c32_i32_1092
  let v1020 : BitVec 32 := Scalar.remsi v1017 v1019
  let c0_i32_1096 : BitVec 32 := 0#32
  let v1022 : BitVec 1 := Scalar.cmpi .slt v1020 c0_i32_1096
  let c0_i32_1097 : BitVec 32 := 0#32
  let v1023 : BitVec 1 := Scalar.cmpi .slt v1019 c0_i32_1097
  let v1024 : BitVec 1 := Scalar.xori v1022 v1023
  let c0_i32_1095 : BitVec 32 := 0#32
  let v1021 : BitVec 1 := Scalar.cmpi .ne v1020 c0_i32_1095
  let v1025 : BitVec 1 := Scalar.andi v1024 v1021
  let v1026 : BitVec 32 := Scalar.addi v1020 v1019
  let v1027 : BitVec 32 := Scalar.select v1025 v1026 v1020
  let v1028 : Index := Scalar.indexCast v1027
  ![v1028.toNat]
def k0_off28 (v1029 : BitVec 32) : Fin 2 → Nat :=
  let c256_i32_1098 : BitVec 32 := 256#32
  let v1030 : BitVec 32 := Scalar.muli v1029 c256_i32_1098
  let v1031 : Index := Scalar.indexCast v1030
  let c0_1099 : Index := 0#32
  ![v1031.toNat, 0]

def k0_chk17 (v1029 : BitVec 32) : Prop :=
  (∀ a, (k0_off28 v1029) a + S256x256.size a ≤ S8192x256.size a)
theorem k0_off28_inb : ∀ (v1029 : BitVec 32) (k0_hw17 : k0_chk17 v1029), ∀ a, (k0_off28 v1029) a + S256x256.size a ≤ S8192x256.size a := fun v1029 k0_hw17 => k0_hw17

def k0_dev37 (v2 : BitVec 32) : Nat :=
  let c0_i32_1132 : BitVec 32 := 0#32
  let c1_i32_1131 : BitVec 32 := 1#32
  let v1054 : BitVec 32 := Scalar.muli v2 c1_i32_1131
  let v1055 : BitVec 32 := Scalar.addi c0_i32_1132 v1054
  v1055.toNat
def k0_dev38 (v1 : BitVec 32) : Nat :=
  let c0_i32_1162 : BitVec 32 := 0#32
  let c1_i32_1161 : BitVec 32 := 1#32
  let v1081 : BitVec 32 := Scalar.muli v1 c1_i32_1161
  let v1082 : BitVec 32 := Scalar.addi c0_i32_1162 v1081
  v1082.toNat
def k0_dev39 (v2 : BitVec 32) : Nat :=
  let c0_i32_1192 : BitVec 32 := 0#32
  let c1_i32_1191 : BitVec 32 := 1#32
  let v1108 : BitVec 32 := Scalar.muli v2 c1_i32_1191
  let v1109 : BitVec 32 := Scalar.addi c0_i32_1192 v1108
  v1109.toNat
def k0_dev40 (v1 : BitVec 32) : Nat :=
  let c0_i32_1222 : BitVec 32 := 0#32
  let c1_i32_1221 : BitVec 32 := 1#32
  let v1135 : BitVec 32 := Scalar.muli v1 c1_i32_1221
  let v1136 : BitVec 32 := Scalar.addi c0_i32_1222 v1135
  v1136.toNat
def k0_dev41 (v1 : BitVec 32) : Nat :=
  let c0_i32_1251 : BitVec 32 := 0#32
  let c1_i32_1250 : BitVec 32 := 1#32
  let v1157 : BitVec 32 := Scalar.muli v1 c1_i32_1250
  let v1158 : BitVec 32 := Scalar.addi c0_i32_1251 v1157
  v1158.toNat
def k0_dev42 (v2 : BitVec 32) : Nat :=
  let c0_i32_1276 : BitVec 32 := 0#32
  let c1_i32_1275 : BitVec 32 := 1#32
  let v1171 : BitVec 32 := Scalar.muli v2 c1_i32_1275
  let v1172 : BitVec 32 := Scalar.addi c0_i32_1276 v1171
  v1172.toNat
def k0_off29 (v0 : BitVec 32) : Fin 1 → Nat :=
  let c64_i32_1277 : BitVec 32 := 64#32
  let v1173 : BitVec 32 := Scalar.addi v0 c64_i32_1277
  let c2_i32_1278 : BitVec 32 := 2#32
  let v1174 : BitVec 32 := Scalar.subi v1173 c2_i32_1278
  let c6_i32 : BitVec 32 := 6#32
  let v1175 : BitVec 32 := Scalar.subi v1174 c6_i32
  let c32_i32_1279 : BitVec 32 := 32#32
  let c0_i32_1280 : BitVec 32 := 0#32
  let v1176 : BitVec 1 := Scalar.cmpi .eq c32_i32_1279 c0_i32_1280
  let c1_i32_1281 : BitVec 32 := 1#32
  let v1177 : BitVec 32 := Scalar.select v1176 c1_i32_1281 c32_i32_1279
  let v1178 : BitVec 32 := Scalar.remsi v1175 v1177
  let c0_i32_1283 : BitVec 32 := 0#32
  let v1180 : BitVec 1 := Scalar.cmpi .slt v1178 c0_i32_1283
  let c0_i32_1284 : BitVec 32 := 0#32
  let v1181 : BitVec 1 := Scalar.cmpi .slt v1177 c0_i32_1284
  let v1182 : BitVec 1 := Scalar.xori v1180 v1181
  let c0_i32_1282 : BitVec 32 := 0#32
  let v1179 : BitVec 1 := Scalar.cmpi .ne v1178 c0_i32_1282
  let v1183 : BitVec 1 := Scalar.andi v1182 v1179
  let v1184 : BitVec 32 := Scalar.addi v1178 v1177
  let v1185 : BitVec 32 := Scalar.select v1183 v1184 v1178
  let v1186 : Index := Scalar.indexCast v1185
  ![v1186.toNat]
def k0_off30 (v1187 : BitVec 32) : Fin 2 → Nat :=
  let c256_i32_1285 : BitVec 32 := 256#32
  let v1188 : BitVec 32 := Scalar.muli v1187 c256_i32_1285
  let v1189 : Index := Scalar.indexCast v1188
  let c0_1286 : Index := 0#32
  ![v1189.toNat, 0]

def k0_chk18 (v1187 : BitVec 32) : Prop :=
  (∀ a, (k0_off30 v1187) a + S256x256.size a ≤ S8192x256.size a)
theorem k0_off30_inb : ∀ (v1187 : BitVec 32) (k0_hw18 : k0_chk18 v1187), ∀ a, (k0_off30 v1187) a + S256x256.size a ≤ S8192x256.size a := fun v1187 k0_hw18 => k0_hw18

def k0_off31 (v0 : BitVec 32) : Fin 1 → Nat :=
  let c2_i32_1290 : BitVec 32 := 2#32
  let v1195 : BitVec 32 := Scalar.addi v0 c2_i32_1290
  let c6_i32_1291 : BitVec 32 := 6#32
  let v1196 : BitVec 32 := Scalar.addi v1195 c6_i32_1291
  let c32_i32_1292 : BitVec 32 := 32#32
  let c0_i32_1293 : BitVec 32 := 0#32
  let v1197 : BitVec 1 := Scalar.cmpi .eq c32_i32_1292 c0_i32_1293
  let c1_i32_1294 : BitVec 32 := 1#32
  let v1198 : BitVec 32 := Scalar.select v1197 c1_i32_1294 c32_i32_1292
  let v1199 : BitVec 32 := Scalar.remsi v1196 v1198
  let c0_i32_1296 : BitVec 32 := 0#32
  let v1201 : BitVec 1 := Scalar.cmpi .slt v1199 c0_i32_1296
  let c0_i32_1297 : BitVec 32 := 0#32
  let v1202 : BitVec 1 := Scalar.cmpi .slt v1198 c0_i32_1297
  let v1203 : BitVec 1 := Scalar.xori v1201 v1202
  let c0_i32_1295 : BitVec 32 := 0#32
  let v1200 : BitVec 1 := Scalar.cmpi .ne v1199 c0_i32_1295
  let v1204 : BitVec 1 := Scalar.andi v1203 v1200
  let v1205 : BitVec 32 := Scalar.addi v1199 v1198
  let v1206 : BitVec 32 := Scalar.select v1204 v1205 v1199
  let v1207 : Index := Scalar.indexCast v1206
  ![v1207.toNat]
def k0_off32 (v1208 : BitVec 32) : Fin 2 → Nat :=
  let c256_i32_1298 : BitVec 32 := 256#32
  let v1209 : BitVec 32 := Scalar.muli v1208 c256_i32_1298
  let v1210 : Index := Scalar.indexCast v1209
  let c0_1299 : Index := 0#32
  ![v1210.toNat, 0]

def k0_chk19 (v1208 : BitVec 32) : Prop :=
  (∀ a, (k0_off32 v1208) a + S256x256.size a ≤ S8192x256.size a)
theorem k0_off32_inb : ∀ (v1208 : BitVec 32) (k0_hw19 : k0_chk19 v1208), ∀ a, (k0_off32 v1208) a + S256x256.size a ≤ S8192x256.size a := fun v1208 k0_hw19 => k0_hw19

def k0_dev43 (v2 : BitVec 32) : Nat :=
  let c0_i32_1332 : BitVec 32 := 0#32
  let c1_i32_1331 : BitVec 32 := 1#32
  let v1233 : BitVec 32 := Scalar.muli v2 c1_i32_1331
  let v1234 : BitVec 32 := Scalar.addi c0_i32_1332 v1233
  v1234.toNat
def k0_dev44 (v1 : BitVec 32) : Nat :=
  let c0_i32_1362 : BitVec 32 := 0#32
  let c1_i32_1361 : BitVec 32 := 1#32
  let v1260 : BitVec 32 := Scalar.muli v1 c1_i32_1361
  let v1261 : BitVec 32 := Scalar.addi c0_i32_1362 v1260
  v1261.toNat
def k0_dev45 (v2 : BitVec 32) : Nat :=
  let c0_i32_1392 : BitVec 32 := 0#32
  let c1_i32_1391 : BitVec 32 := 1#32
  let v1287 : BitVec 32 := Scalar.muli v2 c1_i32_1391
  let v1288 : BitVec 32 := Scalar.addi c0_i32_1392 v1287
  v1288.toNat
def k0_dev46 (v1 : BitVec 32) : Nat :=
  let c0_i32_1422 : BitVec 32 := 0#32
  let c1_i32_1421 : BitVec 32 := 1#32
  let v1314 : BitVec 32 := Scalar.muli v1 c1_i32_1421
  let v1315 : BitVec 32 := Scalar.addi c0_i32_1422 v1314
  v1315.toNat
def k0_dev47 (v1 : BitVec 32) : Nat :=
  let c0_i32_1451 : BitVec 32 := 0#32
  let c1_i32_1450 : BitVec 32 := 1#32
  let v1336 : BitVec 32 := Scalar.muli v1 c1_i32_1450
  let v1337 : BitVec 32 := Scalar.addi c0_i32_1451 v1336
  v1337.toNat
def k0_dev48 (v2 : BitVec 32) : Nat :=
  let c0_i32_1476 : BitVec 32 := 0#32
  let c1_i32_1475 : BitVec 32 := 1#32
  let v1350 : BitVec 32 := Scalar.muli v2 c1_i32_1475
  let v1351 : BitVec 32 := Scalar.addi c0_i32_1476 v1350
  v1351.toNat
def k0_off33 (v0 : BitVec 32) : Fin 1 → Nat :=
  let c64_i32_1477 : BitVec 32 := 64#32
  let v1352 : BitVec 32 := Scalar.addi v0 c64_i32_1477
  let c2_i32_1478 : BitVec 32 := 2#32
  let v1353 : BitVec 32 := Scalar.subi v1352 c2_i32_1478
  let c7_i32 : BitVec 32 := 7#32
  let v1354 : BitVec 32 := Scalar.subi v1353 c7_i32
  let c32_i32_1479 : BitVec 32 := 32#32
  let c0_i32_1480 : BitVec 32 := 0#32
  let v1355 : BitVec 1 := Scalar.cmpi .eq c32_i32_1479 c0_i32_1480
  let c1_i32_1481 : BitVec 32 := 1#32
  let v1356 : BitVec 32 := Scalar.select v1355 c1_i32_1481 c32_i32_1479
  let v1357 : BitVec 32 := Scalar.remsi v1354 v1356
  let c0_i32_1483 : BitVec 32 := 0#32
  let v1359 : BitVec 1 := Scalar.cmpi .slt v1357 c0_i32_1483
  let c0_i32_1484 : BitVec 32 := 0#32
  let v1360 : BitVec 1 := Scalar.cmpi .slt v1356 c0_i32_1484
  let v1361 : BitVec 1 := Scalar.xori v1359 v1360
  let c0_i32_1482 : BitVec 32 := 0#32
  let v1358 : BitVec 1 := Scalar.cmpi .ne v1357 c0_i32_1482
  let v1362 : BitVec 1 := Scalar.andi v1361 v1358
  let v1363 : BitVec 32 := Scalar.addi v1357 v1356
  let v1364 : BitVec 32 := Scalar.select v1362 v1363 v1357
  let v1365 : Index := Scalar.indexCast v1364
  ![v1365.toNat]
def k0_off34 (v1366 : BitVec 32) : Fin 2 → Nat :=
  let c256_i32_1485 : BitVec 32 := 256#32
  let v1367 : BitVec 32 := Scalar.muli v1366 c256_i32_1485
  let v1368 : Index := Scalar.indexCast v1367
  let c0_1486 : Index := 0#32
  ![v1368.toNat, 0]

def k0_chk20 (v1366 : BitVec 32) : Prop :=
  (∀ a, (k0_off34 v1366) a + S256x256.size a ≤ S8192x256.size a)
theorem k0_off34_inb : ∀ (v1366 : BitVec 32) (k0_hw20 : k0_chk20 v1366), ∀ a, (k0_off34 v1366) a + S256x256.size a ≤ S8192x256.size a := fun v1366 k0_hw20 => k0_hw20

def k0_off35 (v0 : BitVec 32) : Fin 1 → Nat :=
  let c2_i32_1490 : BitVec 32 := 2#32
  let v1374 : BitVec 32 := Scalar.addi v0 c2_i32_1490
  let c7_i32_1491 : BitVec 32 := 7#32
  let v1375 : BitVec 32 := Scalar.addi v1374 c7_i32_1491
  let c32_i32_1492 : BitVec 32 := 32#32
  let c0_i32_1493 : BitVec 32 := 0#32
  let v1376 : BitVec 1 := Scalar.cmpi .eq c32_i32_1492 c0_i32_1493
  let c1_i32_1494 : BitVec 32 := 1#32
  let v1377 : BitVec 32 := Scalar.select v1376 c1_i32_1494 c32_i32_1492
  let v1378 : BitVec 32 := Scalar.remsi v1375 v1377
  let c0_i32_1496 : BitVec 32 := 0#32
  let v1380 : BitVec 1 := Scalar.cmpi .slt v1378 c0_i32_1496
  let c0_i32_1497 : BitVec 32 := 0#32
  let v1381 : BitVec 1 := Scalar.cmpi .slt v1377 c0_i32_1497
  let v1382 : BitVec 1 := Scalar.xori v1380 v1381
  let c0_i32_1495 : BitVec 32 := 0#32
  let v1379 : BitVec 1 := Scalar.cmpi .ne v1378 c0_i32_1495
  let v1383 : BitVec 1 := Scalar.andi v1382 v1379
  let v1384 : BitVec 32 := Scalar.addi v1378 v1377
  let v1385 : BitVec 32 := Scalar.select v1383 v1384 v1378
  let v1386 : Index := Scalar.indexCast v1385
  ![v1386.toNat]
def k0_off36 (v1387 : BitVec 32) : Fin 2 → Nat :=
  let c256_i32_1498 : BitVec 32 := 256#32
  let v1388 : BitVec 32 := Scalar.muli v1387 c256_i32_1498
  let v1389 : Index := Scalar.indexCast v1388
  let c0_1499 : Index := 0#32
  ![v1389.toNat, 0]

def k0_chk21 (v1387 : BitVec 32) : Prop :=
  (∀ a, (k0_off36 v1387) a + S256x256.size a ≤ S8192x256.size a)
theorem k0_off36_inb : ∀ (v1387 : BitVec 32) (k0_hw21 : k0_chk21 v1387), ∀ a, (k0_off36 v1387) a + S256x256.size a ≤ S8192x256.size a := fun v1387 k0_hw21 => k0_hw21

def k0_dev49 (v2 : BitVec 32) : Nat :=
  let c0_i32_1532 : BitVec 32 := 0#32
  let c1_i32_1531 : BitVec 32 := 1#32
  let v1412 : BitVec 32 := Scalar.muli v2 c1_i32_1531
  let v1413 : BitVec 32 := Scalar.addi c0_i32_1532 v1412
  v1413.toNat
def k0_dev50 (v1 : BitVec 32) : Nat :=
  let c0_i32_1562 : BitVec 32 := 0#32
  let c1_i32_1561 : BitVec 32 := 1#32
  let v1439 : BitVec 32 := Scalar.muli v1 c1_i32_1561
  let v1440 : BitVec 32 := Scalar.addi c0_i32_1562 v1439
  v1440.toNat
def k0_dev51 (v2 : BitVec 32) : Nat :=
  let c0_i32_1592 : BitVec 32 := 0#32
  let c1_i32_1591 : BitVec 32 := 1#32
  let v1466 : BitVec 32 := Scalar.muli v2 c1_i32_1591
  let v1467 : BitVec 32 := Scalar.addi c0_i32_1592 v1466
  v1467.toNat
def k0_dev52 (v1 : BitVec 32) : Nat :=
  let c0_i32_1622 : BitVec 32 := 0#32
  let c1_i32_1621 : BitVec 32 := 1#32
  let v1493 : BitVec 32 := Scalar.muli v1 c1_i32_1621
  let v1494 : BitVec 32 := Scalar.addi c0_i32_1622 v1493
  v1494.toNat
def k0_dev53 (v1 : BitVec 32) : Nat :=
  let c0_i32_1651 : BitVec 32 := 0#32
  let c1_i32_1650 : BitVec 32 := 1#32
  let v1515 : BitVec 32 := Scalar.muli v1 c1_i32_1650
  let v1516 : BitVec 32 := Scalar.addi c0_i32_1651 v1515
  v1516.toNat
def k0_dev54 (v2 : BitVec 32) : Nat :=
  let c0_i32_1676 : BitVec 32 := 0#32
  let c1_i32_1675 : BitVec 32 := 1#32
  let v1529 : BitVec 32 := Scalar.muli v2 c1_i32_1675
  let v1530 : BitVec 32 := Scalar.addi c0_i32_1676 v1529
  v1530.toNat
def k0_off37 (v0 : BitVec 32) : Fin 1 → Nat :=
  let c64_i32_1677 : BitVec 32 := 64#32
  let v1531 : BitVec 32 := Scalar.addi v0 c64_i32_1677
  let c2_i32_1678 : BitVec 32 := 2#32
  let v1532 : BitVec 32 := Scalar.subi v1531 c2_i32_1678
  let c8_i32 : BitVec 32 := 8#32
  let v1533 : BitVec 32 := Scalar.subi v1532 c8_i32
  let c32_i32_1679 : BitVec 32 := 32#32
  let c0_i32_1680 : BitVec 32 := 0#32
  let v1534 : BitVec 1 := Scalar.cmpi .eq c32_i32_1679 c0_i32_1680
  let c1_i32_1681 : BitVec 32 := 1#32
  let v1535 : BitVec 32 := Scalar.select v1534 c1_i32_1681 c32_i32_1679
  let v1536 : BitVec 32 := Scalar.remsi v1533 v1535
  let c0_i32_1683 : BitVec 32 := 0#32
  let v1538 : BitVec 1 := Scalar.cmpi .slt v1536 c0_i32_1683
  let c0_i32_1684 : BitVec 32 := 0#32
  let v1539 : BitVec 1 := Scalar.cmpi .slt v1535 c0_i32_1684
  let v1540 : BitVec 1 := Scalar.xori v1538 v1539
  let c0_i32_1682 : BitVec 32 := 0#32
  let v1537 : BitVec 1 := Scalar.cmpi .ne v1536 c0_i32_1682
  let v1541 : BitVec 1 := Scalar.andi v1540 v1537
  let v1542 : BitVec 32 := Scalar.addi v1536 v1535
  let v1543 : BitVec 32 := Scalar.select v1541 v1542 v1536
  let v1544 : Index := Scalar.indexCast v1543
  ![v1544.toNat]
def k0_off38 (v1545 : BitVec 32) : Fin 2 → Nat :=
  let c256_i32_1685 : BitVec 32 := 256#32
  let v1546 : BitVec 32 := Scalar.muli v1545 c256_i32_1685
  let v1547 : Index := Scalar.indexCast v1546
  let c0_1686 : Index := 0#32
  ![v1547.toNat, 0]

def k0_chk22 (v1545 : BitVec 32) : Prop :=
  (∀ a, (k0_off38 v1545) a + S256x256.size a ≤ S8192x256.size a)
theorem k0_off38_inb : ∀ (v1545 : BitVec 32) (k0_hw22 : k0_chk22 v1545), ∀ a, (k0_off38 v1545) a + S256x256.size a ≤ S8192x256.size a := fun v1545 k0_hw22 => k0_hw22

def k0_off39 (v0 : BitVec 32) : Fin 1 → Nat :=
  let c2_i32_1690 : BitVec 32 := 2#32
  let v1553 : BitVec 32 := Scalar.addi v0 c2_i32_1690
  let c8_i32_1691 : BitVec 32 := 8#32
  let v1554 : BitVec 32 := Scalar.addi v1553 c8_i32_1691
  let c32_i32_1692 : BitVec 32 := 32#32
  let c0_i32_1693 : BitVec 32 := 0#32
  let v1555 : BitVec 1 := Scalar.cmpi .eq c32_i32_1692 c0_i32_1693
  let c1_i32_1694 : BitVec 32 := 1#32
  let v1556 : BitVec 32 := Scalar.select v1555 c1_i32_1694 c32_i32_1692
  let v1557 : BitVec 32 := Scalar.remsi v1554 v1556
  let c0_i32_1696 : BitVec 32 := 0#32
  let v1559 : BitVec 1 := Scalar.cmpi .slt v1557 c0_i32_1696
  let c0_i32_1697 : BitVec 32 := 0#32
  let v1560 : BitVec 1 := Scalar.cmpi .slt v1556 c0_i32_1697
  let v1561 : BitVec 1 := Scalar.xori v1559 v1560
  let c0_i32_1695 : BitVec 32 := 0#32
  let v1558 : BitVec 1 := Scalar.cmpi .ne v1557 c0_i32_1695
  let v1562 : BitVec 1 := Scalar.andi v1561 v1558
  let v1563 : BitVec 32 := Scalar.addi v1557 v1556
  let v1564 : BitVec 32 := Scalar.select v1562 v1563 v1557
  let v1565 : Index := Scalar.indexCast v1564
  ![v1565.toNat]
def k0_off40 (v1566 : BitVec 32) : Fin 2 → Nat :=
  let c256_i32_1698 : BitVec 32 := 256#32
  let v1567 : BitVec 32 := Scalar.muli v1566 c256_i32_1698
  let v1568 : Index := Scalar.indexCast v1567
  let c0_1699 : Index := 0#32
  ![v1568.toNat, 0]

def k0_chk23 (v1566 : BitVec 32) : Prop :=
  (∀ a, (k0_off40 v1566) a + S256x256.size a ≤ S8192x256.size a)
theorem k0_off40_inb : ∀ (v1566 : BitVec 32) (k0_hw23 : k0_chk23 v1566), ∀ a, (k0_off40 v1566) a + S256x256.size a ≤ S8192x256.size a := fun v1566 k0_hw23 => k0_hw23

def k0_dev55 (v2 : BitVec 32) : Nat :=
  let c0_i32_1732 : BitVec 32 := 0#32
  let c1_i32_1731 : BitVec 32 := 1#32
  let v1591 : BitVec 32 := Scalar.muli v2 c1_i32_1731
  let v1592 : BitVec 32 := Scalar.addi c0_i32_1732 v1591
  v1592.toNat
def k0_dev56 (v1 : BitVec 32) : Nat :=
  let c0_i32_1762 : BitVec 32 := 0#32
  let c1_i32_1761 : BitVec 32 := 1#32
  let v1618 : BitVec 32 := Scalar.muli v1 c1_i32_1761
  let v1619 : BitVec 32 := Scalar.addi c0_i32_1762 v1618
  v1619.toNat
def k0_dev57 (v2 : BitVec 32) : Nat :=
  let c0_i32_1792 : BitVec 32 := 0#32
  let c1_i32_1791 : BitVec 32 := 1#32
  let v1645 : BitVec 32 := Scalar.muli v2 c1_i32_1791
  let v1646 : BitVec 32 := Scalar.addi c0_i32_1792 v1645
  v1646.toNat
def k0_dev58 (v1 : BitVec 32) : Nat :=
  let c0_i32_1822 : BitVec 32 := 0#32
  let c1_i32_1821 : BitVec 32 := 1#32
  let v1672 : BitVec 32 := Scalar.muli v1 c1_i32_1821
  let v1673 : BitVec 32 := Scalar.addi c0_i32_1822 v1672
  v1673.toNat
def k0_dev59 (v1 : BitVec 32) : Nat :=
  let c0_i32_1851 : BitVec 32 := 0#32
  let c1_i32_1850 : BitVec 32 := 1#32
  let v1694 : BitVec 32 := Scalar.muli v1 c1_i32_1850
  let v1695 : BitVec 32 := Scalar.addi c0_i32_1851 v1694
  v1695.toNat
def k0_dev60 (v2 : BitVec 32) : Nat :=
  let c0_i32_1876 : BitVec 32 := 0#32
  let c1_i32_1875 : BitVec 32 := 1#32
  let v1708 : BitVec 32 := Scalar.muli v2 c1_i32_1875
  let v1709 : BitVec 32 := Scalar.addi c0_i32_1876 v1708
  v1709.toNat
def k0_off41 (v0 : BitVec 32) : Fin 1 → Nat :=
  let c64_i32_1877 : BitVec 32 := 64#32
  let v1710 : BitVec 32 := Scalar.addi v0 c64_i32_1877
  let c2_i32_1878 : BitVec 32 := 2#32
  let v1711 : BitVec 32 := Scalar.subi v1710 c2_i32_1878
  let c9_i32 : BitVec 32 := 9#32
  let v1712 : BitVec 32 := Scalar.subi v1711 c9_i32
  let c32_i32_1879 : BitVec 32 := 32#32
  let c0_i32_1880 : BitVec 32 := 0#32
  let v1713 : BitVec 1 := Scalar.cmpi .eq c32_i32_1879 c0_i32_1880
  let c1_i32_1881 : BitVec 32 := 1#32
  let v1714 : BitVec 32 := Scalar.select v1713 c1_i32_1881 c32_i32_1879
  let v1715 : BitVec 32 := Scalar.remsi v1712 v1714
  let c0_i32_1883 : BitVec 32 := 0#32
  let v1717 : BitVec 1 := Scalar.cmpi .slt v1715 c0_i32_1883
  let c0_i32_1884 : BitVec 32 := 0#32
  let v1718 : BitVec 1 := Scalar.cmpi .slt v1714 c0_i32_1884
  let v1719 : BitVec 1 := Scalar.xori v1717 v1718
  let c0_i32_1882 : BitVec 32 := 0#32
  let v1716 : BitVec 1 := Scalar.cmpi .ne v1715 c0_i32_1882
  let v1720 : BitVec 1 := Scalar.andi v1719 v1716
  let v1721 : BitVec 32 := Scalar.addi v1715 v1714
  let v1722 : BitVec 32 := Scalar.select v1720 v1721 v1715
  let v1723 : Index := Scalar.indexCast v1722
  ![v1723.toNat]
def k0_off42 (v1724 : BitVec 32) : Fin 2 → Nat :=
  let c256_i32_1885 : BitVec 32 := 256#32
  let v1725 : BitVec 32 := Scalar.muli v1724 c256_i32_1885
  let v1726 : Index := Scalar.indexCast v1725
  let c0_1886 : Index := 0#32
  ![v1726.toNat, 0]

def k0_chk24 (v1724 : BitVec 32) : Prop :=
  (∀ a, (k0_off42 v1724) a + S256x256.size a ≤ S8192x256.size a)
theorem k0_off42_inb : ∀ (v1724 : BitVec 32) (k0_hw24 : k0_chk24 v1724), ∀ a, (k0_off42 v1724) a + S256x256.size a ≤ S8192x256.size a := fun v1724 k0_hw24 => k0_hw24

def k0_off43 (v0 : BitVec 32) : Fin 1 → Nat :=
  let c2_i32_1890 : BitVec 32 := 2#32
  let v1732 : BitVec 32 := Scalar.addi v0 c2_i32_1890
  let c9_i32_1891 : BitVec 32 := 9#32
  let v1733 : BitVec 32 := Scalar.addi v1732 c9_i32_1891
  let c32_i32_1892 : BitVec 32 := 32#32
  let c0_i32_1893 : BitVec 32 := 0#32
  let v1734 : BitVec 1 := Scalar.cmpi .eq c32_i32_1892 c0_i32_1893
  let c1_i32_1894 : BitVec 32 := 1#32
  let v1735 : BitVec 32 := Scalar.select v1734 c1_i32_1894 c32_i32_1892
  let v1736 : BitVec 32 := Scalar.remsi v1733 v1735
  let c0_i32_1896 : BitVec 32 := 0#32
  let v1738 : BitVec 1 := Scalar.cmpi .slt v1736 c0_i32_1896
  let c0_i32_1897 : BitVec 32 := 0#32
  let v1739 : BitVec 1 := Scalar.cmpi .slt v1735 c0_i32_1897
  let v1740 : BitVec 1 := Scalar.xori v1738 v1739
  let c0_i32_1895 : BitVec 32 := 0#32
  let v1737 : BitVec 1 := Scalar.cmpi .ne v1736 c0_i32_1895
  let v1741 : BitVec 1 := Scalar.andi v1740 v1737
  let v1742 : BitVec 32 := Scalar.addi v1736 v1735
  let v1743 : BitVec 32 := Scalar.select v1741 v1742 v1736
  let v1744 : Index := Scalar.indexCast v1743
  ![v1744.toNat]
def k0_off44 (v1745 : BitVec 32) : Fin 2 → Nat :=
  let c256_i32_1898 : BitVec 32 := 256#32
  let v1746 : BitVec 32 := Scalar.muli v1745 c256_i32_1898
  let v1747 : Index := Scalar.indexCast v1746
  let c0_1899 : Index := 0#32
  ![v1747.toNat, 0]

def k0_chk25 (v1745 : BitVec 32) : Prop :=
  (∀ a, (k0_off44 v1745) a + S256x256.size a ≤ S8192x256.size a)
theorem k0_off44_inb : ∀ (v1745 : BitVec 32) (k0_hw25 : k0_chk25 v1745), ∀ a, (k0_off44 v1745) a + S256x256.size a ≤ S8192x256.size a := fun v1745 k0_hw25 => k0_hw25

def k0_dev61 (v2 : BitVec 32) : Nat :=
  let c0_i32_1932 : BitVec 32 := 0#32
  let c1_i32_1931 : BitVec 32 := 1#32
  let v1770 : BitVec 32 := Scalar.muli v2 c1_i32_1931
  let v1771 : BitVec 32 := Scalar.addi c0_i32_1932 v1770
  v1771.toNat
def k0_dev62 (v1 : BitVec 32) : Nat :=
  let c0_i32_1962 : BitVec 32 := 0#32
  let c1_i32_1961 : BitVec 32 := 1#32
  let v1797 : BitVec 32 := Scalar.muli v1 c1_i32_1961
  let v1798 : BitVec 32 := Scalar.addi c0_i32_1962 v1797
  v1798.toNat
def k0_dev63 (v2 : BitVec 32) : Nat :=
  let c0_i32_1992 : BitVec 32 := 0#32
  let c1_i32_1991 : BitVec 32 := 1#32
  let v1824 : BitVec 32 := Scalar.muli v2 c1_i32_1991
  let v1825 : BitVec 32 := Scalar.addi c0_i32_1992 v1824
  v1825.toNat
def k0_dev64 (v1 : BitVec 32) : Nat :=
  let c0_i32_2022 : BitVec 32 := 0#32
  let c1_i32_2021 : BitVec 32 := 1#32
  let v1851 : BitVec 32 := Scalar.muli v1 c1_i32_2021
  let v1852 : BitVec 32 := Scalar.addi c0_i32_2022 v1851
  v1852.toNat
def k0_dev65 (v1 : BitVec 32) : Nat :=
  let c0_i32_2051 : BitVec 32 := 0#32
  let c1_i32_2050 : BitVec 32 := 1#32
  let v1873 : BitVec 32 := Scalar.muli v1 c1_i32_2050
  let v1874 : BitVec 32 := Scalar.addi c0_i32_2051 v1873
  v1874.toNat
def k0_dev66 (v2 : BitVec 32) : Nat :=
  let c0_i32_2076 : BitVec 32 := 0#32
  let c1_i32_2075 : BitVec 32 := 1#32
  let v1887 : BitVec 32 := Scalar.muli v2 c1_i32_2075
  let v1888 : BitVec 32 := Scalar.addi c0_i32_2076 v1887
  v1888.toNat
def k0_off45 (v0 : BitVec 32) : Fin 1 → Nat :=
  let c64_i32_2077 : BitVec 32 := 64#32
  let v1889 : BitVec 32 := Scalar.addi v0 c64_i32_2077
  let c2_i32_2078 : BitVec 32 := 2#32
  let v1890 : BitVec 32 := Scalar.subi v1889 c2_i32_2078
  let c10_i32 : BitVec 32 := 10#32
  let v1891 : BitVec 32 := Scalar.subi v1890 c10_i32
  let c32_i32_2079 : BitVec 32 := 32#32
  let c0_i32_2080 : BitVec 32 := 0#32
  let v1892 : BitVec 1 := Scalar.cmpi .eq c32_i32_2079 c0_i32_2080
  let c1_i32_2081 : BitVec 32 := 1#32
  let v1893 : BitVec 32 := Scalar.select v1892 c1_i32_2081 c32_i32_2079
  let v1894 : BitVec 32 := Scalar.remsi v1891 v1893
  let c0_i32_2083 : BitVec 32 := 0#32
  let v1896 : BitVec 1 := Scalar.cmpi .slt v1894 c0_i32_2083
  let c0_i32_2084 : BitVec 32 := 0#32
  let v1897 : BitVec 1 := Scalar.cmpi .slt v1893 c0_i32_2084
  let v1898 : BitVec 1 := Scalar.xori v1896 v1897
  let c0_i32_2082 : BitVec 32 := 0#32
  let v1895 : BitVec 1 := Scalar.cmpi .ne v1894 c0_i32_2082
  let v1899 : BitVec 1 := Scalar.andi v1898 v1895
  let v1900 : BitVec 32 := Scalar.addi v1894 v1893
  let v1901 : BitVec 32 := Scalar.select v1899 v1900 v1894
  let v1902 : Index := Scalar.indexCast v1901
  ![v1902.toNat]
def k0_off46 (v1903 : BitVec 32) : Fin 2 → Nat :=
  let c256_i32_2085 : BitVec 32 := 256#32
  let v1904 : BitVec 32 := Scalar.muli v1903 c256_i32_2085
  let v1905 : Index := Scalar.indexCast v1904
  let c0_2086 : Index := 0#32
  ![v1905.toNat, 0]

def k0_chk26 (v1903 : BitVec 32) : Prop :=
  (∀ a, (k0_off46 v1903) a + S256x256.size a ≤ S8192x256.size a)
theorem k0_off46_inb : ∀ (v1903 : BitVec 32) (k0_hw26 : k0_chk26 v1903), ∀ a, (k0_off46 v1903) a + S256x256.size a ≤ S8192x256.size a := fun v1903 k0_hw26 => k0_hw26

def k0_off47 (v0 : BitVec 32) : Fin 1 → Nat :=
  let c2_i32_2090 : BitVec 32 := 2#32
  let v1911 : BitVec 32 := Scalar.addi v0 c2_i32_2090
  let c10_i32_2091 : BitVec 32 := 10#32
  let v1912 : BitVec 32 := Scalar.addi v1911 c10_i32_2091
  let c32_i32_2092 : BitVec 32 := 32#32
  let c0_i32_2093 : BitVec 32 := 0#32
  let v1913 : BitVec 1 := Scalar.cmpi .eq c32_i32_2092 c0_i32_2093
  let c1_i32_2094 : BitVec 32 := 1#32
  let v1914 : BitVec 32 := Scalar.select v1913 c1_i32_2094 c32_i32_2092
  let v1915 : BitVec 32 := Scalar.remsi v1912 v1914
  let c0_i32_2096 : BitVec 32 := 0#32
  let v1917 : BitVec 1 := Scalar.cmpi .slt v1915 c0_i32_2096
  let c0_i32_2097 : BitVec 32 := 0#32
  let v1918 : BitVec 1 := Scalar.cmpi .slt v1914 c0_i32_2097
  let v1919 : BitVec 1 := Scalar.xori v1917 v1918
  let c0_i32_2095 : BitVec 32 := 0#32
  let v1916 : BitVec 1 := Scalar.cmpi .ne v1915 c0_i32_2095
  let v1920 : BitVec 1 := Scalar.andi v1919 v1916
  let v1921 : BitVec 32 := Scalar.addi v1915 v1914
  let v1922 : BitVec 32 := Scalar.select v1920 v1921 v1915
  let v1923 : Index := Scalar.indexCast v1922
  ![v1923.toNat]
def k0_off48 (v1924 : BitVec 32) : Fin 2 → Nat :=
  let c256_i32_2098 : BitVec 32 := 256#32
  let v1925 : BitVec 32 := Scalar.muli v1924 c256_i32_2098
  let v1926 : Index := Scalar.indexCast v1925
  let c0_2099 : Index := 0#32
  ![v1926.toNat, 0]

def k0_chk27 (v1924 : BitVec 32) : Prop :=
  (∀ a, (k0_off48 v1924) a + S256x256.size a ≤ S8192x256.size a)
theorem k0_off48_inb : ∀ (v1924 : BitVec 32) (k0_hw27 : k0_chk27 v1924), ∀ a, (k0_off48 v1924) a + S256x256.size a ≤ S8192x256.size a := fun v1924 k0_hw27 => k0_hw27

def k0_dev67 (v2 : BitVec 32) : Nat :=
  let c0_i32_2132 : BitVec 32 := 0#32
  let c1_i32_2131 : BitVec 32 := 1#32
  let v1949 : BitVec 32 := Scalar.muli v2 c1_i32_2131
  let v1950 : BitVec 32 := Scalar.addi c0_i32_2132 v1949
  v1950.toNat
def k0_dev68 (v1 : BitVec 32) : Nat :=
  let c0_i32_2162 : BitVec 32 := 0#32
  let c1_i32_2161 : BitVec 32 := 1#32
  let v1976 : BitVec 32 := Scalar.muli v1 c1_i32_2161
  let v1977 : BitVec 32 := Scalar.addi c0_i32_2162 v1976
  v1977.toNat
def k0_dev69 (v2 : BitVec 32) : Nat :=
  let c0_i32_2192 : BitVec 32 := 0#32
  let c1_i32_2191 : BitVec 32 := 1#32
  let v2003 : BitVec 32 := Scalar.muli v2 c1_i32_2191
  let v2004 : BitVec 32 := Scalar.addi c0_i32_2192 v2003
  v2004.toNat
def k0_dev70 (v1 : BitVec 32) : Nat :=
  let c0_i32_2222 : BitVec 32 := 0#32
  let c1_i32_2221 : BitVec 32 := 1#32
  let v2030 : BitVec 32 := Scalar.muli v1 c1_i32_2221
  let v2031 : BitVec 32 := Scalar.addi c0_i32_2222 v2030
  v2031.toNat
def k0_dev71 (v1 : BitVec 32) : Nat :=
  let c0_i32_2251 : BitVec 32 := 0#32
  let c1_i32_2250 : BitVec 32 := 1#32
  let v2052 : BitVec 32 := Scalar.muli v1 c1_i32_2250
  let v2053 : BitVec 32 := Scalar.addi c0_i32_2251 v2052
  v2053.toNat
def k0_dev72 (v2 : BitVec 32) : Nat :=
  let c0_i32_2276 : BitVec 32 := 0#32
  let c1_i32_2275 : BitVec 32 := 1#32
  let v2066 : BitVec 32 := Scalar.muli v2 c1_i32_2275
  let v2067 : BitVec 32 := Scalar.addi c0_i32_2276 v2066
  v2067.toNat
def k0_off49 (v0 : BitVec 32) : Fin 1 → Nat :=
  let c64_i32_2277 : BitVec 32 := 64#32
  let v2068 : BitVec 32 := Scalar.addi v0 c64_i32_2277
  let c2_i32_2278 : BitVec 32 := 2#32
  let v2069 : BitVec 32 := Scalar.subi v2068 c2_i32_2278
  let c11_i32 : BitVec 32 := 11#32
  let v2070 : BitVec 32 := Scalar.subi v2069 c11_i32
  let c32_i32_2279 : BitVec 32 := 32#32
  let c0_i32_2280 : BitVec 32 := 0#32
  let v2071 : BitVec 1 := Scalar.cmpi .eq c32_i32_2279 c0_i32_2280
  let c1_i32_2281 : BitVec 32 := 1#32
  let v2072 : BitVec 32 := Scalar.select v2071 c1_i32_2281 c32_i32_2279
  let v2073 : BitVec 32 := Scalar.remsi v2070 v2072
  let c0_i32_2283 : BitVec 32 := 0#32
  let v2075 : BitVec 1 := Scalar.cmpi .slt v2073 c0_i32_2283
  let c0_i32_2284 : BitVec 32 := 0#32
  let v2076 : BitVec 1 := Scalar.cmpi .slt v2072 c0_i32_2284
  let v2077 : BitVec 1 := Scalar.xori v2075 v2076
  let c0_i32_2282 : BitVec 32 := 0#32
  let v2074 : BitVec 1 := Scalar.cmpi .ne v2073 c0_i32_2282
  let v2078 : BitVec 1 := Scalar.andi v2077 v2074
  let v2079 : BitVec 32 := Scalar.addi v2073 v2072
  let v2080 : BitVec 32 := Scalar.select v2078 v2079 v2073
  let v2081 : Index := Scalar.indexCast v2080
  ![v2081.toNat]
def k0_off50 (v2082 : BitVec 32) : Fin 2 → Nat :=
  let c256_i32_2285 : BitVec 32 := 256#32
  let v2083 : BitVec 32 := Scalar.muli v2082 c256_i32_2285
  let v2084 : Index := Scalar.indexCast v2083
  let c0_2286 : Index := 0#32
  ![v2084.toNat, 0]

def k0_chk28 (v2082 : BitVec 32) : Prop :=
  (∀ a, (k0_off50 v2082) a + S256x256.size a ≤ S8192x256.size a)
theorem k0_off50_inb : ∀ (v2082 : BitVec 32) (k0_hw28 : k0_chk28 v2082), ∀ a, (k0_off50 v2082) a + S256x256.size a ≤ S8192x256.size a := fun v2082 k0_hw28 => k0_hw28

def k0_off51 (v0 : BitVec 32) : Fin 1 → Nat :=
  let c2_i32_2290 : BitVec 32 := 2#32
  let v2090 : BitVec 32 := Scalar.addi v0 c2_i32_2290
  let c11_i32_2291 : BitVec 32 := 11#32
  let v2091 : BitVec 32 := Scalar.addi v2090 c11_i32_2291
  let c32_i32_2292 : BitVec 32 := 32#32
  let c0_i32_2293 : BitVec 32 := 0#32
  let v2092 : BitVec 1 := Scalar.cmpi .eq c32_i32_2292 c0_i32_2293
  let c1_i32_2294 : BitVec 32 := 1#32
  let v2093 : BitVec 32 := Scalar.select v2092 c1_i32_2294 c32_i32_2292
  let v2094 : BitVec 32 := Scalar.remsi v2091 v2093
  let c0_i32_2296 : BitVec 32 := 0#32
  let v2096 : BitVec 1 := Scalar.cmpi .slt v2094 c0_i32_2296
  let c0_i32_2297 : BitVec 32 := 0#32
  let v2097 : BitVec 1 := Scalar.cmpi .slt v2093 c0_i32_2297
  let v2098 : BitVec 1 := Scalar.xori v2096 v2097
  let c0_i32_2295 : BitVec 32 := 0#32
  let v2095 : BitVec 1 := Scalar.cmpi .ne v2094 c0_i32_2295
  let v2099 : BitVec 1 := Scalar.andi v2098 v2095
  let v2100 : BitVec 32 := Scalar.addi v2094 v2093
  let v2101 : BitVec 32 := Scalar.select v2099 v2100 v2094
  let v2102 : Index := Scalar.indexCast v2101
  ![v2102.toNat]
def k0_off52 (v2103 : BitVec 32) : Fin 2 → Nat :=
  let c256_i32_2298 : BitVec 32 := 256#32
  let v2104 : BitVec 32 := Scalar.muli v2103 c256_i32_2298
  let v2105 : Index := Scalar.indexCast v2104
  let c0_2299 : Index := 0#32
  ![v2105.toNat, 0]

def k0_chk29 (v2103 : BitVec 32) : Prop :=
  (∀ a, (k0_off52 v2103) a + S256x256.size a ≤ S8192x256.size a)
theorem k0_off52_inb : ∀ (v2103 : BitVec 32) (k0_hw29 : k0_chk29 v2103), ∀ a, (k0_off52 v2103) a + S256x256.size a ≤ S8192x256.size a := fun v2103 k0_hw29 => k0_hw29

def k0_dev73 (v2 : BitVec 32) : Nat :=
  let c0_i32_2332 : BitVec 32 := 0#32
  let c1_i32_2331 : BitVec 32 := 1#32
  let v2128 : BitVec 32 := Scalar.muli v2 c1_i32_2331
  let v2129 : BitVec 32 := Scalar.addi c0_i32_2332 v2128
  v2129.toNat
def k0_dev74 (v1 : BitVec 32) : Nat :=
  let c0_i32_2362 : BitVec 32 := 0#32
  let c1_i32_2361 : BitVec 32 := 1#32
  let v2155 : BitVec 32 := Scalar.muli v1 c1_i32_2361
  let v2156 : BitVec 32 := Scalar.addi c0_i32_2362 v2155
  v2156.toNat
def k0_dev75 (v2 : BitVec 32) : Nat :=
  let c0_i32_2392 : BitVec 32 := 0#32
  let c1_i32_2391 : BitVec 32 := 1#32
  let v2182 : BitVec 32 := Scalar.muli v2 c1_i32_2391
  let v2183 : BitVec 32 := Scalar.addi c0_i32_2392 v2182
  v2183.toNat
def k0_dev76 (v1 : BitVec 32) : Nat :=
  let c0_i32_2422 : BitVec 32 := 0#32
  let c1_i32_2421 : BitVec 32 := 1#32
  let v2209 : BitVec 32 := Scalar.muli v1 c1_i32_2421
  let v2210 : BitVec 32 := Scalar.addi c0_i32_2422 v2209
  v2210.toNat
def k0_dev77 (v1 : BitVec 32) : Nat :=
  let c0_i32_2451 : BitVec 32 := 0#32
  let c1_i32_2450 : BitVec 32 := 1#32
  let v2231 : BitVec 32 := Scalar.muli v1 c1_i32_2450
  let v2232 : BitVec 32 := Scalar.addi c0_i32_2451 v2231
  v2232.toNat
def k0_dev78 (v2 : BitVec 32) : Nat :=
  let c0_i32_2476 : BitVec 32 := 0#32
  let c1_i32_2475 : BitVec 32 := 1#32
  let v2245 : BitVec 32 := Scalar.muli v2 c1_i32_2475
  let v2246 : BitVec 32 := Scalar.addi c0_i32_2476 v2245
  v2246.toNat
def k0_off53 (v0 : BitVec 32) : Fin 1 → Nat :=
  let c64_i32_2477 : BitVec 32 := 64#32
  let v2247 : BitVec 32 := Scalar.addi v0 c64_i32_2477
  let c2_i32_2478 : BitVec 32 := 2#32
  let v2248 : BitVec 32 := Scalar.subi v2247 c2_i32_2478
  let c12_i32 : BitVec 32 := 12#32
  let v2249 : BitVec 32 := Scalar.subi v2248 c12_i32
  let c32_i32_2479 : BitVec 32 := 32#32
  let c0_i32_2480 : BitVec 32 := 0#32
  let v2250 : BitVec 1 := Scalar.cmpi .eq c32_i32_2479 c0_i32_2480
  let c1_i32_2481 : BitVec 32 := 1#32
  let v2251 : BitVec 32 := Scalar.select v2250 c1_i32_2481 c32_i32_2479
  let v2252 : BitVec 32 := Scalar.remsi v2249 v2251
  let c0_i32_2483 : BitVec 32 := 0#32
  let v2254 : BitVec 1 := Scalar.cmpi .slt v2252 c0_i32_2483
  let c0_i32_2484 : BitVec 32 := 0#32
  let v2255 : BitVec 1 := Scalar.cmpi .slt v2251 c0_i32_2484
  let v2256 : BitVec 1 := Scalar.xori v2254 v2255
  let c0_i32_2482 : BitVec 32 := 0#32
  let v2253 : BitVec 1 := Scalar.cmpi .ne v2252 c0_i32_2482
  let v2257 : BitVec 1 := Scalar.andi v2256 v2253
  let v2258 : BitVec 32 := Scalar.addi v2252 v2251
  let v2259 : BitVec 32 := Scalar.select v2257 v2258 v2252
  let v2260 : Index := Scalar.indexCast v2259
  ![v2260.toNat]
def k0_off54 (v2261 : BitVec 32) : Fin 2 → Nat :=
  let c256_i32_2485 : BitVec 32 := 256#32
  let v2262 : BitVec 32 := Scalar.muli v2261 c256_i32_2485
  let v2263 : Index := Scalar.indexCast v2262
  let c0_2486 : Index := 0#32
  ![v2263.toNat, 0]

def k0_chk30 (v2261 : BitVec 32) : Prop :=
  (∀ a, (k0_off54 v2261) a + S256x256.size a ≤ S8192x256.size a)
theorem k0_off54_inb : ∀ (v2261 : BitVec 32) (k0_hw30 : k0_chk30 v2261), ∀ a, (k0_off54 v2261) a + S256x256.size a ≤ S8192x256.size a := fun v2261 k0_hw30 => k0_hw30

def k0_off55 (v0 : BitVec 32) : Fin 1 → Nat :=
  let c2_i32_2490 : BitVec 32 := 2#32
  let v2269 : BitVec 32 := Scalar.addi v0 c2_i32_2490
  let c12_i32_2491 : BitVec 32 := 12#32
  let v2270 : BitVec 32 := Scalar.addi v2269 c12_i32_2491
  let c32_i32_2492 : BitVec 32 := 32#32
  let c0_i32_2493 : BitVec 32 := 0#32
  let v2271 : BitVec 1 := Scalar.cmpi .eq c32_i32_2492 c0_i32_2493
  let c1_i32_2494 : BitVec 32 := 1#32
  let v2272 : BitVec 32 := Scalar.select v2271 c1_i32_2494 c32_i32_2492
  let v2273 : BitVec 32 := Scalar.remsi v2270 v2272
  let c0_i32_2496 : BitVec 32 := 0#32
  let v2275 : BitVec 1 := Scalar.cmpi .slt v2273 c0_i32_2496
  let c0_i32_2497 : BitVec 32 := 0#32
  let v2276 : BitVec 1 := Scalar.cmpi .slt v2272 c0_i32_2497
  let v2277 : BitVec 1 := Scalar.xori v2275 v2276
  let c0_i32_2495 : BitVec 32 := 0#32
  let v2274 : BitVec 1 := Scalar.cmpi .ne v2273 c0_i32_2495
  let v2278 : BitVec 1 := Scalar.andi v2277 v2274
  let v2279 : BitVec 32 := Scalar.addi v2273 v2272
  let v2280 : BitVec 32 := Scalar.select v2278 v2279 v2273
  let v2281 : Index := Scalar.indexCast v2280
  ![v2281.toNat]
def k0_off56 (v2282 : BitVec 32) : Fin 2 → Nat :=
  let c256_i32_2498 : BitVec 32 := 256#32
  let v2283 : BitVec 32 := Scalar.muli v2282 c256_i32_2498
  let v2284 : Index := Scalar.indexCast v2283
  let c0_2499 : Index := 0#32
  ![v2284.toNat, 0]

def k0_chk31 (v2282 : BitVec 32) : Prop :=
  (∀ a, (k0_off56 v2282) a + S256x256.size a ≤ S8192x256.size a)
theorem k0_off56_inb : ∀ (v2282 : BitVec 32) (k0_hw31 : k0_chk31 v2282), ∀ a, (k0_off56 v2282) a + S256x256.size a ≤ S8192x256.size a := fun v2282 k0_hw31 => k0_hw31

def k0_dev79 (v2 : BitVec 32) : Nat :=
  let c0_i32_2532 : BitVec 32 := 0#32
  let c1_i32_2531 : BitVec 32 := 1#32
  let v2307 : BitVec 32 := Scalar.muli v2 c1_i32_2531
  let v2308 : BitVec 32 := Scalar.addi c0_i32_2532 v2307
  v2308.toNat
def k0_dev80 (v1 : BitVec 32) : Nat :=
  let c0_i32_2562 : BitVec 32 := 0#32
  let c1_i32_2561 : BitVec 32 := 1#32
  let v2334 : BitVec 32 := Scalar.muli v1 c1_i32_2561
  let v2335 : BitVec 32 := Scalar.addi c0_i32_2562 v2334
  v2335.toNat
def k0_dev81 (v2 : BitVec 32) : Nat :=
  let c0_i32_2592 : BitVec 32 := 0#32
  let c1_i32_2591 : BitVec 32 := 1#32
  let v2361 : BitVec 32 := Scalar.muli v2 c1_i32_2591
  let v2362 : BitVec 32 := Scalar.addi c0_i32_2592 v2361
  v2362.toNat
def k0_dev82 (v1 : BitVec 32) : Nat :=
  let c0_i32_2622 : BitVec 32 := 0#32
  let c1_i32_2621 : BitVec 32 := 1#32
  let v2388 : BitVec 32 := Scalar.muli v1 c1_i32_2621
  let v2389 : BitVec 32 := Scalar.addi c0_i32_2622 v2388
  v2389.toNat
def k0_dev83 (v1 : BitVec 32) : Nat :=
  let c0_i32_2651 : BitVec 32 := 0#32
  let c1_i32_2650 : BitVec 32 := 1#32
  let v2410 : BitVec 32 := Scalar.muli v1 c1_i32_2650
  let v2411 : BitVec 32 := Scalar.addi c0_i32_2651 v2410
  v2411.toNat
def k0_dev84 (v2 : BitVec 32) : Nat :=
  let c0_i32_2676 : BitVec 32 := 0#32
  let c1_i32_2675 : BitVec 32 := 1#32
  let v2424 : BitVec 32 := Scalar.muli v2 c1_i32_2675
  let v2425 : BitVec 32 := Scalar.addi c0_i32_2676 v2424
  v2425.toNat
def k0_off57 (v0 : BitVec 32) : Fin 1 → Nat :=
  let c64_i32_2677 : BitVec 32 := 64#32
  let v2426 : BitVec 32 := Scalar.addi v0 c64_i32_2677
  let c2_i32_2678 : BitVec 32 := 2#32
  let v2427 : BitVec 32 := Scalar.subi v2426 c2_i32_2678
  let c13_i32 : BitVec 32 := 13#32
  let v2428 : BitVec 32 := Scalar.subi v2427 c13_i32
  let c32_i32_2679 : BitVec 32 := 32#32
  let c0_i32_2680 : BitVec 32 := 0#32
  let v2429 : BitVec 1 := Scalar.cmpi .eq c32_i32_2679 c0_i32_2680
  let c1_i32_2681 : BitVec 32 := 1#32
  let v2430 : BitVec 32 := Scalar.select v2429 c1_i32_2681 c32_i32_2679
  let v2431 : BitVec 32 := Scalar.remsi v2428 v2430
  let c0_i32_2683 : BitVec 32 := 0#32
  let v2433 : BitVec 1 := Scalar.cmpi .slt v2431 c0_i32_2683
  let c0_i32_2684 : BitVec 32 := 0#32
  let v2434 : BitVec 1 := Scalar.cmpi .slt v2430 c0_i32_2684
  let v2435 : BitVec 1 := Scalar.xori v2433 v2434
  let c0_i32_2682 : BitVec 32 := 0#32
  let v2432 : BitVec 1 := Scalar.cmpi .ne v2431 c0_i32_2682
  let v2436 : BitVec 1 := Scalar.andi v2435 v2432
  let v2437 : BitVec 32 := Scalar.addi v2431 v2430
  let v2438 : BitVec 32 := Scalar.select v2436 v2437 v2431
  let v2439 : Index := Scalar.indexCast v2438
  ![v2439.toNat]
def k0_off58 (v2440 : BitVec 32) : Fin 2 → Nat :=
  let c256_i32_2685 : BitVec 32 := 256#32
  let v2441 : BitVec 32 := Scalar.muli v2440 c256_i32_2685
  let v2442 : Index := Scalar.indexCast v2441
  let c0_2686 : Index := 0#32
  ![v2442.toNat, 0]

def k0_chk32 (v2440 : BitVec 32) : Prop :=
  (∀ a, (k0_off58 v2440) a + S256x256.size a ≤ S8192x256.size a)
theorem k0_off58_inb : ∀ (v2440 : BitVec 32) (k0_hw32 : k0_chk32 v2440), ∀ a, (k0_off58 v2440) a + S256x256.size a ≤ S8192x256.size a := fun v2440 k0_hw32 => k0_hw32

def k0_off59 (v0 : BitVec 32) : Fin 1 → Nat :=
  let c2_i32_2690 : BitVec 32 := 2#32
  let v2448 : BitVec 32 := Scalar.addi v0 c2_i32_2690
  let c13_i32_2691 : BitVec 32 := 13#32
  let v2449 : BitVec 32 := Scalar.addi v2448 c13_i32_2691
  let c32_i32_2692 : BitVec 32 := 32#32
  let c0_i32_2693 : BitVec 32 := 0#32
  let v2450 : BitVec 1 := Scalar.cmpi .eq c32_i32_2692 c0_i32_2693
  let c1_i32_2694 : BitVec 32 := 1#32
  let v2451 : BitVec 32 := Scalar.select v2450 c1_i32_2694 c32_i32_2692
  let v2452 : BitVec 32 := Scalar.remsi v2449 v2451
  let c0_i32_2696 : BitVec 32 := 0#32
  let v2454 : BitVec 1 := Scalar.cmpi .slt v2452 c0_i32_2696
  let c0_i32_2697 : BitVec 32 := 0#32
  let v2455 : BitVec 1 := Scalar.cmpi .slt v2451 c0_i32_2697
  let v2456 : BitVec 1 := Scalar.xori v2454 v2455
  let c0_i32_2695 : BitVec 32 := 0#32
  let v2453 : BitVec 1 := Scalar.cmpi .ne v2452 c0_i32_2695
  let v2457 : BitVec 1 := Scalar.andi v2456 v2453
  let v2458 : BitVec 32 := Scalar.addi v2452 v2451
  let v2459 : BitVec 32 := Scalar.select v2457 v2458 v2452
  let v2460 : Index := Scalar.indexCast v2459
  ![v2460.toNat]
def k0_off60 (v2461 : BitVec 32) : Fin 2 → Nat :=
  let c256_i32_2698 : BitVec 32 := 256#32
  let v2462 : BitVec 32 := Scalar.muli v2461 c256_i32_2698
  let v2463 : Index := Scalar.indexCast v2462
  let c0_2699 : Index := 0#32
  ![v2463.toNat, 0]

def k0_chk33 (v2461 : BitVec 32) : Prop :=
  (∀ a, (k0_off60 v2461) a + S256x256.size a ≤ S8192x256.size a)
theorem k0_off60_inb : ∀ (v2461 : BitVec 32) (k0_hw33 : k0_chk33 v2461), ∀ a, (k0_off60 v2461) a + S256x256.size a ≤ S8192x256.size a := fun v2461 k0_hw33 => k0_hw33

def k0_dev85 (v2 : BitVec 32) : Nat :=
  let c0_i32_2732 : BitVec 32 := 0#32
  let c1_i32_2731 : BitVec 32 := 1#32
  let v2486 : BitVec 32 := Scalar.muli v2 c1_i32_2731
  let v2487 : BitVec 32 := Scalar.addi c0_i32_2732 v2486
  v2487.toNat
def k0_dev86 (v1 : BitVec 32) : Nat :=
  let c0_i32_2762 : BitVec 32 := 0#32
  let c1_i32_2761 : BitVec 32 := 1#32
  let v2513 : BitVec 32 := Scalar.muli v1 c1_i32_2761
  let v2514 : BitVec 32 := Scalar.addi c0_i32_2762 v2513
  v2514.toNat
def k0_dev87 (v2 : BitVec 32) : Nat :=
  let c0_i32_2792 : BitVec 32 := 0#32
  let c1_i32_2791 : BitVec 32 := 1#32
  let v2540 : BitVec 32 := Scalar.muli v2 c1_i32_2791
  let v2541 : BitVec 32 := Scalar.addi c0_i32_2792 v2540
  v2541.toNat
def k0_dev88 (v1 : BitVec 32) : Nat :=
  let c0_i32_2822 : BitVec 32 := 0#32
  let c1_i32_2821 : BitVec 32 := 1#32
  let v2567 : BitVec 32 := Scalar.muli v1 c1_i32_2821
  let v2568 : BitVec 32 := Scalar.addi c0_i32_2822 v2567
  v2568.toNat
def k0_dev89 (v1 : BitVec 32) : Nat :=
  let c0_i32_2851 : BitVec 32 := 0#32
  let c1_i32_2850 : BitVec 32 := 1#32
  let v2589 : BitVec 32 := Scalar.muli v1 c1_i32_2850
  let v2590 : BitVec 32 := Scalar.addi c0_i32_2851 v2589
  v2590.toNat
def k0_dev90 (v2 : BitVec 32) : Nat :=
  let c0_i32_2876 : BitVec 32 := 0#32
  let c1_i32_2875 : BitVec 32 := 1#32
  let v2603 : BitVec 32 := Scalar.muli v2 c1_i32_2875
  let v2604 : BitVec 32 := Scalar.addi c0_i32_2876 v2603
  v2604.toNat
def k0_off61 (v0 : BitVec 32) : Fin 1 → Nat :=
  let c64_i32_2877 : BitVec 32 := 64#32
  let v2605 : BitVec 32 := Scalar.addi v0 c64_i32_2877
  let c2_i32_2878 : BitVec 32 := 2#32
  let v2606 : BitVec 32 := Scalar.subi v2605 c2_i32_2878
  let c14_i32 : BitVec 32 := 14#32
  let v2607 : BitVec 32 := Scalar.subi v2606 c14_i32
  let c32_i32_2879 : BitVec 32 := 32#32
  let c0_i32_2880 : BitVec 32 := 0#32
  let v2608 : BitVec 1 := Scalar.cmpi .eq c32_i32_2879 c0_i32_2880
  let c1_i32_2881 : BitVec 32 := 1#32
  let v2609 : BitVec 32 := Scalar.select v2608 c1_i32_2881 c32_i32_2879
  let v2610 : BitVec 32 := Scalar.remsi v2607 v2609
  let c0_i32_2883 : BitVec 32 := 0#32
  let v2612 : BitVec 1 := Scalar.cmpi .slt v2610 c0_i32_2883
  let c0_i32_2884 : BitVec 32 := 0#32
  let v2613 : BitVec 1 := Scalar.cmpi .slt v2609 c0_i32_2884
  let v2614 : BitVec 1 := Scalar.xori v2612 v2613
  let c0_i32_2882 : BitVec 32 := 0#32
  let v2611 : BitVec 1 := Scalar.cmpi .ne v2610 c0_i32_2882
  let v2615 : BitVec 1 := Scalar.andi v2614 v2611
  let v2616 : BitVec 32 := Scalar.addi v2610 v2609
  let v2617 : BitVec 32 := Scalar.select v2615 v2616 v2610
  let v2618 : Index := Scalar.indexCast v2617
  ![v2618.toNat]
def k0_off62 (v2619 : BitVec 32) : Fin 2 → Nat :=
  let c256_i32_2885 : BitVec 32 := 256#32
  let v2620 : BitVec 32 := Scalar.muli v2619 c256_i32_2885
  let v2621 : Index := Scalar.indexCast v2620
  let c0_2886 : Index := 0#32
  ![v2621.toNat, 0]

def k0_chk34 (v2619 : BitVec 32) : Prop :=
  (∀ a, (k0_off62 v2619) a + S256x256.size a ≤ S8192x256.size a)
theorem k0_off62_inb : ∀ (v2619 : BitVec 32) (k0_hw34 : k0_chk34 v2619), ∀ a, (k0_off62 v2619) a + S256x256.size a ≤ S8192x256.size a := fun v2619 k0_hw34 => k0_hw34

def k0_off63 (v0 : BitVec 32) : Fin 1 → Nat :=
  let c2_i32_2890 : BitVec 32 := 2#32
  let v2627 : BitVec 32 := Scalar.addi v0 c2_i32_2890
  let c14_i32_2891 : BitVec 32 := 14#32
  let v2628 : BitVec 32 := Scalar.addi v2627 c14_i32_2891
  let c32_i32_2892 : BitVec 32 := 32#32
  let c0_i32_2893 : BitVec 32 := 0#32
  let v2629 : BitVec 1 := Scalar.cmpi .eq c32_i32_2892 c0_i32_2893
  let c1_i32_2894 : BitVec 32 := 1#32
  let v2630 : BitVec 32 := Scalar.select v2629 c1_i32_2894 c32_i32_2892
  let v2631 : BitVec 32 := Scalar.remsi v2628 v2630
  let c0_i32_2896 : BitVec 32 := 0#32
  let v2633 : BitVec 1 := Scalar.cmpi .slt v2631 c0_i32_2896
  let c0_i32_2897 : BitVec 32 := 0#32
  let v2634 : BitVec 1 := Scalar.cmpi .slt v2630 c0_i32_2897
  let v2635 : BitVec 1 := Scalar.xori v2633 v2634
  let c0_i32_2895 : BitVec 32 := 0#32
  let v2632 : BitVec 1 := Scalar.cmpi .ne v2631 c0_i32_2895
  let v2636 : BitVec 1 := Scalar.andi v2635 v2632
  let v2637 : BitVec 32 := Scalar.addi v2631 v2630
  let v2638 : BitVec 32 := Scalar.select v2636 v2637 v2631
  let v2639 : Index := Scalar.indexCast v2638
  ![v2639.toNat]
def k0_off64 (v2640 : BitVec 32) : Fin 2 → Nat :=
  let c256_i32_2898 : BitVec 32 := 256#32
  let v2641 : BitVec 32 := Scalar.muli v2640 c256_i32_2898
  let v2642 : Index := Scalar.indexCast v2641
  let c0_2899 : Index := 0#32
  ![v2642.toNat, 0]

def k0_chk35 (v2640 : BitVec 32) : Prop :=
  (∀ a, (k0_off64 v2640) a + S256x256.size a ≤ S8192x256.size a)
theorem k0_off64_inb : ∀ (v2640 : BitVec 32) (k0_hw35 : k0_chk35 v2640), ∀ a, (k0_off64 v2640) a + S256x256.size a ≤ S8192x256.size a := fun v2640 k0_hw35 => k0_hw35

def k0_dev91 (v2 : BitVec 32) : Nat :=
  let c0_i32_2932 : BitVec 32 := 0#32
  let c1_i32_2931 : BitVec 32 := 1#32
  let v2665 : BitVec 32 := Scalar.muli v2 c1_i32_2931
  let v2666 : BitVec 32 := Scalar.addi c0_i32_2932 v2665
  v2666.toNat
def k0_dev92 (v1 : BitVec 32) : Nat :=
  let c0_i32_2962 : BitVec 32 := 0#32
  let c1_i32_2961 : BitVec 32 := 1#32
  let v2692 : BitVec 32 := Scalar.muli v1 c1_i32_2961
  let v2693 : BitVec 32 := Scalar.addi c0_i32_2962 v2692
  v2693.toNat
def k0_dev93 (v2 : BitVec 32) : Nat :=
  let c0_i32_2992 : BitVec 32 := 0#32
  let c1_i32_2991 : BitVec 32 := 1#32
  let v2719 : BitVec 32 := Scalar.muli v2 c1_i32_2991
  let v2720 : BitVec 32 := Scalar.addi c0_i32_2992 v2719
  v2720.toNat
def k0_dev94 (v1 : BitVec 32) : Nat :=
  let c0_i32_3022 : BitVec 32 := 0#32
  let c1_i32_3021 : BitVec 32 := 1#32
  let v2746 : BitVec 32 := Scalar.muli v1 c1_i32_3021
  let v2747 : BitVec 32 := Scalar.addi c0_i32_3022 v2746
  v2747.toNat
def k0_dev95 (v1 : BitVec 32) : Nat :=
  let c0_i32_3051 : BitVec 32 := 0#32
  let c1_i32_3050 : BitVec 32 := 1#32
  let v2768 : BitVec 32 := Scalar.muli v1 c1_i32_3050
  let v2769 : BitVec 32 := Scalar.addi c0_i32_3051 v2768
  v2769.toNat
def k0_dev96 (v2 : BitVec 32) : Nat :=
  let c0_i32_3076 : BitVec 32 := 0#32
  let c1_i32_3075 : BitVec 32 := 1#32
  let v2782 : BitVec 32 := Scalar.muli v2 c1_i32_3075
  let v2783 : BitVec 32 := Scalar.addi c0_i32_3076 v2782
  v2783.toNat
def k0_off65 (v0 : BitVec 32) : Fin 1 → Nat :=
  let c64_i32_3077 : BitVec 32 := 64#32
  let v2784 : BitVec 32 := Scalar.addi v0 c64_i32_3077
  let c2_i32_3078 : BitVec 32 := 2#32
  let v2785 : BitVec 32 := Scalar.subi v2784 c2_i32_3078
  let c15_i32 : BitVec 32 := 15#32
  let v2786 : BitVec 32 := Scalar.subi v2785 c15_i32
  let c32_i32_3079 : BitVec 32 := 32#32
  let c0_i32_3080 : BitVec 32 := 0#32
  let v2787 : BitVec 1 := Scalar.cmpi .eq c32_i32_3079 c0_i32_3080
  let c1_i32_3081 : BitVec 32 := 1#32
  let v2788 : BitVec 32 := Scalar.select v2787 c1_i32_3081 c32_i32_3079
  let v2789 : BitVec 32 := Scalar.remsi v2786 v2788
  let c0_i32_3083 : BitVec 32 := 0#32
  let v2791 : BitVec 1 := Scalar.cmpi .slt v2789 c0_i32_3083
  let c0_i32_3084 : BitVec 32 := 0#32
  let v2792 : BitVec 1 := Scalar.cmpi .slt v2788 c0_i32_3084
  let v2793 : BitVec 1 := Scalar.xori v2791 v2792
  let c0_i32_3082 : BitVec 32 := 0#32
  let v2790 : BitVec 1 := Scalar.cmpi .ne v2789 c0_i32_3082
  let v2794 : BitVec 1 := Scalar.andi v2793 v2790
  let v2795 : BitVec 32 := Scalar.addi v2789 v2788
  let v2796 : BitVec 32 := Scalar.select v2794 v2795 v2789
  let v2797 : Index := Scalar.indexCast v2796
  ![v2797.toNat]
def k0_off66 (v2798 : BitVec 32) : Fin 2 → Nat :=
  let c256_i32_3085 : BitVec 32 := 256#32
  let v2799 : BitVec 32 := Scalar.muli v2798 c256_i32_3085
  let v2800 : Index := Scalar.indexCast v2799
  let c0_3086 : Index := 0#32
  ![v2800.toNat, 0]

def k0_chk36 (v2798 : BitVec 32) : Prop :=
  (∀ a, (k0_off66 v2798) a + S256x256.size a ≤ S8192x256.size a)
theorem k0_off66_inb : ∀ (v2798 : BitVec 32) (k0_hw36 : k0_chk36 v2798), ∀ a, (k0_off66 v2798) a + S256x256.size a ≤ S8192x256.size a := fun v2798 k0_hw36 => k0_hw36

def k0_off67 (v0 : BitVec 32) : Fin 1 → Nat :=
  let c2_i32_3090 : BitVec 32 := 2#32
  let v2806 : BitVec 32 := Scalar.addi v0 c2_i32_3090
  let c15_i32_3091 : BitVec 32 := 15#32
  let v2807 : BitVec 32 := Scalar.addi v2806 c15_i32_3091
  let c32_i32_3092 : BitVec 32 := 32#32
  let c0_i32_3093 : BitVec 32 := 0#32
  let v2808 : BitVec 1 := Scalar.cmpi .eq c32_i32_3092 c0_i32_3093
  let c1_i32_3094 : BitVec 32 := 1#32
  let v2809 : BitVec 32 := Scalar.select v2808 c1_i32_3094 c32_i32_3092
  let v2810 : BitVec 32 := Scalar.remsi v2807 v2809
  let c0_i32_3096 : BitVec 32 := 0#32
  let v2812 : BitVec 1 := Scalar.cmpi .slt v2810 c0_i32_3096
  let c0_i32_3097 : BitVec 32 := 0#32
  let v2813 : BitVec 1 := Scalar.cmpi .slt v2809 c0_i32_3097
  let v2814 : BitVec 1 := Scalar.xori v2812 v2813
  let c0_i32_3095 : BitVec 32 := 0#32
  let v2811 : BitVec 1 := Scalar.cmpi .ne v2810 c0_i32_3095
  let v2815 : BitVec 1 := Scalar.andi v2814 v2811
  let v2816 : BitVec 32 := Scalar.addi v2810 v2809
  let v2817 : BitVec 32 := Scalar.select v2815 v2816 v2810
  let v2818 : Index := Scalar.indexCast v2817
  ![v2818.toNat]
def k0_off68 (v2819 : BitVec 32) : Fin 2 → Nat :=
  let c256_i32_3098 : BitVec 32 := 256#32
  let v2820 : BitVec 32 := Scalar.muli v2819 c256_i32_3098
  let v2821 : Index := Scalar.indexCast v2820
  let c0_3099 : Index := 0#32
  ![v2821.toNat, 0]

def k0_chk37 (v2819 : BitVec 32) : Prop :=
  (∀ a, (k0_off68 v2819) a + S256x256.size a ≤ S8192x256.size a)
theorem k0_off68_inb : ∀ (v2819 : BitVec 32) (k0_hw37 : k0_chk37 v2819), ∀ a, (k0_off68 v2819) a + S256x256.size a ≤ S8192x256.size a := fun v2819 k0_hw37 => k0_hw37

def k0_dev97 (v2 : BitVec 32) : Nat :=
  let c0_i32_3132 : BitVec 32 := 0#32
  let c1_i32_3131 : BitVec 32 := 1#32
  let v2844 : BitVec 32 := Scalar.muli v2 c1_i32_3131
  let v2845 : BitVec 32 := Scalar.addi c0_i32_3132 v2844
  v2845.toNat
def k0_dev98 (v1 : BitVec 32) : Nat :=
  let c0_i32_3162 : BitVec 32 := 0#32
  let c1_i32_3161 : BitVec 32 := 1#32
  let v2871 : BitVec 32 := Scalar.muli v1 c1_i32_3161
  let v2872 : BitVec 32 := Scalar.addi c0_i32_3162 v2871
  v2872.toNat
def k0_dev99 (v2 : BitVec 32) : Nat :=
  let c0_i32_3192 : BitVec 32 := 0#32
  let c1_i32_3191 : BitVec 32 := 1#32
  let v2898 : BitVec 32 := Scalar.muli v2 c1_i32_3191
  let v2899 : BitVec 32 := Scalar.addi c0_i32_3192 v2898
  v2899.toNat
def k0_dev100 (v1 : BitVec 32) : Nat :=
  let c0_i32_3222 : BitVec 32 := 0#32
  let c1_i32_3221 : BitVec 32 := 1#32
  let v2925 : BitVec 32 := Scalar.muli v1 c1_i32_3221
  let v2926 : BitVec 32 := Scalar.addi c0_i32_3222 v2925
  v2926.toNat
def k0_dev101 (v1 : BitVec 32) : Nat :=
  let c0_i32_3251 : BitVec 32 := 0#32
  let c1_i32_3250 : BitVec 32 := 1#32
  let v2947 : BitVec 32 := Scalar.muli v1 c1_i32_3250
  let v2948 : BitVec 32 := Scalar.addi c0_i32_3251 v2947
  v2948.toNat
def k0_dev102 (v2 : BitVec 32) : Nat :=
  let c0_i32_3276 : BitVec 32 := 0#32
  let c1_i32_3275 : BitVec 32 := 1#32
  let v2961 : BitVec 32 := Scalar.muli v2 c1_i32_3275
  let v2962 : BitVec 32 := Scalar.addi c0_i32_3276 v2961
  v2962.toNat
def k0_off69 (v0 : BitVec 32) : Fin 1 → Nat :=
  let c64_i32_3277 : BitVec 32 := 64#32
  let v2963 : BitVec 32 := Scalar.addi v0 c64_i32_3277
  let c2_i32_3278 : BitVec 32 := 2#32
  let v2964 : BitVec 32 := Scalar.subi v2963 c2_i32_3278
  let c16_i32 : BitVec 32 := 16#32
  let v2965 : BitVec 32 := Scalar.subi v2964 c16_i32
  let c32_i32_3279 : BitVec 32 := 32#32
  let c0_i32_3280 : BitVec 32 := 0#32
  let v2966 : BitVec 1 := Scalar.cmpi .eq c32_i32_3279 c0_i32_3280
  let c1_i32_3281 : BitVec 32 := 1#32
  let v2967 : BitVec 32 := Scalar.select v2966 c1_i32_3281 c32_i32_3279
  let v2968 : BitVec 32 := Scalar.remsi v2965 v2967
  let c0_i32_3283 : BitVec 32 := 0#32
  let v2970 : BitVec 1 := Scalar.cmpi .slt v2968 c0_i32_3283
  let c0_i32_3284 : BitVec 32 := 0#32
  let v2971 : BitVec 1 := Scalar.cmpi .slt v2967 c0_i32_3284
  let v2972 : BitVec 1 := Scalar.xori v2970 v2971
  let c0_i32_3282 : BitVec 32 := 0#32
  let v2969 : BitVec 1 := Scalar.cmpi .ne v2968 c0_i32_3282
  let v2973 : BitVec 1 := Scalar.andi v2972 v2969
  let v2974 : BitVec 32 := Scalar.addi v2968 v2967
  let v2975 : BitVec 32 := Scalar.select v2973 v2974 v2968
  let v2976 : Index := Scalar.indexCast v2975
  ![v2976.toNat]
def k0_off70 (v2977 : BitVec 32) : Fin 2 → Nat :=
  let c256_i32_3285 : BitVec 32 := 256#32
  let v2978 : BitVec 32 := Scalar.muli v2977 c256_i32_3285
  let v2979 : Index := Scalar.indexCast v2978
  let c0_3286 : Index := 0#32
  ![v2979.toNat, 0]

def k0_chk38 (v2977 : BitVec 32) : Prop :=
  (∀ a, (k0_off70 v2977) a + S256x256.size a ≤ S8192x256.size a)
theorem k0_off70_inb : ∀ (v2977 : BitVec 32) (k0_hw38 : k0_chk38 v2977), ∀ a, (k0_off70 v2977) a + S256x256.size a ≤ S8192x256.size a := fun v2977 k0_hw38 => k0_hw38

def k0_off71 (v0 : BitVec 32) : Fin 1 → Nat :=
  let c2_i32_3290 : BitVec 32 := 2#32
  let v2985 : BitVec 32 := Scalar.addi v0 c2_i32_3290
  let c16_i32_3291 : BitVec 32 := 16#32
  let v2986 : BitVec 32 := Scalar.addi v2985 c16_i32_3291
  let c32_i32_3292 : BitVec 32 := 32#32
  let c0_i32_3293 : BitVec 32 := 0#32
  let v2987 : BitVec 1 := Scalar.cmpi .eq c32_i32_3292 c0_i32_3293
  let c1_i32_3294 : BitVec 32 := 1#32
  let v2988 : BitVec 32 := Scalar.select v2987 c1_i32_3294 c32_i32_3292
  let v2989 : BitVec 32 := Scalar.remsi v2986 v2988
  let c0_i32_3296 : BitVec 32 := 0#32
  let v2991 : BitVec 1 := Scalar.cmpi .slt v2989 c0_i32_3296
  let c0_i32_3297 : BitVec 32 := 0#32
  let v2992 : BitVec 1 := Scalar.cmpi .slt v2988 c0_i32_3297
  let v2993 : BitVec 1 := Scalar.xori v2991 v2992
  let c0_i32_3295 : BitVec 32 := 0#32
  let v2990 : BitVec 1 := Scalar.cmpi .ne v2989 c0_i32_3295
  let v2994 : BitVec 1 := Scalar.andi v2993 v2990
  let v2995 : BitVec 32 := Scalar.addi v2989 v2988
  let v2996 : BitVec 32 := Scalar.select v2994 v2995 v2989
  let v2997 : Index := Scalar.indexCast v2996
  ![v2997.toNat]
def k0_off72 (v2998 : BitVec 32) : Fin 2 → Nat :=
  let c256_i32_3298 : BitVec 32 := 256#32
  let v2999 : BitVec 32 := Scalar.muli v2998 c256_i32_3298
  let v3000 : Index := Scalar.indexCast v2999
  let c0_3299 : Index := 0#32
  ![v3000.toNat, 0]

def k0_chk39 (v2998 : BitVec 32) : Prop :=
  (∀ a, (k0_off72 v2998) a + S256x256.size a ≤ S8192x256.size a)
theorem k0_off72_inb : ∀ (v2998 : BitVec 32) (k0_hw39 : k0_chk39 v2998), ∀ a, (k0_off72 v2998) a + S256x256.size a ≤ S8192x256.size a := fun v2998 k0_hw39 => k0_hw39

def k0_dev103 (v2 : BitVec 32) : Nat :=
  let c0_i32_3332 : BitVec 32 := 0#32
  let c1_i32_3331 : BitVec 32 := 1#32
  let v3023 : BitVec 32 := Scalar.muli v2 c1_i32_3331
  let v3024 : BitVec 32 := Scalar.addi c0_i32_3332 v3023
  v3024.toNat
def k0_dev104 (v1 : BitVec 32) : Nat :=
  let c0_i32_3362 : BitVec 32 := 0#32
  let c1_i32_3361 : BitVec 32 := 1#32
  let v3050 : BitVec 32 := Scalar.muli v1 c1_i32_3361
  let v3051 : BitVec 32 := Scalar.addi c0_i32_3362 v3050
  v3051.toNat
def k0_dev105 (v2 : BitVec 32) : Nat :=
  let c0_i32_3392 : BitVec 32 := 0#32
  let c1_i32_3391 : BitVec 32 := 1#32
  let v3077 : BitVec 32 := Scalar.muli v2 c1_i32_3391
  let v3078 : BitVec 32 := Scalar.addi c0_i32_3392 v3077
  v3078.toNat
def k0_dev106 (v1 : BitVec 32) : Nat :=
  let c0_i32_3422 : BitVec 32 := 0#32
  let c1_i32_3421 : BitVec 32 := 1#32
  let v3104 : BitVec 32 := Scalar.muli v1 c1_i32_3421
  let v3105 : BitVec 32 := Scalar.addi c0_i32_3422 v3104
  v3105.toNat
def k0_dev107 (v1 : BitVec 32) : Nat :=
  let c0_i32_3451 : BitVec 32 := 0#32
  let c1_i32_3450 : BitVec 32 := 1#32
  let v3126 : BitVec 32 := Scalar.muli v1 c1_i32_3450
  let v3127 : BitVec 32 := Scalar.addi c0_i32_3451 v3126
  v3127.toNat
def k0_dev108 (v2 : BitVec 32) : Nat :=
  let c0_i32_3476 : BitVec 32 := 0#32
  let c1_i32_3475 : BitVec 32 := 1#32
  let v3140 : BitVec 32 := Scalar.muli v2 c1_i32_3475
  let v3141 : BitVec 32 := Scalar.addi c0_i32_3476 v3140
  v3141.toNat
def k0_off73 (v0 : BitVec 32) : Fin 1 → Nat :=
  let c64_i32_3477 : BitVec 32 := 64#32
  let v3142 : BitVec 32 := Scalar.addi v0 c64_i32_3477
  let c2_i32_3478 : BitVec 32 := 2#32
  let v3143 : BitVec 32 := Scalar.subi v3142 c2_i32_3478
  let c17_i32 : BitVec 32 := 17#32
  let v3144 : BitVec 32 := Scalar.subi v3143 c17_i32
  let c32_i32_3479 : BitVec 32 := 32#32
  let c0_i32_3480 : BitVec 32 := 0#32
  let v3145 : BitVec 1 := Scalar.cmpi .eq c32_i32_3479 c0_i32_3480
  let c1_i32_3481 : BitVec 32 := 1#32
  let v3146 : BitVec 32 := Scalar.select v3145 c1_i32_3481 c32_i32_3479
  let v3147 : BitVec 32 := Scalar.remsi v3144 v3146
  let c0_i32_3483 : BitVec 32 := 0#32
  let v3149 : BitVec 1 := Scalar.cmpi .slt v3147 c0_i32_3483
  let c0_i32_3484 : BitVec 32 := 0#32
  let v3150 : BitVec 1 := Scalar.cmpi .slt v3146 c0_i32_3484
  let v3151 : BitVec 1 := Scalar.xori v3149 v3150
  let c0_i32_3482 : BitVec 32 := 0#32
  let v3148 : BitVec 1 := Scalar.cmpi .ne v3147 c0_i32_3482
  let v3152 : BitVec 1 := Scalar.andi v3151 v3148
  let v3153 : BitVec 32 := Scalar.addi v3147 v3146
  let v3154 : BitVec 32 := Scalar.select v3152 v3153 v3147
  let v3155 : Index := Scalar.indexCast v3154
  ![v3155.toNat]
def k0_off74 (v3156 : BitVec 32) : Fin 2 → Nat :=
  let c256_i32_3485 : BitVec 32 := 256#32
  let v3157 : BitVec 32 := Scalar.muli v3156 c256_i32_3485
  let v3158 : Index := Scalar.indexCast v3157
  let c0_3486 : Index := 0#32
  ![v3158.toNat, 0]

def k0_chk40 (v3156 : BitVec 32) : Prop :=
  (∀ a, (k0_off74 v3156) a + S256x256.size a ≤ S8192x256.size a)
theorem k0_off74_inb : ∀ (v3156 : BitVec 32) (k0_hw40 : k0_chk40 v3156), ∀ a, (k0_off74 v3156) a + S256x256.size a ≤ S8192x256.size a := fun v3156 k0_hw40 => k0_hw40

def k0_off75 (v0 : BitVec 32) : Fin 1 → Nat :=
  let c2_i32_3490 : BitVec 32 := 2#32
  let v3164 : BitVec 32 := Scalar.addi v0 c2_i32_3490
  let c17_i32_3491 : BitVec 32 := 17#32
  let v3165 : BitVec 32 := Scalar.addi v3164 c17_i32_3491
  let c32_i32_3492 : BitVec 32 := 32#32
  let c0_i32_3493 : BitVec 32 := 0#32
  let v3166 : BitVec 1 := Scalar.cmpi .eq c32_i32_3492 c0_i32_3493
  let c1_i32_3494 : BitVec 32 := 1#32
  let v3167 : BitVec 32 := Scalar.select v3166 c1_i32_3494 c32_i32_3492
  let v3168 : BitVec 32 := Scalar.remsi v3165 v3167
  let c0_i32_3496 : BitVec 32 := 0#32
  let v3170 : BitVec 1 := Scalar.cmpi .slt v3168 c0_i32_3496
  let c0_i32_3497 : BitVec 32 := 0#32
  let v3171 : BitVec 1 := Scalar.cmpi .slt v3167 c0_i32_3497
  let v3172 : BitVec 1 := Scalar.xori v3170 v3171
  let c0_i32_3495 : BitVec 32 := 0#32
  let v3169 : BitVec 1 := Scalar.cmpi .ne v3168 c0_i32_3495
  let v3173 : BitVec 1 := Scalar.andi v3172 v3169
  let v3174 : BitVec 32 := Scalar.addi v3168 v3167
  let v3175 : BitVec 32 := Scalar.select v3173 v3174 v3168
  let v3176 : Index := Scalar.indexCast v3175
  ![v3176.toNat]
def k0_off76 (v3177 : BitVec 32) : Fin 2 → Nat :=
  let c256_i32_3498 : BitVec 32 := 256#32
  let v3178 : BitVec 32 := Scalar.muli v3177 c256_i32_3498
  let v3179 : Index := Scalar.indexCast v3178
  let c0_3499 : Index := 0#32
  ![v3179.toNat, 0]

def k0_chk41 (v3177 : BitVec 32) : Prop :=
  (∀ a, (k0_off76 v3177) a + S256x256.size a ≤ S8192x256.size a)
theorem k0_off76_inb : ∀ (v3177 : BitVec 32) (k0_hw41 : k0_chk41 v3177), ∀ a, (k0_off76 v3177) a + S256x256.size a ≤ S8192x256.size a := fun v3177 k0_hw41 => k0_hw41

def k0_dev109 (v2 : BitVec 32) : Nat :=
  let c0_i32_3532 : BitVec 32 := 0#32
  let c1_i32_3531 : BitVec 32 := 1#32
  let v3202 : BitVec 32 := Scalar.muli v2 c1_i32_3531
  let v3203 : BitVec 32 := Scalar.addi c0_i32_3532 v3202
  v3203.toNat
def k0_dev110 (v1 : BitVec 32) : Nat :=
  let c0_i32_3562 : BitVec 32 := 0#32
  let c1_i32_3561 : BitVec 32 := 1#32
  let v3229 : BitVec 32 := Scalar.muli v1 c1_i32_3561
  let v3230 : BitVec 32 := Scalar.addi c0_i32_3562 v3229
  v3230.toNat
def k0_dev111 (v2 : BitVec 32) : Nat :=
  let c0_i32_3592 : BitVec 32 := 0#32
  let c1_i32_3591 : BitVec 32 := 1#32
  let v3256 : BitVec 32 := Scalar.muli v2 c1_i32_3591
  let v3257 : BitVec 32 := Scalar.addi c0_i32_3592 v3256
  v3257.toNat
def k0_dev112 (v1 : BitVec 32) : Nat :=
  let c0_i32_3622 : BitVec 32 := 0#32
  let c1_i32_3621 : BitVec 32 := 1#32
  let v3283 : BitVec 32 := Scalar.muli v1 c1_i32_3621
  let v3284 : BitVec 32 := Scalar.addi c0_i32_3622 v3283
  v3284.toNat
def k0_dev113 (v1 : BitVec 32) : Nat :=
  let c0_i32_3651 : BitVec 32 := 0#32
  let c1_i32_3650 : BitVec 32 := 1#32
  let v3305 : BitVec 32 := Scalar.muli v1 c1_i32_3650
  let v3306 : BitVec 32 := Scalar.addi c0_i32_3651 v3305
  v3306.toNat
def k0_dev114 (v2 : BitVec 32) : Nat :=
  let c0_i32_3676 : BitVec 32 := 0#32
  let c1_i32_3675 : BitVec 32 := 1#32
  let v3319 : BitVec 32 := Scalar.muli v2 c1_i32_3675
  let v3320 : BitVec 32 := Scalar.addi c0_i32_3676 v3319
  v3320.toNat
def k0_off77 (v0 : BitVec 32) : Fin 1 → Nat :=
  let c64_i32_3677 : BitVec 32 := 64#32
  let v3321 : BitVec 32 := Scalar.addi v0 c64_i32_3677
  let c2_i32_3678 : BitVec 32 := 2#32
  let v3322 : BitVec 32 := Scalar.subi v3321 c2_i32_3678
  let c18_i32 : BitVec 32 := 18#32
  let v3323 : BitVec 32 := Scalar.subi v3322 c18_i32
  let c32_i32_3679 : BitVec 32 := 32#32
  let c0_i32_3680 : BitVec 32 := 0#32
  let v3324 : BitVec 1 := Scalar.cmpi .eq c32_i32_3679 c0_i32_3680
  let c1_i32_3681 : BitVec 32 := 1#32
  let v3325 : BitVec 32 := Scalar.select v3324 c1_i32_3681 c32_i32_3679
  let v3326 : BitVec 32 := Scalar.remsi v3323 v3325
  let c0_i32_3683 : BitVec 32 := 0#32
  let v3328 : BitVec 1 := Scalar.cmpi .slt v3326 c0_i32_3683
  let c0_i32_3684 : BitVec 32 := 0#32
  let v3329 : BitVec 1 := Scalar.cmpi .slt v3325 c0_i32_3684
  let v3330 : BitVec 1 := Scalar.xori v3328 v3329
  let c0_i32_3682 : BitVec 32 := 0#32
  let v3327 : BitVec 1 := Scalar.cmpi .ne v3326 c0_i32_3682
  let v3331 : BitVec 1 := Scalar.andi v3330 v3327
  let v3332 : BitVec 32 := Scalar.addi v3326 v3325
  let v3333 : BitVec 32 := Scalar.select v3331 v3332 v3326
  let v3334 : Index := Scalar.indexCast v3333
  ![v3334.toNat]
def k0_off78 (v3335 : BitVec 32) : Fin 2 → Nat :=
  let c256_i32_3685 : BitVec 32 := 256#32
  let v3336 : BitVec 32 := Scalar.muli v3335 c256_i32_3685
  let v3337 : Index := Scalar.indexCast v3336
  let c0_3686 : Index := 0#32
  ![v3337.toNat, 0]

def k0_chk42 (v3335 : BitVec 32) : Prop :=
  (∀ a, (k0_off78 v3335) a + S256x256.size a ≤ S8192x256.size a)
theorem k0_off78_inb : ∀ (v3335 : BitVec 32) (k0_hw42 : k0_chk42 v3335), ∀ a, (k0_off78 v3335) a + S256x256.size a ≤ S8192x256.size a := fun v3335 k0_hw42 => k0_hw42

def k0_off79 (v0 : BitVec 32) : Fin 1 → Nat :=
  let c2_i32_3690 : BitVec 32 := 2#32
  let v3343 : BitVec 32 := Scalar.addi v0 c2_i32_3690
  let c18_i32_3691 : BitVec 32 := 18#32
  let v3344 : BitVec 32 := Scalar.addi v3343 c18_i32_3691
  let c32_i32_3692 : BitVec 32 := 32#32
  let c0_i32_3693 : BitVec 32 := 0#32
  let v3345 : BitVec 1 := Scalar.cmpi .eq c32_i32_3692 c0_i32_3693
  let c1_i32_3694 : BitVec 32 := 1#32
  let v3346 : BitVec 32 := Scalar.select v3345 c1_i32_3694 c32_i32_3692
  let v3347 : BitVec 32 := Scalar.remsi v3344 v3346
  let c0_i32_3696 : BitVec 32 := 0#32
  let v3349 : BitVec 1 := Scalar.cmpi .slt v3347 c0_i32_3696
  let c0_i32_3697 : BitVec 32 := 0#32
  let v3350 : BitVec 1 := Scalar.cmpi .slt v3346 c0_i32_3697
  let v3351 : BitVec 1 := Scalar.xori v3349 v3350
  let c0_i32_3695 : BitVec 32 := 0#32
  let v3348 : BitVec 1 := Scalar.cmpi .ne v3347 c0_i32_3695
  let v3352 : BitVec 1 := Scalar.andi v3351 v3348
  let v3353 : BitVec 32 := Scalar.addi v3347 v3346
  let v3354 : BitVec 32 := Scalar.select v3352 v3353 v3347
  let v3355 : Index := Scalar.indexCast v3354
  ![v3355.toNat]
def k0_off80 (v3356 : BitVec 32) : Fin 2 → Nat :=
  let c256_i32_3698 : BitVec 32 := 256#32
  let v3357 : BitVec 32 := Scalar.muli v3356 c256_i32_3698
  let v3358 : Index := Scalar.indexCast v3357
  let c0_3699 : Index := 0#32
  ![v3358.toNat, 0]

def k0_chk43 (v3356 : BitVec 32) : Prop :=
  (∀ a, (k0_off80 v3356) a + S256x256.size a ≤ S8192x256.size a)
theorem k0_off80_inb : ∀ (v3356 : BitVec 32) (k0_hw43 : k0_chk43 v3356), ∀ a, (k0_off80 v3356) a + S256x256.size a ≤ S8192x256.size a := fun v3356 k0_hw43 => k0_hw43

def k0_dev115 (v2 : BitVec 32) : Nat :=
  let c0_i32_3732 : BitVec 32 := 0#32
  let c1_i32_3731 : BitVec 32 := 1#32
  let v3381 : BitVec 32 := Scalar.muli v2 c1_i32_3731
  let v3382 : BitVec 32 := Scalar.addi c0_i32_3732 v3381
  v3382.toNat
def k0_dev116 (v1 : BitVec 32) : Nat :=
  let c0_i32_3762 : BitVec 32 := 0#32
  let c1_i32_3761 : BitVec 32 := 1#32
  let v3408 : BitVec 32 := Scalar.muli v1 c1_i32_3761
  let v3409 : BitVec 32 := Scalar.addi c0_i32_3762 v3408
  v3409.toNat
def k0_dev117 (v2 : BitVec 32) : Nat :=
  let c0_i32_3792 : BitVec 32 := 0#32
  let c1_i32_3791 : BitVec 32 := 1#32
  let v3435 : BitVec 32 := Scalar.muli v2 c1_i32_3791
  let v3436 : BitVec 32 := Scalar.addi c0_i32_3792 v3435
  v3436.toNat
def k0_dev118 (v1 : BitVec 32) : Nat :=
  let c0_i32_3822 : BitVec 32 := 0#32
  let c1_i32_3821 : BitVec 32 := 1#32
  let v3462 : BitVec 32 := Scalar.muli v1 c1_i32_3821
  let v3463 : BitVec 32 := Scalar.addi c0_i32_3822 v3462
  v3463.toNat
def k0_dev119 (v1 : BitVec 32) : Nat :=
  let c0_i32_3851 : BitVec 32 := 0#32
  let c1_i32_3850 : BitVec 32 := 1#32
  let v3484 : BitVec 32 := Scalar.muli v1 c1_i32_3850
  let v3485 : BitVec 32 := Scalar.addi c0_i32_3851 v3484
  v3485.toNat
def k0_dev120 (v2 : BitVec 32) : Nat :=
  let c0_i32_3876 : BitVec 32 := 0#32
  let c1_i32_3875 : BitVec 32 := 1#32
  let v3498 : BitVec 32 := Scalar.muli v2 c1_i32_3875
  let v3499 : BitVec 32 := Scalar.addi c0_i32_3876 v3498
  v3499.toNat
def k0_off81 (v0 : BitVec 32) : Fin 1 → Nat :=
  let c64_i32_3877 : BitVec 32 := 64#32
  let v3500 : BitVec 32 := Scalar.addi v0 c64_i32_3877
  let c2_i32_3878 : BitVec 32 := 2#32
  let v3501 : BitVec 32 := Scalar.subi v3500 c2_i32_3878
  let c19_i32 : BitVec 32 := 19#32
  let v3502 : BitVec 32 := Scalar.subi v3501 c19_i32
  let c32_i32_3879 : BitVec 32 := 32#32
  let c0_i32_3880 : BitVec 32 := 0#32
  let v3503 : BitVec 1 := Scalar.cmpi .eq c32_i32_3879 c0_i32_3880
  let c1_i32_3881 : BitVec 32 := 1#32
  let v3504 : BitVec 32 := Scalar.select v3503 c1_i32_3881 c32_i32_3879
  let v3505 : BitVec 32 := Scalar.remsi v3502 v3504
  let c0_i32_3883 : BitVec 32 := 0#32
  let v3507 : BitVec 1 := Scalar.cmpi .slt v3505 c0_i32_3883
  let c0_i32_3884 : BitVec 32 := 0#32
  let v3508 : BitVec 1 := Scalar.cmpi .slt v3504 c0_i32_3884
  let v3509 : BitVec 1 := Scalar.xori v3507 v3508
  let c0_i32_3882 : BitVec 32 := 0#32
  let v3506 : BitVec 1 := Scalar.cmpi .ne v3505 c0_i32_3882
  let v3510 : BitVec 1 := Scalar.andi v3509 v3506
  let v3511 : BitVec 32 := Scalar.addi v3505 v3504
  let v3512 : BitVec 32 := Scalar.select v3510 v3511 v3505
  let v3513 : Index := Scalar.indexCast v3512
  ![v3513.toNat]
def k0_off82 (v3514 : BitVec 32) : Fin 2 → Nat :=
  let c256_i32_3885 : BitVec 32 := 256#32
  let v3515 : BitVec 32 := Scalar.muli v3514 c256_i32_3885
  let v3516 : Index := Scalar.indexCast v3515
  let c0_3886 : Index := 0#32
  ![v3516.toNat, 0]

def k0_chk44 (v3514 : BitVec 32) : Prop :=
  (∀ a, (k0_off82 v3514) a + S256x256.size a ≤ S8192x256.size a)
theorem k0_off82_inb : ∀ (v3514 : BitVec 32) (k0_hw44 : k0_chk44 v3514), ∀ a, (k0_off82 v3514) a + S256x256.size a ≤ S8192x256.size a := fun v3514 k0_hw44 => k0_hw44

def k0_off83 (v0 : BitVec 32) : Fin 1 → Nat :=
  let c2_i32_3890 : BitVec 32 := 2#32
  let v3522 : BitVec 32 := Scalar.addi v0 c2_i32_3890
  let c19_i32_3891 : BitVec 32 := 19#32
  let v3523 : BitVec 32 := Scalar.addi v3522 c19_i32_3891
  let c32_i32_3892 : BitVec 32 := 32#32
  let c0_i32_3893 : BitVec 32 := 0#32
  let v3524 : BitVec 1 := Scalar.cmpi .eq c32_i32_3892 c0_i32_3893
  let c1_i32_3894 : BitVec 32 := 1#32
  let v3525 : BitVec 32 := Scalar.select v3524 c1_i32_3894 c32_i32_3892
  let v3526 : BitVec 32 := Scalar.remsi v3523 v3525
  let c0_i32_3896 : BitVec 32 := 0#32
  let v3528 : BitVec 1 := Scalar.cmpi .slt v3526 c0_i32_3896
  let c0_i32_3897 : BitVec 32 := 0#32
  let v3529 : BitVec 1 := Scalar.cmpi .slt v3525 c0_i32_3897
  let v3530 : BitVec 1 := Scalar.xori v3528 v3529
  let c0_i32_3895 : BitVec 32 := 0#32
  let v3527 : BitVec 1 := Scalar.cmpi .ne v3526 c0_i32_3895
  let v3531 : BitVec 1 := Scalar.andi v3530 v3527
  let v3532 : BitVec 32 := Scalar.addi v3526 v3525
  let v3533 : BitVec 32 := Scalar.select v3531 v3532 v3526
  let v3534 : Index := Scalar.indexCast v3533
  ![v3534.toNat]
def k0_off84 (v3535 : BitVec 32) : Fin 2 → Nat :=
  let c256_i32_3898 : BitVec 32 := 256#32
  let v3536 : BitVec 32 := Scalar.muli v3535 c256_i32_3898
  let v3537 : Index := Scalar.indexCast v3536
  let c0_3899 : Index := 0#32
  ![v3537.toNat, 0]

def k0_chk45 (v3535 : BitVec 32) : Prop :=
  (∀ a, (k0_off84 v3535) a + S256x256.size a ≤ S8192x256.size a)
theorem k0_off84_inb : ∀ (v3535 : BitVec 32) (k0_hw45 : k0_chk45 v3535), ∀ a, (k0_off84 v3535) a + S256x256.size a ≤ S8192x256.size a := fun v3535 k0_hw45 => k0_hw45

def k0_dev121 (v2 : BitVec 32) : Nat :=
  let c0_i32_3932 : BitVec 32 := 0#32
  let c1_i32_3931 : BitVec 32 := 1#32
  let v3560 : BitVec 32 := Scalar.muli v2 c1_i32_3931
  let v3561 : BitVec 32 := Scalar.addi c0_i32_3932 v3560
  v3561.toNat
def k0_dev122 (v1 : BitVec 32) : Nat :=
  let c0_i32_3962 : BitVec 32 := 0#32
  let c1_i32_3961 : BitVec 32 := 1#32
  let v3587 : BitVec 32 := Scalar.muli v1 c1_i32_3961
  let v3588 : BitVec 32 := Scalar.addi c0_i32_3962 v3587
  v3588.toNat
def k0_dev123 (v2 : BitVec 32) : Nat :=
  let c0_i32_3992 : BitVec 32 := 0#32
  let c1_i32_3991 : BitVec 32 := 1#32
  let v3614 : BitVec 32 := Scalar.muli v2 c1_i32_3991
  let v3615 : BitVec 32 := Scalar.addi c0_i32_3992 v3614
  v3615.toNat
def k0_dev124 (v1 : BitVec 32) : Nat :=
  let c0_i32_4022 : BitVec 32 := 0#32
  let c1_i32_4021 : BitVec 32 := 1#32
  let v3641 : BitVec 32 := Scalar.muli v1 c1_i32_4021
  let v3642 : BitVec 32 := Scalar.addi c0_i32_4022 v3641
  v3642.toNat
def k0_dev125 (v1 : BitVec 32) : Nat :=
  let c0_i32_4051 : BitVec 32 := 0#32
  let c1_i32_4050 : BitVec 32 := 1#32
  let v3663 : BitVec 32 := Scalar.muli v1 c1_i32_4050
  let v3664 : BitVec 32 := Scalar.addi c0_i32_4051 v3663
  v3664.toNat
def k0_dev126 (v2 : BitVec 32) : Nat :=
  let c0_i32_4076 : BitVec 32 := 0#32
  let c1_i32_4075 : BitVec 32 := 1#32
  let v3677 : BitVec 32 := Scalar.muli v2 c1_i32_4075
  let v3678 : BitVec 32 := Scalar.addi c0_i32_4076 v3677
  v3678.toNat
def k0_off85 (v0 : BitVec 32) : Fin 1 → Nat :=
  let c64_i32_4077 : BitVec 32 := 64#32
  let v3679 : BitVec 32 := Scalar.addi v0 c64_i32_4077
  let c2_i32_4078 : BitVec 32 := 2#32
  let v3680 : BitVec 32 := Scalar.subi v3679 c2_i32_4078
  let c20_i32 : BitVec 32 := 20#32
  let v3681 : BitVec 32 := Scalar.subi v3680 c20_i32
  let c32_i32_4079 : BitVec 32 := 32#32
  let c0_i32_4080 : BitVec 32 := 0#32
  let v3682 : BitVec 1 := Scalar.cmpi .eq c32_i32_4079 c0_i32_4080
  let c1_i32_4081 : BitVec 32 := 1#32
  let v3683 : BitVec 32 := Scalar.select v3682 c1_i32_4081 c32_i32_4079
  let v3684 : BitVec 32 := Scalar.remsi v3681 v3683
  let c0_i32_4083 : BitVec 32 := 0#32
  let v3686 : BitVec 1 := Scalar.cmpi .slt v3684 c0_i32_4083
  let c0_i32_4084 : BitVec 32 := 0#32
  let v3687 : BitVec 1 := Scalar.cmpi .slt v3683 c0_i32_4084
  let v3688 : BitVec 1 := Scalar.xori v3686 v3687
  let c0_i32_4082 : BitVec 32 := 0#32
  let v3685 : BitVec 1 := Scalar.cmpi .ne v3684 c0_i32_4082
  let v3689 : BitVec 1 := Scalar.andi v3688 v3685
  let v3690 : BitVec 32 := Scalar.addi v3684 v3683
  let v3691 : BitVec 32 := Scalar.select v3689 v3690 v3684
  let v3692 : Index := Scalar.indexCast v3691
  ![v3692.toNat]
def k0_off86 (v3693 : BitVec 32) : Fin 2 → Nat :=
  let c256_i32_4085 : BitVec 32 := 256#32
  let v3694 : BitVec 32 := Scalar.muli v3693 c256_i32_4085
  let v3695 : Index := Scalar.indexCast v3694
  let c0_4086 : Index := 0#32
  ![v3695.toNat, 0]

def k0_chk46 (v3693 : BitVec 32) : Prop :=
  (∀ a, (k0_off86 v3693) a + S256x256.size a ≤ S8192x256.size a)
theorem k0_off86_inb : ∀ (v3693 : BitVec 32) (k0_hw46 : k0_chk46 v3693), ∀ a, (k0_off86 v3693) a + S256x256.size a ≤ S8192x256.size a := fun v3693 k0_hw46 => k0_hw46

def k0_off87 (v0 : BitVec 32) : Fin 1 → Nat :=
  let c2_i32_4090 : BitVec 32 := 2#32
  let v3701 : BitVec 32 := Scalar.addi v0 c2_i32_4090
  let c20_i32_4091 : BitVec 32 := 20#32
  let v3702 : BitVec 32 := Scalar.addi v3701 c20_i32_4091
  let c32_i32_4092 : BitVec 32 := 32#32
  let c0_i32_4093 : BitVec 32 := 0#32
  let v3703 : BitVec 1 := Scalar.cmpi .eq c32_i32_4092 c0_i32_4093
  let c1_i32_4094 : BitVec 32 := 1#32
  let v3704 : BitVec 32 := Scalar.select v3703 c1_i32_4094 c32_i32_4092
  let v3705 : BitVec 32 := Scalar.remsi v3702 v3704
  let c0_i32_4096 : BitVec 32 := 0#32
  let v3707 : BitVec 1 := Scalar.cmpi .slt v3705 c0_i32_4096
  let c0_i32_4097 : BitVec 32 := 0#32
  let v3708 : BitVec 1 := Scalar.cmpi .slt v3704 c0_i32_4097
  let v3709 : BitVec 1 := Scalar.xori v3707 v3708
  let c0_i32_4095 : BitVec 32 := 0#32
  let v3706 : BitVec 1 := Scalar.cmpi .ne v3705 c0_i32_4095
  let v3710 : BitVec 1 := Scalar.andi v3709 v3706
  let v3711 : BitVec 32 := Scalar.addi v3705 v3704
  let v3712 : BitVec 32 := Scalar.select v3710 v3711 v3705
  let v3713 : Index := Scalar.indexCast v3712
  ![v3713.toNat]
def k0_off88 (v3714 : BitVec 32) : Fin 2 → Nat :=
  let c256_i32_4098 : BitVec 32 := 256#32
  let v3715 : BitVec 32 := Scalar.muli v3714 c256_i32_4098
  let v3716 : Index := Scalar.indexCast v3715
  let c0_4099 : Index := 0#32
  ![v3716.toNat, 0]

def k0_chk47 (v3714 : BitVec 32) : Prop :=
  (∀ a, (k0_off88 v3714) a + S256x256.size a ≤ S8192x256.size a)
theorem k0_off88_inb : ∀ (v3714 : BitVec 32) (k0_hw47 : k0_chk47 v3714), ∀ a, (k0_off88 v3714) a + S256x256.size a ≤ S8192x256.size a := fun v3714 k0_hw47 => k0_hw47

def k0_dev127 (v2 : BitVec 32) : Nat :=
  let c0_i32_4132 : BitVec 32 := 0#32
  let c1_i32_4131 : BitVec 32 := 1#32
  let v3739 : BitVec 32 := Scalar.muli v2 c1_i32_4131
  let v3740 : BitVec 32 := Scalar.addi c0_i32_4132 v3739
  v3740.toNat
def k0_dev128 (v1 : BitVec 32) : Nat :=
  let c0_i32_4162 : BitVec 32 := 0#32
  let c1_i32_4161 : BitVec 32 := 1#32
  let v3766 : BitVec 32 := Scalar.muli v1 c1_i32_4161
  let v3767 : BitVec 32 := Scalar.addi c0_i32_4162 v3766
  v3767.toNat
def k0_dev129 (v2 : BitVec 32) : Nat :=
  let c0_i32_4192 : BitVec 32 := 0#32
  let c1_i32_4191 : BitVec 32 := 1#32
  let v3793 : BitVec 32 := Scalar.muli v2 c1_i32_4191
  let v3794 : BitVec 32 := Scalar.addi c0_i32_4192 v3793
  v3794.toNat
def k0_dev130 (v1 : BitVec 32) : Nat :=
  let c0_i32_4222 : BitVec 32 := 0#32
  let c1_i32_4221 : BitVec 32 := 1#32
  let v3820 : BitVec 32 := Scalar.muli v1 c1_i32_4221
  let v3821 : BitVec 32 := Scalar.addi c0_i32_4222 v3820
  v3821.toNat
def k0_dev131 (v1 : BitVec 32) : Nat :=
  let c0_i32_4251 : BitVec 32 := 0#32
  let c1_i32_4250 : BitVec 32 := 1#32
  let v3842 : BitVec 32 := Scalar.muli v1 c1_i32_4250
  let v3843 : BitVec 32 := Scalar.addi c0_i32_4251 v3842
  v3843.toNat
def k0_dev132 (v2 : BitVec 32) : Nat :=
  let c0_i32_4276 : BitVec 32 := 0#32
  let c1_i32_4275 : BitVec 32 := 1#32
  let v3856 : BitVec 32 := Scalar.muli v2 c1_i32_4275
  let v3857 : BitVec 32 := Scalar.addi c0_i32_4276 v3856
  v3857.toNat
def k0_off89 (v0 : BitVec 32) : Fin 1 → Nat :=
  let c64_i32_4277 : BitVec 32 := 64#32
  let v3858 : BitVec 32 := Scalar.addi v0 c64_i32_4277
  let c2_i32_4278 : BitVec 32 := 2#32
  let v3859 : BitVec 32 := Scalar.subi v3858 c2_i32_4278
  let c21_i32 : BitVec 32 := 21#32
  let v3860 : BitVec 32 := Scalar.subi v3859 c21_i32
  let c32_i32_4279 : BitVec 32 := 32#32
  let c0_i32_4280 : BitVec 32 := 0#32
  let v3861 : BitVec 1 := Scalar.cmpi .eq c32_i32_4279 c0_i32_4280
  let c1_i32_4281 : BitVec 32 := 1#32
  let v3862 : BitVec 32 := Scalar.select v3861 c1_i32_4281 c32_i32_4279
  let v3863 : BitVec 32 := Scalar.remsi v3860 v3862
  let c0_i32_4283 : BitVec 32 := 0#32
  let v3865 : BitVec 1 := Scalar.cmpi .slt v3863 c0_i32_4283
  let c0_i32_4284 : BitVec 32 := 0#32
  let v3866 : BitVec 1 := Scalar.cmpi .slt v3862 c0_i32_4284
  let v3867 : BitVec 1 := Scalar.xori v3865 v3866
  let c0_i32_4282 : BitVec 32 := 0#32
  let v3864 : BitVec 1 := Scalar.cmpi .ne v3863 c0_i32_4282
  let v3868 : BitVec 1 := Scalar.andi v3867 v3864
  let v3869 : BitVec 32 := Scalar.addi v3863 v3862
  let v3870 : BitVec 32 := Scalar.select v3868 v3869 v3863
  let v3871 : Index := Scalar.indexCast v3870
  ![v3871.toNat]
def k0_off90 (v3872 : BitVec 32) : Fin 2 → Nat :=
  let c256_i32_4285 : BitVec 32 := 256#32
  let v3873 : BitVec 32 := Scalar.muli v3872 c256_i32_4285
  let v3874 : Index := Scalar.indexCast v3873
  let c0_4286 : Index := 0#32
  ![v3874.toNat, 0]

def k0_chk48 (v3872 : BitVec 32) : Prop :=
  (∀ a, (k0_off90 v3872) a + S256x256.size a ≤ S8192x256.size a)
theorem k0_off90_inb : ∀ (v3872 : BitVec 32) (k0_hw48 : k0_chk48 v3872), ∀ a, (k0_off90 v3872) a + S256x256.size a ≤ S8192x256.size a := fun v3872 k0_hw48 => k0_hw48

def k0_off91 (v0 : BitVec 32) : Fin 1 → Nat :=
  let c2_i32_4290 : BitVec 32 := 2#32
  let v3880 : BitVec 32 := Scalar.addi v0 c2_i32_4290
  let c21_i32_4291 : BitVec 32 := 21#32
  let v3881 : BitVec 32 := Scalar.addi v3880 c21_i32_4291
  let c32_i32_4292 : BitVec 32 := 32#32
  let c0_i32_4293 : BitVec 32 := 0#32
  let v3882 : BitVec 1 := Scalar.cmpi .eq c32_i32_4292 c0_i32_4293
  let c1_i32_4294 : BitVec 32 := 1#32
  let v3883 : BitVec 32 := Scalar.select v3882 c1_i32_4294 c32_i32_4292
  let v3884 : BitVec 32 := Scalar.remsi v3881 v3883
  let c0_i32_4296 : BitVec 32 := 0#32
  let v3886 : BitVec 1 := Scalar.cmpi .slt v3884 c0_i32_4296
  let c0_i32_4297 : BitVec 32 := 0#32
  let v3887 : BitVec 1 := Scalar.cmpi .slt v3883 c0_i32_4297
  let v3888 : BitVec 1 := Scalar.xori v3886 v3887
  let c0_i32_4295 : BitVec 32 := 0#32
  let v3885 : BitVec 1 := Scalar.cmpi .ne v3884 c0_i32_4295
  let v3889 : BitVec 1 := Scalar.andi v3888 v3885
  let v3890 : BitVec 32 := Scalar.addi v3884 v3883
  let v3891 : BitVec 32 := Scalar.select v3889 v3890 v3884
  let v3892 : Index := Scalar.indexCast v3891
  ![v3892.toNat]
def k0_off92 (v3893 : BitVec 32) : Fin 2 → Nat :=
  let c256_i32_4298 : BitVec 32 := 256#32
  let v3894 : BitVec 32 := Scalar.muli v3893 c256_i32_4298
  let v3895 : Index := Scalar.indexCast v3894
  let c0_4299 : Index := 0#32
  ![v3895.toNat, 0]

def k0_chk49 (v3893 : BitVec 32) : Prop :=
  (∀ a, (k0_off92 v3893) a + S256x256.size a ≤ S8192x256.size a)
theorem k0_off92_inb : ∀ (v3893 : BitVec 32) (k0_hw49 : k0_chk49 v3893), ∀ a, (k0_off92 v3893) a + S256x256.size a ≤ S8192x256.size a := fun v3893 k0_hw49 => k0_hw49

def k0_dev133 (v2 : BitVec 32) : Nat :=
  let c0_i32_4332 : BitVec 32 := 0#32
  let c1_i32_4331 : BitVec 32 := 1#32
  let v3918 : BitVec 32 := Scalar.muli v2 c1_i32_4331
  let v3919 : BitVec 32 := Scalar.addi c0_i32_4332 v3918
  v3919.toNat
def k0_dev134 (v1 : BitVec 32) : Nat :=
  let c0_i32_4362 : BitVec 32 := 0#32
  let c1_i32_4361 : BitVec 32 := 1#32
  let v3945 : BitVec 32 := Scalar.muli v1 c1_i32_4361
  let v3946 : BitVec 32 := Scalar.addi c0_i32_4362 v3945
  v3946.toNat
def k0_dev135 (v2 : BitVec 32) : Nat :=
  let c0_i32_4392 : BitVec 32 := 0#32
  let c1_i32_4391 : BitVec 32 := 1#32
  let v3972 : BitVec 32 := Scalar.muli v2 c1_i32_4391
  let v3973 : BitVec 32 := Scalar.addi c0_i32_4392 v3972
  v3973.toNat
def k0_dev136 (v1 : BitVec 32) : Nat :=
  let c0_i32_4422 : BitVec 32 := 0#32
  let c1_i32_4421 : BitVec 32 := 1#32
  let v3999 : BitVec 32 := Scalar.muli v1 c1_i32_4421
  let v4000 : BitVec 32 := Scalar.addi c0_i32_4422 v3999
  v4000.toNat
def k0_dev137 (v1 : BitVec 32) : Nat :=
  let c0_i32_4451 : BitVec 32 := 0#32
  let c1_i32_4450 : BitVec 32 := 1#32
  let v4021 : BitVec 32 := Scalar.muli v1 c1_i32_4450
  let v4022 : BitVec 32 := Scalar.addi c0_i32_4451 v4021
  v4022.toNat
def k0_dev138 (v2 : BitVec 32) : Nat :=
  let c0_i32_4476 : BitVec 32 := 0#32
  let c1_i32_4475 : BitVec 32 := 1#32
  let v4035 : BitVec 32 := Scalar.muli v2 c1_i32_4475
  let v4036 : BitVec 32 := Scalar.addi c0_i32_4476 v4035
  v4036.toNat
def k0_off93 (v0 : BitVec 32) : Fin 1 → Nat :=
  let c64_i32_4477 : BitVec 32 := 64#32
  let v4037 : BitVec 32 := Scalar.addi v0 c64_i32_4477
  let c2_i32_4478 : BitVec 32 := 2#32
  let v4038 : BitVec 32 := Scalar.subi v4037 c2_i32_4478
  let c22_i32 : BitVec 32 := 22#32
  let v4039 : BitVec 32 := Scalar.subi v4038 c22_i32
  let c32_i32_4479 : BitVec 32 := 32#32
  let c0_i32_4480 : BitVec 32 := 0#32
  let v4040 : BitVec 1 := Scalar.cmpi .eq c32_i32_4479 c0_i32_4480
  let c1_i32_4481 : BitVec 32 := 1#32
  let v4041 : BitVec 32 := Scalar.select v4040 c1_i32_4481 c32_i32_4479
  let v4042 : BitVec 32 := Scalar.remsi v4039 v4041
  let c0_i32_4483 : BitVec 32 := 0#32
  let v4044 : BitVec 1 := Scalar.cmpi .slt v4042 c0_i32_4483
  let c0_i32_4484 : BitVec 32 := 0#32
  let v4045 : BitVec 1 := Scalar.cmpi .slt v4041 c0_i32_4484
  let v4046 : BitVec 1 := Scalar.xori v4044 v4045
  let c0_i32_4482 : BitVec 32 := 0#32
  let v4043 : BitVec 1 := Scalar.cmpi .ne v4042 c0_i32_4482
  let v4047 : BitVec 1 := Scalar.andi v4046 v4043
  let v4048 : BitVec 32 := Scalar.addi v4042 v4041
  let v4049 : BitVec 32 := Scalar.select v4047 v4048 v4042
  let v4050 : Index := Scalar.indexCast v4049
  ![v4050.toNat]
def k0_off94 (v4051 : BitVec 32) : Fin 2 → Nat :=
  let c256_i32_4485 : BitVec 32 := 256#32
  let v4052 : BitVec 32 := Scalar.muli v4051 c256_i32_4485
  let v4053 : Index := Scalar.indexCast v4052
  let c0_4486 : Index := 0#32
  ![v4053.toNat, 0]

def k0_chk50 (v4051 : BitVec 32) : Prop :=
  (∀ a, (k0_off94 v4051) a + S256x256.size a ≤ S8192x256.size a)
theorem k0_off94_inb : ∀ (v4051 : BitVec 32) (k0_hw50 : k0_chk50 v4051), ∀ a, (k0_off94 v4051) a + S256x256.size a ≤ S8192x256.size a := fun v4051 k0_hw50 => k0_hw50

def k0_off95 (v0 : BitVec 32) : Fin 1 → Nat :=
  let c2_i32_4490 : BitVec 32 := 2#32
  let v4059 : BitVec 32 := Scalar.addi v0 c2_i32_4490
  let c22_i32_4491 : BitVec 32 := 22#32
  let v4060 : BitVec 32 := Scalar.addi v4059 c22_i32_4491
  let c32_i32_4492 : BitVec 32 := 32#32
  let c0_i32_4493 : BitVec 32 := 0#32
  let v4061 : BitVec 1 := Scalar.cmpi .eq c32_i32_4492 c0_i32_4493
  let c1_i32_4494 : BitVec 32 := 1#32
  let v4062 : BitVec 32 := Scalar.select v4061 c1_i32_4494 c32_i32_4492
  let v4063 : BitVec 32 := Scalar.remsi v4060 v4062
  let c0_i32_4496 : BitVec 32 := 0#32
  let v4065 : BitVec 1 := Scalar.cmpi .slt v4063 c0_i32_4496
  let c0_i32_4497 : BitVec 32 := 0#32
  let v4066 : BitVec 1 := Scalar.cmpi .slt v4062 c0_i32_4497
  let v4067 : BitVec 1 := Scalar.xori v4065 v4066
  let c0_i32_4495 : BitVec 32 := 0#32
  let v4064 : BitVec 1 := Scalar.cmpi .ne v4063 c0_i32_4495
  let v4068 : BitVec 1 := Scalar.andi v4067 v4064
  let v4069 : BitVec 32 := Scalar.addi v4063 v4062
  let v4070 : BitVec 32 := Scalar.select v4068 v4069 v4063
  let v4071 : Index := Scalar.indexCast v4070
  ![v4071.toNat]
def k0_off96 (v4072 : BitVec 32) : Fin 2 → Nat :=
  let c256_i32_4498 : BitVec 32 := 256#32
  let v4073 : BitVec 32 := Scalar.muli v4072 c256_i32_4498
  let v4074 : Index := Scalar.indexCast v4073
  let c0_4499 : Index := 0#32
  ![v4074.toNat, 0]

def k0_chk51 (v4072 : BitVec 32) : Prop :=
  (∀ a, (k0_off96 v4072) a + S256x256.size a ≤ S8192x256.size a)
theorem k0_off96_inb : ∀ (v4072 : BitVec 32) (k0_hw51 : k0_chk51 v4072), ∀ a, (k0_off96 v4072) a + S256x256.size a ≤ S8192x256.size a := fun v4072 k0_hw51 => k0_hw51

def k0_dev139 (v2 : BitVec 32) : Nat :=
  let c0_i32_4532 : BitVec 32 := 0#32
  let c1_i32_4531 : BitVec 32 := 1#32
  let v4097 : BitVec 32 := Scalar.muli v2 c1_i32_4531
  let v4098 : BitVec 32 := Scalar.addi c0_i32_4532 v4097
  v4098.toNat
def k0_dev140 (v1 : BitVec 32) : Nat :=
  let c0_i32_4562 : BitVec 32 := 0#32
  let c1_i32_4561 : BitVec 32 := 1#32
  let v4124 : BitVec 32 := Scalar.muli v1 c1_i32_4561
  let v4125 : BitVec 32 := Scalar.addi c0_i32_4562 v4124
  v4125.toNat
def k0_dev141 (v2 : BitVec 32) : Nat :=
  let c0_i32_4592 : BitVec 32 := 0#32
  let c1_i32_4591 : BitVec 32 := 1#32
  let v4151 : BitVec 32 := Scalar.muli v2 c1_i32_4591
  let v4152 : BitVec 32 := Scalar.addi c0_i32_4592 v4151
  v4152.toNat
def k0_dev142 (v1 : BitVec 32) : Nat :=
  let c0_i32_4622 : BitVec 32 := 0#32
  let c1_i32_4621 : BitVec 32 := 1#32
  let v4178 : BitVec 32 := Scalar.muli v1 c1_i32_4621
  let v4179 : BitVec 32 := Scalar.addi c0_i32_4622 v4178
  v4179.toNat
def k0_dev143 (v1 : BitVec 32) : Nat :=
  let c0_i32_4651 : BitVec 32 := 0#32
  let c1_i32_4650 : BitVec 32 := 1#32
  let v4200 : BitVec 32 := Scalar.muli v1 c1_i32_4650
  let v4201 : BitVec 32 := Scalar.addi c0_i32_4651 v4200
  v4201.toNat
def k0_dev144 (v2 : BitVec 32) : Nat :=
  let c0_i32_4676 : BitVec 32 := 0#32
  let c1_i32_4675 : BitVec 32 := 1#32
  let v4214 : BitVec 32 := Scalar.muli v2 c1_i32_4675
  let v4215 : BitVec 32 := Scalar.addi c0_i32_4676 v4214
  v4215.toNat
def k0_off97 (v0 : BitVec 32) : Fin 1 → Nat :=
  let c64_i32_4677 : BitVec 32 := 64#32
  let v4216 : BitVec 32 := Scalar.addi v0 c64_i32_4677
  let c2_i32_4678 : BitVec 32 := 2#32
  let v4217 : BitVec 32 := Scalar.subi v4216 c2_i32_4678
  let c23_i32 : BitVec 32 := 23#32
  let v4218 : BitVec 32 := Scalar.subi v4217 c23_i32
  let c32_i32_4679 : BitVec 32 := 32#32
  let c0_i32_4680 : BitVec 32 := 0#32
  let v4219 : BitVec 1 := Scalar.cmpi .eq c32_i32_4679 c0_i32_4680
  let c1_i32_4681 : BitVec 32 := 1#32
  let v4220 : BitVec 32 := Scalar.select v4219 c1_i32_4681 c32_i32_4679
  let v4221 : BitVec 32 := Scalar.remsi v4218 v4220
  let c0_i32_4683 : BitVec 32 := 0#32
  let v4223 : BitVec 1 := Scalar.cmpi .slt v4221 c0_i32_4683
  let c0_i32_4684 : BitVec 32 := 0#32
  let v4224 : BitVec 1 := Scalar.cmpi .slt v4220 c0_i32_4684
  let v4225 : BitVec 1 := Scalar.xori v4223 v4224
  let c0_i32_4682 : BitVec 32 := 0#32
  let v4222 : BitVec 1 := Scalar.cmpi .ne v4221 c0_i32_4682
  let v4226 : BitVec 1 := Scalar.andi v4225 v4222
  let v4227 : BitVec 32 := Scalar.addi v4221 v4220
  let v4228 : BitVec 32 := Scalar.select v4226 v4227 v4221
  let v4229 : Index := Scalar.indexCast v4228
  ![v4229.toNat]
def k0_off98 (v4230 : BitVec 32) : Fin 2 → Nat :=
  let c256_i32_4685 : BitVec 32 := 256#32
  let v4231 : BitVec 32 := Scalar.muli v4230 c256_i32_4685
  let v4232 : Index := Scalar.indexCast v4231
  let c0_4686 : Index := 0#32
  ![v4232.toNat, 0]

def k0_chk52 (v4230 : BitVec 32) : Prop :=
  (∀ a, (k0_off98 v4230) a + S256x256.size a ≤ S8192x256.size a)
theorem k0_off98_inb : ∀ (v4230 : BitVec 32) (k0_hw52 : k0_chk52 v4230), ∀ a, (k0_off98 v4230) a + S256x256.size a ≤ S8192x256.size a := fun v4230 k0_hw52 => k0_hw52

def k0_off99 (v0 : BitVec 32) : Fin 1 → Nat :=
  let c2_i32_4690 : BitVec 32 := 2#32
  let v4238 : BitVec 32 := Scalar.addi v0 c2_i32_4690
  let c23_i32_4691 : BitVec 32 := 23#32
  let v4239 : BitVec 32 := Scalar.addi v4238 c23_i32_4691
  let c32_i32_4692 : BitVec 32 := 32#32
  let c0_i32_4693 : BitVec 32 := 0#32
  let v4240 : BitVec 1 := Scalar.cmpi .eq c32_i32_4692 c0_i32_4693
  let c1_i32_4694 : BitVec 32 := 1#32
  let v4241 : BitVec 32 := Scalar.select v4240 c1_i32_4694 c32_i32_4692
  let v4242 : BitVec 32 := Scalar.remsi v4239 v4241
  let c0_i32_4696 : BitVec 32 := 0#32
  let v4244 : BitVec 1 := Scalar.cmpi .slt v4242 c0_i32_4696
  let c0_i32_4697 : BitVec 32 := 0#32
  let v4245 : BitVec 1 := Scalar.cmpi .slt v4241 c0_i32_4697
  let v4246 : BitVec 1 := Scalar.xori v4244 v4245
  let c0_i32_4695 : BitVec 32 := 0#32
  let v4243 : BitVec 1 := Scalar.cmpi .ne v4242 c0_i32_4695
  let v4247 : BitVec 1 := Scalar.andi v4246 v4243
  let v4248 : BitVec 32 := Scalar.addi v4242 v4241
  let v4249 : BitVec 32 := Scalar.select v4247 v4248 v4242
  let v4250 : Index := Scalar.indexCast v4249
  ![v4250.toNat]
def k0_off100 (v4251 : BitVec 32) : Fin 2 → Nat :=
  let c256_i32_4698 : BitVec 32 := 256#32
  let v4252 : BitVec 32 := Scalar.muli v4251 c256_i32_4698
  let v4253 : Index := Scalar.indexCast v4252
  let c0_4699 : Index := 0#32
  ![v4253.toNat, 0]

def k0_chk53 (v4251 : BitVec 32) : Prop :=
  (∀ a, (k0_off100 v4251) a + S256x256.size a ≤ S8192x256.size a)
theorem k0_off100_inb : ∀ (v4251 : BitVec 32) (k0_hw53 : k0_chk53 v4251), ∀ a, (k0_off100 v4251) a + S256x256.size a ≤ S8192x256.size a := fun v4251 k0_hw53 => k0_hw53

def k0_dev145 (v2 : BitVec 32) : Nat :=
  let c0_i32_4732 : BitVec 32 := 0#32
  let c1_i32_4731 : BitVec 32 := 1#32
  let v4276 : BitVec 32 := Scalar.muli v2 c1_i32_4731
  let v4277 : BitVec 32 := Scalar.addi c0_i32_4732 v4276
  v4277.toNat
def k0_dev146 (v1 : BitVec 32) : Nat :=
  let c0_i32_4762 : BitVec 32 := 0#32
  let c1_i32_4761 : BitVec 32 := 1#32
  let v4303 : BitVec 32 := Scalar.muli v1 c1_i32_4761
  let v4304 : BitVec 32 := Scalar.addi c0_i32_4762 v4303
  v4304.toNat
def k0_dev147 (v2 : BitVec 32) : Nat :=
  let c0_i32_4792 : BitVec 32 := 0#32
  let c1_i32_4791 : BitVec 32 := 1#32
  let v4330 : BitVec 32 := Scalar.muli v2 c1_i32_4791
  let v4331 : BitVec 32 := Scalar.addi c0_i32_4792 v4330
  v4331.toNat
def k0_dev148 (v1 : BitVec 32) : Nat :=
  let c0_i32_4822 : BitVec 32 := 0#32
  let c1_i32_4821 : BitVec 32 := 1#32
  let v4357 : BitVec 32 := Scalar.muli v1 c1_i32_4821
  let v4358 : BitVec 32 := Scalar.addi c0_i32_4822 v4357
  v4358.toNat
def k0_dev149 (v1 : BitVec 32) : Nat :=
  let c0_i32_4851 : BitVec 32 := 0#32
  let c1_i32_4850 : BitVec 32 := 1#32
  let v4379 : BitVec 32 := Scalar.muli v1 c1_i32_4850
  let v4380 : BitVec 32 := Scalar.addi c0_i32_4851 v4379
  v4380.toNat
def k0_dev150 (v2 : BitVec 32) : Nat :=
  let c0_i32_4876 : BitVec 32 := 0#32
  let c1_i32_4875 : BitVec 32 := 1#32
  let v4393 : BitVec 32 := Scalar.muli v2 c1_i32_4875
  let v4394 : BitVec 32 := Scalar.addi c0_i32_4876 v4393
  v4394.toNat
def k0_off101 (v0 : BitVec 32) : Fin 1 → Nat :=
  let c64_i32_4877 : BitVec 32 := 64#32
  let v4395 : BitVec 32 := Scalar.addi v0 c64_i32_4877
  let c2_i32_4878 : BitVec 32 := 2#32
  let v4396 : BitVec 32 := Scalar.subi v4395 c2_i32_4878
  let c24_i32 : BitVec 32 := 24#32
  let v4397 : BitVec 32 := Scalar.subi v4396 c24_i32
  let c32_i32_4879 : BitVec 32 := 32#32
  let c0_i32_4880 : BitVec 32 := 0#32
  let v4398 : BitVec 1 := Scalar.cmpi .eq c32_i32_4879 c0_i32_4880
  let c1_i32_4881 : BitVec 32 := 1#32
  let v4399 : BitVec 32 := Scalar.select v4398 c1_i32_4881 c32_i32_4879
  let v4400 : BitVec 32 := Scalar.remsi v4397 v4399
  let c0_i32_4883 : BitVec 32 := 0#32
  let v4402 : BitVec 1 := Scalar.cmpi .slt v4400 c0_i32_4883
  let c0_i32_4884 : BitVec 32 := 0#32
  let v4403 : BitVec 1 := Scalar.cmpi .slt v4399 c0_i32_4884
  let v4404 : BitVec 1 := Scalar.xori v4402 v4403
  let c0_i32_4882 : BitVec 32 := 0#32
  let v4401 : BitVec 1 := Scalar.cmpi .ne v4400 c0_i32_4882
  let v4405 : BitVec 1 := Scalar.andi v4404 v4401
  let v4406 : BitVec 32 := Scalar.addi v4400 v4399
  let v4407 : BitVec 32 := Scalar.select v4405 v4406 v4400
  let v4408 : Index := Scalar.indexCast v4407
  ![v4408.toNat]
def k0_off102 (v4409 : BitVec 32) : Fin 2 → Nat :=
  let c256_i32_4885 : BitVec 32 := 256#32
  let v4410 : BitVec 32 := Scalar.muli v4409 c256_i32_4885
  let v4411 : Index := Scalar.indexCast v4410
  let c0_4886 : Index := 0#32
  ![v4411.toNat, 0]

def k0_chk54 (v4409 : BitVec 32) : Prop :=
  (∀ a, (k0_off102 v4409) a + S256x256.size a ≤ S8192x256.size a)
theorem k0_off102_inb : ∀ (v4409 : BitVec 32) (k0_hw54 : k0_chk54 v4409), ∀ a, (k0_off102 v4409) a + S256x256.size a ≤ S8192x256.size a := fun v4409 k0_hw54 => k0_hw54

def k0_off103 (v0 : BitVec 32) : Fin 1 → Nat :=
  let c2_i32_4890 : BitVec 32 := 2#32
  let v4417 : BitVec 32 := Scalar.addi v0 c2_i32_4890
  let c24_i32_4891 : BitVec 32 := 24#32
  let v4418 : BitVec 32 := Scalar.addi v4417 c24_i32_4891
  let c32_i32_4892 : BitVec 32 := 32#32
  let c0_i32_4893 : BitVec 32 := 0#32
  let v4419 : BitVec 1 := Scalar.cmpi .eq c32_i32_4892 c0_i32_4893
  let c1_i32_4894 : BitVec 32 := 1#32
  let v4420 : BitVec 32 := Scalar.select v4419 c1_i32_4894 c32_i32_4892
  let v4421 : BitVec 32 := Scalar.remsi v4418 v4420
  let c0_i32_4896 : BitVec 32 := 0#32
  let v4423 : BitVec 1 := Scalar.cmpi .slt v4421 c0_i32_4896
  let c0_i32_4897 : BitVec 32 := 0#32
  let v4424 : BitVec 1 := Scalar.cmpi .slt v4420 c0_i32_4897
  let v4425 : BitVec 1 := Scalar.xori v4423 v4424
  let c0_i32_4895 : BitVec 32 := 0#32
  let v4422 : BitVec 1 := Scalar.cmpi .ne v4421 c0_i32_4895
  let v4426 : BitVec 1 := Scalar.andi v4425 v4422
  let v4427 : BitVec 32 := Scalar.addi v4421 v4420
  let v4428 : BitVec 32 := Scalar.select v4426 v4427 v4421
  let v4429 : Index := Scalar.indexCast v4428
  ![v4429.toNat]
def k0_off104 (v4430 : BitVec 32) : Fin 2 → Nat :=
  let c256_i32_4898 : BitVec 32 := 256#32
  let v4431 : BitVec 32 := Scalar.muli v4430 c256_i32_4898
  let v4432 : Index := Scalar.indexCast v4431
  let c0_4899 : Index := 0#32
  ![v4432.toNat, 0]

def k0_chk55 (v4430 : BitVec 32) : Prop :=
  (∀ a, (k0_off104 v4430) a + S256x256.size a ≤ S8192x256.size a)
theorem k0_off104_inb : ∀ (v4430 : BitVec 32) (k0_hw55 : k0_chk55 v4430), ∀ a, (k0_off104 v4430) a + S256x256.size a ≤ S8192x256.size a := fun v4430 k0_hw55 => k0_hw55

def k0_dev151 (v2 : BitVec 32) : Nat :=
  let c0_i32_4932 : BitVec 32 := 0#32
  let c1_i32_4931 : BitVec 32 := 1#32
  let v4455 : BitVec 32 := Scalar.muli v2 c1_i32_4931
  let v4456 : BitVec 32 := Scalar.addi c0_i32_4932 v4455
  v4456.toNat
def k0_dev152 (v1 : BitVec 32) : Nat :=
  let c0_i32_4962 : BitVec 32 := 0#32
  let c1_i32_4961 : BitVec 32 := 1#32
  let v4482 : BitVec 32 := Scalar.muli v1 c1_i32_4961
  let v4483 : BitVec 32 := Scalar.addi c0_i32_4962 v4482
  v4483.toNat
def k0_dev153 (v2 : BitVec 32) : Nat :=
  let c0_i32_4992 : BitVec 32 := 0#32
  let c1_i32_4991 : BitVec 32 := 1#32
  let v4509 : BitVec 32 := Scalar.muli v2 c1_i32_4991
  let v4510 : BitVec 32 := Scalar.addi c0_i32_4992 v4509
  v4510.toNat
def k0_dev154 (v1 : BitVec 32) : Nat :=
  let c0_i32_5022 : BitVec 32 := 0#32
  let c1_i32_5021 : BitVec 32 := 1#32
  let v4536 : BitVec 32 := Scalar.muli v1 c1_i32_5021
  let v4537 : BitVec 32 := Scalar.addi c0_i32_5022 v4536
  v4537.toNat
def k0_dev155 (v1 : BitVec 32) : Nat :=
  let c0_i32_5051 : BitVec 32 := 0#32
  let c1_i32_5050 : BitVec 32 := 1#32
  let v4558 : BitVec 32 := Scalar.muli v1 c1_i32_5050
  let v4559 : BitVec 32 := Scalar.addi c0_i32_5051 v4558
  v4559.toNat
def k0_dev156 (v2 : BitVec 32) : Nat :=
  let c0_i32_5076 : BitVec 32 := 0#32
  let c1_i32_5075 : BitVec 32 := 1#32
  let v4572 : BitVec 32 := Scalar.muli v2 c1_i32_5075
  let v4573 : BitVec 32 := Scalar.addi c0_i32_5076 v4572
  v4573.toNat
def k0_off105 (v0 : BitVec 32) : Fin 1 → Nat :=
  let c64_i32_5077 : BitVec 32 := 64#32
  let v4574 : BitVec 32 := Scalar.addi v0 c64_i32_5077
  let c2_i32_5078 : BitVec 32 := 2#32
  let v4575 : BitVec 32 := Scalar.subi v4574 c2_i32_5078
  let c25_i32 : BitVec 32 := 25#32
  let v4576 : BitVec 32 := Scalar.subi v4575 c25_i32
  let c32_i32_5079 : BitVec 32 := 32#32
  let c0_i32_5080 : BitVec 32 := 0#32
  let v4577 : BitVec 1 := Scalar.cmpi .eq c32_i32_5079 c0_i32_5080
  let c1_i32_5081 : BitVec 32 := 1#32
  let v4578 : BitVec 32 := Scalar.select v4577 c1_i32_5081 c32_i32_5079
  let v4579 : BitVec 32 := Scalar.remsi v4576 v4578
  let c0_i32_5083 : BitVec 32 := 0#32
  let v4581 : BitVec 1 := Scalar.cmpi .slt v4579 c0_i32_5083
  let c0_i32_5084 : BitVec 32 := 0#32
  let v4582 : BitVec 1 := Scalar.cmpi .slt v4578 c0_i32_5084
  let v4583 : BitVec 1 := Scalar.xori v4581 v4582
  let c0_i32_5082 : BitVec 32 := 0#32
  let v4580 : BitVec 1 := Scalar.cmpi .ne v4579 c0_i32_5082
  let v4584 : BitVec 1 := Scalar.andi v4583 v4580
  let v4585 : BitVec 32 := Scalar.addi v4579 v4578
  let v4586 : BitVec 32 := Scalar.select v4584 v4585 v4579
  let v4587 : Index := Scalar.indexCast v4586
  ![v4587.toNat]
def k0_off106 (v4588 : BitVec 32) : Fin 2 → Nat :=
  let c256_i32_5085 : BitVec 32 := 256#32
  let v4589 : BitVec 32 := Scalar.muli v4588 c256_i32_5085
  let v4590 : Index := Scalar.indexCast v4589
  let c0_5086 : Index := 0#32
  ![v4590.toNat, 0]

def k0_chk56 (v4588 : BitVec 32) : Prop :=
  (∀ a, (k0_off106 v4588) a + S256x256.size a ≤ S8192x256.size a)
theorem k0_off106_inb : ∀ (v4588 : BitVec 32) (k0_hw56 : k0_chk56 v4588), ∀ a, (k0_off106 v4588) a + S256x256.size a ≤ S8192x256.size a := fun v4588 k0_hw56 => k0_hw56

def k0_off107 (v0 : BitVec 32) : Fin 1 → Nat :=
  let c2_i32_5090 : BitVec 32 := 2#32
  let v4596 : BitVec 32 := Scalar.addi v0 c2_i32_5090
  let c25_i32_5091 : BitVec 32 := 25#32
  let v4597 : BitVec 32 := Scalar.addi v4596 c25_i32_5091
  let c32_i32_5092 : BitVec 32 := 32#32
  let c0_i32_5093 : BitVec 32 := 0#32
  let v4598 : BitVec 1 := Scalar.cmpi .eq c32_i32_5092 c0_i32_5093
  let c1_i32_5094 : BitVec 32 := 1#32
  let v4599 : BitVec 32 := Scalar.select v4598 c1_i32_5094 c32_i32_5092
  let v4600 : BitVec 32 := Scalar.remsi v4597 v4599
  let c0_i32_5096 : BitVec 32 := 0#32
  let v4602 : BitVec 1 := Scalar.cmpi .slt v4600 c0_i32_5096
  let c0_i32_5097 : BitVec 32 := 0#32
  let v4603 : BitVec 1 := Scalar.cmpi .slt v4599 c0_i32_5097
  let v4604 : BitVec 1 := Scalar.xori v4602 v4603
  let c0_i32_5095 : BitVec 32 := 0#32
  let v4601 : BitVec 1 := Scalar.cmpi .ne v4600 c0_i32_5095
  let v4605 : BitVec 1 := Scalar.andi v4604 v4601
  let v4606 : BitVec 32 := Scalar.addi v4600 v4599
  let v4607 : BitVec 32 := Scalar.select v4605 v4606 v4600
  let v4608 : Index := Scalar.indexCast v4607
  ![v4608.toNat]
def k0_off108 (v4609 : BitVec 32) : Fin 2 → Nat :=
  let c256_i32_5098 : BitVec 32 := 256#32
  let v4610 : BitVec 32 := Scalar.muli v4609 c256_i32_5098
  let v4611 : Index := Scalar.indexCast v4610
  let c0_5099 : Index := 0#32
  ![v4611.toNat, 0]

def k0_chk57 (v4609 : BitVec 32) : Prop :=
  (∀ a, (k0_off108 v4609) a + S256x256.size a ≤ S8192x256.size a)
theorem k0_off108_inb : ∀ (v4609 : BitVec 32) (k0_hw57 : k0_chk57 v4609), ∀ a, (k0_off108 v4609) a + S256x256.size a ≤ S8192x256.size a := fun v4609 k0_hw57 => k0_hw57

def k0_dev157 (v2 : BitVec 32) : Nat :=
  let c0_i32_5132 : BitVec 32 := 0#32
  let c1_i32_5131 : BitVec 32 := 1#32
  let v4634 : BitVec 32 := Scalar.muli v2 c1_i32_5131
  let v4635 : BitVec 32 := Scalar.addi c0_i32_5132 v4634
  v4635.toNat
def k0_dev158 (v1 : BitVec 32) : Nat :=
  let c0_i32_5162 : BitVec 32 := 0#32
  let c1_i32_5161 : BitVec 32 := 1#32
  let v4661 : BitVec 32 := Scalar.muli v1 c1_i32_5161
  let v4662 : BitVec 32 := Scalar.addi c0_i32_5162 v4661
  v4662.toNat
def k0_dev159 (v2 : BitVec 32) : Nat :=
  let c0_i32_5192 : BitVec 32 := 0#32
  let c1_i32_5191 : BitVec 32 := 1#32
  let v4688 : BitVec 32 := Scalar.muli v2 c1_i32_5191
  let v4689 : BitVec 32 := Scalar.addi c0_i32_5192 v4688
  v4689.toNat
def k0_dev160 (v1 : BitVec 32) : Nat :=
  let c0_i32_5222 : BitVec 32 := 0#32
  let c1_i32_5221 : BitVec 32 := 1#32
  let v4715 : BitVec 32 := Scalar.muli v1 c1_i32_5221
  let v4716 : BitVec 32 := Scalar.addi c0_i32_5222 v4715
  v4716.toNat
def k0_dev161 (v1 : BitVec 32) : Nat :=
  let c0_i32_5251 : BitVec 32 := 0#32
  let c1_i32_5250 : BitVec 32 := 1#32
  let v4737 : BitVec 32 := Scalar.muli v1 c1_i32_5250
  let v4738 : BitVec 32 := Scalar.addi c0_i32_5251 v4737
  v4738.toNat
def k0_dev162 (v2 : BitVec 32) : Nat :=
  let c0_i32_5276 : BitVec 32 := 0#32
  let c1_i32_5275 : BitVec 32 := 1#32
  let v4751 : BitVec 32 := Scalar.muli v2 c1_i32_5275
  let v4752 : BitVec 32 := Scalar.addi c0_i32_5276 v4751
  v4752.toNat
def k0_off109 (v0 : BitVec 32) : Fin 1 → Nat :=
  let c64_i32_5277 : BitVec 32 := 64#32
  let v4753 : BitVec 32 := Scalar.addi v0 c64_i32_5277
  let c2_i32_5278 : BitVec 32 := 2#32
  let v4754 : BitVec 32 := Scalar.subi v4753 c2_i32_5278
  let c26_i32 : BitVec 32 := 26#32
  let v4755 : BitVec 32 := Scalar.subi v4754 c26_i32
  let c32_i32_5279 : BitVec 32 := 32#32
  let c0_i32_5280 : BitVec 32 := 0#32
  let v4756 : BitVec 1 := Scalar.cmpi .eq c32_i32_5279 c0_i32_5280
  let c1_i32_5281 : BitVec 32 := 1#32
  let v4757 : BitVec 32 := Scalar.select v4756 c1_i32_5281 c32_i32_5279
  let v4758 : BitVec 32 := Scalar.remsi v4755 v4757
  let c0_i32_5283 : BitVec 32 := 0#32
  let v4760 : BitVec 1 := Scalar.cmpi .slt v4758 c0_i32_5283
  let c0_i32_5284 : BitVec 32 := 0#32
  let v4761 : BitVec 1 := Scalar.cmpi .slt v4757 c0_i32_5284
  let v4762 : BitVec 1 := Scalar.xori v4760 v4761
  let c0_i32_5282 : BitVec 32 := 0#32
  let v4759 : BitVec 1 := Scalar.cmpi .ne v4758 c0_i32_5282
  let v4763 : BitVec 1 := Scalar.andi v4762 v4759
  let v4764 : BitVec 32 := Scalar.addi v4758 v4757
  let v4765 : BitVec 32 := Scalar.select v4763 v4764 v4758
  let v4766 : Index := Scalar.indexCast v4765
  ![v4766.toNat]
def k0_off110 (v4767 : BitVec 32) : Fin 2 → Nat :=
  let c256_i32_5285 : BitVec 32 := 256#32
  let v4768 : BitVec 32 := Scalar.muli v4767 c256_i32_5285
  let v4769 : Index := Scalar.indexCast v4768
  let c0_5286 : Index := 0#32
  ![v4769.toNat, 0]

def k0_chk58 (v4767 : BitVec 32) : Prop :=
  (∀ a, (k0_off110 v4767) a + S256x256.size a ≤ S8192x256.size a)
theorem k0_off110_inb : ∀ (v4767 : BitVec 32) (k0_hw58 : k0_chk58 v4767), ∀ a, (k0_off110 v4767) a + S256x256.size a ≤ S8192x256.size a := fun v4767 k0_hw58 => k0_hw58

def k0_off111 (v0 : BitVec 32) : Fin 1 → Nat :=
  let c2_i32_5290 : BitVec 32 := 2#32
  let v4775 : BitVec 32 := Scalar.addi v0 c2_i32_5290
  let c26_i32_5291 : BitVec 32 := 26#32
  let v4776 : BitVec 32 := Scalar.addi v4775 c26_i32_5291
  let c32_i32_5292 : BitVec 32 := 32#32
  let c0_i32_5293 : BitVec 32 := 0#32
  let v4777 : BitVec 1 := Scalar.cmpi .eq c32_i32_5292 c0_i32_5293
  let c1_i32_5294 : BitVec 32 := 1#32
  let v4778 : BitVec 32 := Scalar.select v4777 c1_i32_5294 c32_i32_5292
  let v4779 : BitVec 32 := Scalar.remsi v4776 v4778
  let c0_i32_5296 : BitVec 32 := 0#32
  let v4781 : BitVec 1 := Scalar.cmpi .slt v4779 c0_i32_5296
  let c0_i32_5297 : BitVec 32 := 0#32
  let v4782 : BitVec 1 := Scalar.cmpi .slt v4778 c0_i32_5297
  let v4783 : BitVec 1 := Scalar.xori v4781 v4782
  let c0_i32_5295 : BitVec 32 := 0#32
  let v4780 : BitVec 1 := Scalar.cmpi .ne v4779 c0_i32_5295
  let v4784 : BitVec 1 := Scalar.andi v4783 v4780
  let v4785 : BitVec 32 := Scalar.addi v4779 v4778
  let v4786 : BitVec 32 := Scalar.select v4784 v4785 v4779
  let v4787 : Index := Scalar.indexCast v4786
  ![v4787.toNat]
def k0_off112 (v4788 : BitVec 32) : Fin 2 → Nat :=
  let c256_i32_5298 : BitVec 32 := 256#32
  let v4789 : BitVec 32 := Scalar.muli v4788 c256_i32_5298
  let v4790 : Index := Scalar.indexCast v4789
  let c0_5299 : Index := 0#32
  ![v4790.toNat, 0]

def k0_chk59 (v4788 : BitVec 32) : Prop :=
  (∀ a, (k0_off112 v4788) a + S256x256.size a ≤ S8192x256.size a)
theorem k0_off112_inb : ∀ (v4788 : BitVec 32) (k0_hw59 : k0_chk59 v4788), ∀ a, (k0_off112 v4788) a + S256x256.size a ≤ S8192x256.size a := fun v4788 k0_hw59 => k0_hw59

def k0_dev163 (v2 : BitVec 32) : Nat :=
  let c0_i32_5332 : BitVec 32 := 0#32
  let c1_i32_5331 : BitVec 32 := 1#32
  let v4813 : BitVec 32 := Scalar.muli v2 c1_i32_5331
  let v4814 : BitVec 32 := Scalar.addi c0_i32_5332 v4813
  v4814.toNat
def k0_dev164 (v1 : BitVec 32) : Nat :=
  let c0_i32_5362 : BitVec 32 := 0#32
  let c1_i32_5361 : BitVec 32 := 1#32
  let v4840 : BitVec 32 := Scalar.muli v1 c1_i32_5361
  let v4841 : BitVec 32 := Scalar.addi c0_i32_5362 v4840
  v4841.toNat
def k0_dev165 (v2 : BitVec 32) : Nat :=
  let c0_i32_5392 : BitVec 32 := 0#32
  let c1_i32_5391 : BitVec 32 := 1#32
  let v4867 : BitVec 32 := Scalar.muli v2 c1_i32_5391
  let v4868 : BitVec 32 := Scalar.addi c0_i32_5392 v4867
  v4868.toNat
def k0_dev166 (v1 : BitVec 32) : Nat :=
  let c0_i32_5422 : BitVec 32 := 0#32
  let c1_i32_5421 : BitVec 32 := 1#32
  let v4894 : BitVec 32 := Scalar.muli v1 c1_i32_5421
  let v4895 : BitVec 32 := Scalar.addi c0_i32_5422 v4894
  v4895.toNat
def k0_dev167 (v1 : BitVec 32) : Nat :=
  let c0_i32_5451 : BitVec 32 := 0#32
  let c1_i32_5450 : BitVec 32 := 1#32
  let v4916 : BitVec 32 := Scalar.muli v1 c1_i32_5450
  let v4917 : BitVec 32 := Scalar.addi c0_i32_5451 v4916
  v4917.toNat
def k0_dev168 (v2 : BitVec 32) : Nat :=
  let c0_i32_5476 : BitVec 32 := 0#32
  let c1_i32_5475 : BitVec 32 := 1#32
  let v4930 : BitVec 32 := Scalar.muli v2 c1_i32_5475
  let v4931 : BitVec 32 := Scalar.addi c0_i32_5476 v4930
  v4931.toNat
def k0_off113 (v0 : BitVec 32) : Fin 1 → Nat :=
  let c64_i32_5477 : BitVec 32 := 64#32
  let v4932 : BitVec 32 := Scalar.addi v0 c64_i32_5477
  let c2_i32_5478 : BitVec 32 := 2#32
  let v4933 : BitVec 32 := Scalar.subi v4932 c2_i32_5478
  let c27_i32 : BitVec 32 := 27#32
  let v4934 : BitVec 32 := Scalar.subi v4933 c27_i32
  let c32_i32_5479 : BitVec 32 := 32#32
  let c0_i32_5480 : BitVec 32 := 0#32
  let v4935 : BitVec 1 := Scalar.cmpi .eq c32_i32_5479 c0_i32_5480
  let c1_i32_5481 : BitVec 32 := 1#32
  let v4936 : BitVec 32 := Scalar.select v4935 c1_i32_5481 c32_i32_5479
  let v4937 : BitVec 32 := Scalar.remsi v4934 v4936
  let c0_i32_5483 : BitVec 32 := 0#32
  let v4939 : BitVec 1 := Scalar.cmpi .slt v4937 c0_i32_5483
  let c0_i32_5484 : BitVec 32 := 0#32
  let v4940 : BitVec 1 := Scalar.cmpi .slt v4936 c0_i32_5484
  let v4941 : BitVec 1 := Scalar.xori v4939 v4940
  let c0_i32_5482 : BitVec 32 := 0#32
  let v4938 : BitVec 1 := Scalar.cmpi .ne v4937 c0_i32_5482
  let v4942 : BitVec 1 := Scalar.andi v4941 v4938
  let v4943 : BitVec 32 := Scalar.addi v4937 v4936
  let v4944 : BitVec 32 := Scalar.select v4942 v4943 v4937
  let v4945 : Index := Scalar.indexCast v4944
  ![v4945.toNat]
def k0_off114 (v4946 : BitVec 32) : Fin 2 → Nat :=
  let c256_i32_5485 : BitVec 32 := 256#32
  let v4947 : BitVec 32 := Scalar.muli v4946 c256_i32_5485
  let v4948 : Index := Scalar.indexCast v4947
  let c0_5486 : Index := 0#32
  ![v4948.toNat, 0]

def k0_chk60 (v4946 : BitVec 32) : Prop :=
  (∀ a, (k0_off114 v4946) a + S256x256.size a ≤ S8192x256.size a)
theorem k0_off114_inb : ∀ (v4946 : BitVec 32) (k0_hw60 : k0_chk60 v4946), ∀ a, (k0_off114 v4946) a + S256x256.size a ≤ S8192x256.size a := fun v4946 k0_hw60 => k0_hw60

def k0_off115 (v0 : BitVec 32) : Fin 1 → Nat :=
  let c2_i32_5490 : BitVec 32 := 2#32
  let v4954 : BitVec 32 := Scalar.addi v0 c2_i32_5490
  let c27_i32_5491 : BitVec 32 := 27#32
  let v4955 : BitVec 32 := Scalar.addi v4954 c27_i32_5491
  let c32_i32_5492 : BitVec 32 := 32#32
  let c0_i32_5493 : BitVec 32 := 0#32
  let v4956 : BitVec 1 := Scalar.cmpi .eq c32_i32_5492 c0_i32_5493
  let c1_i32_5494 : BitVec 32 := 1#32
  let v4957 : BitVec 32 := Scalar.select v4956 c1_i32_5494 c32_i32_5492
  let v4958 : BitVec 32 := Scalar.remsi v4955 v4957
  let c0_i32_5496 : BitVec 32 := 0#32
  let v4960 : BitVec 1 := Scalar.cmpi .slt v4958 c0_i32_5496
  let c0_i32_5497 : BitVec 32 := 0#32
  let v4961 : BitVec 1 := Scalar.cmpi .slt v4957 c0_i32_5497
  let v4962 : BitVec 1 := Scalar.xori v4960 v4961
  let c0_i32_5495 : BitVec 32 := 0#32
  let v4959 : BitVec 1 := Scalar.cmpi .ne v4958 c0_i32_5495
  let v4963 : BitVec 1 := Scalar.andi v4962 v4959
  let v4964 : BitVec 32 := Scalar.addi v4958 v4957
  let v4965 : BitVec 32 := Scalar.select v4963 v4964 v4958
  let v4966 : Index := Scalar.indexCast v4965
  ![v4966.toNat]
def k0_off116 (v4967 : BitVec 32) : Fin 2 → Nat :=
  let c256_i32_5498 : BitVec 32 := 256#32
  let v4968 : BitVec 32 := Scalar.muli v4967 c256_i32_5498
  let v4969 : Index := Scalar.indexCast v4968
  let c0_5499 : Index := 0#32
  ![v4969.toNat, 0]

def k0_chk61 (v4967 : BitVec 32) : Prop :=
  (∀ a, (k0_off116 v4967) a + S256x256.size a ≤ S8192x256.size a)
theorem k0_off116_inb : ∀ (v4967 : BitVec 32) (k0_hw61 : k0_chk61 v4967), ∀ a, (k0_off116 v4967) a + S256x256.size a ≤ S8192x256.size a := fun v4967 k0_hw61 => k0_hw61

def k0_dev169 (v2 : BitVec 32) : Nat :=
  let c0_i32_5532 : BitVec 32 := 0#32
  let c1_i32_5531 : BitVec 32 := 1#32
  let v4992 : BitVec 32 := Scalar.muli v2 c1_i32_5531
  let v4993 : BitVec 32 := Scalar.addi c0_i32_5532 v4992
  v4993.toNat
def k0_dev170 (v1 : BitVec 32) : Nat :=
  let c0_i32_5562 : BitVec 32 := 0#32
  let c1_i32_5561 : BitVec 32 := 1#32
  let v5019 : BitVec 32 := Scalar.muli v1 c1_i32_5561
  let v5020 : BitVec 32 := Scalar.addi c0_i32_5562 v5019
  v5020.toNat
def k0_dev171 (v2 : BitVec 32) : Nat :=
  let c0_i32_5592 : BitVec 32 := 0#32
  let c1_i32_5591 : BitVec 32 := 1#32
  let v5046 : BitVec 32 := Scalar.muli v2 c1_i32_5591
  let v5047 : BitVec 32 := Scalar.addi c0_i32_5592 v5046
  v5047.toNat
def k0_dev172 (v1 : BitVec 32) : Nat :=
  let c0_i32_5622 : BitVec 32 := 0#32
  let c1_i32_5621 : BitVec 32 := 1#32
  let v5073 : BitVec 32 := Scalar.muli v1 c1_i32_5621
  let v5074 : BitVec 32 := Scalar.addi c0_i32_5622 v5073
  v5074.toNat
def k0_dev173 (v1 : BitVec 32) : Nat :=
  let c0_i32_5651 : BitVec 32 := 0#32
  let c1_i32_5650 : BitVec 32 := 1#32
  let v5095 : BitVec 32 := Scalar.muli v1 c1_i32_5650
  let v5096 : BitVec 32 := Scalar.addi c0_i32_5651 v5095
  v5096.toNat
def k0_dev174 (v2 : BitVec 32) : Nat :=
  let c0_i32_5676 : BitVec 32 := 0#32
  let c1_i32_5675 : BitVec 32 := 1#32
  let v5109 : BitVec 32 := Scalar.muli v2 c1_i32_5675
  let v5110 : BitVec 32 := Scalar.addi c0_i32_5676 v5109
  v5110.toNat
def k0_off117 (v0 : BitVec 32) : Fin 1 → Nat :=
  let c64_i32_5677 : BitVec 32 := 64#32
  let v5111 : BitVec 32 := Scalar.addi v0 c64_i32_5677
  let c2_i32_5678 : BitVec 32 := 2#32
  let v5112 : BitVec 32 := Scalar.subi v5111 c2_i32_5678
  let c28_i32 : BitVec 32 := 28#32
  let v5113 : BitVec 32 := Scalar.subi v5112 c28_i32
  let c32_i32_5679 : BitVec 32 := 32#32
  let c0_i32_5680 : BitVec 32 := 0#32
  let v5114 : BitVec 1 := Scalar.cmpi .eq c32_i32_5679 c0_i32_5680
  let c1_i32_5681 : BitVec 32 := 1#32
  let v5115 : BitVec 32 := Scalar.select v5114 c1_i32_5681 c32_i32_5679
  let v5116 : BitVec 32 := Scalar.remsi v5113 v5115
  let c0_i32_5683 : BitVec 32 := 0#32
  let v5118 : BitVec 1 := Scalar.cmpi .slt v5116 c0_i32_5683
  let c0_i32_5684 : BitVec 32 := 0#32
  let v5119 : BitVec 1 := Scalar.cmpi .slt v5115 c0_i32_5684
  let v5120 : BitVec 1 := Scalar.xori v5118 v5119
  let c0_i32_5682 : BitVec 32 := 0#32
  let v5117 : BitVec 1 := Scalar.cmpi .ne v5116 c0_i32_5682
  let v5121 : BitVec 1 := Scalar.andi v5120 v5117
  let v5122 : BitVec 32 := Scalar.addi v5116 v5115
  let v5123 : BitVec 32 := Scalar.select v5121 v5122 v5116
  let v5124 : Index := Scalar.indexCast v5123
  ![v5124.toNat]
def k0_off118 (v5125 : BitVec 32) : Fin 2 → Nat :=
  let c256_i32_5685 : BitVec 32 := 256#32
  let v5126 : BitVec 32 := Scalar.muli v5125 c256_i32_5685
  let v5127 : Index := Scalar.indexCast v5126
  let c0_5686 : Index := 0#32
  ![v5127.toNat, 0]

def k0_chk62 (v5125 : BitVec 32) : Prop :=
  (∀ a, (k0_off118 v5125) a + S256x256.size a ≤ S8192x256.size a)
theorem k0_off118_inb : ∀ (v5125 : BitVec 32) (k0_hw62 : k0_chk62 v5125), ∀ a, (k0_off118 v5125) a + S256x256.size a ≤ S8192x256.size a := fun v5125 k0_hw62 => k0_hw62

def k0_off119 (v0 : BitVec 32) : Fin 1 → Nat :=
  let c2_i32_5690 : BitVec 32 := 2#32
  let v5133 : BitVec 32 := Scalar.addi v0 c2_i32_5690
  let c28_i32_5691 : BitVec 32 := 28#32
  let v5134 : BitVec 32 := Scalar.addi v5133 c28_i32_5691
  let c32_i32_5692 : BitVec 32 := 32#32
  let c0_i32_5693 : BitVec 32 := 0#32
  let v5135 : BitVec 1 := Scalar.cmpi .eq c32_i32_5692 c0_i32_5693
  let c1_i32_5694 : BitVec 32 := 1#32
  let v5136 : BitVec 32 := Scalar.select v5135 c1_i32_5694 c32_i32_5692
  let v5137 : BitVec 32 := Scalar.remsi v5134 v5136
  let c0_i32_5696 : BitVec 32 := 0#32
  let v5139 : BitVec 1 := Scalar.cmpi .slt v5137 c0_i32_5696
  let c0_i32_5697 : BitVec 32 := 0#32
  let v5140 : BitVec 1 := Scalar.cmpi .slt v5136 c0_i32_5697
  let v5141 : BitVec 1 := Scalar.xori v5139 v5140
  let c0_i32_5695 : BitVec 32 := 0#32
  let v5138 : BitVec 1 := Scalar.cmpi .ne v5137 c0_i32_5695
  let v5142 : BitVec 1 := Scalar.andi v5141 v5138
  let v5143 : BitVec 32 := Scalar.addi v5137 v5136
  let v5144 : BitVec 32 := Scalar.select v5142 v5143 v5137
  let v5145 : Index := Scalar.indexCast v5144
  ![v5145.toNat]
def k0_off120 (v5146 : BitVec 32) : Fin 2 → Nat :=
  let c256_i32_5698 : BitVec 32 := 256#32
  let v5147 : BitVec 32 := Scalar.muli v5146 c256_i32_5698
  let v5148 : Index := Scalar.indexCast v5147
  let c0_5699 : Index := 0#32
  ![v5148.toNat, 0]

def k0_chk63 (v5146 : BitVec 32) : Prop :=
  (∀ a, (k0_off120 v5146) a + S256x256.size a ≤ S8192x256.size a)
theorem k0_off120_inb : ∀ (v5146 : BitVec 32) (k0_hw63 : k0_chk63 v5146), ∀ a, (k0_off120 v5146) a + S256x256.size a ≤ S8192x256.size a := fun v5146 k0_hw63 => k0_hw63

def k0_dev175 (v2 : BitVec 32) : Nat :=
  let c0_i32_5732 : BitVec 32 := 0#32
  let c1_i32_5731 : BitVec 32 := 1#32
  let v5171 : BitVec 32 := Scalar.muli v2 c1_i32_5731
  let v5172 : BitVec 32 := Scalar.addi c0_i32_5732 v5171
  v5172.toNat
def k0_dev176 (v1 : BitVec 32) : Nat :=
  let c0_i32_5762 : BitVec 32 := 0#32
  let c1_i32_5761 : BitVec 32 := 1#32
  let v5198 : BitVec 32 := Scalar.muli v1 c1_i32_5761
  let v5199 : BitVec 32 := Scalar.addi c0_i32_5762 v5198
  v5199.toNat
def k0_dev177 (v2 : BitVec 32) : Nat :=
  let c0_i32_5792 : BitVec 32 := 0#32
  let c1_i32_5791 : BitVec 32 := 1#32
  let v5225 : BitVec 32 := Scalar.muli v2 c1_i32_5791
  let v5226 : BitVec 32 := Scalar.addi c0_i32_5792 v5225
  v5226.toNat
def k0_dev178 (v1 : BitVec 32) : Nat :=
  let c0_i32_5822 : BitVec 32 := 0#32
  let c1_i32_5821 : BitVec 32 := 1#32
  let v5252 : BitVec 32 := Scalar.muli v1 c1_i32_5821
  let v5253 : BitVec 32 := Scalar.addi c0_i32_5822 v5252
  v5253.toNat
def k0_dev179 (v1 : BitVec 32) : Nat :=
  let c0_i32_5851 : BitVec 32 := 0#32
  let c1_i32_5850 : BitVec 32 := 1#32
  let v5274 : BitVec 32 := Scalar.muli v1 c1_i32_5850
  let v5275 : BitVec 32 := Scalar.addi c0_i32_5851 v5274
  v5275.toNat
def k0_dev180 (v2 : BitVec 32) : Nat :=
  let c0_i32_5876 : BitVec 32 := 0#32
  let c1_i32_5875 : BitVec 32 := 1#32
  let v5288 : BitVec 32 := Scalar.muli v2 c1_i32_5875
  let v5289 : BitVec 32 := Scalar.addi c0_i32_5876 v5288
  v5289.toNat
def k0_off121 (v0 : BitVec 32) : Fin 1 → Nat :=
  let c64_i32_5877 : BitVec 32 := 64#32
  let v5290 : BitVec 32 := Scalar.addi v0 c64_i32_5877
  let c2_i32_5878 : BitVec 32 := 2#32
  let v5291 : BitVec 32 := Scalar.subi v5290 c2_i32_5878
  let c29_i32 : BitVec 32 := 29#32
  let v5292 : BitVec 32 := Scalar.subi v5291 c29_i32
  let c32_i32_5879 : BitVec 32 := 32#32
  let c0_i32_5880 : BitVec 32 := 0#32
  let v5293 : BitVec 1 := Scalar.cmpi .eq c32_i32_5879 c0_i32_5880
  let c1_i32_5881 : BitVec 32 := 1#32
  let v5294 : BitVec 32 := Scalar.select v5293 c1_i32_5881 c32_i32_5879
  let v5295 : BitVec 32 := Scalar.remsi v5292 v5294
  let c0_i32_5883 : BitVec 32 := 0#32
  let v5297 : BitVec 1 := Scalar.cmpi .slt v5295 c0_i32_5883
  let c0_i32_5884 : BitVec 32 := 0#32
  let v5298 : BitVec 1 := Scalar.cmpi .slt v5294 c0_i32_5884
  let v5299 : BitVec 1 := Scalar.xori v5297 v5298
  let c0_i32_5882 : BitVec 32 := 0#32
  let v5296 : BitVec 1 := Scalar.cmpi .ne v5295 c0_i32_5882
  let v5300 : BitVec 1 := Scalar.andi v5299 v5296
  let v5301 : BitVec 32 := Scalar.addi v5295 v5294
  let v5302 : BitVec 32 := Scalar.select v5300 v5301 v5295
  let v5303 : Index := Scalar.indexCast v5302
  ![v5303.toNat]
def k0_off122 (v5304 : BitVec 32) : Fin 2 → Nat :=
  let c256_i32_5885 : BitVec 32 := 256#32
  let v5305 : BitVec 32 := Scalar.muli v5304 c256_i32_5885
  let v5306 : Index := Scalar.indexCast v5305
  let c0_5886 : Index := 0#32
  ![v5306.toNat, 0]

def k0_chk64 (v5304 : BitVec 32) : Prop :=
  (∀ a, (k0_off122 v5304) a + S256x256.size a ≤ S8192x256.size a)
theorem k0_off122_inb : ∀ (v5304 : BitVec 32) (k0_hw64 : k0_chk64 v5304), ∀ a, (k0_off122 v5304) a + S256x256.size a ≤ S8192x256.size a := fun v5304 k0_hw64 => k0_hw64

def k0_off123 (v0 : BitVec 32) : Fin 1 → Nat :=
  let c2_i32_5890 : BitVec 32 := 2#32
  let v5312 : BitVec 32 := Scalar.addi v0 c2_i32_5890
  let c29_i32_5891 : BitVec 32 := 29#32
  let v5313 : BitVec 32 := Scalar.addi v5312 c29_i32_5891
  let c32_i32_5892 : BitVec 32 := 32#32
  let c0_i32_5893 : BitVec 32 := 0#32
  let v5314 : BitVec 1 := Scalar.cmpi .eq c32_i32_5892 c0_i32_5893
  let c1_i32_5894 : BitVec 32 := 1#32
  let v5315 : BitVec 32 := Scalar.select v5314 c1_i32_5894 c32_i32_5892
  let v5316 : BitVec 32 := Scalar.remsi v5313 v5315
  let c0_i32_5896 : BitVec 32 := 0#32
  let v5318 : BitVec 1 := Scalar.cmpi .slt v5316 c0_i32_5896
  let c0_i32_5897 : BitVec 32 := 0#32
  let v5319 : BitVec 1 := Scalar.cmpi .slt v5315 c0_i32_5897
  let v5320 : BitVec 1 := Scalar.xori v5318 v5319
  let c0_i32_5895 : BitVec 32 := 0#32
  let v5317 : BitVec 1 := Scalar.cmpi .ne v5316 c0_i32_5895
  let v5321 : BitVec 1 := Scalar.andi v5320 v5317
  let v5322 : BitVec 32 := Scalar.addi v5316 v5315
  let v5323 : BitVec 32 := Scalar.select v5321 v5322 v5316
  let v5324 : Index := Scalar.indexCast v5323
  ![v5324.toNat]
def k0_off124 (v5325 : BitVec 32) : Fin 2 → Nat :=
  let c256_i32_5898 : BitVec 32 := 256#32
  let v5326 : BitVec 32 := Scalar.muli v5325 c256_i32_5898
  let v5327 : Index := Scalar.indexCast v5326
  let c0_5899 : Index := 0#32
  ![v5327.toNat, 0]

def k0_chk65 (v5325 : BitVec 32) : Prop :=
  (∀ a, (k0_off124 v5325) a + S256x256.size a ≤ S8192x256.size a)
theorem k0_off124_inb : ∀ (v5325 : BitVec 32) (k0_hw65 : k0_chk65 v5325), ∀ a, (k0_off124 v5325) a + S256x256.size a ≤ S8192x256.size a := fun v5325 k0_hw65 => k0_hw65

def k0_dev181 (v2 : BitVec 32) : Nat :=
  let c0_i32_5932 : BitVec 32 := 0#32
  let c1_i32_5931 : BitVec 32 := 1#32
  let v5350 : BitVec 32 := Scalar.muli v2 c1_i32_5931
  let v5351 : BitVec 32 := Scalar.addi c0_i32_5932 v5350
  v5351.toNat
def k0_dev182 (v1 : BitVec 32) : Nat :=
  let c0_i32_5962 : BitVec 32 := 0#32
  let c1_i32_5961 : BitVec 32 := 1#32
  let v5377 : BitVec 32 := Scalar.muli v1 c1_i32_5961
  let v5378 : BitVec 32 := Scalar.addi c0_i32_5962 v5377
  v5378.toNat
def k0_dev183 (v2 : BitVec 32) : Nat :=
  let c0_i32_5992 : BitVec 32 := 0#32
  let c1_i32_5991 : BitVec 32 := 1#32
  let v5404 : BitVec 32 := Scalar.muli v2 c1_i32_5991
  let v5405 : BitVec 32 := Scalar.addi c0_i32_5992 v5404
  v5405.toNat

def k0_chk2_0 (v2 : BitVec 32) : Prop :=
  ((k0_dev2 v2) < nD) ∧
  ((k0_dev3 v2) < nD) ∧
  ((k0_dev4 v2) < nD) ∧
  ((k0_dev7 v2) < nD) ∧
  ((k0_dev9 v2) < nD) ∧
  ((k0_dev12 v2) < nD) ∧
  ((k0_dev13 v2) < nD) ∧
  ((k0_dev15 v2) < nD) ∧
  ((k0_dev18 v2) < nD) ∧
  ((k0_dev19 v2) < nD) ∧
  ((k0_dev21 v2) < nD) ∧
  ((k0_dev24 v2) < nD) ∧
  ((k0_dev25 v2) < nD) ∧
  ((k0_dev27 v2) < nD) ∧
  ((k0_dev30 v2) < nD) ∧
  ((k0_dev31 v2) < nD) ∧
  ((k0_dev33 v2) < nD) ∧
  ((k0_dev36 v2) < nD) ∧
  ((k0_dev37 v2) < nD) ∧
  ((k0_dev39 v2) < nD) ∧
  ((k0_dev42 v2) < nD) ∧
  ((k0_dev43 v2) < nD) ∧
  ((k0_dev45 v2) < nD) ∧
  ((k0_dev48 v2) < nD) ∧
  ((k0_dev49 v2) < nD) ∧
  ((k0_dev51 v2) < nD) ∧
  ((k0_dev54 v2) < nD) ∧
  ((k0_dev55 v2) < nD) ∧
  ((k0_dev57 v2) < nD) ∧
  ((k0_dev60 v2) < nD) ∧
  ((k0_dev61 v2) < nD) ∧
  ((k0_dev63 v2) < nD)
def k0_chk2_1 (v2 : BitVec 32) : Prop :=
  ((k0_dev66 v2) < nD) ∧
  ((k0_dev67 v2) < nD) ∧
  ((k0_dev69 v2) < nD) ∧
  ((k0_dev72 v2) < nD) ∧
  ((k0_dev73 v2) < nD) ∧
  ((k0_dev75 v2) < nD) ∧
  ((k0_dev78 v2) < nD) ∧
  ((k0_dev79 v2) < nD) ∧
  ((k0_dev81 v2) < nD) ∧
  ((k0_dev84 v2) < nD) ∧
  ((k0_dev85 v2) < nD) ∧
  ((k0_dev87 v2) < nD) ∧
  ((k0_dev90 v2) < nD) ∧
  ((k0_dev91 v2) < nD) ∧
  ((k0_dev93 v2) < nD) ∧
  ((k0_dev96 v2) < nD) ∧
  ((k0_dev97 v2) < nD) ∧
  ((k0_dev99 v2) < nD) ∧
  ((k0_dev102 v2) < nD) ∧
  ((k0_dev103 v2) < nD) ∧
  ((k0_dev105 v2) < nD) ∧
  ((k0_dev108 v2) < nD) ∧
  ((k0_dev109 v2) < nD) ∧
  ((k0_dev111 v2) < nD) ∧
  ((k0_dev114 v2) < nD) ∧
  ((k0_dev115 v2) < nD) ∧
  ((k0_dev117 v2) < nD) ∧
  ((k0_dev120 v2) < nD) ∧
  ((k0_dev121 v2) < nD) ∧
  ((k0_dev123 v2) < nD) ∧
  ((k0_dev126 v2) < nD) ∧
  ((k0_dev127 v2) < nD)
def k0_chk2_2 (v2 : BitVec 32) : Prop :=
  ((k0_dev129 v2) < nD) ∧
  ((k0_dev132 v2) < nD) ∧
  ((k0_dev133 v2) < nD) ∧
  ((k0_dev135 v2) < nD) ∧
  ((k0_dev138 v2) < nD) ∧
  ((k0_dev139 v2) < nD) ∧
  ((k0_dev141 v2) < nD) ∧
  ((k0_dev144 v2) < nD) ∧
  ((k0_dev145 v2) < nD) ∧
  ((k0_dev147 v2) < nD) ∧
  ((k0_dev150 v2) < nD) ∧
  ((k0_dev151 v2) < nD) ∧
  ((k0_dev153 v2) < nD) ∧
  ((k0_dev156 v2) < nD) ∧
  ((k0_dev157 v2) < nD) ∧
  ((k0_dev159 v2) < nD) ∧
  ((k0_dev162 v2) < nD) ∧
  ((k0_dev163 v2) < nD) ∧
  ((k0_dev165 v2) < nD) ∧
  ((k0_dev168 v2) < nD) ∧
  ((k0_dev169 v2) < nD) ∧
  ((k0_dev171 v2) < nD) ∧
  ((k0_dev174 v2) < nD) ∧
  ((k0_dev175 v2) < nD) ∧
  ((k0_dev177 v2) < nD) ∧
  ((k0_dev180 v2) < nD) ∧
  ((k0_dev181 v2) < nD) ∧
  ((k0_dev183 v2) < nD)
def k0_chk2 (v2 : BitVec 32) : Prop :=
  k0_chk2_0 v2 ∧
  k0_chk2_1 v2 ∧
  k0_chk2_2 v2
theorem k0_dev2_lt : ∀ (v2 : BitVec 32) (k0_hw2 : k0_chk2 v2), (k0_dev2 v2) < nD := fun v2 k0_hw2 => k0_hw2.1.1
theorem k0_dev3_lt : ∀ (v2 : BitVec 32) (k0_hw2 : k0_chk2 v2), (k0_dev3 v2) < nD := fun v2 k0_hw2 => k0_hw2.1.2.1
theorem k0_dev4_lt : ∀ (v2 : BitVec 32) (k0_hw2 : k0_chk2 v2), (k0_dev4 v2) < nD := fun v2 k0_hw2 => k0_hw2.1.2.2.1
theorem k0_dev7_lt : ∀ (v2 : BitVec 32) (k0_hw2 : k0_chk2 v2), (k0_dev7 v2) < nD := fun v2 k0_hw2 => k0_hw2.1.2.2.2.1
theorem k0_dev9_lt : ∀ (v2 : BitVec 32) (k0_hw2 : k0_chk2 v2), (k0_dev9 v2) < nD := fun v2 k0_hw2 => k0_hw2.1.2.2.2.2.1
theorem k0_dev12_lt : ∀ (v2 : BitVec 32) (k0_hw2 : k0_chk2 v2), (k0_dev12 v2) < nD := fun v2 k0_hw2 => k0_hw2.1.2.2.2.2.2.1
theorem k0_dev13_lt : ∀ (v2 : BitVec 32) (k0_hw2 : k0_chk2 v2), (k0_dev13 v2) < nD := fun v2 k0_hw2 => k0_hw2.1.2.2.2.2.2.2.1
theorem k0_dev15_lt : ∀ (v2 : BitVec 32) (k0_hw2 : k0_chk2 v2), (k0_dev15 v2) < nD := fun v2 k0_hw2 => k0_hw2.1.2.2.2.2.2.2.2.1
theorem k0_dev18_lt : ∀ (v2 : BitVec 32) (k0_hw2 : k0_chk2 v2), (k0_dev18 v2) < nD := fun v2 k0_hw2 => k0_hw2.1.2.2.2.2.2.2.2.2.1
theorem k0_dev19_lt : ∀ (v2 : BitVec 32) (k0_hw2 : k0_chk2 v2), (k0_dev19 v2) < nD := fun v2 k0_hw2 => k0_hw2.1.2.2.2.2.2.2.2.2.2.1
theorem k0_dev21_lt : ∀ (v2 : BitVec 32) (k0_hw2 : k0_chk2 v2), (k0_dev21 v2) < nD := fun v2 k0_hw2 => k0_hw2.1.2.2.2.2.2.2.2.2.2.2.1
theorem k0_dev24_lt : ∀ (v2 : BitVec 32) (k0_hw2 : k0_chk2 v2), (k0_dev24 v2) < nD := fun v2 k0_hw2 => k0_hw2.1.2.2.2.2.2.2.2.2.2.2.2.1
theorem k0_dev25_lt : ∀ (v2 : BitVec 32) (k0_hw2 : k0_chk2 v2), (k0_dev25 v2) < nD := fun v2 k0_hw2 => k0_hw2.1.2.2.2.2.2.2.2.2.2.2.2.2.1
theorem k0_dev27_lt : ∀ (v2 : BitVec 32) (k0_hw2 : k0_chk2 v2), (k0_dev27 v2) < nD := fun v2 k0_hw2 => k0_hw2.1.2.2.2.2.2.2.2.2.2.2.2.2.2.1
theorem k0_dev30_lt : ∀ (v2 : BitVec 32) (k0_hw2 : k0_chk2 v2), (k0_dev30 v2) < nD := fun v2 k0_hw2 => k0_hw2.1.2.2.2.2.2.2.2.2.2.2.2.2.2.2.1
theorem k0_dev31_lt : ∀ (v2 : BitVec 32) (k0_hw2 : k0_chk2 v2), (k0_dev31 v2) < nD := fun v2 k0_hw2 => k0_hw2.1.2.2.2.2.2.2.2.2.2.2.2.2.2.2.2.1
theorem k0_dev33_lt : ∀ (v2 : BitVec 32) (k0_hw2 : k0_chk2 v2), (k0_dev33 v2) < nD := fun v2 k0_hw2 => k0_hw2.1.2.2.2.2.2.2.2.2.2.2.2.2.2.2.2.2.1
theorem k0_dev36_lt : ∀ (v2 : BitVec 32) (k0_hw2 : k0_chk2 v2), (k0_dev36 v2) < nD := fun v2 k0_hw2 => k0_hw2.1.2.2.2.2.2.2.2.2.2.2.2.2.2.2.2.2.2.1
theorem k0_dev37_lt : ∀ (v2 : BitVec 32) (k0_hw2 : k0_chk2 v2), (k0_dev37 v2) < nD := fun v2 k0_hw2 => k0_hw2.1.2.2.2.2.2.2.2.2.2.2.2.2.2.2.2.2.2.2.1
theorem k0_dev39_lt : ∀ (v2 : BitVec 32) (k0_hw2 : k0_chk2 v2), (k0_dev39 v2) < nD := fun v2 k0_hw2 => k0_hw2.1.2.2.2.2.2.2.2.2.2.2.2.2.2.2.2.2.2.2.2.1
theorem k0_dev42_lt : ∀ (v2 : BitVec 32) (k0_hw2 : k0_chk2 v2), (k0_dev42 v2) < nD := fun v2 k0_hw2 => k0_hw2.1.2.2.2.2.2.2.2.2.2.2.2.2.2.2.2.2.2.2.2.2.1
theorem k0_dev43_lt : ∀ (v2 : BitVec 32) (k0_hw2 : k0_chk2 v2), (k0_dev43 v2) < nD := fun v2 k0_hw2 => k0_hw2.1.2.2.2.2.2.2.2.2.2.2.2.2.2.2.2.2.2.2.2.2.2.1
theorem k0_dev45_lt : ∀ (v2 : BitVec 32) (k0_hw2 : k0_chk2 v2), (k0_dev45 v2) < nD := fun v2 k0_hw2 => k0_hw2.1.2.2.2.2.2.2.2.2.2.2.2.2.2.2.2.2.2.2.2.2.2.2.1
theorem k0_dev48_lt : ∀ (v2 : BitVec 32) (k0_hw2 : k0_chk2 v2), (k0_dev48 v2) < nD := fun v2 k0_hw2 => k0_hw2.1.2.2.2.2.2.2.2.2.2.2.2.2.2.2.2.2.2.2.2.2.2.2.2.1
theorem k0_dev49_lt : ∀ (v2 : BitVec 32) (k0_hw2 : k0_chk2 v2), (k0_dev49 v2) < nD := fun v2 k0_hw2 => k0_hw2.1.2.2.2.2.2.2.2.2.2.2.2.2.2.2.2.2.2.2.2.2.2.2.2.2.1
theorem k0_dev51_lt : ∀ (v2 : BitVec 32) (k0_hw2 : k0_chk2 v2), (k0_dev51 v2) < nD := fun v2 k0_hw2 => k0_hw2.1.2.2.2.2.2.2.2.2.2.2.2.2.2.2.2.2.2.2.2.2.2.2.2.2.2.1
theorem k0_dev54_lt : ∀ (v2 : BitVec 32) (k0_hw2 : k0_chk2 v2), (k0_dev54 v2) < nD := fun v2 k0_hw2 => k0_hw2.1.2.2.2.2.2.2.2.2.2.2.2.2.2.2.2.2.2.2.2.2.2.2.2.2.2.2.1
theorem k0_dev55_lt : ∀ (v2 : BitVec 32) (k0_hw2 : k0_chk2 v2), (k0_dev55 v2) < nD := fun v2 k0_hw2 => k0_hw2.1.2.2.2.2.2.2.2.2.2.2.2.2.2.2.2.2.2.2.2.2.2.2.2.2.2.2.2.1
theorem k0_dev57_lt : ∀ (v2 : BitVec 32) (k0_hw2 : k0_chk2 v2), (k0_dev57 v2) < nD := fun v2 k0_hw2 => k0_hw2.1.2.2.2.2.2.2.2.2.2.2.2.2.2.2.2.2.2.2.2.2.2.2.2.2.2.2.2.2.1
theorem k0_dev60_lt : ∀ (v2 : BitVec 32) (k0_hw2 : k0_chk2 v2), (k0_dev60 v2) < nD := fun v2 k0_hw2 => k0_hw2.1.2.2.2.2.2.2.2.2.2.2.2.2.2.2.2.2.2.2.2.2.2.2.2.2.2.2.2.2.2.1
theorem k0_dev61_lt : ∀ (v2 : BitVec 32) (k0_hw2 : k0_chk2 v2), (k0_dev61 v2) < nD := fun v2 k0_hw2 => k0_hw2.1.2.2.2.2.2.2.2.2.2.2.2.2.2.2.2.2.2.2.2.2.2.2.2.2.2.2.2.2.2.2.1
theorem k0_dev63_lt : ∀ (v2 : BitVec 32) (k0_hw2 : k0_chk2 v2), (k0_dev63 v2) < nD := fun v2 k0_hw2 => k0_hw2.1.2.2.2.2.2.2.2.2.2.2.2.2.2.2.2.2.2.2.2.2.2.2.2.2.2.2.2.2.2.2.2
theorem k0_dev66_lt : ∀ (v2 : BitVec 32) (k0_hw2 : k0_chk2 v2), (k0_dev66 v2) < nD := fun v2 k0_hw2 => k0_hw2.2.1.1
theorem k0_dev67_lt : ∀ (v2 : BitVec 32) (k0_hw2 : k0_chk2 v2), (k0_dev67 v2) < nD := fun v2 k0_hw2 => k0_hw2.2.1.2.1
theorem k0_dev69_lt : ∀ (v2 : BitVec 32) (k0_hw2 : k0_chk2 v2), (k0_dev69 v2) < nD := fun v2 k0_hw2 => k0_hw2.2.1.2.2.1
theorem k0_dev72_lt : ∀ (v2 : BitVec 32) (k0_hw2 : k0_chk2 v2), (k0_dev72 v2) < nD := fun v2 k0_hw2 => k0_hw2.2.1.2.2.2.1
theorem k0_dev73_lt : ∀ (v2 : BitVec 32) (k0_hw2 : k0_chk2 v2), (k0_dev73 v2) < nD := fun v2 k0_hw2 => k0_hw2.2.1.2.2.2.2.1
theorem k0_dev75_lt : ∀ (v2 : BitVec 32) (k0_hw2 : k0_chk2 v2), (k0_dev75 v2) < nD := fun v2 k0_hw2 => k0_hw2.2.1.2.2.2.2.2.1
theorem k0_dev78_lt : ∀ (v2 : BitVec 32) (k0_hw2 : k0_chk2 v2), (k0_dev78 v2) < nD := fun v2 k0_hw2 => k0_hw2.2.1.2.2.2.2.2.2.1
theorem k0_dev79_lt : ∀ (v2 : BitVec 32) (k0_hw2 : k0_chk2 v2), (k0_dev79 v2) < nD := fun v2 k0_hw2 => k0_hw2.2.1.2.2.2.2.2.2.2.1
theorem k0_dev81_lt : ∀ (v2 : BitVec 32) (k0_hw2 : k0_chk2 v2), (k0_dev81 v2) < nD := fun v2 k0_hw2 => k0_hw2.2.1.2.2.2.2.2.2.2.2.1
theorem k0_dev84_lt : ∀ (v2 : BitVec 32) (k0_hw2 : k0_chk2 v2), (k0_dev84 v2) < nD := fun v2 k0_hw2 => k0_hw2.2.1.2.2.2.2.2.2.2.2.2.1
theorem k0_dev85_lt : ∀ (v2 : BitVec 32) (k0_hw2 : k0_chk2 v2), (k0_dev85 v2) < nD := fun v2 k0_hw2 => k0_hw2.2.1.2.2.2.2.2.2.2.2.2.2.1
theorem k0_dev87_lt : ∀ (v2 : BitVec 32) (k0_hw2 : k0_chk2 v2), (k0_dev87 v2) < nD := fun v2 k0_hw2 => k0_hw2.2.1.2.2.2.2.2.2.2.2.2.2.2.1
theorem k0_dev90_lt : ∀ (v2 : BitVec 32) (k0_hw2 : k0_chk2 v2), (k0_dev90 v2) < nD := fun v2 k0_hw2 => k0_hw2.2.1.2.2.2.2.2.2.2.2.2.2.2.2.1
theorem k0_dev91_lt : ∀ (v2 : BitVec 32) (k0_hw2 : k0_chk2 v2), (k0_dev91 v2) < nD := fun v2 k0_hw2 => k0_hw2.2.1.2.2.2.2.2.2.2.2.2.2.2.2.2.1
theorem k0_dev93_lt : ∀ (v2 : BitVec 32) (k0_hw2 : k0_chk2 v2), (k0_dev93 v2) < nD := fun v2 k0_hw2 => k0_hw2.2.1.2.2.2.2.2.2.2.2.2.2.2.2.2.2.1
theorem k0_dev96_lt : ∀ (v2 : BitVec 32) (k0_hw2 : k0_chk2 v2), (k0_dev96 v2) < nD := fun v2 k0_hw2 => k0_hw2.2.1.2.2.2.2.2.2.2.2.2.2.2.2.2.2.2.1
theorem k0_dev97_lt : ∀ (v2 : BitVec 32) (k0_hw2 : k0_chk2 v2), (k0_dev97 v2) < nD := fun v2 k0_hw2 => k0_hw2.2.1.2.2.2.2.2.2.2.2.2.2.2.2.2.2.2.2.1
theorem k0_dev99_lt : ∀ (v2 : BitVec 32) (k0_hw2 : k0_chk2 v2), (k0_dev99 v2) < nD := fun v2 k0_hw2 => k0_hw2.2.1.2.2.2.2.2.2.2.2.2.2.2.2.2.2.2.2.2.1
theorem k0_dev102_lt : ∀ (v2 : BitVec 32) (k0_hw2 : k0_chk2 v2), (k0_dev102 v2) < nD := fun v2 k0_hw2 => k0_hw2.2.1.2.2.2.2.2.2.2.2.2.2.2.2.2.2.2.2.2.2.1
theorem k0_dev103_lt : ∀ (v2 : BitVec 32) (k0_hw2 : k0_chk2 v2), (k0_dev103 v2) < nD := fun v2 k0_hw2 => k0_hw2.2.1.2.2.2.2.2.2.2.2.2.2.2.2.2.2.2.2.2.2.2.1
theorem k0_dev105_lt : ∀ (v2 : BitVec 32) (k0_hw2 : k0_chk2 v2), (k0_dev105 v2) < nD := fun v2 k0_hw2 => k0_hw2.2.1.2.2.2.2.2.2.2.2.2.2.2.2.2.2.2.2.2.2.2.2.1
theorem k0_dev108_lt : ∀ (v2 : BitVec 32) (k0_hw2 : k0_chk2 v2), (k0_dev108 v2) < nD := fun v2 k0_hw2 => k0_hw2.2.1.2.2.2.2.2.2.2.2.2.2.2.2.2.2.2.2.2.2.2.2.2.1
theorem k0_dev109_lt : ∀ (v2 : BitVec 32) (k0_hw2 : k0_chk2 v2), (k0_dev109 v2) < nD := fun v2 k0_hw2 => k0_hw2.2.1.2.2.2.2.2.2.2.2.2.2.2.2.2.2.2.2.2.2.2.2.2.2.1
theorem k0_dev111_lt : ∀ (v2 : BitVec 32) (k0_hw2 : k0_chk2 v2), (k0_dev111 v2) < nD := fun v2 k0_hw2 => k0_hw2.2.1.2.2.2.2.2.2.2.2.2.2.2.2.2.2.2.2.2.2.2.2.2.2.2.1
theorem k0_dev114_lt : ∀ (v2 : BitVec 32) (k0_hw2 : k0_chk2 v2), (k0_dev114 v2) < nD := fun v2 k0_hw2 => k0_hw2.2.1.2.2.2.2.2.2.2.2.2.2.2.2.2.2.2.2.2.2.2.2.2.2.2.2.1
theorem k0_dev115_lt : ∀ (v2 : BitVec 32) (k0_hw2 : k0_chk2 v2), (k0_dev115 v2) < nD := fun v2 k0_hw2 => k0_hw2.2.1.2.2.2.2.2.2.2.2.2.2.2.2.2.2.2.2.2.2.2.2.2.2.2.2.2.1
theorem k0_dev117_lt : ∀ (v2 : BitVec 32) (k0_hw2 : k0_chk2 v2), (k0_dev117 v2) < nD := fun v2 k0_hw2 => k0_hw2.2.1.2.2.2.2.2.2.2.2.2.2.2.2.2.2.2.2.2.2.2.2.2.2.2.2.2.2.1
theorem k0_dev120_lt : ∀ (v2 : BitVec 32) (k0_hw2 : k0_chk2 v2), (k0_dev120 v2) < nD := fun v2 k0_hw2 => k0_hw2.2.1.2.2.2.2.2.2.2.2.2.2.2.2.2.2.2.2.2.2.2.2.2.2.2.2.2.2.2.1
theorem k0_dev121_lt : ∀ (v2 : BitVec 32) (k0_hw2 : k0_chk2 v2), (k0_dev121 v2) < nD := fun v2 k0_hw2 => k0_hw2.2.1.2.2.2.2.2.2.2.2.2.2.2.2.2.2.2.2.2.2.2.2.2.2.2.2.2.2.2.2.1
theorem k0_dev123_lt : ∀ (v2 : BitVec 32) (k0_hw2 : k0_chk2 v2), (k0_dev123 v2) < nD := fun v2 k0_hw2 => k0_hw2.2.1.2.2.2.2.2.2.2.2.2.2.2.2.2.2.2.2.2.2.2.2.2.2.2.2.2.2.2.2.2.1
theorem k0_dev126_lt : ∀ (v2 : BitVec 32) (k0_hw2 : k0_chk2 v2), (k0_dev126 v2) < nD := fun v2 k0_hw2 => k0_hw2.2.1.2.2.2.2.2.2.2.2.2.2.2.2.2.2.2.2.2.2.2.2.2.2.2.2.2.2.2.2.2.2.1
theorem k0_dev127_lt : ∀ (v2 : BitVec 32) (k0_hw2 : k0_chk2 v2), (k0_dev127 v2) < nD := fun v2 k0_hw2 => k0_hw2.2.1.2.2.2.2.2.2.2.2.2.2.2.2.2.2.2.2.2.2.2.2.2.2.2.2.2.2.2.2.2.2.2
theorem k0_dev129_lt : ∀ (v2 : BitVec 32) (k0_hw2 : k0_chk2 v2), (k0_dev129 v2) < nD := fun v2 k0_hw2 => k0_hw2.2.2.1
theorem k0_dev132_lt : ∀ (v2 : BitVec 32) (k0_hw2 : k0_chk2 v2), (k0_dev132 v2) < nD := fun v2 k0_hw2 => k0_hw2.2.2.2.1
theorem k0_dev133_lt : ∀ (v2 : BitVec 32) (k0_hw2 : k0_chk2 v2), (k0_dev133 v2) < nD := fun v2 k0_hw2 => k0_hw2.2.2.2.2.1
theorem k0_dev135_lt : ∀ (v2 : BitVec 32) (k0_hw2 : k0_chk2 v2), (k0_dev135 v2) < nD := fun v2 k0_hw2 => k0_hw2.2.2.2.2.2.1
theorem k0_dev138_lt : ∀ (v2 : BitVec 32) (k0_hw2 : k0_chk2 v2), (k0_dev138 v2) < nD := fun v2 k0_hw2 => k0_hw2.2.2.2.2.2.2.1
theorem k0_dev139_lt : ∀ (v2 : BitVec 32) (k0_hw2 : k0_chk2 v2), (k0_dev139 v2) < nD := fun v2 k0_hw2 => k0_hw2.2.2.2.2.2.2.2.1
theorem k0_dev141_lt : ∀ (v2 : BitVec 32) (k0_hw2 : k0_chk2 v2), (k0_dev141 v2) < nD := fun v2 k0_hw2 => k0_hw2.2.2.2.2.2.2.2.2.1
theorem k0_dev144_lt : ∀ (v2 : BitVec 32) (k0_hw2 : k0_chk2 v2), (k0_dev144 v2) < nD := fun v2 k0_hw2 => k0_hw2.2.2.2.2.2.2.2.2.2.1
theorem k0_dev145_lt : ∀ (v2 : BitVec 32) (k0_hw2 : k0_chk2 v2), (k0_dev145 v2) < nD := fun v2 k0_hw2 => k0_hw2.2.2.2.2.2.2.2.2.2.2.1
theorem k0_dev147_lt : ∀ (v2 : BitVec 32) (k0_hw2 : k0_chk2 v2), (k0_dev147 v2) < nD := fun v2 k0_hw2 => k0_hw2.2.2.2.2.2.2.2.2.2.2.2.1
theorem k0_dev150_lt : ∀ (v2 : BitVec 32) (k0_hw2 : k0_chk2 v2), (k0_dev150 v2) < nD := fun v2 k0_hw2 => k0_hw2.2.2.2.2.2.2.2.2.2.2.2.2.1
theorem k0_dev151_lt : ∀ (v2 : BitVec 32) (k0_hw2 : k0_chk2 v2), (k0_dev151 v2) < nD := fun v2 k0_hw2 => k0_hw2.2.2.2.2.2.2.2.2.2.2.2.2.2.1
theorem k0_dev153_lt : ∀ (v2 : BitVec 32) (k0_hw2 : k0_chk2 v2), (k0_dev153 v2) < nD := fun v2 k0_hw2 => k0_hw2.2.2.2.2.2.2.2.2.2.2.2.2.2.2.1
theorem k0_dev156_lt : ∀ (v2 : BitVec 32) (k0_hw2 : k0_chk2 v2), (k0_dev156 v2) < nD := fun v2 k0_hw2 => k0_hw2.2.2.2.2.2.2.2.2.2.2.2.2.2.2.2.1
theorem k0_dev157_lt : ∀ (v2 : BitVec 32) (k0_hw2 : k0_chk2 v2), (k0_dev157 v2) < nD := fun v2 k0_hw2 => k0_hw2.2.2.2.2.2.2.2.2.2.2.2.2.2.2.2.2.1
theorem k0_dev159_lt : ∀ (v2 : BitVec 32) (k0_hw2 : k0_chk2 v2), (k0_dev159 v2) < nD := fun v2 k0_hw2 => k0_hw2.2.2.2.2.2.2.2.2.2.2.2.2.2.2.2.2.2.1
theorem k0_dev162_lt : ∀ (v2 : BitVec 32) (k0_hw2 : k0_chk2 v2), (k0_dev162 v2) < nD := fun v2 k0_hw2 => k0_hw2.2.2.2.2.2.2.2.2.2.2.2.2.2.2.2.2.2.2.1
theorem k0_dev163_lt : ∀ (v2 : BitVec 32) (k0_hw2 : k0_chk2 v2), (k0_dev163 v2) < nD := fun v2 k0_hw2 => k0_hw2.2.2.2.2.2.2.2.2.2.2.2.2.2.2.2.2.2.2.2.1
theorem k0_dev165_lt : ∀ (v2 : BitVec 32) (k0_hw2 : k0_chk2 v2), (k0_dev165 v2) < nD := fun v2 k0_hw2 => k0_hw2.2.2.2.2.2.2.2.2.2.2.2.2.2.2.2.2.2.2.2.2.1
theorem k0_dev168_lt : ∀ (v2 : BitVec 32) (k0_hw2 : k0_chk2 v2), (k0_dev168 v2) < nD := fun v2 k0_hw2 => k0_hw2.2.2.2.2.2.2.2.2.2.2.2.2.2.2.2.2.2.2.2.2.2.1
theorem k0_dev169_lt : ∀ (v2 : BitVec 32) (k0_hw2 : k0_chk2 v2), (k0_dev169 v2) < nD := fun v2 k0_hw2 => k0_hw2.2.2.2.2.2.2.2.2.2.2.2.2.2.2.2.2.2.2.2.2.2.2.1
theorem k0_dev171_lt : ∀ (v2 : BitVec 32) (k0_hw2 : k0_chk2 v2), (k0_dev171 v2) < nD := fun v2 k0_hw2 => k0_hw2.2.2.2.2.2.2.2.2.2.2.2.2.2.2.2.2.2.2.2.2.2.2.2.1
theorem k0_dev174_lt : ∀ (v2 : BitVec 32) (k0_hw2 : k0_chk2 v2), (k0_dev174 v2) < nD := fun v2 k0_hw2 => k0_hw2.2.2.2.2.2.2.2.2.2.2.2.2.2.2.2.2.2.2.2.2.2.2.2.2.1
theorem k0_dev175_lt : ∀ (v2 : BitVec 32) (k0_hw2 : k0_chk2 v2), (k0_dev175 v2) < nD := fun v2 k0_hw2 => k0_hw2.2.2.2.2.2.2.2.2.2.2.2.2.2.2.2.2.2.2.2.2.2.2.2.2.2.1
theorem k0_dev177_lt : ∀ (v2 : BitVec 32) (k0_hw2 : k0_chk2 v2), (k0_dev177 v2) < nD := fun v2 k0_hw2 => k0_hw2.2.2.2.2.2.2.2.2.2.2.2.2.2.2.2.2.2.2.2.2.2.2.2.2.2.2.1
theorem k0_dev180_lt : ∀ (v2 : BitVec 32) (k0_hw2 : k0_chk2 v2), (k0_dev180 v2) < nD := fun v2 k0_hw2 => k0_hw2.2.2.2.2.2.2.2.2.2.2.2.2.2.2.2.2.2.2.2.2.2.2.2.2.2.2.2.1
theorem k0_dev181_lt : ∀ (v2 : BitVec 32) (k0_hw2 : k0_chk2 v2), (k0_dev181 v2) < nD := fun v2 k0_hw2 => k0_hw2.2.2.2.2.2.2.2.2.2.2.2.2.2.2.2.2.2.2.2.2.2.2.2.2.2.2.2.2.1
theorem k0_dev183_lt : ∀ (v2 : BitVec 32) (k0_hw2 : k0_chk2 v2), (k0_dev183 v2) < nD := fun v2 k0_hw2 => k0_hw2.2.2.2.2.2.2.2.2.2.2.2.2.2.2.2.2.2.2.2.2.2.2.2.2.2.2.2.2.2

def k0_dev184 (v1 : BitVec 32) : Nat :=
  let c0_i32_6022 : BitVec 32 := 0#32
  let c1_i32_6021 : BitVec 32 := 1#32
  let v5431 : BitVec 32 := Scalar.muli v1 c1_i32_6021
  let v5432 : BitVec 32 := Scalar.addi c0_i32_6022 v5431
  v5432.toNat

def k0_chk1_0 (v1 : BitVec 32) : Prop :=
  ((k0_dev1 v1) < nD) ∧
  ((k0_dev5 v1) < nD) ∧
  ((k0_dev6 v1) < nD) ∧
  ((k0_dev8 v1) < nD) ∧
  ((k0_dev10 v1) < nD) ∧
  ((k0_dev11 v1) < nD) ∧
  ((k0_dev14 v1) < nD) ∧
  ((k0_dev16 v1) < nD) ∧
  ((k0_dev17 v1) < nD) ∧
  ((k0_dev20 v1) < nD) ∧
  ((k0_dev22 v1) < nD) ∧
  ((k0_dev23 v1) < nD) ∧
  ((k0_dev26 v1) < nD) ∧
  ((k0_dev28 v1) < nD) ∧
  ((k0_dev29 v1) < nD) ∧
  ((k0_dev32 v1) < nD) ∧
  ((k0_dev34 v1) < nD) ∧
  ((k0_dev35 v1) < nD) ∧
  ((k0_dev38 v1) < nD) ∧
  ((k0_dev40 v1) < nD) ∧
  ((k0_dev41 v1) < nD) ∧
  ((k0_dev44 v1) < nD) ∧
  ((k0_dev46 v1) < nD) ∧
  ((k0_dev47 v1) < nD) ∧
  ((k0_dev50 v1) < nD) ∧
  ((k0_dev52 v1) < nD) ∧
  ((k0_dev53 v1) < nD) ∧
  ((k0_dev56 v1) < nD) ∧
  ((k0_dev58 v1) < nD) ∧
  ((k0_dev59 v1) < nD) ∧
  ((k0_dev62 v1) < nD) ∧
  ((k0_dev64 v1) < nD)
def k0_chk1_1 (v1 : BitVec 32) : Prop :=
  ((k0_dev65 v1) < nD) ∧
  ((k0_dev68 v1) < nD) ∧
  ((k0_dev70 v1) < nD) ∧
  ((k0_dev71 v1) < nD) ∧
  ((k0_dev74 v1) < nD) ∧
  ((k0_dev76 v1) < nD) ∧
  ((k0_dev77 v1) < nD) ∧
  ((k0_dev80 v1) < nD) ∧
  ((k0_dev82 v1) < nD) ∧
  ((k0_dev83 v1) < nD) ∧
  ((k0_dev86 v1) < nD) ∧
  ((k0_dev88 v1) < nD) ∧
  ((k0_dev89 v1) < nD) ∧
  ((k0_dev92 v1) < nD) ∧
  ((k0_dev94 v1) < nD) ∧
  ((k0_dev95 v1) < nD) ∧
  ((k0_dev98 v1) < nD) ∧
  ((k0_dev100 v1) < nD) ∧
  ((k0_dev101 v1) < nD) ∧
  ((k0_dev104 v1) < nD) ∧
  ((k0_dev106 v1) < nD) ∧
  ((k0_dev107 v1) < nD) ∧
  ((k0_dev110 v1) < nD) ∧
  ((k0_dev112 v1) < nD) ∧
  ((k0_dev113 v1) < nD) ∧
  ((k0_dev116 v1) < nD) ∧
  ((k0_dev118 v1) < nD) ∧
  ((k0_dev119 v1) < nD) ∧
  ((k0_dev122 v1) < nD) ∧
  ((k0_dev124 v1) < nD) ∧
  ((k0_dev125 v1) < nD) ∧
  ((k0_dev128 v1) < nD)
def k0_chk1_2 (v1 : BitVec 32) : Prop :=
  ((k0_dev130 v1) < nD) ∧
  ((k0_dev131 v1) < nD) ∧
  ((k0_dev134 v1) < nD) ∧
  ((k0_dev136 v1) < nD) ∧
  ((k0_dev137 v1) < nD) ∧
  ((k0_dev140 v1) < nD) ∧
  ((k0_dev142 v1) < nD) ∧
  ((k0_dev143 v1) < nD) ∧
  ((k0_dev146 v1) < nD) ∧
  ((k0_dev148 v1) < nD) ∧
  ((k0_dev149 v1) < nD) ∧
  ((k0_dev152 v1) < nD) ∧
  ((k0_dev154 v1) < nD) ∧
  ((k0_dev155 v1) < nD) ∧
  ((k0_dev158 v1) < nD) ∧
  ((k0_dev160 v1) < nD) ∧
  ((k0_dev161 v1) < nD) ∧
  ((k0_dev164 v1) < nD) ∧
  ((k0_dev166 v1) < nD) ∧
  ((k0_dev167 v1) < nD) ∧
  ((k0_dev170 v1) < nD) ∧
  ((k0_dev172 v1) < nD) ∧
  ((k0_dev173 v1) < nD) ∧
  ((k0_dev176 v1) < nD) ∧
  ((k0_dev178 v1) < nD) ∧
  ((k0_dev179 v1) < nD) ∧
  ((k0_dev182 v1) < nD) ∧
  ((k0_dev184 v1) < nD)
def k0_chk1 (v1 : BitVec 32) : Prop :=
  k0_chk1_0 v1 ∧
  k0_chk1_1 v1 ∧
  k0_chk1_2 v1
theorem k0_dev1_lt : ∀ (v1 : BitVec 32) (k0_hw1 : k0_chk1 v1), (k0_dev1 v1) < nD := fun v1 k0_hw1 => k0_hw1.1.1
theorem k0_dev5_lt : ∀ (v1 : BitVec 32) (k0_hw1 : k0_chk1 v1), (k0_dev5 v1) < nD := fun v1 k0_hw1 => k0_hw1.1.2.1
theorem k0_dev6_lt : ∀ (v1 : BitVec 32) (k0_hw1 : k0_chk1 v1), (k0_dev6 v1) < nD := fun v1 k0_hw1 => k0_hw1.1.2.2.1
theorem k0_dev8_lt : ∀ (v1 : BitVec 32) (k0_hw1 : k0_chk1 v1), (k0_dev8 v1) < nD := fun v1 k0_hw1 => k0_hw1.1.2.2.2.1
theorem k0_dev10_lt : ∀ (v1 : BitVec 32) (k0_hw1 : k0_chk1 v1), (k0_dev10 v1) < nD := fun v1 k0_hw1 => k0_hw1.1.2.2.2.2.1
theorem k0_dev11_lt : ∀ (v1 : BitVec 32) (k0_hw1 : k0_chk1 v1), (k0_dev11 v1) < nD := fun v1 k0_hw1 => k0_hw1.1.2.2.2.2.2.1
theorem k0_dev14_lt : ∀ (v1 : BitVec 32) (k0_hw1 : k0_chk1 v1), (k0_dev14 v1) < nD := fun v1 k0_hw1 => k0_hw1.1.2.2.2.2.2.2.1
theorem k0_dev16_lt : ∀ (v1 : BitVec 32) (k0_hw1 : k0_chk1 v1), (k0_dev16 v1) < nD := fun v1 k0_hw1 => k0_hw1.1.2.2.2.2.2.2.2.1
theorem k0_dev17_lt : ∀ (v1 : BitVec 32) (k0_hw1 : k0_chk1 v1), (k0_dev17 v1) < nD := fun v1 k0_hw1 => k0_hw1.1.2.2.2.2.2.2.2.2.1
theorem k0_dev20_lt : ∀ (v1 : BitVec 32) (k0_hw1 : k0_chk1 v1), (k0_dev20 v1) < nD := fun v1 k0_hw1 => k0_hw1.1.2.2.2.2.2.2.2.2.2.1
theorem k0_dev22_lt : ∀ (v1 : BitVec 32) (k0_hw1 : k0_chk1 v1), (k0_dev22 v1) < nD := fun v1 k0_hw1 => k0_hw1.1.2.2.2.2.2.2.2.2.2.2.1
theorem k0_dev23_lt : ∀ (v1 : BitVec 32) (k0_hw1 : k0_chk1 v1), (k0_dev23 v1) < nD := fun v1 k0_hw1 => k0_hw1.1.2.2.2.2.2.2.2.2.2.2.2.1
theorem k0_dev26_lt : ∀ (v1 : BitVec 32) (k0_hw1 : k0_chk1 v1), (k0_dev26 v1) < nD := fun v1 k0_hw1 => k0_hw1.1.2.2.2.2.2.2.2.2.2.2.2.2.1
theorem k0_dev28_lt : ∀ (v1 : BitVec 32) (k0_hw1 : k0_chk1 v1), (k0_dev28 v1) < nD := fun v1 k0_hw1 => k0_hw1.1.2.2.2.2.2.2.2.2.2.2.2.2.2.1
theorem k0_dev29_lt : ∀ (v1 : BitVec 32) (k0_hw1 : k0_chk1 v1), (k0_dev29 v1) < nD := fun v1 k0_hw1 => k0_hw1.1.2.2.2.2.2.2.2.2.2.2.2.2.2.2.1
theorem k0_dev32_lt : ∀ (v1 : BitVec 32) (k0_hw1 : k0_chk1 v1), (k0_dev32 v1) < nD := fun v1 k0_hw1 => k0_hw1.1.2.2.2.2.2.2.2.2.2.2.2.2.2.2.2.1
theorem k0_dev34_lt : ∀ (v1 : BitVec 32) (k0_hw1 : k0_chk1 v1), (k0_dev34 v1) < nD := fun v1 k0_hw1 => k0_hw1.1.2.2.2.2.2.2.2.2.2.2.2.2.2.2.2.2.1
theorem k0_dev35_lt : ∀ (v1 : BitVec 32) (k0_hw1 : k0_chk1 v1), (k0_dev35 v1) < nD := fun v1 k0_hw1 => k0_hw1.1.2.2.2.2.2.2.2.2.2.2.2.2.2.2.2.2.2.1
theorem k0_dev38_lt : ∀ (v1 : BitVec 32) (k0_hw1 : k0_chk1 v1), (k0_dev38 v1) < nD := fun v1 k0_hw1 => k0_hw1.1.2.2.2.2.2.2.2.2.2.2.2.2.2.2.2.2.2.2.1
theorem k0_dev40_lt : ∀ (v1 : BitVec 32) (k0_hw1 : k0_chk1 v1), (k0_dev40 v1) < nD := fun v1 k0_hw1 => k0_hw1.1.2.2.2.2.2.2.2.2.2.2.2.2.2.2.2.2.2.2.2.1
theorem k0_dev41_lt : ∀ (v1 : BitVec 32) (k0_hw1 : k0_chk1 v1), (k0_dev41 v1) < nD := fun v1 k0_hw1 => k0_hw1.1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.1.2.2.2.2.2.2.2.2.2.2.2.2.2.2.2.2.2.2.2.2.2.2.1
theorem k0_dev47_lt : ∀ (v1 : BitVec 32) (k0_hw1 : k0_chk1 v1), (k0_dev47 v1) < nD := fun v1 k0_hw1 => k0_hw1.1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.1.2.2.2.2.2.2.2.2.2.2.2.2.2.2.2.2.2.2.2.2.2.2.2.2.2.1
theorem k0_dev53_lt : ∀ (v1 : BitVec 32) (k0_hw1 : k0_chk1 v1), (k0_dev53 v1) < nD := fun v1 k0_hw1 => k0_hw1.1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.1.2.2.2.2.2.2.2.2.2.2.2.2.2.2.2.2.2.2.2.2.2.2.2.2.2.2.2.2.1
theorem k0_dev59_lt : ∀ (v1 : BitVec 32) (k0_hw1 : k0_chk1 v1), (k0_dev59 v1) < nD := fun v1 k0_hw1 => k0_hw1.1.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.1.2.2.2.2.2.2.2.2.2.2.2.2.2.2.2.2.2.2.2.2.2.2.2.2.2.2.2.2.2.2.1
theorem k0_dev64_lt : ∀ (v1 : BitVec 32) (k0_hw1 : k0_chk1 v1), (k0_dev64 v1) < nD := fun v1 k0_hw1 => k0_hw1.1.2.2.2.2.2.2.2.2.2.2.2.2.2.2.2.2.2.2.2.2.2.2.2.2.2.2.2.2.2.2.2
theorem k0_dev65_lt : ∀ (v1 : BitVec 32) (k0_hw1 : k0_chk1 v1), (k0_dev65 v1) < nD := fun v1 k0_hw1 => k0_hw1.2.1.1
theorem k0_dev68_lt : ∀ (v1 : BitVec 32) (k0_hw1 : k0_chk1 v1), (k0_dev68 v1) < nD := fun v1 k0_hw1 => k0_hw1.2.1.2.1
theorem k0_dev70_lt : ∀ (v1 : BitVec 32) (k0_hw1 : k0_chk1 v1), (k0_dev70 v1) < nD := fun v1 k0_hw1 => k0_hw1.2.1.2.2.1
theorem k0_dev71_lt : ∀ (v1 : BitVec 32) (k0_hw1 : k0_chk1 v1), (k0_dev71 v1) < nD := fun v1 k0_hw1 => k0_hw1.2.1.2.2.2.1
theorem k0_dev74_lt : ∀ (v1 : BitVec 32) (k0_hw1 : k0_chk1 v1), (k0_dev74 v1) < nD := fun v1 k0_hw1 => k0_hw1.2.1.2.2.2.2.1
theorem k0_dev76_lt : ∀ (v1 : BitVec 32) (k0_hw1 : k0_chk1 v1), (k0_dev76 v1) < nD := fun v1 k0_hw1 => k0_hw1.2.1.2.2.2.2.2.1
theorem k0_dev77_lt : ∀ (v1 : BitVec 32) (k0_hw1 : k0_chk1 v1), (k0_dev77 v1) < nD := fun v1 k0_hw1 => k0_hw1.2.1.2.2.2.2.2.2.1
theorem k0_dev80_lt : ∀ (v1 : BitVec 32) (k0_hw1 : k0_chk1 v1), (k0_dev80 v1) < nD := fun v1 k0_hw1 => k0_hw1.2.1.2.2.2.2.2.2.2.1
theorem k0_dev82_lt : ∀ (v1 : BitVec 32) (k0_hw1 : k0_chk1 v1), (k0_dev82 v1) < nD := fun v1 k0_hw1 => k0_hw1.2.1.2.2.2.2.2.2.2.2.1
theorem k0_dev83_lt : ∀ (v1 : BitVec 32) (k0_hw1 : k0_chk1 v1), (k0_dev83 v1) < nD := fun v1 k0_hw1 => k0_hw1.2.1.2.2.2.2.2.2.2.2.2.1
theorem k0_dev86_lt : ∀ (v1 : BitVec 32) (k0_hw1 : k0_chk1 v1), (k0_dev86 v1) < nD := fun v1 k0_hw1 => k0_hw1.2.1.2.2.2.2.2.2.2.2.2.2.1
theorem k0_dev88_lt : ∀ (v1 : BitVec 32) (k0_hw1 : k0_chk1 v1), (k0_dev88 v1) < nD := fun v1 k0_hw1 => k0_hw1.2.1.2.2.2.2.2.2.2.2.2.2.2.1
theorem k0_dev89_lt : ∀ (v1 : BitVec 32) (k0_hw1 : k0_chk1 v1), (k0_dev89 v1) < nD := fun v1 k0_hw1 => k0_hw1.2.1.2.2.2.2.2.2.2.2.2.2.2.2.1
theorem k0_dev92_lt : ∀ (v1 : BitVec 32) (k0_hw1 : k0_chk1 v1), (k0_dev92 v1) < nD := fun v1 k0_hw1 => k0_hw1.2.1.2.2.2.2.2.2.2.2.2.2.2.2.2.1
theorem k0_dev94_lt : ∀ (v1 : BitVec 32) (k0_hw1 : k0_chk1 v1), (k0_dev94 v1) < nD := fun v1 k0_hw1 => k0_hw1.2.1.2.2.2.2.2.2.2.2.2.2.2.2.2.2.1
theorem k0_dev95_lt : ∀ (v1 : BitVec 32) (k0_hw1 : k0_chk1 v1), (k0_dev95 v1) < nD := fun v1 k0_hw1 => k0_hw1.2.1.2.2.2.2.2.2.2.2.2.2.2.2.2.2.2.1
theorem k0_dev98_lt : ∀ (v1 : BitVec 32) (k0_hw1 : k0_chk1 v1), (k0_dev98 v1) < nD := fun v1 k0_hw1 => k0_hw1.2.1.2.2.2.2.2.2.2.2.2.2.2.2.2.2.2.2.1
theorem k0_dev100_lt : ∀ (v1 : BitVec 32) (k0_hw1 : k0_chk1 v1), (k0_dev100 v1) < nD := fun v1 k0_hw1 => k0_hw1.2.1.2.2.2.2.2.2.2.2.2.2.2.2.2.2.2.2.2.1
theorem k0_dev101_lt : ∀ (v1 : BitVec 32) (k0_hw1 : k0_chk1 v1), (k0_dev101 v1) < nD := fun v1 k0_hw1 => k0_hw1.2.1.2.2.2.2.2.2.2.2.2.2.2.2.2.2.2.2.2.2.1
theorem k0_dev104_lt : ∀ (v1 : BitVec 32) (k0_hw1 : k0_chk1 v1), (k0_dev104 v1) < nD := fun v1 k0_hw1 => k0_hw1.2.1.2.2.2.2.2.2.2.2.2.2.2.2.2.2.2.2.2.2.2.1
theorem k0_dev106_lt : ∀ (v1 : BitVec 32) (k0_hw1 : k0_chk1 v1), (k0_dev106 v1) < nD := fun v1 k0_hw1 => k0_hw1.2.1.2.2.2.2.2.2.2.2.2.2.2.2.2.2.2.2.2.2.2.2.1
theorem k0_dev107_lt : ∀ (v1 : BitVec 32) (k0_hw1 : k0_chk1 v1), (k0_dev107 v1) < nD := fun v1 k0_hw1 => k0_hw1.2.1.2.2.2.2.2.2.2.2.2.2.2.2.2.2.2.2.2.2.2.2.2.1
theorem k0_dev110_lt : ∀ (v1 : BitVec 32) (k0_hw1 : k0_chk1 v1), (k0_dev110 v1) < nD := fun v1 k0_hw1 => k0_hw1.2.1.2.2.2.2.2.2.2.2.2.2.2.2.2.2.2.2.2.2.2.2.2.2.1
theorem k0_dev112_lt : ∀ (v1 : BitVec 32) (k0_hw1 : k0_chk1 v1), (k0_dev112 v1) < nD := fun v1 k0_hw1 => k0_hw1.2.1.2.2.2.2.2.2.2.2.2.2.2.2.2.2.2.2.2.2.2.2.2.2.2.1
theorem k0_dev113_lt : ∀ (v1 : BitVec 32) (k0_hw1 : k0_chk1 v1), (k0_dev113 v1) < nD := fun v1 k0_hw1 => k0_hw1.2.1.2.2.2.2.2.2.2.2.2.2.2.2.2.2.2.2.2.2.2.2.2.2.2.2.1
theorem k0_dev116_lt : ∀ (v1 : BitVec 32) (k0_hw1 : k0_chk1 v1), (k0_dev116 v1) < nD := fun v1 k0_hw1 => k0_hw1.2.1.2.2.2.2.2.2.2.2.2.2.2.2.2.2.2.2.2.2.2.2.2.2.2.2.2.1
theorem k0_dev118_lt : ∀ (v1 : BitVec 32) (k0_hw1 : k0_chk1 v1), (k0_dev118 v1) < nD := fun v1 k0_hw1 => k0_hw1.2.1.2.2.2.2.2.2.2.2.2.2.2.2.2.2.2.2.2.2.2.2.2.2.2.2.2.2.1
theorem k0_dev119_lt : ∀ (v1 : BitVec 32) (k0_hw1 : k0_chk1 v1), (k0_dev119 v1) < nD := fun v1 k0_hw1 => k0_hw1.2.1.2.2.2.2.2.2.2.2.2.2.2.2.2.2.2.2.2.2.2.2.2.2.2.2.2.2.2.1
theorem k0_dev122_lt : ∀ (v1 : BitVec 32) (k0_hw1 : k0_chk1 v1), (k0_dev122 v1) < nD := fun v1 k0_hw1 => k0_hw1.2.1.2.2.2.2.2.2.2.2.2.2.2.2.2.2.2.2.2.2.2.2.2.2.2.2.2.2.2.2.1
theorem k0_dev124_lt : ∀ (v1 : BitVec 32) (k0_hw1 : k0_chk1 v1), (k0_dev124 v1) < nD := fun v1 k0_hw1 => k0_hw1.2.1.2.2.2.2.2.2.2.2.2.2.2.2.2.2.2.2.2.2.2.2.2.2.2.2.2.2.2.2.2.1
theorem k0_dev125_lt : ∀ (v1 : BitVec 32) (k0_hw1 : k0_chk1 v1), (k0_dev125 v1) < nD := fun v1 k0_hw1 => k0_hw1.2.1.2.2.2.2.2.2.2.2.2.2.2.2.2.2.2.2.2.2.2.2.2.2.2.2.2.2.2.2.2.2.1
theorem k0_dev128_lt : ∀ (v1 : BitVec 32) (k0_hw1 : k0_chk1 v1), (k0_dev128 v1) < nD := fun v1 k0_hw1 => k0_hw1.2.1.2.2.2.2.2.2.2.2.2.2.2.2.2.2.2.2.2.2.2.2.2.2.2.2.2.2.2.2.2.2.2
theorem k0_dev130_lt : ∀ (v1 : BitVec 32) (k0_hw1 : k0_chk1 v1), (k0_dev130 v1) < nD := fun v1 k0_hw1 => k0_hw1.2.2.1
theorem k0_dev131_lt : ∀ (v1 : BitVec 32) (k0_hw1 : k0_chk1 v1), (k0_dev131 v1) < nD := fun v1 k0_hw1 => k0_hw1.2.2.2.1
theorem k0_dev134_lt : ∀ (v1 : BitVec 32) (k0_hw1 : k0_chk1 v1), (k0_dev134 v1) < nD := fun v1 k0_hw1 => k0_hw1.2.2.2.2.1
theorem k0_dev136_lt : ∀ (v1 : BitVec 32) (k0_hw1 : k0_chk1 v1), (k0_dev136 v1) < nD := fun v1 k0_hw1 => k0_hw1.2.2.2.2.2.1
theorem k0_dev137_lt : ∀ (v1 : BitVec 32) (k0_hw1 : k0_chk1 v1), (k0_dev137 v1) < nD := fun v1 k0_hw1 => k0_hw1.2.2.2.2.2.2.1
theorem k0_dev140_lt : ∀ (v1 : BitVec 32) (k0_hw1 : k0_chk1 v1), (k0_dev140 v1) < nD := fun v1 k0_hw1 => k0_hw1.2.2.2.2.2.2.2.1
theorem k0_dev142_lt : ∀ (v1 : BitVec 32) (k0_hw1 : k0_chk1 v1), (k0_dev142 v1) < nD := fun v1 k0_hw1 => k0_hw1.2.2.2.2.2.2.2.2.1
theorem k0_dev143_lt : ∀ (v1 : BitVec 32) (k0_hw1 : k0_chk1 v1), (k0_dev143 v1) < nD := fun v1 k0_hw1 => k0_hw1.2.2.2.2.2.2.2.2.2.1
theorem k0_dev146_lt : ∀ (v1 : BitVec 32) (k0_hw1 : k0_chk1 v1), (k0_dev146 v1) < nD := fun v1 k0_hw1 => k0_hw1.2.2.2.2.2.2.2.2.2.2.1
theorem k0_dev148_lt : ∀ (v1 : BitVec 32) (k0_hw1 : k0_chk1 v1), (k0_dev148 v1) < nD := fun v1 k0_hw1 => k0_hw1.2.2.2.2.2.2.2.2.2.2.2.1
theorem k0_dev149_lt : ∀ (v1 : BitVec 32) (k0_hw1 : k0_chk1 v1), (k0_dev149 v1) < nD := fun v1 k0_hw1 => k0_hw1.2.2.2.2.2.2.2.2.2.2.2.2.1
theorem k0_dev152_lt : ∀ (v1 : BitVec 32) (k0_hw1 : k0_chk1 v1), (k0_dev152 v1) < nD := fun v1 k0_hw1 => k0_hw1.2.2.2.2.2.2.2.2.2.2.2.2.2.1
theorem k0_dev154_lt : ∀ (v1 : BitVec 32) (k0_hw1 : k0_chk1 v1), (k0_dev154 v1) < nD := fun v1 k0_hw1 => k0_hw1.2.2.2.2.2.2.2.2.2.2.2.2.2.2.1
theorem k0_dev155_lt : ∀ (v1 : BitVec 32) (k0_hw1 : k0_chk1 v1), (k0_dev155 v1) < nD := fun v1 k0_hw1 => k0_hw1.2.2.2.2.2.2.2.2.2.2.2.2.2.2.2.1
theorem k0_dev158_lt : ∀ (v1 : BitVec 32) (k0_hw1 : k0_chk1 v1), (k0_dev158 v1) < nD := fun v1 k0_hw1 => k0_hw1.2.2.2.2.2.2.2.2.2.2.2.2.2.2.2.2.1
theorem k0_dev160_lt : ∀ (v1 : BitVec 32) (k0_hw1 : k0_chk1 v1), (k0_dev160 v1) < nD := fun v1 k0_hw1 => k0_hw1.2.2.2.2.2.2.2.2.2.2.2.2.2.2.2.2.2.1
theorem k0_dev161_lt : ∀ (v1 : BitVec 32) (k0_hw1 : k0_chk1 v1), (k0_dev161 v1) < nD := fun v1 k0_hw1 => k0_hw1.2.2.2.2.2.2.2.2.2.2.2.2.2.2.2.2.2.2.1
theorem k0_dev164_lt : ∀ (v1 : BitVec 32) (k0_hw1 : k0_chk1 v1), (k0_dev164 v1) < nD := fun v1 k0_hw1 => k0_hw1.2.2.2.2.2.2.2.2.2.2.2.2.2.2.2.2.2.2.2.1
theorem k0_dev166_lt : ∀ (v1 : BitVec 32) (k0_hw1 : k0_chk1 v1), (k0_dev166 v1) < nD := fun v1 k0_hw1 => k0_hw1.2.2.2.2.2.2.2.2.2.2.2.2.2.2.2.2.2.2.2.2.1
theorem k0_dev167_lt : ∀ (v1 : BitVec 32) (k0_hw1 : k0_chk1 v1), (k0_dev167 v1) < nD := fun v1 k0_hw1 => k0_hw1.2.2.2.2.2.2.2.2.2.2.2.2.2.2.2.2.2.2.2.2.2.1
theorem k0_dev170_lt : ∀ (v1 : BitVec 32) (k0_hw1 : k0_chk1 v1), (k0_dev170 v1) < nD := fun v1 k0_hw1 => k0_hw1.2.2.2.2.2.2.2.2.2.2.2.2.2.2.2.2.2.2.2.2.2.2.1
theorem k0_dev172_lt : ∀ (v1 : BitVec 32) (k0_hw1 : k0_chk1 v1), (k0_dev172 v1) < nD := fun v1 k0_hw1 => k0_hw1.2.2.2.2.2.2.2.2.2.2.2.2.2.2.2.2.2.2.2.2.2.2.2.1
theorem k0_dev173_lt : ∀ (v1 : BitVec 32) (k0_hw1 : k0_chk1 v1), (k0_dev173 v1) < nD := fun v1 k0_hw1 => k0_hw1.2.2.2.2.2.2.2.2.2.2.2.2.2.2.2.2.2.2.2.2.2.2.2.2.1
theorem k0_dev176_lt : ∀ (v1 : BitVec 32) (k0_hw1 : k0_chk1 v1), (k0_dev176 v1) < nD := fun v1 k0_hw1 => k0_hw1.2.2.2.2.2.2.2.2.2.2.2.2.2.2.2.2.2.2.2.2.2.2.2.2.2.1
theorem k0_dev178_lt : ∀ (v1 : BitVec 32) (k0_hw1 : k0_chk1 v1), (k0_dev178 v1) < nD := fun v1 k0_hw1 => k0_hw1.2.2.2.2.2.2.2.2.2.2.2.2.2.2.2.2.2.2.2.2.2.2.2.2.2.2.1
theorem k0_dev179_lt : ∀ (v1 : BitVec 32) (k0_hw1 : k0_chk1 v1), (k0_dev179 v1) < nD := fun v1 k0_hw1 => k0_hw1.2.2.2.2.2.2.2.2.2.2.2.2.2.2.2.2.2.2.2.2.2.2.2.2.2.2.2.1
theorem k0_dev182_lt : ∀ (v1 : BitVec 32) (k0_hw1 : k0_chk1 v1), (k0_dev182 v1) < nD := fun v1 k0_hw1 => k0_hw1.2.2.2.2.2.2.2.2.2.2.2.2.2.2.2.2.2.2.2.2.2.2.2.2.2.2.2.2.1
theorem k0_dev184_lt : ∀ (v1 : BitVec 32) (k0_hw1 : k0_chk1 v1), (k0_dev184 v1) < nD := fun v1 k0_hw1 => k0_hw1.2.2.2.2.2.2.2.2.2.2.2.2.2.2.2.2.2.2.2.2.2.2.2.2.2.2.2.2.2

def k0_off125 (v0 : BitVec 32) : Fin 1 → Nat :=
  let c64_i32_6071 : BitVec 32 := 64#32
  let v5465 : BitVec 32 := Scalar.addi v0 c64_i32_6071
  let c2_i32_6072 : BitVec 32 := 2#32
  let v5466 : BitVec 32 := Scalar.subi v5465 c2_i32_6072
  let c30_i32 : BitVec 32 := 30#32
  let v5467 : BitVec 32 := Scalar.subi v5466 c30_i32
  let c32_i32_6073 : BitVec 32 := 32#32
  let c0_i32_6074 : BitVec 32 := 0#32
  let v5468 : BitVec 1 := Scalar.cmpi .eq c32_i32_6073 c0_i32_6074
  let c1_i32_6075 : BitVec 32 := 1#32
  let v5469 : BitVec 32 := Scalar.select v5468 c1_i32_6075 c32_i32_6073
  let v5470 : BitVec 32 := Scalar.remsi v5467 v5469
  let c0_i32_6077 : BitVec 32 := 0#32
  let v5472 : BitVec 1 := Scalar.cmpi .slt v5470 c0_i32_6077
  let c0_i32_6078 : BitVec 32 := 0#32
  let v5473 : BitVec 1 := Scalar.cmpi .slt v5469 c0_i32_6078
  let v5474 : BitVec 1 := Scalar.xori v5472 v5473
  let c0_i32_6076 : BitVec 32 := 0#32
  let v5471 : BitVec 1 := Scalar.cmpi .ne v5470 c0_i32_6076
  let v5475 : BitVec 1 := Scalar.andi v5474 v5471
  let v5476 : BitVec 32 := Scalar.addi v5470 v5469
  let v5477 : BitVec 32 := Scalar.select v5475 v5476 v5470
  let v5478 : Index := Scalar.indexCast v5477
  ![v5478.toNat]
def k0_off126 (v5479 : BitVec 32) : Fin 2 → Nat :=
  let c256_i32_6079 : BitVec 32 := 256#32
  let v5480 : BitVec 32 := Scalar.muli v5479 c256_i32_6079
  let v5481 : Index := Scalar.indexCast v5480
  let c0_6080 : Index := 0#32
  ![v5481.toNat, 0]

def k0_chk66 (v5479 : BitVec 32) : Prop :=
  (∀ a, (k0_off126 v5479) a + S256x256.size a ≤ S8192x256.size a)
theorem k0_off126_inb : ∀ (v5479 : BitVec 32) (k0_hw66 : k0_chk66 v5479), ∀ a, (k0_off126 v5479) a + S256x256.size a ≤ S8192x256.size a := fun v5479 k0_hw66 => k0_hw66

def k0_off127 (v0 : BitVec 32) : Fin 1 → Nat :=
  let c2_i32_6084 : BitVec 32 := 2#32
  let v5487 : BitVec 32 := Scalar.addi v0 c2_i32_6084
  let c30_i32_6085 : BitVec 32 := 30#32
  let v5488 : BitVec 32 := Scalar.addi v5487 c30_i32_6085
  let c32_i32_6086 : BitVec 32 := 32#32
  let c0_i32_6087 : BitVec 32 := 0#32
  let v5489 : BitVec 1 := Scalar.cmpi .eq c32_i32_6086 c0_i32_6087
  let c1_i32_6088 : BitVec 32 := 1#32
  let v5490 : BitVec 32 := Scalar.select v5489 c1_i32_6088 c32_i32_6086
  let v5491 : BitVec 32 := Scalar.remsi v5488 v5490
  let c0_i32_6090 : BitVec 32 := 0#32
  let v5493 : BitVec 1 := Scalar.cmpi .slt v5491 c0_i32_6090
  let c0_i32_6091 : BitVec 32 := 0#32
  let v5494 : BitVec 1 := Scalar.cmpi .slt v5490 c0_i32_6091
  let v5495 : BitVec 1 := Scalar.xori v5493 v5494
  let c0_i32_6089 : BitVec 32 := 0#32
  let v5492 : BitVec 1 := Scalar.cmpi .ne v5491 c0_i32_6089
  let v5496 : BitVec 1 := Scalar.andi v5495 v5492
  let v5497 : BitVec 32 := Scalar.addi v5491 v5490
  let v5498 : BitVec 32 := Scalar.select v5496 v5497 v5491
  let v5499 : Index := Scalar.indexCast v5498
  ![v5499.toNat]

def k0_chk3_0 (v0 : BitVec 32) : Prop :=
  (∀ a, (k0_off1 v0) a + S1.size a ≤ S32.size a) ∧
  (∀ a, (k0_off3 v0) a + S1.size a ≤ S32.size a) ∧
  (∀ a, (k0_off5 v0) a + S1.size a ≤ S32.size a) ∧
  (∀ a, (k0_off7 v0) a + S1.size a ≤ S32.size a) ∧
  (∀ a, (k0_off9 v0) a + S1.size a ≤ S32.size a) ∧
  (∀ a, (k0_off11 v0) a + S1.size a ≤ S32.size a) ∧
  (∀ a, (k0_off13 v0) a + S1.size a ≤ S32.size a) ∧
  (∀ a, (k0_off15 v0) a + S1.size a ≤ S32.size a) ∧
  (∀ a, (k0_off17 v0) a + S1.size a ≤ S32.size a) ∧
  (∀ a, (k0_off19 v0) a + S1.size a ≤ S32.size a) ∧
  (∀ a, (k0_off21 v0) a + S1.size a ≤ S32.size a) ∧
  (∀ a, (k0_off23 v0) a + S1.size a ≤ S32.size a) ∧
  (∀ a, (k0_off25 v0) a + S1.size a ≤ S32.size a) ∧
  (∀ a, (k0_off27 v0) a + S1.size a ≤ S32.size a) ∧
  (∀ a, (k0_off29 v0) a + S1.size a ≤ S32.size a) ∧
  (∀ a, (k0_off31 v0) a + S1.size a ≤ S32.size a) ∧
  (∀ a, (k0_off33 v0) a + S1.size a ≤ S32.size a) ∧
  (∀ a, (k0_off35 v0) a + S1.size a ≤ S32.size a) ∧
  (∀ a, (k0_off37 v0) a + S1.size a ≤ S32.size a) ∧
  (∀ a, (k0_off39 v0) a + S1.size a ≤ S32.size a) ∧
  (∀ a, (k0_off41 v0) a + S1.size a ≤ S32.size a) ∧
  (∀ a, (k0_off43 v0) a + S1.size a ≤ S32.size a) ∧
  (∀ a, (k0_off45 v0) a + S1.size a ≤ S32.size a) ∧
  (∀ a, (k0_off47 v0) a + S1.size a ≤ S32.size a) ∧
  (∀ a, (k0_off49 v0) a + S1.size a ≤ S32.size a) ∧
  (∀ a, (k0_off51 v0) a + S1.size a ≤ S32.size a) ∧
  (∀ a, (k0_off53 v0) a + S1.size a ≤ S32.size a) ∧
  (∀ a, (k0_off55 v0) a + S1.size a ≤ S32.size a) ∧
  (∀ a, (k0_off57 v0) a + S1.size a ≤ S32.size a) ∧
  (∀ a, (k0_off59 v0) a + S1.size a ≤ S32.size a) ∧
  (∀ a, (k0_off61 v0) a + S1.size a ≤ S32.size a) ∧
  (∀ a, (k0_off63 v0) a + S1.size a ≤ S32.size a)
def k0_chk3_1 (v0 : BitVec 32) : Prop :=
  (∀ a, (k0_off65 v0) a + S1.size a ≤ S32.size a) ∧
  (∀ a, (k0_off67 v0) a + S1.size a ≤ S32.size a) ∧
  (∀ a, (k0_off69 v0) a + S1.size a ≤ S32.size a) ∧
  (∀ a, (k0_off71 v0) a + S1.size a ≤ S32.size a) ∧
  (∀ a, (k0_off73 v0) a + S1.size a ≤ S32.size a) ∧
  (∀ a, (k0_off75 v0) a + S1.size a ≤ S32.size a) ∧
  (∀ a, (k0_off77 v0) a + S1.size a ≤ S32.size a) ∧
  (∀ a, (k0_off79 v0) a + S1.size a ≤ S32.size a) ∧
  (∀ a, (k0_off81 v0) a + S1.size a ≤ S32.size a) ∧
  (∀ a, (k0_off83 v0) a + S1.size a ≤ S32.size a) ∧
  (∀ a, (k0_off85 v0) a + S1.size a ≤ S32.size a) ∧
  (∀ a, (k0_off87 v0) a + S1.size a ≤ S32.size a) ∧
  (∀ a, (k0_off89 v0) a + S1.size a ≤ S32.size a) ∧
  (∀ a, (k0_off91 v0) a + S1.size a ≤ S32.size a) ∧
  (∀ a, (k0_off93 v0) a + S1.size a ≤ S32.size a) ∧
  (∀ a, (k0_off95 v0) a + S1.size a ≤ S32.size a) ∧
  (∀ a, (k0_off97 v0) a + S1.size a ≤ S32.size a) ∧
  (∀ a, (k0_off99 v0) a + S1.size a ≤ S32.size a) ∧
  (∀ a, (k0_off101 v0) a + S1.size a ≤ S32.size a) ∧
  (∀ a, (k0_off103 v0) a + S1.size a ≤ S32.size a) ∧
  (∀ a, (k0_off105 v0) a + S1.size a ≤ S32.size a) ∧
  (∀ a, (k0_off107 v0) a + S1.size a ≤ S32.size a) ∧
  (∀ a, (k0_off109 v0) a + S1.size a ≤ S32.size a) ∧
  (∀ a, (k0_off111 v0) a + S1.size a ≤ S32.size a) ∧
  (∀ a, (k0_off113 v0) a + S1.size a ≤ S32.size a) ∧
  (∀ a, (k0_off115 v0) a + S1.size a ≤ S32.size a) ∧
  (∀ a, (k0_off117 v0) a + S1.size a ≤ S32.size a) ∧
  (∀ a, (k0_off119 v0) a + S1.size a ≤ S32.size a) ∧
  (∀ a, (k0_off121 v0) a + S1.size a ≤ S32.size a) ∧
  (∀ a, (k0_off123 v0) a + S1.size a ≤ S32.size a) ∧
  (∀ a, (k0_off125 v0) a + S1.size a ≤ S32.size a) ∧
  (∀ a, (k0_off127 v0) a + S1.size a ≤ S32.size a)
def k0_chk3 (v0 : BitVec 32) : Prop :=
  k0_chk3_0 v0 ∧
  k0_chk3_1 v0
theorem k0_off1_inb : ∀ (v0 : BitVec 32) (k0_hw3 : k0_chk3 v0), ∀ a, (k0_off1 v0) a + S1.size a ≤ S32.size a := fun v0 k0_hw3 => k0_hw3.1.1
theorem k0_off3_inb : ∀ (v0 : BitVec 32) (k0_hw3 : k0_chk3 v0), ∀ a, (k0_off3 v0) a + S1.size a ≤ S32.size a := fun v0 k0_hw3 => k0_hw3.1.2.1
theorem k0_off5_inb : ∀ (v0 : BitVec 32) (k0_hw3 : k0_chk3 v0), ∀ a, (k0_off5 v0) a + S1.size a ≤ S32.size a := fun v0 k0_hw3 => k0_hw3.1.2.2.1
theorem k0_off7_inb : ∀ (v0 : BitVec 32) (k0_hw3 : k0_chk3 v0), ∀ a, (k0_off7 v0) a + S1.size a ≤ S32.size a := fun v0 k0_hw3 => k0_hw3.1.2.2.2.1
theorem k0_off9_inb : ∀ (v0 : BitVec 32) (k0_hw3 : k0_chk3 v0), ∀ a, (k0_off9 v0) a + S1.size a ≤ S32.size a := fun v0 k0_hw3 => k0_hw3.1.2.2.2.2.1
theorem k0_off11_inb : ∀ (v0 : BitVec 32) (k0_hw3 : k0_chk3 v0), ∀ a, (k0_off11 v0) a + S1.size a ≤ S32.size a := fun v0 k0_hw3 => k0_hw3.1.2.2.2.2.2.1
theorem k0_off13_inb : ∀ (v0 : BitVec 32) (k0_hw3 : k0_chk3 v0), ∀ a, (k0_off13 v0) a + S1.size a ≤ S32.size a := fun v0 k0_hw3 => k0_hw3.1.2.2.2.2.2.2.1
theorem k0_off15_inb : ∀ (v0 : BitVec 32) (k0_hw3 : k0_chk3 v0), ∀ a, (k0_off15 v0) a + S1.size a ≤ S32.size a := fun v0 k0_hw3 => k0_hw3.1.2.2.2.2.2.2.2.1
theorem k0_off17_inb : ∀ (v0 : BitVec 32) (k0_hw3 : k0_chk3 v0), ∀ a, (k0_off17 v0) a + S1.size a ≤ S32.size a := fun v0 k0_hw3 => k0_hw3.1.2.2.2.2.2.2.2.2.1
theorem k0_off19_inb : ∀ (v0 : BitVec 32) (k0_hw3 : k0_chk3 v0), ∀ a, (k0_off19 v0) a + S1.size a ≤ S32.size a := fun v0 k0_hw3 => k0_hw3.1.2.2.2.2.2.2.2.2.2.1
theorem k0_off21_inb : ∀ (v0 : BitVec 32) (k0_hw3 : k0_chk3 v0), ∀ a, (k0_off21 v0) a + S1.size a ≤ S32.size a := fun v0 k0_hw3 => k0_hw3.1.2.2.2.2.2.2.2.2.2.2.1
theorem k0_off23_inb : ∀ (v0 : BitVec 32) (k0_hw3 : k0_chk3 v0), ∀ a, (k0_off23 v0) a + S1.size a ≤ S32.size a := fun v0 k0_hw3 => k0_hw3.1.2.2.2.2.2.2.2.2.2.2.2.1
theorem k0_off25_inb : ∀ (v0 : BitVec 32) (k0_hw3 : k0_chk3 v0), ∀ a, (k0_off25 v0) a + S1.size a ≤ S32.size a := fun v0 k0_hw3 => k0_hw3.1.2.2.2.2.2.2.2.2.2.2.2.2.1
theorem k0_off27_inb : ∀ (v0 : BitVec 32) (k0_hw3 : k0_chk3 v0), ∀ a, (k0_off27 v0) a + S1.size a ≤ S32.size a := fun v0 k0_hw3 => k0_hw3.1.2.2.2.2.2.2.2.2.2.2.2.2.2.1
theorem k0_off29_inb : ∀ (v0 : BitVec 32) (k0_hw3 : k0_chk3 v0), ∀ a, (k0_off29 v0) a + S1.size a ≤ S32.size a := fun v0 k0_hw3 => k0_hw3.1.2.2.2.2.2.2.2.2.2.2.2.2.2.2.1
theorem k0_off31_inb : ∀ (v0 : BitVec 32) (k0_hw3 : k0_chk3 v0), ∀ a, (k0_off31 v0) a + S1.size a ≤ S32.size a := fun v0 k0_hw3 => k0_hw3.1.2.2.2.2.2.2.2.2.2.2.2.2.2.2.2.1
theorem k0_off33_inb : ∀ (v0 : BitVec 32) (k0_hw3 : k0_chk3 v0), ∀ a, (k0_off33 v0) a + S1.size a ≤ S32.size a := fun v0 k0_hw3 => k0_hw3.1.2.2.2.2.2.2.2.2.2.2.2.2.2.2.2.2.1
theorem k0_off35_inb : ∀ (v0 : BitVec 32) (k0_hw3 : k0_chk3 v0), ∀ a, (k0_off35 v0) a + S1.size a ≤ S32.size a := fun v0 k0_hw3 => k0_hw3.1.2.2.2.2.2.2.2.2.2.2.2.2.2.2.2.2.2.1
theorem k0_off37_inb : ∀ (v0 : BitVec 32) (k0_hw3 : k0_chk3 v0), ∀ a, (k0_off37 v0) a + S1.size a ≤ S32.size a := fun v0 k0_hw3 => k0_hw3.1.2.2.2.2.2.2.2.2.2.2.2.2.2.2.2.2.2.2.1
theorem k0_off39_inb : ∀ (v0 : BitVec 32) (k0_hw3 : k0_chk3 v0), ∀ a, (k0_off39 v0) a + S1.size a ≤ S32.size a := fun v0 k0_hw3 => k0_hw3.1.2.2.2.2.2.2.2.2.2.2.2.2.2.2.2.2.2.2.2.1
theorem k0_off41_inb : ∀ (v0 : BitVec 32) (k0_hw3 : k0_chk3 v0), ∀ a, (k0_off41 v0) a + S1.size a ≤ S32.size a := fun v0 k0_hw3 => k0_hw3.1.2.2.2.2.2.2.2.2.2.2.2.2.2.2.2.2.2.2.2.2.1
theorem k0_off43_inb : ∀ (v0 : BitVec 32) (k0_hw3 : k0_chk3 v0), ∀ a, (k0_off43 v0) a + S1.size a ≤ S32.size a := fun v0 k0_hw3 => k0_hw3.1.2.2.2.2.2.2.2.2.2.2.2.2.2.2.2.2.2.2.2.2.2.1
theorem k0_off45_inb : ∀ (v0 : BitVec 32) (k0_hw3 : k0_chk3 v0), ∀ a, (k0_off45 v0) a + S1.size a ≤ S32.size a := fun v0 k0_hw3 => k0_hw3.1.2.2.2.2.2.2.2.2.2.2.2.2.2.2.2.2.2.2.2.2.2.2.1
theorem k0_off47_inb : ∀ (v0 : BitVec 32) (k0_hw3 : k0_chk3 v0), ∀ a, (k0_off47 v0) a + S1.size a ≤ S32.size a := fun v0 k0_hw3 => k0_hw3.1.2.2.2.2.2.2.2.2.2.2.2.2.2.2.2.2.2.2.2.2.2.2.2.1
theorem k0_off49_inb : ∀ (v0 : BitVec 32) (k0_hw3 : k0_chk3 v0), ∀ a, (k0_off49 v0) a + S1.size a ≤ S32.size a := fun v0 k0_hw3 => k0_hw3.1.2.2.2.2.2.2.2.2.2.2.2.2.2.2.2.2.2.2.2.2.2.2.2.2.1
theorem k0_off51_inb : ∀ (v0 : BitVec 32) (k0_hw3 : k0_chk3 v0), ∀ a, (k0_off51 v0) a + S1.size a ≤ S32.size a := fun v0 k0_hw3 => k0_hw3.1.2.2.2.2.2.2.2.2.2.2.2.2.2.2.2.2.2.2.2.2.2.2.2.2.2.1
theorem k0_off53_inb : ∀ (v0 : BitVec 32) (k0_hw3 : k0_chk3 v0), ∀ a, (k0_off53 v0) a + S1.size a ≤ S32.size a := fun v0 k0_hw3 => k0_hw3.1.2.2.2.2.2.2.2.2.2.2.2.2.2.2.2.2.2.2.2.2.2.2.2.2.2.2.1
theorem k0_off55_inb : ∀ (v0 : BitVec 32) (k0_hw3 : k0_chk3 v0), ∀ a, (k0_off55 v0) a + S1.size a ≤ S32.size a := fun v0 k0_hw3 => k0_hw3.1.2.2.2.2.2.2.2.2.2.2.2.2.2.2.2.2.2.2.2.2.2.2.2.2.2.2.2.1
theorem k0_off57_inb : ∀ (v0 : BitVec 32) (k0_hw3 : k0_chk3 v0), ∀ a, (k0_off57 v0) a + S1.size a ≤ S32.size a := fun v0 k0_hw3 => k0_hw3.1.2.2.2.2.2.2.2.2.2.2.2.2.2.2.2.2.2.2.2.2.2.2.2.2.2.2.2.2.1
theorem k0_off59_inb : ∀ (v0 : BitVec 32) (k0_hw3 : k0_chk3 v0), ∀ a, (k0_off59 v0) a + S1.size a ≤ S32.size a := fun v0 k0_hw3 => k0_hw3.1.2.2.2.2.2.2.2.2.2.2.2.2.2.2.2.2.2.2.2.2.2.2.2.2.2.2.2.2.2.1
theorem k0_off61_inb : ∀ (v0 : BitVec 32) (k0_hw3 : k0_chk3 v0), ∀ a, (k0_off61 v0) a + S1.size a ≤ S32.size a := fun v0 k0_hw3 => k0_hw3.1.2.2.2.2.2.2.2.2.2.2.2.2.2.2.2.2.2.2.2.2.2.2.2.2.2.2.2.2.2.2.1
theorem k0_off63_inb : ∀ (v0 : BitVec 32) (k0_hw3 : k0_chk3 v0), ∀ a, (k0_off63 v0) a + S1.size a ≤ S32.size a := fun v0 k0_hw3 => k0_hw3.1.2.2.2.2.2.2.2.2.2.2.2.2.2.2.2.2.2.2.2.2.2.2.2.2.2.2.2.2.2.2.2
theorem k0_off65_inb : ∀ (v0 : BitVec 32) (k0_hw3 : k0_chk3 v0), ∀ a, (k0_off65 v0) a + S1.size a ≤ S32.size a := fun v0 k0_hw3 => k0_hw3.2.1
theorem k0_off67_inb : ∀ (v0 : BitVec 32) (k0_hw3 : k0_chk3 v0), ∀ a, (k0_off67 v0) a + S1.size a ≤ S32.size a := fun v0 k0_hw3 => k0_hw3.2.2.1
theorem k0_off69_inb : ∀ (v0 : BitVec 32) (k0_hw3 : k0_chk3 v0), ∀ a, (k0_off69 v0) a + S1.size a ≤ S32.size a := fun v0 k0_hw3 => k0_hw3.2.2.2.1
theorem k0_off71_inb : ∀ (v0 : BitVec 32) (k0_hw3 : k0_chk3 v0), ∀ a, (k0_off71 v0) a + S1.size a ≤ S32.size a := fun v0 k0_hw3 => k0_hw3.2.2.2.2.1
theorem k0_off73_inb : ∀ (v0 : BitVec 32) (k0_hw3 : k0_chk3 v0), ∀ a, (k0_off73 v0) a + S1.size a ≤ S32.size a := fun v0 k0_hw3 => k0_hw3.2.2.2.2.2.1
theorem k0_off75_inb : ∀ (v0 : BitVec 32) (k0_hw3 : k0_chk3 v0), ∀ a, (k0_off75 v0) a + S1.size a ≤ S32.size a := fun v0 k0_hw3 => k0_hw3.2.2.2.2.2.2.1
theorem k0_off77_inb : ∀ (v0 : BitVec 32) (k0_hw3 : k0_chk3 v0), ∀ a, (k0_off77 v0) a + S1.size a ≤ S32.size a := fun v0 k0_hw3 => k0_hw3.2.2.2.2.2.2.2.1
theorem k0_off79_inb : ∀ (v0 : BitVec 32) (k0_hw3 : k0_chk3 v0), ∀ a, (k0_off79 v0) a + S1.size a ≤ S32.size a := fun v0 k0_hw3 => k0_hw3.2.2.2.2.2.2.2.2.1
theorem k0_off81_inb : ∀ (v0 : BitVec 32) (k0_hw3 : k0_chk3 v0), ∀ a, (k0_off81 v0) a + S1.size a ≤ S32.size a := fun v0 k0_hw3 => k0_hw3.2.2.2.2.2.2.2.2.2.1
theorem k0_off83_inb : ∀ (v0 : BitVec 32) (k0_hw3 : k0_chk3 v0), ∀ a, (k0_off83 v0) a + S1.size a ≤ S32.size a := fun v0 k0_hw3 => k0_hw3.2.2.2.2.2.2.2.2.2.2.1
theorem k0_off85_inb : ∀ (v0 : BitVec 32) (k0_hw3 : k0_chk3 v0), ∀ a, (k0_off85 v0) a + S1.size a ≤ S32.size a := fun v0 k0_hw3 => k0_hw3.2.2.2.2.2.2.2.2.2.2.2.1
theorem k0_off87_inb : ∀ (v0 : BitVec 32) (k0_hw3 : k0_chk3 v0), ∀ a, (k0_off87 v0) a + S1.size a ≤ S32.size a := fun v0 k0_hw3 => k0_hw3.2.2.2.2.2.2.2.2.2.2.2.2.1
theorem k0_off89_inb : ∀ (v0 : BitVec 32) (k0_hw3 : k0_chk3 v0), ∀ a, (k0_off89 v0) a + S1.size a ≤ S32.size a := fun v0 k0_hw3 => k0_hw3.2.2.2.2.2.2.2.2.2.2.2.2.2.1
theorem k0_off91_inb : ∀ (v0 : BitVec 32) (k0_hw3 : k0_chk3 v0), ∀ a, (k0_off91 v0) a + S1.size a ≤ S32.size a := fun v0 k0_hw3 => k0_hw3.2.2.2.2.2.2.2.2.2.2.2.2.2.2.1
theorem k0_off93_inb : ∀ (v0 : BitVec 32) (k0_hw3 : k0_chk3 v0), ∀ a, (k0_off93 v0) a + S1.size a ≤ S32.size a := fun v0 k0_hw3 => k0_hw3.2.2.2.2.2.2.2.2.2.2.2.2.2.2.2.1
theorem k0_off95_inb : ∀ (v0 : BitVec 32) (k0_hw3 : k0_chk3 v0), ∀ a, (k0_off95 v0) a + S1.size a ≤ S32.size a := fun v0 k0_hw3 => k0_hw3.2.2.2.2.2.2.2.2.2.2.2.2.2.2.2.2.1
theorem k0_off97_inb : ∀ (v0 : BitVec 32) (k0_hw3 : k0_chk3 v0), ∀ a, (k0_off97 v0) a + S1.size a ≤ S32.size a := fun v0 k0_hw3 => k0_hw3.2.2.2.2.2.2.2.2.2.2.2.2.2.2.2.2.2.1
theorem k0_off99_inb : ∀ (v0 : BitVec 32) (k0_hw3 : k0_chk3 v0), ∀ a, (k0_off99 v0) a + S1.size a ≤ S32.size a := fun v0 k0_hw3 => k0_hw3.2.2.2.2.2.2.2.2.2.2.2.2.2.2.2.2.2.2.1
theorem k0_off101_inb : ∀ (v0 : BitVec 32) (k0_hw3 : k0_chk3 v0), ∀ a, (k0_off101 v0) a + S1.size a ≤ S32.size a := fun v0 k0_hw3 => k0_hw3.2.2.2.2.2.2.2.2.2.2.2.2.2.2.2.2.2.2.2.1
theorem k0_off103_inb : ∀ (v0 : BitVec 32) (k0_hw3 : k0_chk3 v0), ∀ a, (k0_off103 v0) a + S1.size a ≤ S32.size a := fun v0 k0_hw3 => k0_hw3.2.2.2.2.2.2.2.2.2.2.2.2.2.2.2.2.2.2.2.2.1
theorem k0_off105_inb : ∀ (v0 : BitVec 32) (k0_hw3 : k0_chk3 v0), ∀ a, (k0_off105 v0) a + S1.size a ≤ S32.size a := fun v0 k0_hw3 => k0_hw3.2.2.2.2.2.2.2.2.2.2.2.2.2.2.2.2.2.2.2.2.2.1
theorem k0_off107_inb : ∀ (v0 : BitVec 32) (k0_hw3 : k0_chk3 v0), ∀ a, (k0_off107 v0) a + S1.size a ≤ S32.size a := fun v0 k0_hw3 => k0_hw3.2.2.2.2.2.2.2.2.2.2.2.2.2.2.2.2.2.2.2.2.2.2.1
theorem k0_off109_inb : ∀ (v0 : BitVec 32) (k0_hw3 : k0_chk3 v0), ∀ a, (k0_off109 v0) a + S1.size a ≤ S32.size a := fun v0 k0_hw3 => k0_hw3.2.2.2.2.2.2.2.2.2.2.2.2.2.2.2.2.2.2.2.2.2.2.2.1
theorem k0_off111_inb : ∀ (v0 : BitVec 32) (k0_hw3 : k0_chk3 v0), ∀ a, (k0_off111 v0) a + S1.size a ≤ S32.size a := fun v0 k0_hw3 => k0_hw3.2.2.2.2.2.2.2.2.2.2.2.2.2.2.2.2.2.2.2.2.2.2.2.2.1
theorem k0_off113_inb : ∀ (v0 : BitVec 32) (k0_hw3 : k0_chk3 v0), ∀ a, (k0_off113 v0) a + S1.size a ≤ S32.size a := fun v0 k0_hw3 => k0_hw3.2.2.2.2.2.2.2.2.2.2.2.2.2.2.2.2.2.2.2.2.2.2.2.2.2.1
theorem k0_off115_inb : ∀ (v0 : BitVec 32) (k0_hw3 : k0_chk3 v0), ∀ a, (k0_off115 v0) a + S1.size a ≤ S32.size a := fun v0 k0_hw3 => k0_hw3.2.2.2.2.2.2.2.2.2.2.2.2.2.2.2.2.2.2.2.2.2.2.2.2.2.2.1
theorem k0_off117_inb : ∀ (v0 : BitVec 32) (k0_hw3 : k0_chk3 v0), ∀ a, (k0_off117 v0) a + S1.size a ≤ S32.size a := fun v0 k0_hw3 => k0_hw3.2.2.2.2.2.2.2.2.2.2.2.2.2.2.2.2.2.2.2.2.2.2.2.2.2.2.2.1
theorem k0_off119_inb : ∀ (v0 : BitVec 32) (k0_hw3 : k0_chk3 v0), ∀ a, (k0_off119 v0) a + S1.size a ≤ S32.size a := fun v0 k0_hw3 => k0_hw3.2.2.2.2.2.2.2.2.2.2.2.2.2.2.2.2.2.2.2.2.2.2.2.2.2.2.2.2.1
theorem k0_off121_inb : ∀ (v0 : BitVec 32) (k0_hw3 : k0_chk3 v0), ∀ a, (k0_off121 v0) a + S1.size a ≤ S32.size a := fun v0 k0_hw3 => k0_hw3.2.2.2.2.2.2.2.2.2.2.2.2.2.2.2.2.2.2.2.2.2.2.2.2.2.2.2.2.2.1
theorem k0_off123_inb : ∀ (v0 : BitVec 32) (k0_hw3 : k0_chk3 v0), ∀ a, (k0_off123 v0) a + S1.size a ≤ S32.size a := fun v0 k0_hw3 => k0_hw3.2.2.2.2.2.2.2.2.2.2.2.2.2.2.2.2.2.2.2.2.2.2.2.2.2.2.2.2.2.2.1
theorem k0_off125_inb : ∀ (v0 : BitVec 32) (k0_hw3 : k0_chk3 v0), ∀ a, (k0_off125 v0) a + S1.size a ≤ S32.size a := fun v0 k0_hw3 => k0_hw3.2.2.2.2.2.2.2.2.2.2.2.2.2.2.2.2.2.2.2.2.2.2.2.2.2.2.2.2.2.2.2.1
theorem k0_off127_inb : ∀ (v0 : BitVec 32) (k0_hw3 : k0_chk3 v0), ∀ a, (k0_off127 v0) a + S1.size a ≤ S32.size a := fun v0 k0_hw3 => k0_hw3.2.2.2.2.2.2.2.2.2.2.2.2.2.2.2.2.2.2.2.2.2.2.2.2.2.2.2.2.2.2.2.2

def k0_off128 (v5500 : BitVec 32) : Fin 2 → Nat :=
  let c256_i32_6092 : BitVec 32 := 256#32
  let v5501 : BitVec 32 := Scalar.muli v5500 c256_i32_6092
  let v5502 : Index := Scalar.indexCast v5501
  let c0_6093 : Index := 0#32
  ![v5502.toNat, 0]

def k0_chk67 (v5500 : BitVec 32) : Prop :=
  (∀ a, (k0_off128 v5500) a + S256x256.size a ≤ S8192x256.size a)
theorem k0_off128_inb : ∀ (v5500 : BitVec 32) (k0_hw67 : k0_chk67 v5500), ∀ a, (k0_off128 v5500) a + S256x256.size a ≤ S8192x256.size a := fun v5500 k0_hw67 => k0_hw67

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Prog.lean ====
/- The kernel's body as a structured program: a prologue, thirty hops that repeat one text, and an
   epilogue, with the two directions of the ring as one text at a direction. The equality with the
   printed body is by unfolding. -/
module

public import proofs.«01_k».proof.Proof.Gen.KernelIdeal.Launch

@[expose] public section

set_option synthInstance.maxSize 4096

noncomputable section

namespace Cert.KernelIdeal.Ring

open Idealize.ShloMosaic Idealize.SL.Sem Cert.KernelIdeal Cert.KernelIdeal.Gen

variable {F : FTy → Type} [FloatOps F]

/-- What a direction of the ring owns on a device: the buffer of three slots, the cells of the
    copies out of and into it, and the credit. -/
structure Lane where
  cm : Memref sig .tc .vmem S3x256x2048 .bf16
  hcm : cm.IsWhole
  snd : DmaSems sig S3x2
  rcv : DmaSems sig S3x2
  crd : Sems sig S_

/-- The kernel's arguments: the scalars, the ring's table, the two operands, the result, and the two
    directions (`false` passes to the right, `true` to the left). -/
structure Args where
  sc : Memref sig .tc .smem S3 .i32
  tbl : Memref sig .tc .smem S32 .i32
  x : Memref sig .tc .vmem S8192x256 .bf16
  w : Memref sig .tc .vmem S256x4096 .bf16
  out : Memref sig .tc .vmem S256x4096 .f32
  lane : Bool → Lane

/-- A continuation of the body. -/
abbrev Pg (F : FTy → Type) := Prog (TpuEff nD τ sig (Elt F) Λ₀ .tc) PUnit

/-- The slot that hop `h` copies from. -/
def sl (h : ℕ) : Fin 3 := ⟨h % 3, Nat.mod_lt h (by decide)⟩

theorem inb_slot (s : Fin 3) (b : Fin 2) :
    ∀ a, (![s.val, 128 * b.val, 0] : Fin 3 → ℕ) a + S1x128x2048.size a ≤ S3x256x2048.size a := by
  revert s b; decide

theorem inb_cell (s : Fin 3) (b : Fin 2) :
    ∀ a, (![s.val, b.val] : Fin 2 → ℕ) a + S1x1.size a ≤ S3x2.size a := by
  revert s b; decide

/-- The rectangle of half a slot. -/
abbrev slotR (s : Fin 3) (b : Fin 2) : Rect S3x256x2048 :=
  Rect.unit (s := S3x256x2048) ![s.val, 128 * b.val, 0] S1x128x2048.size (inb_slot s b)

/-- Half a slot, as the copies read and write it. -/
abbrev slotM (cm : Memref sig .tc .vmem S3x256x2048 .bf16) (s : Fin 3) (b : Fin 2) :
    Memref sig .tc .vmem S128x2048 .bf16 :=
  (cm.slice (slotR s b) (fun _ => rfl)).squeeze S128x2048 squeezes_S1x128x2048_S128x2048

/-- A cell of an array of cells. -/
abbrev cellS (a : DmaSems sig S3x2) (s : Fin 3) (b : Fin 2) : DmaSem sig :=
  ((a.slice (Rect.unit (s := S3x2) ![s.val, b.val] S1x1.size (inb_cell s b))).squeeze S_
    squeezes_S1x1_S_).sem

theorem slot_words (s : Fin 3) (b : Fin 2) : (slotR s b).WholeWords (EltTy.packing .bf16) := by
  match s, b with
  | 0, 0 => exact wordsbf16_S3x256x2048_S1x128x2048_0_0_0
  | 0, 1 => exact wordsbf16_S3x256x2048_S1x128x2048_0_128_0
  | 1, 0 => exact wordsbf16_S3x256x2048_S1x128x2048_1_0_0
  | 1, 1 => exact wordsbf16_S3x256x2048_S1x128x2048_1_128_0
  | 2, 0 => exact wordsbf16_S3x256x2048_S1x128x2048_2_0_0
  | 2, 1 => exact wordsbf16_S3x256x2048_S1x128x2048_2_128_0

theorem slot_packed (s : Fin 3) (b : Fin 2) : (slotR s b).PackedRows (EltTy.packing .bf16) := by
  match s, b with
  | 0, 0 => exact packedbf16_S3x256x2048_S1x128x2048_0_0_0
  | 0, 1 => exact packedbf16_S3x256x2048_S1x128x2048_0_128_0
  | 1, 0 => exact packedbf16_S3x256x2048_S1x128x2048_1_0_0
  | 1, 1 => exact packedbf16_S3x256x2048_S1x128x2048_1_128_0
  | 2, 0 => exact packedbf16_S3x256x2048_S1x128x2048_2_0_0
  | 2, 1 => exact packedbf16_S3x256x2048_S1x128x2048_2_128_0

/-! ## Words -/

/-- The remainder modulo 32 that is never negative, as the kernel computes it. -/
def wrap (x : BitVec 32) : BitVec 32 :=
  let m : BitVec 32 := Scalar.select (Scalar.cmpi .eq 32#32 0#32) 1#32 32#32
  let r : BitVec 32 := Scalar.remsi x m
  Scalar.select
    (Scalar.andi (Scalar.xori (Scalar.cmpi .slt r 0#32) (Scalar.cmpi .slt m 0#32)) (Scalar.cmpi .ne r 0#32))
    (Scalar.addi r m) r

/-- The kernel's remainder is the one of the integers. -/
theorem wrap_toNat (x : BitVec 32) : (wrap x).toNat = (x.toInt % 32).toNat := by
  have hm : (Scalar.select (Scalar.cmpi .eq (32#32) 0#32) (1#32) (32#32) : BitVec 32) = 32#32 := by decide
  have hs : Scalar.remsi x 32#32 = x.srem 32#32 := by
    show IntOp.remsi .scalar x 32#32 = _
    exact IntOp.remsi_of_pos _ (by decide)
  have hr : (x.srem 32#32).toInt = x.toInt.tmod 32 := by
    rw [BitVec.toInt_srem]; rfl
  simp only [wrap, hm, hs]
  generalize x.srem 32#32 = r at hr
  have hb := BitVec.toInt_eq_toNat_cond r
  have hz : Scalar.cmpi .slt (32#32) 0#32 = 0#1 := by decide
  rw [hz]
  have hlt := r.isLt
  have h3 : r.toInt = x.toInt % 32 ∨ r.toInt = x.toInt % 32 - 32 ∧ x.toInt % 32 ≠ 0 := by
    rw [hr, Int.tmod_eq_emod]
    split
    · left; simp
    · rename_i h
      right
      refine ⟨rfl, fun h0 => h (.inr (Int.dvd_of_emod_eq_zero h0))⟩
  by_cases hn : r.toInt < 0
  · have ha : Scalar.cmpi .slt r 0#32 = 1#1 := by
      simp [Scalar.cmpi, IntOp.cmpi, BitVec.slt, hn]
    have hb' : Scalar.cmpi .ne r 0#32 = 1#1 := by
      have : r ≠ 0#32 := by rintro rfl; simp at hn
      show BitVec.ofBool (r != 0#32) = 1#1
      rw [bne_iff_ne.mpr this]; rfl
    rw [ha, hb']
    have : Scalar.select (Scalar.andi (Scalar.xori (1#1) 0#1) 1#1) (Scalar.addi r 32#32) r = r + 32#32 := by
      rfl
    rw [this, BitVec.toNat_add]
    rw [show (32#32 : BitVec 32).toNat = 32 from rfl]
    split at hb <;> omega
  · have ha : Scalar.cmpi .slt r 0#32 = 0#1 := by
      simp [Scalar.cmpi, IntOp.cmpi, BitVec.slt, hn]
    rw [ha]
    have : Scalar.select (Scalar.andi (Scalar.xori (0#1) 0#1) (Scalar.cmpi .ne r 0#32)) (Scalar.addi r 32#32) r = r := by
      have h0 : Scalar.andi (Scalar.xori (0#1) 0#1) (Scalar.cmpi .ne r 0#32) = 0#1 := by
        generalize Scalar.cmpi .ne r 0#32 = y
        revert y; decide
      rw [h0]; rfl
    rw [this]
    split at hb <;> omega

theorem wrap_lt (x : BitVec 32) : (wrap x).toNat < 32 := by
  rw [wrap_toNat]; omega

/-- The entry of the ring's table that a chunk's word names. -/
def tblOff (x : BitVec 32) : Fin 1 → ℕ := ![(Scalar.indexCast (wrap x)).toNat]

theorem tblOff_inb (x : BitVec 32) : ∀ a, tblOff x a + S1.size a ≤ S32.size a := by
  intro a
  match a with
  | 0 => exact wrap_lt x

/-- The chunk that the first hop sends. -/
def chunk0 (ℓ : Bool) (v : BitVec 32) : BitVec 32 :=
  match ℓ with
  | false => Scalar.subi (Scalar.subi (Scalar.addi v 64#32) 1#32) 0#32
  | true => Scalar.addi (Scalar.addi v 1#32) 0#32

/-- The chunk that arrives with hop `h`. -/
def chunkAt (ℓ : Bool) (v : BitVec 32) (h : ℕ) : BitVec 32 :=
  match ℓ with
  | false => Scalar.subi (Scalar.subi (Scalar.addi v 64#32) 2#32) (BitVec.ofNat 32 h)
  | true => Scalar.addi (Scalar.addi v 2#32) (BitVec.ofNat 32 h)

/-- The device that a word names. -/
def devN (v : BitVec 32) : ℕ := (Scalar.addi 0#32 (Scalar.muli v 1#32)).toNat

/-- Whether the rows that a word names lie in the operand. -/
abbrev rowOk (v : BitVec 32) : Prop := k0_chk4 v

/-- The first column of a direction. -/
def lo (ℓ : Bool) : ℕ := match ℓ with | false => 0 | true => 2048

theorem inb_w (ℓ : Bool) : ∀ a, (![0, lo ℓ] : Fin 2 → ℕ) a + S256x2048.size a ≤ S256x4096.size a := by
  revert ℓ; decide

theorem inb_out (ℓ : Bool) (b : Fin 2) :
    ∀ a, (![128 * b.val, lo ℓ] : Fin 2 → ℕ) a + S128x2048.size a ≤ S256x4096.size a := by
  revert ℓ b; decide

theorem slices_half (b : Fin 2) : S256x2048.Slices ![128 * b.val, 0] S128x2048 := by
  match b with
  | 0 => exact slices_S256x2048_o0_0_S128x2048
  | 1 => exact slices_S256x2048_o128_0_S128x2048

/-! ## Pieces of the body -/

/-- Half the rows of a partial product. -/
abbrev half (b : Fin 2) (p : FVec F S256x2048 .f32) : FVec F S128x2048 .f32 :=
  extractStridedSlice S128x2048 ![128 * b.val, 0] p (slices_half b)

/-- The product of a block of rows with a direction's columns. -/
abbrev product (x : Vec F S256x256 .bf16) (w : Vec F S256x2048 .bf16) : FVec F S256x2048 .f32 :=
  matmul dot_S256x256_S256x2048_S256x2048_1_0_0_1_n_n none
    (shapeCast S256x256 x shapeCasts_S256x256_S256x256)
    (shapeCast S256x2048 w shapeCasts_S256x2048_S256x2048)
    (constant S256x2048 .f32 0x00000000#32)

/-- Half a product added to what arrived. -/
abbrev accum (b : Fin 2) (p : FVec F S256x2048 .f32) (r : Vec F S1x128x2048 .bf16) : FVec F S128x2048 .f32 :=
  addf (half b p) (extf .f32 (shapeCast S128x2048 r shapeCasts_S1x128x2048_S128x2048) bitsLt_bf16_f32)

/-- The rows of the operand that a word names. -/
abbrev rowsR (v : BitVec 32) (hv : rowOk v) : Rect S8192x256 :=
  Rect.unit (s := S8192x256) (k0_off2 v) S256x256.size hv

/-- A direction's columns of the weight. -/
abbrev colsR (ℓ : Bool) : Rect S256x4096 :=
  Rect.unit (s := S256x4096) ![0, lo ℓ] S256x2048.size (inb_w ℓ)

/-- Half the rows of a direction's columns of the result. -/
abbrev outR (ℓ : Bool) (b : Fin 2) : Rect S256x4096 :=
  Rect.unit (s := S256x4096) ![128 * b.val, lo ℓ] S128x2048.size (inb_out ℓ b)

/-- The partial product of the chunk that a word names. -/
def partialP (A : Args) (ℓ : Bool) (x : BitVec 32) (k : FVec F S256x2048 .f32 → Pg F) : Pg F :=
  (smemLoad A.tbl (Rect.unit (s := S32) (tblOff x) S1.size (tblOff_inb x)) numel1_S1 rfl).bind fun (v : Elt F .i32) =>
  Prog.op (TpuEff.assume (k0_chk4 v) (k0_chk4.dec v)) fun hv =>
  .op (.load A.x (rowsR v hv.down).toLoadRect (View.loadsAt_vmem h_S256x256)) fun xs =>
  .op (.load A.w (colsR ℓ).toLoadRect (View.loadsAt_vmem h_S256x2048)) fun ws =>
  k (product xs ws)

/-- Start the copy of half the slot of hop `h` to the neighbour. -/
def startP (L : Lane) (tgt : Dev nD) (h : ℕ) (b : Fin 2) (k : Pg F) : Pg F :=
  .op (.enqueueDma (slotM L.cm (sl h) b)
      (.remote (Dev.tc tgt) (slotM L.cm (sl (h + 1)) b) (.dma (cellS L.snd (sl h) b)))
      (.dma (cellS L.rcv (sl (h + 1)) b))
      ((L.hcm.wordExact_slice rfl _ (slot_words (sl h) b)).reshape _ _)
      ((L.hcm.wordExact_slice rfl _ (slot_words (sl (h + 1)) b)).reshape _ _)
      ⟨⟨rfl, Or.inl rfl⟩, trivial⟩) fun _ => k

/-- Wait for half the slot that hop `h` brings. -/
def recvP (L : Lane) (h : ℕ) (b : Fin 2) (k : Pg F) : Pg F :=
  .op (.waitDma2 (cellS L.rcv (sl (h + 1)) b) (slotM L.cm (sl h) b) (slotM L.cm (sl (h + 1)) b)
      ((L.hcm.wordExact_slice rfl _ (slot_words (sl h) b)).reshape _ _)
      ((L.hcm.wordExact_slice rfl _ (slot_words (sl (h + 1)) b)).reshape _ _)) fun _ => k

/-- Wait until half the slot of hop `h` has been read. -/
def sentP (L : Lane) (h : ℕ) (b : Fin 2) (k : Pg F) : Pg F :=
  .op (.waitDma2 (cellS L.snd (sl h) b) (slotM L.cm (sl (h + 1)) b) (slotM L.cm (sl h) b)
      ((L.hcm.wordExact_slice rfl _ (slot_words (sl (h + 1)) b)).reshape _ _)
      ((L.hcm.wordExact_slice rfl _ (slot_words (sl h) b)).reshape _ _)) fun _ => k

/-- Fill the first slot with the first chunk and start its copies. -/
def firstP (L : Lane) (tgt : Dev nD) (p : FVec F S256x2048 .f32) (k : Pg F) : Pg F :=
  .op (.load L.cm (Rect.unit (s := S3x256x2048) ![0, 0, 0] S1x256x2048.size
      inb_S3x256x2048_S1x256x2048_0_0_0).toLoadRect (View.loadsAt_vmem h_S1x256x2048)) fun _ =>
  .op (.store L.cm (Rect.unit (s := S3x256x2048) ![0, 0, 0] S1x256x2048.size
      inb_S3x256x2048_S1x256x2048_0_0_0)
      (shapeCast S1x256x2048 (truncf .bf16 p bitsLt_bf16_f32) shapeCasts_S256x2048_S1x256x2048) Finset.univ
      (View.stores_vmem h_S1x256x2048 (L.hcm.storeExact_slice rfl _
        packedbf16_S3x256x2048_S1x256x2048_0_0_0) (fun _ => rfl)) (.inl rfl)) fun _ =>
  startP L tgt 0 0 <| startP L tgt 0 1 k

/-- Add half a product to what hop `j` brought, and start hop `j + 1` with it. -/
def passP (L : Lane) (tgt : Dev nD) (j : ℕ) (b : Fin 2) (p : FVec F S256x2048 .f32) (k : Pg F) : Pg F :=
  recvP L j b <|
  .op (.load L.cm (slotR (sl (j + 1)) b).toLoadRect (View.loadsAt_vmem h_S1x128x2048)) fun r =>
  .op (.load L.cm (slotR (sl (j + 1)) b).toLoadRect (View.loadsAt_vmem h_S1x128x2048)) fun _ =>
  .op (.store L.cm (slotR (sl (j + 1)) b)
      (shapeCast S1x128x2048 (truncf .bf16 (accum b p r) bitsLt_bf16_f32) shapeCasts_S128x2048_S1x128x2048)
      Finset.univ
      (View.stores_vmem h_S1x128x2048 (L.hcm.storeExact_slice rfl _ (slot_packed (sl (j + 1)) b))
        (fun _ => rfl)) (.inl rfl)) fun _ =>
  startP L tgt (j + 1) b k

/-- One more credit for the device upstream, while hops remain that need it. -/
def giveP (L : Lane) (up : Dev nD) (j : ℕ) (k : Pg F) : Pg F :=
  bif Nat.blt j 29 then (semSignalWord up L.crd.sem 1#32).bind fun _ => k else k

/-- Wait for a credit, from the second hop on. -/
def takeP (L : Lane) (j : ℕ) (k : Pg F) : Pg F :=
  bif Nat.blt 0 j then (semWaitWord L.crd.sem 1#32).bind fun _ => k else k

/-- The neighbour that a direction passes to, of the left and right ones. -/
def tgtOf (lf rt : Dev nD) (ℓ : Bool) : Dev nD := match ℓ with | false => rt | true => lf

/-- The neighbour that a direction receives from. -/
def upOf (lf rt : Dev nD) (ℓ : Bool) : Dev nD := match ℓ with | false => lf | true => rt

/-- The step between hop `j` and hop `j + 1`. -/
def stepP (A : Args) (v0 : BitVec 32) (lf rt : Dev nD) (j : ℕ) (p q : FVec F S256x2048 .f32)
    (k : FVec F S256x2048 .f32 → FVec F S256x2048 .f32 → Pg F) : Pg F :=
  takeP (A.lane false) j <| takeP (A.lane true) j <|
  passP (A.lane false) rt j 0 p <| passP (A.lane true) lf j 0 q <|
  passP (A.lane false) rt j 1 p <| passP (A.lane true) lf j 1 q <|
  sentP (A.lane false) j 0 <| sentP (A.lane false) j 1 <| giveP (A.lane false) lf j <|
  sentP (A.lane true) j 0 <| sentP (A.lane true) j 1 <| giveP (A.lane true) rt j <|
  partialP A false (chunkAt false v0 (j + 1)) fun p =>
  partialP A true (chunkAt true v0 (j + 1)) fun q => k p q

/-- Steps `j`, …, `j + n - 1`. -/
def stepsP (A : Args) (v0 : BitVec 32) (lf rt : Dev nD) :
    (n j : ℕ) → (p q : FVec F S256x2048 .f32) →
    (k : FVec F S256x2048 .f32 → FVec F S256x2048 .f32 → Pg F) → Pg F
  | 0, _, p, q, k => k p q
  | n + 1, j, p, q, k => stepP A v0 lf rt j p q fun p q => stepsP A v0 lf rt n (j + 1) p q k

/-- Store half a result from what the last hop brought. -/
def lastP (A : Args) (ℓ : Bool) (b : Fin 2) (p : FVec F S256x2048 .f32) (k : Pg F) : Pg F :=
  recvP (A.lane ℓ) 30 b <|
  .op (.load (A.lane ℓ).cm (slotR (sl 31) b).toLoadRect (View.loadsAt_vmem h_S1x128x2048)) fun r =>
  .op (.load A.out (outR ℓ b).toLoadRect (View.loadsAt_vmem h_S128x2048)) fun _ =>
  .op (.store A.out (outR ℓ b) (accum b p r) Finset.univ
      (View.stores_vmem_bits_univ h_S128x2048 rfl) (.inl rfl)) fun _ => k

/-- What follows the last step. -/
def epilogueP (A : Args) (p q : FVec F S256x2048 .f32) : Pg F :=
  lastP A false 0 p <| lastP A true 0 q <| lastP A false 1 p <| lastP A true 1 q <|
  sentP (A.lane false) 30 0 <| sentP (A.lane false) 30 1 <|
  sentP (A.lane true) 30 0 <| sentP (A.lane true) 30 1 <| .ret ⟨⟩

/-- The barrier's cell. -/
abbrev barSem : Sem sig := (SemArray.scalar (sig.barrier 0 rfl) : Sems sig S_).sem

/-- The barrier among neighbours. -/
def barrierP (lf rt : Dev nD) (k : Pg F) : Pg F :=
  (semSignalWord lf barSem 1#32).bind fun _ =>
  (semSignalWord rt barSem 1#32).bind fun _ =>
  (semWaitWord barSem 2#32).bind fun _ => k

/-- What follows the barrier. -/
def ringP (A : Args) (v0 : BitVec 32) (lf rt : Dev nD) : Pg F :=
  partialP A false (chunk0 false v0) fun p => firstP (A.lane false) rt p <|
  partialP A true (chunk0 true v0) fun q => firstP (A.lane true) lf q <|
  partialP A false (chunkAt false v0 0) fun p => partialP A true (chunkAt true v0 0) fun q =>
  stepsP A v0 lf rt 30 0 p q (epilogueP A)

/-- The whole body. -/
def bodyP (A : Args) : Pg F :=
  (smemLoad A.sc (Rect.unit (s := S3) ![0] S1.size inb_S3_S1_0) numel1_S1 rfl).bind fun (v0 : Elt F .i32) =>
  Prog.op (TpuEff.assume (k0_chk3 v0) (k0_chk3.dec v0)) fun h0 =>
  (smemLoad A.sc (Rect.unit (s := S3) ![1] S1.size inb_S3_S1_1) numel1_S1 rfl).bind fun (v1 : Elt F .i32) =>
  Prog.op (TpuEff.assume (k0_chk1 v1) (k0_chk1.dec v1)) fun h1 =>
  (smemLoad A.sc (Rect.unit (s := S3) ![2] S1.size inb_S3_S1_2) numel1_S1 rfl).bind fun (v2 : Elt F .i32) =>
  Prog.op (TpuEff.assume (k0_chk2 v2) (k0_chk2.dec v2)) fun h2 =>
  barrierP ⟨devN v1, k0_dev1_lt v1 h1.down⟩ ⟨devN v2, k0_dev2_lt v2 h2.down⟩ <|
  ringP A v0 ⟨devN v1, k0_dev1_lt v1 h1.down⟩ ⟨devN v2, k0_dev2_lt v2 h2.down⟩

end Cert.KernelIdeal.Ring
-- ==== Proof.Proto.lean ====
/- The protocol of the ring: its cells, who pays each of them in which round and what a payment hands
   over, the levels that order the waits, and what a device still owes between two steps. -/
module

public import proofs.«01_k».proof.Proof.Prog
public import Idealize.ShloMosaic.Lib.Rounds
public import Idealize.ShloMosaic.Lib.Rounds.Family
public import Idealize.ShloMosaic.Lib.Release
public import Idealize.ShloMosaic.Lib.Ring
public import Idealize.SL.BI.BigOpNat
public import Mathlib.Tactic.Abel
public import Mathlib.Tactic.DeriveFintype
public import Idealize.ShloMosaic.Lib.Pipeline.Kit
public import Idealize.ShloMosaic.Lib.Pipeline.Regions
public import Idealize.ShloMosaic.Lib.Pipeline.RegionTalk

@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ## The ring -/

/-- The device at a place of the ring. -/
def mesh (k : Fin 32) : Dev nD :=
  (![0, 3, 4, 7, 15, 12, 11, 8, 16, 19, 20, 23, 31, 28, 27, 24, 25, 26, 29, 30, 22, 21, 18, 17, 9, 10,
    13, 14, 6, 5, 2, 1] : Fin 32 → Fin 32) k

/-- A device's place in the ring. -/
def pos (c : Dev nD) : Fin 32 :=
  (![0, 31, 30, 1, 2, 29, 28, 3, 7, 24, 25, 6, 5, 26, 27, 4, 8, 23, 22, 9, 10, 21, 20, 11, 15, 16, 17,
    14, 13, 18, 19, 12] : Fin 32 → Fin 32) c

theorem mesh_pos (c : Dev nD) : mesh (pos c) = c := by revert c; decide
theorem pos_mesh (k : Fin 32) : pos (mesh k) = k := by revert k; decide

/-- The neighbour that a direction passes to. -/
def tgt (ℓ : Bool) (c : Dev nD) : Dev nD := match ℓ with | false => mesh (pos c + 1) | true => mesh (pos c - 1)

/-- The neighbour that a direction receives from. -/
def up (ℓ : Bool) (c : Dev nD) : Dev nD := tgt (!ℓ) c

theorem add_back (k : Fin 32) : k + 1 - 1 = k := by revert k; decide
theorem sub_back (k : Fin 32) : k - 1 + 1 = k := by revert k; decide

theorem up_tgt (ℓ : Bool) (c : Dev nD) : up ℓ (tgt ℓ c) = c := by
  cases ℓ <;> simp [up, tgt, pos_mesh, mesh_pos, add_back, sub_back]

theorem tgt_up (ℓ : Bool) (c : Dev nD) : tgt ℓ (up ℓ c) = c := by
  cases ℓ <;> simp [up, tgt, pos_mesh, mesh_pos, add_back, sub_back]

/-- A direction of the ring on a device. -/
def lane : Bool → Lane
  | false => ⟨Memref.whole cc0_scratch0, Memref.isWhole_whole _, cc0_scratch2, cc0_scratch3, cc0_scratch6⟩
  | true => ⟨Memref.whole cc0_scratch1, Memref.isWhole_whole _, cc0_scratch4, cc0_scratch5, cc0_scratch7⟩

/-! ## Cells -/

/-- The cells of the protocol on a device: the barrier, those of the copies that leave and arrive, and
    the credit. -/
inductive Cell
  | bar
  | snd (ℓ : Bool) (s : Fin 3) (b : Fin 2)
  | rcv (ℓ : Bool) (s : Fin 3) (b : Fin 2)
  | crd (ℓ : Bool)
  deriving DecidableEq, Fintype

/-- The semaphore that a cell is. -/
def semOf : Cell → SemLoc sig
  | .bar => .reg barSem
  | .snd ℓ s b => .dma (cellS (lane ℓ).snd s b)
  | .rcv ℓ s b => .dma (cellS (lane ℓ).rcv s b)
  | .crd ℓ => .reg (lane ℓ).crd.sem

/-- The half of a slot that a number names within six. -/
def cellAt (mk : Fin 3 → Fin 2 → Cell) (r : ℕ) : Cell :=
  mk ⟨r / 2 % 3, Nat.mod_lt _ (by decide)⟩ ⟨r % 2, Nat.mod_lt _ (by decide)⟩

/-- The cell that a semaphore is. -/
def decode : SemLoc sig → Option Cell
  | .reg i => if i.val = 0 then some (.crd false) else if i.val = 1 then some (.crd true) else some .bar
  | .dma i =>
    if i.val < 5 then none else
    if i.val < 11 then some (cellAt (.snd false) (i.val - 5)) else
    if i.val < 17 then some (cellAt (.rcv false) (i.val - 11)) else
    if i.val < 23 then some (cellAt (.snd true) (i.val - 17)) else
    some (cellAt (.rcv true) (i.val - 23))

theorem decode_semOf (x : Cell) : decode (semOf x) = some x := by
  rcases x with _ | ⟨ℓ, s, b⟩ | ⟨ℓ, s, b⟩ | ℓ
  · rfl
  · revert ℓ s b; decide
  · revert ℓ s b; decide
  · revert ℓ; decide

theorem semOf_injective : Function.Injective semOf := fun x y h => by
  have := congrArg decode h
  rw [decode_semOf, decode_semOf] at this
  exact Option.some.inj this

/-- A cell of a device. -/
abbrev cell (c : Dev nD) (x : Cell) : GSem nD τ sig := ((c : Thread nD τ), semOf x)

/-- The cell that hop `i` of a direction raises when its copy has landed. -/
abbrev rcvAt (c : Dev nD) (ℓ : Bool) (b : Fin 2) (i : ℕ) : GSem nD τ sig := cell c (.rcv ℓ (sl (i + 1)) b)
/-- The cell that hop `i` of a direction raises when its source has been read. -/
abbrev sndAt (c : Dev nD) (ℓ : Bool) (b : Fin 2) (i : ℕ) : GSem nD τ sig := cell c (.snd ℓ (sl i) b)

theorem cell_inj {c c' : Dev nD} {x y : Cell} (h : cell c x = cell c' y) : c = c' ∧ x = y := by
  have h1 := congrArg (fun g => g.1.1) h
  have h2 := congrArg (fun g => g.2) h
  exact ⟨h1, semOf_injective h2⟩

/-! ## The resource algebra -/

/-- A slot that waits for its next copy: the device whose slot it is, the direction, the half, the hop
    that fills it. -/
abbrev Key : Type := Dev nD × Bool × Fin 2 × ℕ

abbrev UA : Type := URounds (GSem nD τ sig) ℕ
abbrev UB : Type := USlots Key
abbrev UU : Type := UR sig nD τ × (UA × UB)

local notation "𝕄" => MT nD τ sig ℕ (Elt F) ℕ UU ℕ

abbrev EP : Emb (UR sig nD τ) (MT nD τ sig ℕ (Elt F) ℕ UU ℕ) := embL
def ER : Emb UA (MT nD τ sig ℕ (Elt F) ℕ UU ℕ) := (Emb.inl : Emb UA (UA × UB)).trans embR
def EK : Emb UB (MT nD τ sig ℕ (Elt F) ℕ UU ℕ) := (Emb.inr : Emb UB (UA × UB)).trans embR

instance ER_lands : (ER (F := F)).LandsIn (upEmb : UEmb _ 𝕄) := by unfold ER; infer_instance
instance EK_lands : (EK (F := F)).LandsIn (upEmb : UEmb _ 𝕄) := by unfold EK; infer_instance

/-! ## Slots -/

/-- What a half slot of a device holds. -/
abbrev slotF (F : FTy → Type) (c : Dev nD) (ℓ : Bool) (s : Fin 3) (b : Fin 2) : Type :=
  Buf (Elt F) ((slotM (lane ℓ).cm s b).view.loc (c : Thread nD τ))

/-- Half a slot of a device at given contents of its buffer. -/
abbrev slotPts (c : Dev nD) (ℓ : Bool) (s : Fin 3) (b : Fin 2) (f : slotF F c ℓ s b) : sProp 𝕄 :=
  (slotM (lane ℓ).cm s b).view.loc (c : Thread nD τ) ↦[(slotM (lane ℓ).cm s b).view.set]{fullShare} f

/-- Half a slot of a device at any contents. -/
def slotAny (c : Dev nD) (ℓ : Bool) (s : Fin 3) (b : Fin 2) : sProp 𝕄 :=
  Release.slot ((slotM (lane ℓ).cm s b).view.loc (c : Thread nD τ)) (slotM (lane ℓ).cm s b).view.set

/-- Half a slot of a device that reads a given value. -/
def slotV (c : Dev nD) (ℓ : Bool) (s : Fin 3) (b : Fin 2) (v : FVec F S128x2048 .bf16) : sProp 𝕄 :=
  iprop(∃ f : slotF F c ℓ s b, ⌜(slotM (lane ℓ).cm s b).view.read (Elt F) f = v⌝ ∗ slotPts c ℓ s b f)

theorem slotV_any (c : Dev nD) (ℓ : Bool) (s : Fin 3) (b : Fin 2) (v : FVec F S128x2048 .bf16) :
    slotV c ℓ s b v ⊢ slotAny c ℓ s b := by
  unfold slotV slotAny Release.slot
  iintro ⟨%f, -, H⟩
  iexists f; iexact H

theorem slot_nonempty (ℓ : Bool) (s : Fin 3) (b : Fin 2) : (slotM (lane ℓ).cm s b).view.set.Nonempty :=
  ⟨_, Finset.mem_map.mpr ⟨Shape.Idx.first (by decide), Finset.mem_univ _, rfl⟩⟩

theorem slotAny_false (c : Dev nD) (ℓ : Bool) (s : Fin 3) (b : Fin 2) :
    iprop(slotAny c ℓ s b ∗ slotAny c ℓ s b) ⊢ (False : sProp 𝕄) :=
  Release.slot_slot_false (slot_nonempty ℓ s b)

instance slotAny_storable (c : Dev nD) (ℓ : Bool) (s : Fin 3) (b : Fin 2) :
    BI.Storable (upEmb : UEmb _ 𝕄) (slotAny (F := F) c ℓ s b) := by unfold slotAny; infer_instance
instance slotV_storable (c : Dev nD) (ℓ : Bool) (s : Fin 3) (b : Fin 2) (v : FVec F S128x2048 .bf16) :
    BI.Storable (upEmb : UEmb _ 𝕄) (slotV (F := F) c ℓ s b v) := by unfold slotV; infer_instance

/-- The elements that a copy of half a slot credits. -/
def N : ℕ := (slotM (lane false).cm 0 0).view.dmaCredit

theorem credit_eq (ℓ : Bool) (s : Fin 3) (b : Fin 2) : (slotM (lane ℓ).cm s b).view.dmaCredit = N := by
  cases ℓ <;> rfl

theorem N_pos : 0 < N := View.dmaCredit_pos _ (by decide)

/-! ## Values -/

section Values

variable (pr : Dev nD → Bool → ℕ → FVec F S256x2048 .f32)

/-- What arrived, added to half a product. -/
abbrev acc (b : Fin 2) (p : FVec F S256x2048 .f32) (r : FVec F S128x2048 .bf16) : FVec F S128x2048 .f32 :=
  addf (half b p) (extf .f32 r bitsLt_bf16_f32)

/-- What a device sends with a hop, from its products hop by hop. -/
def sent : ℕ → Dev nD → Bool → Fin 2 → FVec F S128x2048 .bf16
  | 0, c, ℓ, b => truncf .bf16 (half b (pr c ℓ 0)) bitsLt_bf16_f32
  | i + 1, c, ℓ, b => truncf .bf16 (acc b (pr c ℓ (i + 1)) (sent i (up ℓ c) ℓ b)) bitsLt_bf16_f32

end Values

/-! ## The schedule -/

/-- A device's slots are free for the hops before `m`, and its cells are ready for them. -/
def ready (c : Dev nD) (ℓ : Bool) (m : ℕ) : sProp 𝕄 :=
  bigSep (Finset.univ ×ˢ Finset.range m : Finset (Fin 2 × ℕ)) fun q =>
    iprop(released EK ((c, ℓ, q.1, q.2) : Key) 1 ∗ reached ER (rcvAt c ℓ q.1 q.2) (q.2 / 3))

instance ready_persistent (c : Dev nD) (ℓ : Bool) (m : ℕ) : BI.Persistent (ready (F := F) c ℓ m) := by
  unfold ready; infer_instance
instance ready_storable (c : Dev nD) (ℓ : Bool) (m : ℕ) :
    BI.Storable (upEmb : UEmb _ 𝕄) (ready (F := F) c ℓ m) := by
  unfold ready; infer_instance

/-- The direction that the barrier's duty `d` prepares. -/
def dirOf (d : ℕ) : Bool := d == 1

/-- The hop that fills a slot in a round. -/
def hopOf (s : Fin 3) (r : ℕ) : ℕ := 3 * r + (s.val + 2) % 3

variable (pr : Dev nD → Bool → ℕ → FVec F S256x2048 .f32)

/-- The duties of a round. -/
def dutiesX : Cell → ℕ → Finset ℕ
  | .bar, r => if r = 0 then {0, 1} else ∅
  | .snd _ s _, r => if 3 * r + s.val < 31 then {0} else ∅
  | .rcv _ s _, r => if hopOf s r < 31 then {0} else ∅
  | .crd _, r => if r = 0 then Finset.range 29 else ∅

/-- What a duty credits. -/
def amountX : Cell → ℕ
  | .bar => 1
  | .snd _ _ _ => N
  | .rcv _ _ _ => N
  | .crd _ => 1

/-- What a duty hands over. -/
def payX (c : Dev nD) : Cell → ℕ → ℕ → sProp 𝕄
  | .bar, _, d => iprop(ready (tgt (dirOf d) c) (dirOf d) 2 ∗ reached ER (cell (tgt (dirOf d) c) (.crd (!(dirOf d)))) 0)
  | .snd ℓ s b, _, _ => slotAny c ℓ s b
  | .rcv ℓ s b, r, _ => slotV c ℓ s b (sent pr (hopOf s r) (up ℓ c) ℓ b)
  | .crd ℓ, _, d => ready (tgt ℓ c) ℓ (d + 3)

theorem amountX_pos (x : Cell) : 0 < amountX x := by
  cases x <;> first | exact Nat.one_pos | exact N_pos

instance payX_storable (c : Dev nD) (x : Cell) (r d : ℕ) : BI.Storable (upEmb : UEmb _ 𝕄) (payX pr c x r d) := by
  cases x <;> (unfold payX; infer_instance)

/-- The schedule of every cell of the machine. -/
def Rd : Rounds.Schedule (GSem nD τ sig) ℕ 𝕄 where
  duties g r := if g.1.2 = .tc then match decode g.2 with | some x => dutiesX x r | none => ∅ else ∅
  amount g _ _ := match decode g.2 with | some x => amountX x | none => 1
  payload g r d := match decode g.2 with | some x => payX pr g.1.1 x r d | none => iprop(emp)
  amount_pos g _ _ _ := by
    cases decode g.2 with
    | none => exact Nat.one_pos
    | some x => exact amountX_pos x

instance Rd_storable (g : GSem nD τ sig) (r d : ℕ) :
    BI.Storable (upEmb : UEmb _ 𝕄) ((Rd (F := F) pr).payload g r d) := by
  show BI.Storable upEmb (match decode g.2 with | some x => payX pr g.1.1 x r d | none => iprop(emp))
  cases decode g.2 <;> infer_instance

theorem duties_cell (c : Dev nD) (x : Cell) (r : ℕ) : (Rd (F := F) pr).duties (cell c x) r = dutiesX x r := by
  dsimp only [Rd]; rw [if_pos rfl, decode_semOf]

theorem amount_cell (c : Dev nD) (x : Cell) (r d : ℕ) : (Rd (F := F) pr).amount (cell c x) r d = amountX x := by
  dsimp only [Rd]; rw [decode_semOf]

theorem payload_cell (c : Dev nD) (x : Cell) (r d : ℕ) : (Rd (F := F) pr).payload (cell c x) r d = payX pr c x r d := by
  dsimp only [Rd]; rw [decode_semOf]

theorem expect_cell (c : Dev nD) (x : Cell) (r : ℕ) :
    (Rd (F := F) pr).expect (cell c x) r = (dutiesX x r).card * amountX x := by
  unfold Schedule.expect Schedule.amountOf
  rw [duties_cell, Finset.sum_congr rfl (fun d _ => amount_cell pr c x r d), Finset.sum_const, smul_eq_mul]

/-! ## Which hop a round of a cell is -/

theorem sl_val (h : ℕ) : (sl h).val = h % 3 := rfl

theorem sl_add3 (h : ℕ) : sl (h + 3) = sl h := Fin.ext (by simp [sl])

theorem hopOf_sl (i : ℕ) : hopOf (sl (i + 1)) (i / 3) = i := by
  unfold hopOf; rw [sl_val]; omega

theorem duties_rcv (c : Dev nD) (ℓ : Bool) (b : Fin 2) {i : ℕ} (hi : i < 31) :
    (Rd (F := F) pr).duties (rcvAt c ℓ b i) (i / 3) = {0} := by
  rw [duties_cell]; dsimp only [dutiesX]; rw [hopOf_sl, if_pos hi]

theorem duties_snd (c : Dev nD) (ℓ : Bool) (b : Fin 2) {i : ℕ} (hi : i < 31) :
    (Rd (F := F) pr).duties (sndAt c ℓ b i) (i / 3) = {0} := by
  rw [duties_cell]; dsimp only [dutiesX]; rw [sl_val, if_pos (by omega)]

theorem expect_rcv (c : Dev nD) (ℓ : Bool) (b : Fin 2) {i : ℕ} (hi : i < 31) :
    (Rd (F := F) pr).expect (rcvAt c ℓ b i) (i / 3) = N := by
  unfold Schedule.expect Schedule.amountOf
  rw [duties_rcv pr c ℓ b hi, Finset.sum_singleton, amount_cell]; rfl

theorem expect_snd (c : Dev nD) (ℓ : Bool) (b : Fin 2) {i : ℕ} (hi : i < 31) :
    (Rd (F := F) pr).expect (sndAt c ℓ b i) (i / 3) = N := by
  unfold Schedule.expect Schedule.amountOf
  rw [duties_snd pr c ℓ b hi, Finset.sum_singleton, amount_cell]; rfl

theorem payload_rcv (c : Dev nD) (ℓ : Bool) (b : Fin 2) (i d : ℕ) :
    (Rd pr).payload (rcvAt c ℓ b i) (i / 3) d = slotV c ℓ (sl (i + 1)) b (sent pr i (up ℓ c) ℓ b) := by
  rw [payload_cell]; dsimp only [payX]; rw [hopOf_sl]

theorem payload_snd (c : Dev nD) (ℓ : Bool) (b : Fin 2) (i r d : ℕ) :
    (Rd pr).payload (sndAt c ℓ b i) r d = slotAny c ℓ (sl i) b := by
  rw [payload_cell]; rfl

/-- No round of a cell that receives has a duty past the last hop. -/
theorem duties_rcv_none (c : Dev nD) (ℓ : Bool) (b : Fin 2) {i : ℕ} (hi : 31 ≤ i) :
    ∀ r, i / 3 ≤ r → (Rd (F := F) pr).duties (rcvAt c ℓ b i) r = ∅ := by
  intro r hr
  rw [duties_cell]; dsimp only [dutiesX]
  rw [if_neg]; unfold hopOf; rw [sl_val]; omega

theorem duties_snd_none (c : Dev nD) (ℓ : Bool) (b : Fin 2) {i : ℕ} (hi : 31 ≤ i) :
    ∀ r, i / 3 ≤ r → (Rd (F := F) pr).duties (sndAt c ℓ b i) r = ∅ := by
  intro r hr
  rw [duties_cell]; dsimp only [dutiesX]
  rw [if_neg]; rw [sl_val]; omega

/-! ## Levels, and what a device owes -/

/-- The indices of every cell of a core. -/
def L (g : GSem nD τ sig) : Finset ℕ := if g.1.2 = .tc then Finset.range 64 else ∅
/-- An index is its own level. -/
def lv (_ : GSem nD τ sig) (ι : ℕ) : ℕ := ι

theorem L_of_ne (g : GSem nD τ sig) (h : g.1.2 ≠ .tc) : L g = ∅ := if_neg h
theorem L_tc (c : Dev nD) (sm : SemLoc sig) : L ((c : Thread nD τ), sm) = Finset.range 64 := if_pos rfl

/-- The index of the copy of hop `i` where it lands. -/
abbrev rI (i : ℕ) : ℕ := 2 * i + 2
/-- The index of credit `d`. -/
abbrev cI (d : ℕ) : ℕ := 2 * d + 3

/-- What a device owes for the hops from `n` on of one half of one direction. -/
def oweR (c : Dev nD) (ℓ : Bool) (b : Fin 2) (n : ℕ) : CellTallies nD τ sig ℕ :=
  ∑ i ∈ Finset.Ico n 31, tallyAt (rcvAt (tgt ℓ c) ℓ b i) (rI i) N

/-- What a device owes for the credits from `d` on of one direction. -/
def oweC (c : Dev nD) (ℓ : Bool) (d : ℕ) : CellTallies nD τ sig ℕ :=
  ∑ i ∈ Finset.Ico d 29, tallyAt (cell (up ℓ c) (.crd ℓ)) (cI i) 1

/-- What a device owes once it has started the hops before `n` and given the credits before `d`. -/
def Owe (c : Dev nD) (n : Bool → Fin 2 → ℕ) (d : Bool → ℕ) : CellTallies nD τ sig ℕ :=
  ∑ ℓ, (oweC c ℓ (d ℓ) + ∑ b, oweR c ℓ b (n ℓ b))

theorem oweR_succ (c : Dev nD) (ℓ : Bool) (b : Fin 2) {n : ℕ} (hn : n < 31) :
    oweR c ℓ b n = oweR c ℓ b (n + 1) + tallyAt (rcvAt (tgt ℓ c) ℓ b n) (rI n) N := by
  unfold oweR; rw [Idealize.ShloMosaic.Ring.sum_Ico_succ hn, add_comm]

theorem oweC_succ (c : Dev nD) (ℓ : Bool) {d : ℕ} (hd : d < 29) :
    oweC c ℓ d = oweC c ℓ (d + 1) + tallyAt (cell (up ℓ c) (.crd ℓ)) (cI d) 1 := by
  unfold oweC; rw [Idealize.ShloMosaic.Ring.sum_Ico_succ hd, add_comm]

/-- The hops counted one further in one place. -/
abbrev bump (n : Bool → Fin 2 → ℕ) (ℓ : Bool) (b : Fin 2) : Bool → Fin 2 → ℕ :=
  fun ℓ' b' => if ℓ' = ℓ ∧ b' = b then n ℓ' b' + 1 else n ℓ' b'

/-- The credits counted one further in one place. -/
abbrev bumpC (d : Bool → ℕ) (ℓ : Bool) : Bool → ℕ := fun ℓ' => if ℓ' = ℓ then d ℓ' + 1 else d ℓ'

theorem Owe_send (c : Dev nD) (n : Bool → Fin 2 → ℕ) (d : Bool → ℕ) (ℓ : Bool) (b : Fin 2) (h : n ℓ b < 31) :
    Owe c n d = Owe c (bump n ℓ b) d + tallyAt (rcvAt (tgt ℓ c) ℓ b (n ℓ b)) (rI (n ℓ b)) N := by
  have hs := oweR_succ c ℓ b h
  unfold Owe
  simp only [Fintype.sum_bool, Fin.sum_univ_two]
  fin_cases b <;> cases ℓ <;> simp [bump] at hs ⊢ <;> rw [hs] <;> abel

theorem Owe_give (c : Dev nD) (n : Bool → Fin 2 → ℕ) (d : Bool → ℕ) (ℓ : Bool) (h : d ℓ < 29) :
    Owe c n d = Owe c n (bumpC d ℓ) + tallyAt (cell (up ℓ c) (.crd ℓ)) (cI (d ℓ)) 1 := by
  have hs := oweC_succ c ℓ h
  unfold Owe
  simp only [Fintype.sum_bool, Fin.sum_univ_two]
  cases ℓ <;> simp [bumpC] at hs ⊢ <;> rw [hs] <;> abel

theorem Owe_pos {c : Dev nD} {n : Bool → Fin 2 → ℕ} {d : Bool → ℕ} {g : GSem nD τ sig} {i : ℕ}
    (h : 0 < Owe c n d g i) : g.1.2 = .tc ∧ i < 64 ∧ ((∃ ℓ b, rI (n ℓ b) ≤ i) ∨ ∃ ℓ, d ℓ < 29 ∧ cI (d ℓ) ≤ i) := by
  unfold Owe at h
  obtain ⟨ℓ, -, h⟩ := Pipeline.sum_pos_exists h
  rcases Pipeline.add_pos_cases h with h | h
  · unfold oweC at h
    obtain ⟨k, hk, h⟩ := Pipeline.sum_pos_exists h
    obtain ⟨rfl, rfl⟩ := Pipeline.tallyAt_pos h
    have := Finset.mem_Ico.mp hk
    exact ⟨rfl, by unfold cI; omega, .inr ⟨ℓ, by omega, by unfold cI; omega⟩⟩
  · obtain ⟨b, -, h⟩ := Pipeline.sum_pos_exists h
    unfold oweR at h
    obtain ⟨k, hk, h⟩ := Pipeline.sum_pos_exists h
    obtain ⟨rfl, rfl⟩ := Pipeline.tallyAt_pos h
    have := Finset.mem_Ico.mp hk
    exact ⟨rfl, by unfold rI; omega, .inl ⟨ℓ, b, by unfold rI; omega⟩⟩

/-- The levels of every cell. -/
@[irreducible] def lvs : sProp 𝕄 := levAts L lv

instance lvs_persistent : BI.Persistent (lvs (F := F)) := by unfold lvs; infer_instance

/-- A device may wait at an index below what it still owes. -/
theorem mayWait (c : Dev nD) (x : Cell) {ι : ℕ} (n : Bool → Fin 2 → ℕ) (d : Bool → ℕ) (hι : ι < 64)
    (hn : ∀ ℓ b, ι < rI (n ℓ b)) (hd : ∀ ℓ, d ℓ < 29 → ι < cI (d ℓ)) :
    (lvs : sProp 𝕄) ⊢ MayWait (c : Thread nD τ) (semOf x) ι (Owe c n d) := by
  unfold lvs
  refine Pipeline.mayWait_of_levAts (by rw [L_tc]; exact Finset.mem_range.mpr hι) fun g i hg => ?_
  obtain ⟨h1, h2, h3⟩ := Owe_pos hg
  refine ⟨by unfold L; rw [if_pos h1]; exact Finset.mem_range.mpr h2, ?_⟩
  show ι < i
  rcases h3 with ⟨ℓ, b, h⟩ | ⟨ℓ, h0, h⟩
  · exact lt_of_lt_of_le (hn ℓ b) h
  · exact lt_of_lt_of_le (hd ℓ h0) h

theorem Owe_end (c : Dev nD) {n : Bool → Fin 2 → ℕ} {d : Bool → ℕ} (hn : ∀ ℓ b, 31 ≤ n ℓ b)
    (hd : ∀ ℓ, 29 ≤ d ℓ) : Owe c n d = 0 := by
  unfold Owe oweC oweR
  refine Finset.sum_eq_zero fun ℓ _ => ?_
  rw [Finset.Ico_eq_empty_of_le (hd ℓ), Finset.sum_empty, zero_add]
  refine Finset.sum_eq_zero fun b _ => ?_
  rw [Finset.Ico_eq_empty_of_le (hn ℓ b), Finset.sum_empty]

end Cert.KernelIdeal.Ring
-- ==== Proof.Rules.lean ====
/- The rules of the body's pieces, each at a direction, a half and a hop: what it needs and what it
   leaves. -/
module

public import proofs.«01_k».proof.Proof.Proto

@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

abbrev 𝒱₀ : Variants := Variants.none

/-- The program `p` of device `c` runs to `Kt`. -/
abbrev WP (c : Dev nD) (p : Pg F) (Kt : PUnit → sProp 𝕄) : sProp 𝕄 :=
  wp frame (wpE (defs₀ (F := F)) 𝒱₀ (c : Thread nD τ) none) Set.univ p Kt

variable (pr : Dev nD → Bool → ℕ → FVec F S256x2048 .f32)

/-- The slots that wait for a copy. -/
def keys : Finset Key := Finset.univ ×ˢ (Finset.univ ×ˢ (Finset.univ ×ˢ Finset.range 31))

theorem mem_keys (c : Dev nD) (ℓ : Bool) (b : Fin 2) {i : ℕ} (hi : i < 31) : ((c, ℓ, b, i) : Key) ∈ keys := by
  simp [keys, hi]

/-- The slot of a key. -/
def keySlot (k : Key) : sProp 𝕄 := slotAny k.1 k.2.1 (sl (k.2.2.2 + 1)) k.2.2.1

instance keySlot_storable (k : Key) : BI.Storable (upEmb : UEmb _ 𝕄) (keySlot (F := F) k) := by
  unfold keySlot; infer_instance

/-- What every device knows throughout: the cells' and the slots' invariants and the levels. -/
def Ctx (K : GSem nD τ sig → ℕ) (ιs : Key → ℕ) : sProp 𝕄 :=
  iprop(bigSep (Finset.univ : Finset (Dev nD × Cell)) (fun q => cellInv ER (Rd pr) (K (cell q.1 q.2)) (cell q.1 q.2))
    ∗ bigSep keys (fun k => slotInv EK (ιs k) k (keySlot k)) ∗ lvs (F := F))

instance Ctx_persistent (K : GSem nD τ sig → ℕ) (ιs : Key → ℕ) : BI.Persistent (Ctx (F := F) pr K ιs) := by
  unfold Ctx; infer_instance

theorem Ctx_cell (K : GSem nD τ sig → ℕ) (ιs : Key → ℕ) (c : Dev nD) (x : Cell) :
    Ctx pr K ιs ⊢ cellInv ER (Rd (F := F) pr) (K (cell c x)) (cell c x) := by
  unfold Ctx
  iintro ⟨H, -⟩
  iapply (show bigSep (Finset.univ : Finset (Dev nD × Cell))
      (fun q => cellInv ER (Rd (F := F) pr) (K (cell q.1 q.2)) (cell q.1 q.2)) ⊢ cellInv ER (Rd (F := F) pr) (K (cell c x)) (cell c x)
    from bigSep_elim (Finset.mem_univ (c, x)))
  iexact H

theorem Ctx_slot (K : GSem nD τ sig → ℕ) (ιs : Key → ℕ) (c : Dev nD) (ℓ : Bool) (b : Fin 2) {i : ℕ} (hi : i < 31) :
    Ctx (F := F) pr K ιs ⊢ slotInv EK (ιs (c, ℓ, b, i)) ((c, ℓ, b, i) : Key) (slotAny c ℓ (sl (i + 1)) b) := by
  unfold Ctx
  iintro ⟨-, H, -⟩
  iapply (show bigSep keys (fun k => slotInv EK (ιs k) k (keySlot (F := F) k))
      ⊢ slotInv EK (ιs (c, ℓ, b, i)) ((c, ℓ, b, i) : Key) (keySlot (F := F) (c, ℓ, b, i))
    from bigSep_elim (mem_keys c ℓ b hi))
  iexact H

theorem Ctx_lev (K : GSem nD τ sig → ℕ) (ιs : Key → ℕ) : Ctx (F := F) pr K ιs ⊢ lvs (F := F) := by
  unfold Ctx
  iintro ⟨-, -, H⟩
  iexact H

/-- What a device owes, its waits so far not named. -/
def ow (c : Dev nD) (n : Bool → Fin 2 → ℕ) (d : Bool → ℕ) : sProp 𝕄 :=
  iprop(∃ W, owes (c : Thread nD τ) (Owe c n d) W)

/-- A device's place at the cell of an arrival. -/
def nextRecv (c : Dev nD) (ℓ : Bool) (b : Fin 2) (i : ℕ) : sProp 𝕄 :=
  iprop(atPos ER (rcvAt c ℓ b i) (i / 3) ∅ 0 ∗ reached ER (rcvAt c ℓ b i) (i / 3))

/-- A device's place at the cell of a departure. -/
def nextSend (c : Dev nD) (ℓ : Bool) (b : Fin 2) (i : ℕ) : sProp 𝕄 :=
  iprop(atPos ER (sndAt c ℓ b i) (i / 3) ∅ 0 ∗ reached ER (sndAt c ℓ b i) (i / 3))

/-- The rights that a hop of half a slot spends. -/
def hopTok (c : Dev nD) (ℓ : Bool) (b : Fin 2) (i : ℕ) : sProp 𝕄 :=
  iprop(dutyTok ER (sndAt c ℓ b i) (i / 3) 0 ∗ dutyTok ER (rcvAt (tgt ℓ c) ℓ b i) (i / 3) 0
    ∗ writeTok EK ((tgt ℓ c, ℓ, b, i) : Key) 1)

variable {K : GSem nD τ sig → ℕ} {ιs : Key → ℕ} {n : Bool → Fin 2 → ℕ} {d : Bool → ℕ}

theorem rcvAt_add3 (c : Dev nD) (ℓ : Bool) (b : Fin 2) (i : ℕ) : rcvAt c ℓ b (i + 3) = rcvAt c ℓ b i := by
  unfold rcvAt; rw [show i + 3 + 1 = i + 1 + 3 from by omega, sl_add3]

theorem sndAt_add3 (c : Dev nD) (ℓ : Bool) (b : Fin 2) (i : ℕ) : sndAt c ℓ b (i + 3) = sndAt c ℓ b i := by
  unfold sndAt; rw [sl_add3]

/-- The wait for half the slot that a hop brings. -/
theorem recvP_wp (c : Dev nD) (ℓ : Bool) (b : Fin 2) {j : ℕ} (hj : j < 31) (hn : ∀ ℓ b, j + 1 ≤ n ℓ b)
    (hd : ∀ ℓ, d ℓ < 29 → j ≤ d ℓ) (k : Pg F) (Kt : PUnit → sProp 𝕄) :
    iprop(Ctx pr K ιs ∗ ow c n d ∗ nextRecv c ℓ b j ∗ cred (tallyAt (rcvAt c ℓ b j) (rI j) N)
        ∗ ((ow c n d ∗ nextRecv c ℓ b (j + 3) ∗ slotV c ℓ (sl (j + 1)) b (sent pr j (up ℓ c) ℓ b)) -∗ WP c k Kt))
      ⊢ WP c (recvP (lane ℓ) j b k) Kt := by
  unfold ow nextRecv recvP
  iintro ⟨#HC, ⟨%W, HO⟩, ⟨Hat, -⟩, Hcr, Hk⟩
  ihave #HI := (Ctx_cell pr K ιs c (.rcv ℓ (sl (j + 1)) b)) $$ HC
  iapply (Rounds.wp_wait_rest_token 𝒱₀ ER (Rd pr) (c : Thread nD τ) none (κ := K (rcvAt c ℓ b j)) (sm := semOf (.rcv ℓ (sl (j + 1)) b))
      (wpE_waitDma2_eq 𝒱₀ (c : Thread nD τ) none Set.univ) (Set.mem_univ _) (rI j) (O := Owe c n d) (W := W)
      (R := j / 3) (m := 0) (T := ∅)
      (by rw [Nat.zero_add, credit_eq]; exact (expect_rcv pr c ℓ b hj).symm)) $$ [Hcr HO Hat]
  · isplitr; · iexact HI
    isplitl [Hcr]; · rw [credit_eq]; iexact Hcr
    isplitl [HO]; · iexact HO
    isplitr
    · iapply ((Ctx_lev (F := F) pr K ιs).trans <| mayWait c (.rcv ℓ (sl (j + 1)) b) n d (ι := rI j) (by unfold rI; omega)
        (fun ℓ b => by have := hn ℓ b; unfold rI; omega)
        (fun ℓ h => by have := hd ℓ h; unfold rI cI; omega))
      iexact HC
    iexact Hat
  iintro ⟨HO, Hat, Hre, Hpay⟩
  iapply Hk
  isplitl [HO]; · iexists _; iexact HO
  rw [rcvAt_add3, show (j + 3) / 3 = j / 3 + 1 from by omega]
  isplitl [Hat Hre]
  · isplitl [Hat] <;> iassumption
  ihave Hp := (Entails.of_eq (show bigSep ((Rd pr).duties (rcvAt c ℓ b j) (j / 3) \ ∅)
      (fun d => (Rd pr).payload (rcvAt c ℓ b j) (j / 3) d) = slotV c ℓ (sl (j + 1)) b (sent pr j (up ℓ c) ℓ b) by
    rw [Finset.sdiff_empty, duties_rcv pr c ℓ b hj, bigSep_singleton, payload_rcv])) $$ Hpay
  iexact Hp

/-- The wait until half the slot of a hop has been read. -/
theorem sentP_wp (c : Dev nD) (ℓ : Bool) (b : Fin 2) {j : ℕ} (hj : j < 31) (k : Pg F) (Kt : PUnit → sProp 𝕄) :
    iprop(Ctx pr K ιs ∗ ow c n d ∗ nextSend c ℓ b j ∗ cred (tallyAt (sndAt c ℓ b j) 0 N)
        ∗ ((ow c n d ∗ nextSend c ℓ b (j + 3) ∗ slotAny c ℓ (sl j) b) -∗ WP c k Kt))
      ⊢ WP c (sentP (lane ℓ) j b k) Kt := by
  unfold ow nextSend sentP
  iintro ⟨#HC, ⟨%W, HO⟩, ⟨Hat, -⟩, Hcr, Hk⟩
  ihave #HI := (Ctx_cell pr K ιs c (.snd ℓ (sl j) b)) $$ HC
  iapply (Rounds.wp_wait_rest_token 𝒱₀ ER (Rd pr) (c : Thread nD τ) none (κ := K (sndAt c ℓ b j)) (sm := semOf (.snd ℓ (sl j) b))
      (wpE_waitDma2_eq 𝒱₀ (c : Thread nD τ) none Set.univ) (Set.mem_univ _) 0 (O := Owe c n d) (W := W)
      (R := j / 3) (m := 0) (T := ∅)
      (by rw [Nat.zero_add, credit_eq]; exact (expect_snd pr c ℓ b hj).symm)) $$ [Hcr HO Hat]
  · isplitr; · iexact HI
    isplitl [Hcr]; · rw [credit_eq]; iexact Hcr
    isplitl [HO]; · iexact HO
    isplitr
    · iapply ((Ctx_lev (F := F) pr K ιs).trans <| mayWait c (.snd ℓ (sl j) b) n d (ι := 0) (by omega)
        (fun ℓ b => by unfold rI; omega) (fun ℓ h => by unfold cI; omega))
      iexact HC
    iexact Hat
  iintro ⟨HO, Hat, Hre, Hpay⟩
  iapply Hk
  isplitl [HO]; · iexists _; iexact HO
  rw [sndAt_add3, show (j + 3) / 3 = j / 3 + 1 from by omega]
  isplitl [Hat Hre]
  · isplitl [Hat] <;> iassumption
  ihave Hp := (Entails.of_eq (show bigSep ((Rd pr).duties (sndAt c ℓ b j) (j / 3) \ ∅)
      (fun d => (Rd pr).payload (sndAt c ℓ b j) (j / 3) d) = slotAny c ℓ (sl j) b by
    rw [Finset.sdiff_empty, duties_snd pr c ℓ b hj, bigSep_singleton, payload_snd])) $$ Hpay
  iexact Hp

theorem ready_elim (c : Dev nD) (ℓ : Bool) (b : Fin 2) {m i : ℕ} (hi : i < m) :
    ready (F := F) c ℓ m ⊢ iprop(released EK ((c, ℓ, b, i) : Key) 1 ∗ reached ER (rcvAt c ℓ b i) (i / 3)) := by
  unfold ready
  exact bigSep_elim (Φ := fun q : Fin 2 × ℕ =>
    (iprop(released EK ((c, ℓ, q.1, q.2) : Key) 1 ∗ reached ER (rcvAt c ℓ q.1 q.2) (q.2 / 3)) : sProp 𝕄))
    (i := ((b, i) : Fin 2 × ℕ)) (Finset.mem_product.mpr ⟨Finset.mem_univ _, Finset.mem_range.mpr hi⟩)

/-- The start of a hop's copy of half a slot. -/
theorem startP_wp (c : Dev nD) (ℓ : Bool) (b : Fin 2) {h m : ℕ} (hh : h < 31) (hm : h < m) (hn : n ℓ b = h)
    (k : Pg F) (Kt : PUnit → sProp 𝕄) :
    iprop(Ctx pr K ιs ∗ ow c n d ∗ hopTok c ℓ b h ∗ nextSend c ℓ b h ∗ ready (tgt ℓ c) ℓ m
        ∗ slotV c ℓ (sl h) b (sent pr h c ℓ b)
        ∗ ((ow c (bump n ℓ b) d ∗ nextSend c ℓ b h ∗ cred (tallyAt (sndAt c ℓ b h) 0 N)) -∗ WP c k Kt))
      ⊢ WP c (startP (lane ℓ) (tgt ℓ c) h b k) Kt := by
  unfold ow nextSend startP hopTok slotV
  iintro ⟨#HC, ⟨%W, HO⟩, ⟨Ht1, Ht2, Hw⟩, ⟨Hat, #Hre⟩, #Hrdy, ⟨%f, %hf, Hs⟩, Hk⟩
  ihave #HI := (Ctx_cell pr K ιs c (.snd ℓ (sl h) b)) $$ HC
  ihave #HI' := (Ctx_cell pr K ιs (tgt ℓ c) (.rcv ℓ (sl (h + 1)) b)) $$ HC
  ihave #HS := (Ctx_slot pr K ιs (tgt ℓ c) ℓ b hh) $$ HC
  ihave #Hr := (ready_elim (tgt ℓ c) ℓ b hm) $$ Hrdy
  icases Hr with ⟨#Hrel, #Hrr⟩
  imod (slot_take EK (Set.mem_univ (ιs (tgt ℓ c, ℓ, b, h))) 1) $$ [Hw] with Hd
  · isplitr; · iexact HS
    isplitr; · iexact Hrel
    iexact Hw
  unfold slotAny Release.slot
  icases Hd with ⟨%fd, Hd⟩
  iapply (Rounds.wp_send_pointsTo 𝒱₀ ER (Rd pr) (c : Thread nD τ) none (c' := (tgt ℓ c : Thread nD τ))
      (src := slotM (lane ℓ).cm (sl h) b) (dst := slotM (lane ℓ).cm (sl (h + 1)) b)
      (sS := semOf (.snd ℓ (sl h) b)) (sem := semOf (.rcv ℓ (sl (h + 1)) b)) (q := fullShare) (fs := f)
      (κ₁ := K (sndAt c ℓ b h)) (κ₂ := K (rcvAt (tgt ℓ c) ℓ b h))
      (r₁ := h / 3) (r₂ := h / 3) (d₁ := 0) (d₂ := 0) (fd := fd)
      (by rw [duties_snd pr c ℓ b hh]; exact Finset.mem_singleton_self _)
      (by rw [duties_rcv pr (tgt ℓ c) ℓ b hh]; exact Finset.mem_singleton_self _)
      (rI h) 0 N (credit_eq ℓ (sl (h + 1)) b) (amount_cell pr c (.snd ℓ (sl h) b) _ _)
      (amount_cell pr (tgt ℓ c) (.rcv ℓ (sl (h + 1)) b) _ _) (Owe c (bump n ℓ b) d)
      (by subst hn; exact Owe_send c n d ℓ b hh) (W := W)
      (by rw [payload_snd]; unfold slotAny Release.slot; iintro H; iexists f; iexact H)
      (by rw [payload_rcv, up_tgt]; unfold slotV; iintro H
          iexists ((slotM (lane ℓ).cm (sl (h + 1)) b).view.write (Elt F) fd
            ((slotM (lane ℓ).cm (sl h) b).view.read (Elt F) f) Finset.univ)
          isplitr
          · ipureintro; exact (View.read_write_univ _ _).trans hf
          iexact H)) $$ [Hs Hd HO Ht1 Ht2]
  · isplitr; · iexact HI
    isplitr; · iexact HI'
    isplitl [Hs]; · iexact Hs
    isplitl [Hd]; · iexact Hd
    isplitl [HO]; · iexact HO
    isplitl [Ht1]; · iexact Ht1
    isplitr; · iexact Hre
    isplitl [Ht2]; · iexact Ht2
    iexact Hrr
  iintro ⟨Hcr, HO⟩
  iapply Hk
  isplitl [HO]; · iexists _; iexact HO
  isplitl [Hat]
  · isplitl [Hat]; · iexact Hat
    iexact Hre
  iexact Hcr

end Cert.KernelIdeal.Ring
-- ==== Proof.Credit.lean ====
/- The rules of the credits: what a device has learnt of its neighbour's slots from the credits it has
   taken, and what it tells the neighbour upstream with the one it gives. -/
module

public import proofs.«01_k».proof.Proof.Rules

@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (pr : Dev nD → Bool → ℕ → FVec F S256x2048 .f32)
variable {K : GSem nD τ sig → ℕ} {ιs : Key → ℕ} {n : Bool → Fin 2 → ℕ} {d : Bool → ℕ}

theorem ready_mono (c : Dev nD) (ℓ : Bool) {m m' : ℕ} (h : m ≤ m') : ready (F := F) c ℓ m' ⊢ ready c ℓ m := by
  unfold ready
  exact bigSep_subset (Finset.product_subset_product_right (Finset.range_mono h))

/-- What a device has of its credits once it has taken `m` of them. -/
def crdSt (c : Dev nD) (ℓ : Bool) (m : ℕ) : sProp 𝕄 :=
  iprop(∃ S : Finset ℕ, ⌜m ≤ S.card ∧ S ⊆ Finset.range 29⌝
    ∗ atPos ER (cell c (.crd ℓ)) 0 S m
    ∗ bigSep S (fun i => ready (tgt ℓ c) ℓ (i + 3))
    ∗ bigSep (Finset.Ico m 29) (fun i => cred (tallyAt (cell c (.crd ℓ)) (cI i) 1)))

theorem expect_crd (c : Dev nD) (ℓ : Bool) : (Rd (F := F) pr).expect (cell c (.crd ℓ)) 0 = 29 := by
  rw [expect_cell]; rfl

/-- More duties than `m` hold one that is at least `m`. -/
theorem exists_ge {S : Finset ℕ} {m : ℕ} (h : m + 1 ≤ S.card) : ∃ i ∈ S, m ≤ i := by
  by_contra hn
  have hs : S ⊆ Finset.range m := fun i hi => Finset.mem_range.mpr (Nat.lt_of_not_le fun hm => hn ⟨i, hi, hm⟩)
  have := Finset.card_le_card hs
  rw [Finset.card_range] at this
  omega

/-- The wait for a credit, from the second hop on. -/
theorem takeP_wp (c : Dev nD) (ℓ : Bool) {j : ℕ} (hj : j < 30) (hn : ∀ ℓ b, j ≤ n ℓ b) (hd : ∀ ℓ, d ℓ < 29 → j ≤ d ℓ)
    (k : Pg F) (Kt : PUnit → sProp 𝕄) :
    iprop(Ctx pr K ιs ∗ ow c n d ∗ crdSt c ℓ (j - 1) ∗ ready (tgt ℓ c) ℓ 2
        ∗ ((ow c n d ∗ crdSt c ℓ j ∗ ready (tgt ℓ c) ℓ (j + 2)) -∗ WP c k Kt))
      ⊢ WP c (takeP (lane ℓ) j k) Kt := by
  cases j with
  | zero =>
    iintro ⟨-, HO, Hc, Hr, Hk⟩
    iapply Hk
    isplitl [HO]; · iexact HO
    isplitl [Hc] <;> iassumption
  | succ m =>
    show _ ⊢ WP c (.op (.semWait (lane ℓ).crd.sem 1) fun _ => k) Kt
    unfold ow crdSt
    rw [Nat.add_sub_cancel]
    iintro ⟨#HC, ⟨%W, HO⟩, ⟨%T, %hT, Hat, #HrT, Hcr⟩, -, Hk⟩
    ihave #HI := (Ctx_cell pr K ιs c (.crd ℓ)) $$ HC
    ihave Hcr' := (Entails.of_eq (BI.bigSep_Ico_succ_bot (show m < 29 by omega)
      (fun i => (cred (tallyAt (cell c (.crd ℓ)) (cI i) 1) : sProp 𝕄)))) $$ Hcr
    icases Hcr' with ⟨Hc1, Hcr⟩
    iapply (Rounds.wp_wait 𝒱₀ ER (Rd pr) (c : Thread nD τ) none (κ := K (cell c (.crd ℓ))) (sm := semOf (.crd ℓ)) (k' := 1)
        (wpE_semWait_eq 𝒱₀ (c : Thread nD τ) none Set.univ) (Set.mem_univ _) (cr := Finsupp.single (cI m) 1)
        (O := Owe c n d) (W := W) {(semOf (.crd ℓ), cI m)} (R := 0) (m := m) (T := T)
        (by rw [Util.total_single]) (image_single_subset _ _ _)) $$ [Hc1 HO Hat]
    · isplitr; · iexact HI
      isplitl [Hc1]; · iexact Hc1
      isplitl [HO]; · iexact HO
      isplitr
      · iapply ((Ctx_lev (F := F) pr K ιs).trans <| mayWait c (.crd ℓ) n d (ι := cI m) (by unfold cI; omega)
          (fun ℓ b => by have := hn ℓ b; unfold rI cI; omega)
          (fun ℓ h => by have := hd ℓ h; unfold cI; omega))
        iexact HC
      iexact Hat
    iintro %S ⟨%hS, HO, Hat, Hpay⟩
    obtain ⟨hTS, hSd, hcard⟩ := hS
    have hdu : (Rd (F := F) pr).duties (cell c (.crd ℓ)) 0 = Finset.range 29 := duties_cell pr c (.crd ℓ) 0
    rw [hdu] at hSd hcard
    have hS1 : m + 1 ≤ S.card := by
      rw [expect_crd] at hcard
      have := Finset.card_sdiff_add_card_eq_card hSd
      rw [Finset.card_range] at this
      omega
    have hpay : bigSep (S \ T) (fun i => (Rd (F := F) pr).payload (cell c (.crd ℓ)) 0 i)
        = bigSep (S \ T) (fun i => ready (tgt ℓ c) ℓ (i + 3)) := bigSep_congr fun i _ => payload_cell pr c (.crd ℓ) 0 i
    ihave #HrS := (Entails.of_eq hpay) $$ Hpay
    have hun : iprop(bigSep T (fun i => ready (F := F) (tgt ℓ c) ℓ (i + 3)) ∗ bigSep (S \ T) (fun i => ready (tgt ℓ c) ℓ (i + 3)))
        ⊢ bigSep S (fun i => ready (tgt ℓ c) ℓ (i + 3)) := by
      have h := bigSep_sep_union T (S \ T) (Φ := fun i => ready (F := F) (tgt ℓ c) ℓ (i + 3))
      rwa [Finset.union_sdiff_of_subset hTS] at h
    ihave #HrU := hun $$ []
    · isplitr; · iexact HrT
      iexact HrS
    obtain ⟨i, hi, him⟩ := exists_ge hS1
    have hel : bigSep S (fun i => ready (F := F) (tgt ℓ c) ℓ (i + 3)) ⊢ ready (tgt ℓ c) ℓ (m + 1 + 2) :=
      (bigSep_elim hi).trans (ready_mono (tgt ℓ c) ℓ (by omega))
    iapply Hk
    isplitl [HO]; · iexists _; iexact HO
    isplitl [Hat Hcr]
    · iexists S
      isplitr; · ipureintro; exact ⟨hS1, hSd⟩
      isplitl [Hat]; · iexact Hat
      isplitr; · iexact HrU
      iexact Hcr
    iapply hel
    iexact HrU

theorem ready_succ (c : Dev nD) (ℓ : Bool) (m : ℕ) :
    iprop(ready (F := F) c ℓ m
        ∗ (released EK ((c, ℓ, 0, m) : Key) 1 ∗ reached ER (rcvAt c ℓ 0 m) (m / 3))
        ∗ (released EK ((c, ℓ, 1, m) : Key) 1 ∗ reached ER (rcvAt c ℓ 1 m) (m / 3)))
      ⊢ ready c ℓ (m + 1) := by
  have hs : (Finset.univ ×ˢ Finset.range (m + 1) : Finset (Fin 2 × ℕ))
      = insert (0, m) (insert (1, m) (Finset.univ ×ˢ Finset.range m)) := by
    ext ⟨b, i⟩
    simp only [Finset.mem_product, Finset.mem_univ, true_and, Finset.mem_range, Finset.mem_insert, Prod.mk.injEq]
    fin_cases b <;> simp <;> omega
  unfold ready
  rw [hs, bigSep_insert (by simp), bigSep_insert (by simp)]
  exact (show iprop(bigSep (Finset.univ ×ˢ Finset.range m) _ ∗ _ ∗ _) ⊢ iprop(_ ∗ _ ∗ bigSep (Finset.univ ×ˢ Finset.range m) _) from by
    iintro ⟨H, H0, H1⟩
    isplitl [H0]; · iexact H0
    isplitl [H1]; · iexact H1
    iexact H)

/-- One more credit for the device upstream: the slot of hop `j` is free for hop `j + 2`. -/
theorem giveP_wp (c : Dev nD) (ℓ : Bool) {j : ℕ} (hj : j < 29) (hd : d ℓ = j) (k : Pg F) (Kt : PUnit → sProp 𝕄) :
    iprop(Ctx pr K ιs ∗ ow c n d ∗ (slotAny c ℓ (sl j) 0 ∗ slotAny c ℓ (sl j) 1)
        ∗ (readerAt EK ((c, ℓ, 0, j + 2) : Key) 0 ∗ readerAt EK ((c, ℓ, 1, j + 2) : Key) 0)
        ∗ ready c ℓ (j + 2)
        ∗ dutyTok ER (cell (up ℓ c) (.crd ℓ)) 0 j ∗ reached ER (cell (up ℓ c) (.crd ℓ)) 0
        ∗ (reached ER (rcvAt c ℓ 0 (j + 2)) ((j + 2) / 3) ∗ reached ER (rcvAt c ℓ 1 (j + 2)) ((j + 2) / 3))
        ∗ ((ow c n (bumpC d ℓ) ∗ ready c ℓ (j + 3)) -∗ WP c k Kt))
      ⊢ WP c (giveP (lane ℓ) (up ℓ c) j k) Kt := by
  have hp : giveP (lane ℓ) (up ℓ c) j k
      = .op (.semSignal ((up ℓ c : Thread nD τ)) (lane ℓ).crd.sem 1) fun _ => k := by
    unfold giveP
    rw [show Nat.blt j 29 = true from by rw [Nat.blt_eq]; exact hj]
    rfl
  rw [hp]
  unfold ow
  iintro ⟨#HC, ⟨%W, HO⟩, ⟨Hs0, Hs1⟩, ⟨Hr0, Hr1⟩, #Hrdy, Htok, #Hre, ⟨#Hq0, #Hq1⟩, Hk⟩
  ihave #HI := (Ctx_cell pr K ιs (up ℓ c) (.crd ℓ)) $$ HC
  ihave #HS0 := (Ctx_slot pr K ιs c ℓ 0 (show j + 2 < 31 by omega)) $$ HC
  ihave #HS1 := (Ctx_slot pr K ιs c ℓ 1 (show j + 2 < 31 by omega)) $$ HC
  imod (slot_release EK (Set.mem_univ (ιs (c, ℓ, 0, j + 2))) (slotAny_false c ℓ (sl (j + 2 + 1)) 0) 0) $$ [Hs0 Hr0] with ⟨-, #Hl0⟩
  · isplitr; · iexact HS0
    isplitl [Hr0]; · iexact Hr0
    rw [show j + 2 + 1 = j + 3 from rfl, sl_add3]
    iexact Hs0
  imod (slot_release EK (Set.mem_univ (ιs (c, ℓ, 1, j + 2))) (slotAny_false c ℓ (sl (j + 2 + 1)) 1) 0) $$ [Hs1 Hr1] with ⟨-, #Hl1⟩
  · isplitr; · iexact HS1
    isplitl [Hr1]; · iexact Hr1
    rw [show j + 2 + 1 = j + 3 from rfl, sl_add3]
    iexact Hs1
  ihave #Hn := (ready_succ c ℓ (j + 2)) $$ []
  · isplitr; · iexact Hrdy
    isplitr
    · isplitr; · iexact Hl0
      iexact Hq0
    · isplitr; · iexact Hl1
      iexact Hq1
  iapply (Rounds.wp_signal 𝒱₀ ER (Rd pr) (c : Thread nD τ) none (dst := (up ℓ c : Thread nD τ)) (sem := (lane ℓ).crd.sem)
      (r := 0) (d := j) (k' := 1) (κ := K (cell (up ℓ c) (.crd ℓ)))
      ((duties_cell pr (up ℓ c) (.crd ℓ) 0).symm ▸ Finset.mem_range.mpr hj) (amount_cell pr (up ℓ c) (.crd ℓ) 0 j) (cI j)
      (Owe c n (bumpC d ℓ)) (by subst hd; exact Owe_give c n d ℓ hj)) $$ [HO Htok]
  · isplitr; · iexact HI
    isplitl [HO]; · iexact HO
    isplitl [Htok]; · iexact Htok
    isplitr
    · iapply (Entails.of_eq (show ready c ℓ (j + 3)
          = (Rd (F := F) pr).payload ((up ℓ c : Thread nD τ), .reg (lane ℓ).crd.sem) 0 j from
        ((payload_cell pr (up ℓ c) (.crd ℓ) 0 j).trans (by dsimp only [payX]; rw [tgt_up])).symm))
      iexact Hn
    iexact Hre
  iintro HO
  iapply Hk
  isplitl [HO]; · iexists _; iexact HO
  iexact Hn

/-- The last step gives no credit. -/
theorem giveP_last (ℓ : Bool) (c : Dev nD) (k : Pg F) : giveP (lane ℓ) (up ℓ c) 29 k = k := rfl

end Cert.KernelIdeal.Ring
-- ==== Proof.Pass.lean ====
/- The step of half a slot: what arrived is added to half a product and passed on. -/
module

public import proofs.«01_k».proof.Proof.Credit
public import Idealize.ShloMosaic.Lib.Pipeline.Value

@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (pr : Dev nD → Bool → ℕ → FVec F S256x2048 .f32)
variable {K : GSem nD τ sig → ℕ} {ιs : Key → ℕ} {n : Bool → Fin 2 → ℕ} {d : Bool → ℕ}

/-- A half slot covers the elements of its rectangle. -/
theorem slot_set (ℓ : Bool) (s : Fin 3) (b : Fin 2) :
    (slotM (lane ℓ).cm s b).view.set = ((lane ℓ).cm.access (slotR s b)).set := View.set_reshape _ _

/-- What is stored to a half slot is what the copy reads. -/
theorem slot_stored (c : Dev nD) (ℓ : Bool) (s : Fin 3) (b : Fin 2) (f : slotF F c ℓ s b) (v : FVec F S128x2048 .bf16) :
    (slotM (lane ℓ).cm s b).view.read (Elt F)
      (((lane ℓ).cm.access (slotR s b)).write (Elt F) f (shapeCast S1x128x2048 v shapeCasts_S128x2048_S1x128x2048) Finset.univ) = v := by
  show shapeCast S128x2048 (((lane ℓ).cm.access (slotR s b)).read (Elt F)
      (((lane ℓ).cm.access (slotR s b)).write (Elt F) f (shapeCast S1x128x2048 v shapeCasts_S128x2048_S1x128x2048) Finset.univ)) _ = v
  rw [View.read_write_univ]
  exact shapeCast_shapeCast v _ _

/-- Load what arrived, twice, and store its sum with half a product. -/
theorem addP_wp (c : Dev nD) (ℓ : Bool) (s : Fin 3) (b : Fin 2) (p : FVec F S256x2048 .f32) (r : FVec F S128x2048 .bf16)
    (k : Pg F) (Kt : PUnit → sProp 𝕄) :
    iprop(slotV c ℓ s b r ∗ (slotV c ℓ s b (truncf .bf16 (acc b p r) bitsLt_bf16_f32) -∗ WP c k Kt))
      ⊢ WP c (.op (.load (lane ℓ).cm (slotR s b).toLoadRect (View.loadsAt_vmem h_S1x128x2048)) fun r =>
          .op (.load (lane ℓ).cm (slotR s b).toLoadRect (View.loadsAt_vmem h_S1x128x2048)) fun _ =>
          .op (.store (lane ℓ).cm (slotR s b)
            (shapeCast S1x128x2048 (truncf .bf16 (accum b p r) bitsLt_bf16_f32) shapeCasts_S128x2048_S1x128x2048)
            Finset.univ
            (View.stores_vmem h_S1x128x2048 ((lane ℓ).hcm.storeExact_slice rfl _ (slot_packed s b))
              (fun _ => rfl)) (.inl rfl)) fun _ => k) Kt := by
  unfold slotV slotPts
  rw [slot_set]
  iintro ⟨⟨%f, %hf, H⟩, Hk⟩
  iapply (wp_load_rect 𝒱₀ (c : Thread nD τ) none Set.univ (m := (lane ℓ).cm) (r := slotR s b) (Finset.Subset.refl _)) $$ H
  iintro H
  iapply (wp_load_rect 𝒱₀ (c : Thread nD τ) none Set.univ (m := (lane ℓ).cm) (r := slotR s b) (Finset.Subset.refl _)) $$ H
  iintro H
  iapply (wp_store 𝒱₀ (c : Thread nD τ) none Set.univ (m := (lane ℓ).cm) (r := slotR s b) (Mk := Finset.univ)
    (S := ((lane ℓ).cm.access (slotR s b)).set) (Finset.Subset.refl _)) $$ H
  iintro H
  iapply Hk
  iexists (((lane ℓ).cm.access (slotR s b)).write (Elt F) f (shapeCast S1x128x2048
    (truncf .bf16 (accum b p (((lane ℓ).cm.access (slotR s b)).read (Elt F) f)) bitsLt_bf16_f32) shapeCasts_S128x2048_S1x128x2048) Finset.univ)
  isplitr
  · ipureintro
    rw [slot_stored]
    subst hf
    rfl
  iexact H

/-- The whole of a half slot's pass. -/
theorem passP_wp (c : Dev nD) (ℓ : Bool) (b : Fin 2) {j m : ℕ} (hj : j < 30) (hm : j + 1 < m) (hnb : n ℓ b = j + 1)
    (hn : ∀ ℓ b, j + 1 ≤ n ℓ b) (hd : ∀ ℓ, d ℓ < 29 → j ≤ d ℓ) (k : Pg F) (Kt : PUnit → sProp 𝕄) :
    iprop(Ctx pr K ιs ∗ ow c n d ∗ (nextRecv c ℓ b j ∗ cred (tallyAt (rcvAt c ℓ b j) (rI j) N))
        ∗ hopTok c ℓ b (j + 1) ∗ nextSend c ℓ b (j + 1) ∗ ready (tgt ℓ c) ℓ m
        ∗ ((ow c (bump n ℓ b) d ∗ nextRecv c ℓ b (j + 3) ∗ nextSend c ℓ b (j + 1)
            ∗ cred (tallyAt (sndAt c ℓ b (j + 1)) 0 N)) -∗ WP c k Kt))
      ⊢ WP c (passP (lane ℓ) (tgt ℓ c) j b (pr c ℓ (j + 1)) k) Kt := by
  iintro ⟨#HC, HO, ⟨Hr, Hcr⟩, Ht, Hs, #Hrdy, Hk⟩
  unfold passP
  iapply (recvP_wp pr c ℓ b (show j < 31 by omega) hn hd)
  isplitr; · iexact HC
  isplitl [HO]; · iexact HO
  isplitl [Hr]; · iexact Hr
  isplitl [Hcr]; · iexact Hcr
  iintro ⟨HO, Hr, Hv⟩
  iapply (addP_wp c ℓ (sl (j + 1)) b (pr c ℓ (j + 1)) (sent pr j (up ℓ c) ℓ b))
  isplitl [Hv]; · iexact Hv
  iintro Hv
  iapply (startP_wp pr c ℓ b (show j + 1 < 31 by omega) hm hnb)
  isplitr; · iexact HC
  isplitl [HO]; · iexact HO
  isplitl [Ht]; · iexact Ht
  isplitl [Hs]; · iexact Hs
  isplitr; · iexact Hrdy
  isplitl [Hv]; · iexact Hv
  iintro ⟨HO, Hs, Hc⟩
  iapply Hk
  isplitl [HO]; · iexact HO
  isplitl [Hr]; · iexact Hr
  isplitl [Hs] <;> iassumption

end Cert.KernelIdeal.Ring
-- ==== Proof.Mem.lean ====
/- Loads of the operands: the partial products, and the stores of the result. -/
module

public import proofs.«01_k».proof.Proof.Pass

@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (pr : Dev nD → Bool → ℕ → FVec F S256x2048 .f32)
variable {K : GSem nD τ sig → ℕ} {ιs : Key → ℕ} {n : Bool → Fin 2 → ℕ} {d : Bool → ℕ}

/-- A load from a buffer that is held whole. -/
theorem load_owns (c : Dev nD) {cs : CoreSpace} {s : Shape} {e : EltTy} (m : Memref sig .tc cs s e) (X : s.Idx → Elt F e)
    (r : Rect s) (hl : m.view.LoadsAt r.toLoadRect) (k : (r.shape.Idx → Elt F e) → Pg F) (Kt : PUnit → sProp 𝕄) :
    (owns (c : Thread nD τ) m fullShare X : sProp 𝕄)
      ⊢ iprop((owns (c : Thread nD τ) m fullShare X -∗ WP c (k fun j => X (r.emb j)) Kt)
        -∗ WP c (.op (.load m r.toLoadRect hl) k) Kt) := by
  unfold owns
  iintro ⟨%f, %hf, H⟩ Hk
  subst hf
  iapply (wp_load_rect 𝒱₀ (c : Thread nD τ) none Set.univ (m := m) (r := r) (m.view.set_slice_subset r)) $$ H
  iintro H
  iapply Hk
  iexists f
  isplitr; · ipureintro; rfl
  iexact H

/-- The entry of the table that a chunk's word names. -/
def tblAt (T : S32.Idx → Elt F .i32) (x : BitVec 32) : BitVec 32 :=
  T ((Rect.unit (s := S32) (tblOff x) S1.size (tblOff_inb x)).emb (Shape.Idx.first (s := S1) (by decide)))

theorem load_tbl (A : Args) (c : Dev nD) (T : S32.Idx → Elt F .i32) (x : BitVec 32) (k : Elt F .i32 → Pg F)
    (Kt : PUnit → sProp 𝕄) :
    (owns (c : Thread nD τ) A.tbl fullShare T : sProp 𝕄)
      ⊢ iprop((owns (c : Thread nD τ) A.tbl fullShare T -∗ WP c (k (tblAt (F := F) T x)) Kt)
        -∗ WP c ((smemLoad (Val := Elt F) A.tbl (Rect.unit (s := S32) (tblOff x) S1.size (tblOff_inb x)) numel1_S1 rfl).bind k) Kt) :=
  load_owns c A.tbl T (Rect.unit (s := S32) (tblOff x) S1.size (tblOff_inb x)) _ (fun f => k (f (Shape.Idx.first (s := S1) (by decide)))) Kt

/-- The chunks of a direction, hop by hop: the one sent first, then those that arrive. -/
def word (ℓ : Bool) (v : BitVec 32) : ℕ → BitVec 32
  | 0 => chunk0 ℓ v
  | i + 1 => chunkAt ℓ v i

/-- The operands' staging buffers at given contents. -/
def inP (A : Args) (c : Dev nD) (T : S32.Idx → Elt F .i32) (X : S8192x256.Idx → Elt F .bf16)
    (W : S256x4096.Idx → Elt F .bf16) : sProp 𝕄 :=
  iprop(owns (c : Thread nD τ) A.tbl fullShare T ∗ owns (c : Thread nD τ) A.x fullShare X
    ∗ owns (c : Thread nD τ) A.w fullShare W)

/-- The products named are those of the operands. -/
def Good (c : Dev nD) (v : BitVec 32) (T : S32.Idx → Elt F .i32) (X : S8192x256.Idx → Elt F .bf16)
    (W : S256x4096.Idx → Elt F .bf16) : Prop :=
  ∀ ℓ i, i < 32 → ∃ hv : rowOk (tblAt (F := F) T (word ℓ v i)),
    pr c ℓ i = product (fun j => X ((rowsR _ hv).emb j)) (fun j => W ((colsR ℓ).emb j))

theorem partialP_wp (A : Args) (c : Dev nD) (ℓ : Bool) {v : BitVec 32} {T : S32.Idx → Elt F .i32}
    {X : S8192x256.Idx → Elt F .bf16} {W : S256x4096.Idx → Elt F .bf16} (hG : Good pr c v T X W) {i : ℕ} (hi : i < 32)
    (k : FVec F S256x2048 .f32 → Pg F) (Kt : PUnit → sProp 𝕄) :
    iprop(inP A c T X W ∗ (inP A c T X W -∗ WP c (k (pr c ℓ i)) Kt)) ⊢ WP c (partialP A ℓ (word ℓ v i) k) Kt := by
  obtain ⟨hv, hp⟩ := hG ℓ i hi
  rw [hp]
  unfold partialP inP
  iintro ⟨⟨HT, HX, HW⟩, Hk⟩
  iapply (load_tbl A c T (word ℓ v i)) $$ HT
  iintro HT
  iapply (wp_assume 𝒱₀ (c : Thread nD τ) none Set.univ hv)
  iapply (load_owns c A.x X (rowsR _ hv)) $$ HX
  iintro HX
  iapply (load_owns c A.w W (colsR ℓ)) $$ HW
  iintro HW
  iapply Hk
  isplitl [HT]; · iexact HT
  isplitl [HX] <;> iassumption

/-! ## The result -/

/-- The result's staging buffer, of which the parts in `S` hold what they should. -/
def outP (A : Args) (c : Dev nD) (val : Bool → Fin 2 → FVec F S128x2048 .f32) (S : Finset (Bool × Fin 2)) : sProp 𝕄 :=
  iprop(∃ f : Buf (Elt F) (A.out.view.loc (c : Thread nD τ)),
    ⌜∀ ℓ b, (ℓ, b) ∈ S → ∀ j, A.out.view.read (Elt F) f ((outR ℓ b).emb j) = val ℓ b j⌝
    ∗ A.out.view.loc (c : Thread nD τ) ↦[A.out.view.set]{fullShare} f)

theorem outR_disjoint {ℓ ℓ' : Bool} {b b' : Fin 2} (h : (ℓ, b) ≠ (ℓ', b')) : Disjoint (outR ℓ b).set (outR ℓ' b').set := by
  rw [Finset.disjoint_left]
  intro i h1 h2
  rw [Rect.mem_set_unit] at h1 h2
  have h10 := h1 0; have h11 := h1 1; have h20 := h2 0; have h21 := h2 1
  apply h
  fin_cases b <;> fin_cases b' <;> cases ℓ <;> cases ℓ' <;> simp [lo] at h10 h11 h20 h21 ⊢ <;> omega

theorem read_stored {cs : CoreSpace} {s : Shape} {e : EltTy} (m : Memref sig .tc cs s e) (r : Rect s)
    (f : m.view.ty.Contents (Elt F)) (w : r.shape.Idx → Elt F e) (j : r.shape.Idx) :
    m.view.read (Elt F) ((m.access r).write (Elt F) f w Finset.univ) (r.emb j) = w j :=
  View.read_slice_write_emb r f w (Finset.mem_univ j)

theorem read_stored_other {cs : CoreSpace} {s : Shape} {e : EltTy} (m : Memref sig .tc cs s e) {r r' : Rect s}
    (h : Disjoint r'.set r.set) (f : m.view.ty.Contents (Elt F)) (w : r.shape.Idx → Elt F e) (j : r'.shape.Idx) :
    m.view.read (Elt F) ((m.access r).write (Elt F) f w Finset.univ) (r'.emb j) = m.view.read (Elt F) f (r'.emb j) := by
  refine View.read_slice_write_of_not_mem r f w Finset.univ ?_
  rw [Rect.map_emb_univ]
  refine Finset.disjoint_left.mp h ?_
  rw [← Rect.map_emb_univ]
  exact Finset.mem_map_of_mem _ (Finset.mem_univ j)

/-- Load what is there, and store a part of the result. -/
theorem storeP_wp (A : Args) (c : Dev nD) (val : Bool → Fin 2 → FVec F S128x2048 .f32) (S : Finset (Bool × Fin 2))
    (ℓ : Bool) (b : Fin 2) (k : Pg F) (Kt : PUnit → sProp 𝕄) :
    iprop(outP A c val S ∗ (outP A c val (insert (ℓ, b) S) -∗ WP c k Kt))
      ⊢ WP c (.op (.load A.out (outR ℓ b).toLoadRect (View.loadsAt_vmem h_S128x2048)) fun _ =>
          .op (.store A.out (outR ℓ b) (val ℓ b) Finset.univ
            (View.stores_vmem_bits_univ h_S128x2048 rfl) (.inl rfl)) fun _ => k) Kt := by
  unfold outP
  iintro ⟨⟨%f, %hf, H⟩, Hk⟩
  iapply (wp_load_rect 𝒱₀ (c : Thread nD τ) none Set.univ (m := A.out) (r := outR ℓ b) (A.out.view.set_slice_subset _)) $$ H
  iintro H
  iapply (wp_store 𝒱₀ (c : Thread nD τ) none Set.univ (m := A.out) (r := outR ℓ b) (Mk := Finset.univ)
    (S := A.out.view.set) (A.out.view.set_slice_subset _)) $$ H
  iintro H
  iapply Hk
  iexists ((A.out.access (outR ℓ b)).write (Elt F) f (val ℓ b) Finset.univ)
  isplitr
  · ipureintro
    intro ℓ' b' hm j
    by_cases h : (ℓ', b') = (ℓ, b)
    · obtain ⟨rfl, rfl⟩ := Prod.mk.inj h
      exact read_stored A.out (outR ℓ' b') f (val ℓ' b') j
    · rw [← hf ℓ' b' ((Finset.mem_insert.mp hm).resolve_left h) j]
      exact read_stored_other A.out (outR_disjoint h) f (val ℓ b) j
  iexact H

/-- Load a half slot, for good. -/
theorem loadV_wp (c : Dev nD) (ℓ : Bool) (s : Fin 3) (b : Fin 2) (r : FVec F S128x2048 .bf16)
    (k : ((slotR s b).shape.Idx → Elt F .bf16) → Pg F) (Kt : PUnit → sProp 𝕄) :
    (slotV c ℓ s b r : sProp 𝕄) ⊢ iprop((∀ R, ⌜∀ p, accum b p R = acc b p r⌝ -∗ slotAny c ℓ s b -∗ WP c (k R) Kt)
      -∗ WP c (.op (.load (lane ℓ).cm (slotR s b).toLoadRect (View.loadsAt_vmem h_S1x128x2048)) k) Kt) := by
  unfold slotV slotPts slotAny Release.slot slotF
  rw [slot_set]
  iintro ⟨%f, %hf, H⟩ Hk
  iapply (wp_load_rect 𝒱₀ (c : Thread nD τ) none Set.univ (m := (lane ℓ).cm) (r := slotR s b) (Finset.Subset.refl _)) $$ H
  iintro H
  iapply Hk $$ [] [H]
  · ipureintro
    intro p
    subst hf
    rfl
  iexists f
  iexact H

/-- What the last hop brings, added to the last product, stored. -/
theorem lastP_wp (A : Args) (hA : A.lane = lane) (c : Dev nD) (val : Bool → Fin 2 → FVec F S128x2048 .f32) (S : Finset (Bool × Fin 2))
    (ℓ : Bool) (b : Fin 2) (hval : val ℓ b = acc b (pr c ℓ 31) (sent pr 30 (up ℓ c) ℓ b))
    (hn : ∀ ℓ b, 31 ≤ n ℓ b) (hd : ∀ ℓ, d ℓ < 29 → 30 ≤ d ℓ) (k : Pg F) (Kt : PUnit → sProp 𝕄) :
    iprop(Ctx pr K ιs ∗ ow c n d ∗ (nextRecv c ℓ b 30 ∗ cred (tallyAt (rcvAt c ℓ b 30) (rI 30) N))
        ∗ outP A c val S
        ∗ ((ow c n d ∗ nextRecv c ℓ b 33 ∗ slotAny c ℓ (sl 31) b ∗ outP A c val (insert (ℓ, b) S)) -∗ WP c k Kt))
      ⊢ WP c (lastP A ℓ b (pr c ℓ 31) k) Kt := by
  obtain ⟨sc, tbl, x, w, out, ln⟩ := A
  obtain rfl : ln = lane := hA
  unfold lastP
  iintro ⟨#HC, HO, ⟨Hr, Hcr⟩, Hout, Hk⟩
  iapply (recvP_wp pr c ℓ b (show 30 < 31 by omega) hn hd)
  isplitr; · iexact HC
  isplitl [HO]; · iexact HO
  isplitl [Hr]; · iexact Hr
  isplitl [Hcr]; · iexact Hcr
  iintro ⟨HO, Hr, Hv⟩
  iapply (loadV_wp c ℓ (sl 31) b) $$ Hv
  iintro %R %hR H
  rw [hR, ← hval]
  iapply (storeP_wp _ c val S ℓ b)
  isplitl [Hout]; · iexact Hout
  iintro Hout
  iapply Hk
  isplitl [HO]; · iexact HO
  isplitl [Hr]; · iexact Hr
  isplitl [H]; · iexact H
  iexact Hout

end Cert.KernelIdeal.Ring
-- ==== Proof.Slots.lean ====
/- The half slots of a scratch buffer: they are disjoint and make up the buffer. The first slot's fill. -/
module

public import proofs.«01_k».proof.Proof.Mem

@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (pr : Dev nD → Bool → ℕ → FVec F S256x2048 .f32)
variable {K : GSem nD τ sig → ℕ} {ιs : Key → ℕ} {n : Bool → Fin 2 → ℕ} {d : Bool → ℕ}

theorem slotR_disjoint {q q' : Fin 3 × Fin 2} (h : q ≠ q') : Disjoint (slotR q.1 q.2).set (slotR q'.1 q'.2).set := by
  rw [Finset.disjoint_left]
  intro i h1 h2
  rw [Rect.mem_set_unit] at h1 h2
  have h10 := h1 0; have h11 := h1 1; have h20 := h2 0; have h21 := h2 1
  simp at h10 h11 h20 h21
  apply h
  obtain ⟨s, b⟩ := q
  obtain ⟨s', b'⟩ := q'
  have e1 : s = s' := by ext; simp only at *; omega
  have e2 : b = b' := by ext; simp only at *; omega
  rw [e1, e2]

theorem slotR_cover : (Finset.univ : Finset (Fin 3 × Fin 2)).biUnion (fun q => (slotR q.1 q.2).set) = Finset.univ := by
  ext i
  simp only [Finset.mem_biUnion, Finset.mem_univ, true_and, iff_true]
  have h0 : (i 0).val < 3 := (i 0).isLt
  have h1 : (i 1).val < 256 := (i 1).isLt
  have h2 : (i 2).val < 2048 := (i 2).isLt
  refine ⟨(⟨(i 0).val, h0⟩, ⟨(i 1).val / 128, by omega⟩), ?_⟩
  rw [Rect.mem_set_unit]
  intro a
  fin_cases a <;> simp <;> omega

/-- The elements of a half slot in its buffer. -/
def part (ℓ : Bool) (q : Fin 3 × Fin 2) : Finset (lane ℓ).cm.view.ty.Idx := (slotR q.1 q.2).set.map (lane ℓ).cm.view.emb

theorem part_disjoint (ℓ : Bool) {q q' : Fin 3 × Fin 2} (h : q ≠ q') : Disjoint (part ℓ q) (part ℓ q') :=
  (Finset.disjoint_map _).mpr (slotR_disjoint h)

theorem cm_set (ℓ : Bool) : (lane ℓ).cm.view.set = Finset.univ := by
  cases ℓ
  · exact View.set_whole cc0_scratch0
  · exact View.set_whole cc0_scratch1

theorem part_mem (ℓ : Bool) (i : (lane ℓ).cm.view.ty.Idx) : ∃ q, i ∈ part ℓ q := by
  have hi : i ∈ (lane ℓ).cm.view.set := by rw [cm_set]; exact Finset.mem_univ i
  obtain ⟨x, -, rfl⟩ := Finset.mem_map.mp hi
  obtain ⟨q, -, hq⟩ := Finset.mem_biUnion.mp (slotR_cover.symm ▸ Finset.mem_univ x)
  exact ⟨q, Finset.mem_map_of_mem _ hq⟩

theorem slot_part (ℓ : Bool) (s : Fin 3) (b : Fin 2) : (slotM (lane ℓ).cm s b).view.set = part ℓ (s, b) :=
  (slot_set ℓ s b).trans (View.set_slice _ _)

/-- A lane's scratch buffer. -/
abbrev cmLoc (c : Dev nD) (ℓ : Bool) : Loc nD τ sig := (lane ℓ).cm.view.loc (c : Thread nD τ)

/-- The same elements, as those of the buffer on a device. -/
def partL (c : Dev nD) (ℓ : Bool) (q : Fin 3 × Fin 2) : Finset (Idx (cmLoc c ℓ)) := part ℓ q

theorem partL_disjoint (c : Dev nD) (ℓ : Bool) (q q' : Fin 3 × Fin 2) (h : q ≠ q') : Disjoint (partL c ℓ q) (partL c ℓ q') :=
  part_disjoint ℓ h

theorem partL_cover (c : Dev nD) (ℓ : Bool) : (Finset.univ : Finset (Fin 3 × Fin 2)).biUnion (partL c ℓ) = Finset.univ := by
  ext i
  simp only [Finset.mem_biUnion, Finset.mem_univ, true_and, iff_true]
  exact part_mem ℓ i

theorem slotAny_eq (c : Dev nD) (ℓ : Bool) (s : Fin 3) (b : Fin 2) :
    (slotAny c ℓ s b : sProp 𝕄) = iprop(∃ f : Buf (Elt F) (cmLoc c ℓ), cmLoc c ℓ ↦[partL c ℓ (s, b)]{fullShare} f) := by
  unfold slotAny Release.slot
  rw [slot_part]
  rfl

/-- A scratch buffer comes apart into its half slots, -/
theorem slots_split (c : Dev nD) (ℓ : Bool) :
    iprop(∃ f : Buf (Elt F) (cmLoc c ℓ), cmLoc c ℓ ↦{fullShare} f)
      ⊢ (bigSep Finset.univ fun q : Fin 3 × Fin 2 => slotAny c ℓ q.1 q.2 : sProp 𝕄) := by
  simp only [slotAny_eq]
  iintro ⟨%f, H⟩
  ihave H' := (Entails.of_eq (Ring.pointsTo_blocks (partL c ℓ) (partL_disjoint c ℓ) (partL_cover c ℓ) f)) $$ H
  iapply (show (bigSep Finset.univ fun q : Fin 3 × Fin 2 => (cmLoc c ℓ ↦[partL c ℓ q]{fullShare} f : sProp 𝕄)) ⊢ _ from
    bigSep_mono fun q _ => show (cmLoc c ℓ ↦[partL c ℓ q]{fullShare} f : sProp 𝕄) ⊢ iprop(∃ f : Buf (Elt F) (cmLoc c ℓ), cmLoc c ℓ ↦[partL c ℓ (q.1, q.2)]{fullShare} f) from by
      iintro H; iexists f; iexact H) $$ H'

/-- and is made up of them again. -/
theorem slots_join (c : Dev nD) (ℓ : Bool) (f₀ : Buf (Elt F) (cmLoc c ℓ)) :
    (bigSep Finset.univ fun q : Fin 3 × Fin 2 => slotAny c ℓ q.1 q.2 : sProp 𝕄)
      ⊢ iprop(∃ f : Buf (Elt F) (cmLoc c ℓ), cmLoc c ℓ ↦{fullShare} f) := by
  simp only [slotAny_eq]
  exact Ring.pointsTo_blocks_join_exists (partL c ℓ) (partL_disjoint c ℓ) (partL_cover c ℓ) f₀

/-! ## The first slot -/

abbrev slot0R : Rect S3x256x2048 :=
  Rect.unit (s := S3x256x2048) ![0, 0, 0] S1x256x2048.size inb_S3x256x2048_S1x256x2048_0_0_0

theorem slot0_cover : slot0R.set = (slotR 0 0).set ∪ (slotR 0 1).set := by
  ext i
  have h1 : (i 1).val < 256 := (i 1).isLt
  simp only [Finset.mem_union, Rect.mem_set_unit, Fin.forall_fin_succ]
  simp
  omega

theorem slot0_part (ℓ : Bool) : ((lane ℓ).cm.access slot0R).set = part ℓ (0, 0) ∪ part ℓ (0, 1) := by
  refine (View.set_slice _ _).trans ?_
  rw [slot0_cover, Finset.map_union]
  rfl

/-- What is stored to the first slot is, half by half, what its copies read. -/
theorem slot0_stored (c : Dev nD) (ℓ : Bool) (b : Fin 2) (f : slotF F c ℓ 0 b) (p : FVec F S256x2048 .f32) :
    (slotM (lane ℓ).cm 0 b).view.read (Elt F) (((lane ℓ).cm.access slot0R).write (Elt F) f
      (shapeCast S1x256x2048 (truncf .bf16 p bitsLt_bf16_f32) shapeCasts_S256x2048_S1x256x2048) Finset.univ)
      = truncf .bf16 (half b p) bitsLt_bf16_f32 := by
  generalize hw : shapeCast S1x256x2048 (truncf .bf16 p bitsLt_bf16_f32) shapeCasts_S256x2048_S1x256x2048 = w
  funext j
  have hj0 : (j 0).val < 128 := (j 0).isLt
  have hj1 : (j 1).val < 2048 := (j 1).isLt
  have hb : 128 * b.val + (j 0).val < 256 := by omega
  have e1 : (slotM (lane ℓ).cm 0 b).view.read (Elt F) (((lane ℓ).cm.access slot0R).write (Elt F) f w Finset.univ) j
      = shapeCast S128x2048 (fun k => (lane ℓ).cm.view.read (Elt F) (((lane ℓ).cm.access slot0R).write (Elt F) f w Finset.univ)
          ((slotR 0 b).emb k)) shapeCasts_S1x128x2048_S128x2048 j := rfl
  rw [e1]
  refine (shapeCast_dropUnit_apply ![128, 2048] _ _ j).trans ?_
  let k : S1x256x2048.Idx := Fin.cons ⟨0, Nat.one_pos⟩ (Fin.cons ⟨128 * b.val + (j 0).val, hb⟩ (Fin.cons ⟨(j 1).val, hj1⟩ finZeroElim))
  have e2 : (slotR 0 b).emb (Fin.cons ⟨0, Nat.one_pos⟩ j) = slot0R.emb k := by
    funext a
    apply Fin.ext
    fin_cases a
    · rfl
    · show 128 * b.val + 1 * (j 0).val = 0 + 1 * (128 * b.val + (j 0).val); omega
    · rfl
  rw [e2]
  refine (read_stored (lane ℓ).cm slot0R f w k).trans ?_
  rw [← hw]
  refine (shapeCast_addUnit_apply ![256, 2048] _ _ k).trans ?_
  refine congrArg (FloatOps.truncf .bf16 bitsLt_bf16_f32) ?_
  symm
  refine extractStridedSlice_apply _ _ _ _ _ fun a => ?_
  fin_cases a
  · rfl
  · exact (Nat.zero_add _).symm

theorem slot0_join (c : Dev nD) (ℓ : Bool) :
    iprop(slotAny c ℓ 0 0 ∗ slotAny c ℓ 0 1)
      ⊢ (iprop(∃ f : Buf (Elt F) (cmLoc c ℓ), cmLoc c ℓ ↦[((lane ℓ).cm.access slot0R).set]{fullShare} f) : sProp 𝕄) := by
  rw [slotAny_eq, slotAny_eq, slot0_part]
  iintro ⟨⟨%f, H⟩, ⟨%g, H'⟩⟩
  iexists (partL c ℓ (0, 1)).piecewise g f
  iapply (pointsTo_join (partL_disjoint c ℓ (0, 0) (0, 1) (by decide)))
  isplitl [H] <;> iassumption

theorem slot0_split (c : Dev nD) (ℓ : Bool) (f : Buf (Elt F) (cmLoc c ℓ)) :
    (cmLoc c ℓ ↦[((lane ℓ).cm.access slot0R).set]{fullShare} f : sProp 𝕄)
      ⊢ iprop(slotPts c ℓ 0 0 f ∗ slotPts c ℓ 0 1 f) := by
  unfold slotPts
  rw [slot_part, slot_part, slot0_part]
  exact (pointsTo_union (partL_disjoint c ℓ (0, 0) (0, 1) (by decide))).1

/-- Fill the first slot with the first product and start its copies. -/
theorem firstP_wp (c : Dev nD) (ℓ : Bool) {m : ℕ} (hm : 0 < m) (h0 : n ℓ 0 = 0) (h1 : n ℓ 1 = 0) (k : Pg F)
    (Kt : PUnit → sProp 𝕄) :
    iprop(Ctx pr K ιs ∗ ow c n d ∗ (hopTok c ℓ 0 0 ∗ hopTok c ℓ 1 0) ∗ (nextSend c ℓ 0 0 ∗ nextSend c ℓ 1 0)
        ∗ ready (tgt ℓ c) ℓ m ∗ (slotAny c ℓ 0 0 ∗ slotAny c ℓ 0 1)
        ∗ ((ow c (bump (bump n ℓ 0) ℓ 1) d ∗ (nextSend c ℓ 0 0 ∗ nextSend c ℓ 1 0)
            ∗ (cred (tallyAt (sndAt c ℓ 0 0) 0 N) ∗ cred (tallyAt (sndAt c ℓ 1 0) 0 N))) -∗ WP c k Kt))
      ⊢ WP c (firstP (lane ℓ) (tgt ℓ c) (pr c ℓ 0) k) Kt := by
  unfold firstP
  iintro ⟨#HC, HO, ⟨Ht0, Ht1⟩, ⟨Hs0, Hs1⟩, #Hr, Hb, Hk⟩
  ihave Hb := (slot0_join c ℓ) $$ Hb
  icases Hb with ⟨%f, Hb⟩
  iapply (wp_load_rect 𝒱₀ (c : Thread nD τ) none Set.univ (m := (lane ℓ).cm) (r := slot0R) (Finset.Subset.refl _)) $$ Hb
  iintro Hb
  iapply (wp_store 𝒱₀ (c : Thread nD τ) none Set.univ (m := (lane ℓ).cm) (r := slot0R) (Mk := Finset.univ)
    (S := ((lane ℓ).cm.access slot0R).set) (Finset.Subset.refl _)) $$ Hb
  iintro Hb
  ihave Hb := (slot0_split c ℓ _) $$ Hb
  icases Hb with ⟨Hb0, Hb1⟩
  iapply (startP_wp pr c ℓ 0 (show 0 < 31 by omega) hm h0)
  isplitr; · iexact HC
  isplitl [HO]; · iexact HO
  isplitl [Ht0]; · iexact Ht0
  isplitl [Hs0]; · iexact Hs0
  isplitr; · iexact Hr
  isplitl [Hb0]
  · unfold slotV
    iexists _
    isplitr
    · ipureintro; exact slot0_stored c ℓ 0 f (pr c ℓ 0)
    iexact Hb0
  iintro ⟨HO, Hs0, Hc0⟩
  iapply (startP_wp pr c ℓ 1 (n := bump n ℓ 0) (show 0 < 31 by omega) hm (by simpa [bump] using h1))
  isplitr; · iexact HC
  isplitl [HO]; · iexact HO
  isplitl [Ht1]; · iexact Ht1
  isplitl [Hs1]; · iexact Hs1
  isplitr; · iexact Hr
  isplitl [Hb1]
  · unfold slotV
    iexists _
    isplitr
    · ipureintro; exact slot0_stored c ℓ 1 f (pr c ℓ 0)
    iexact Hb1
  iintro ⟨HO, Hs1, Hc1⟩
  iapply Hk
  isplitl [HO]; · iexact HO
  isplitl [Hs0 Hs1]
  · isplitl [Hs0] <;> iassumption
  isplitl [Hc0] <;> iassumption

end Cert.KernelIdeal.Ring
-- ==== Proof.Step.lean ====
/- One step of the ring, and all of them. -/
module

public import proofs.«01_k».proof.Proof.Slots

@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (pr : Dev nD → Bool → ℕ → FVec F S256x2048 .f32)
variable {K : GSem nD τ sig → ℕ} {ιs : Key → ℕ} {n : Bool → Fin 2 → ℕ} {d : Bool → ℕ}

/-- The arrivals still to be waited for. -/
abbrev rcvCreds (c : Dev nD) (ℓ : Bool) (b : Fin 2) (j : ℕ) : sProp 𝕄 :=
  bigSep (Finset.Ico j 31) fun i => cred (tallyAt (rcvAt c ℓ b i) (rI i) N)

/-- The hops still to be started. -/
abbrev hopToks (c : Dev nD) (ℓ : Bool) (b : Fin 2) (j : ℕ) : sProp 𝕄 :=
  bigSep (Finset.Ico j 31) fun i => hopTok c ℓ b i

/-- The slots still to be handed over. -/
abbrev readers (c : Dev nD) (ℓ : Bool) (b : Fin 2) (j : ℕ) : sProp 𝕄 :=
  bigSep (Finset.Ico j 31) fun i => readerAt EK ((c, ℓ, b, i) : Key) 0

/-- The credits still to be given. -/
abbrev duties (c : Dev nD) (ℓ : Bool) (j : ℕ) : sProp 𝕄 :=
  bigSep (Finset.Ico j 29) fun i => dutyTok ER (cell (up ℓ c) (.crd ℓ)) 0 i

/-- Half a lane before the step between hops `j` and `j + 1`, where `r` is the first hop whose slot has yet to
    be handed over. -/
def halfSt (c : Dev nD) (ℓ : Bool) (b : Fin 2) (j r : ℕ) : sProp 𝕄 :=
  iprop(nextRecv c ℓ b j ∗ nextRecv c ℓ b (j + 1) ∗ nextRecv c ℓ b (j + 2)
    ∗ nextSend c ℓ b j ∗ nextSend c ℓ b (j + 1) ∗ nextSend c ℓ b (j + 2)
    ∗ cred (tallyAt (sndAt c ℓ b j) 0 N)
    ∗ rcvCreds c ℓ b j ∗ hopToks c ℓ b (j + 1) ∗ readers c ℓ b r)

/-- Half a lane once hop `j + 1` has been started. -/
def midSt (c : Dev nD) (ℓ : Bool) (b : Fin 2) (j r : ℕ) : sProp 𝕄 :=
  iprop(nextRecv c ℓ b (j + 1) ∗ nextRecv c ℓ b (j + 2) ∗ nextRecv c ℓ b (j + 3)
    ∗ nextSend c ℓ b j ∗ nextSend c ℓ b (j + 1) ∗ nextSend c ℓ b (j + 2)
    ∗ cred (tallyAt (sndAt c ℓ b j) 0 N) ∗ cred (tallyAt (sndAt c ℓ b (j + 1)) 0 N)
    ∗ rcvCreds c ℓ b (j + 1) ∗ hopToks c ℓ b (j + 2) ∗ readers c ℓ b r)

theorem passH_wp (c : Dev nD) (ℓ : Bool) (b : Fin 2) {j m r : ℕ} (hj : j < 30) (hm : j + 1 < m) (hnb : n ℓ b = j + 1)
    (hn : ∀ ℓ b, j + 1 ≤ n ℓ b) (hd : ∀ ℓ, d ℓ < 29 → j ≤ d ℓ) (k : Pg F) (Kt : PUnit → sProp 𝕄) :
    iprop(Ctx pr K ιs ∗ ow c n d ∗ halfSt c ℓ b j r ∗ ready (tgt ℓ c) ℓ m
        ∗ ((ow c (bump n ℓ b) d ∗ midSt c ℓ b j r) -∗ WP c k Kt))
      ⊢ WP c (passP (lane ℓ) (tgt ℓ c) j b (pr c ℓ (j + 1)) k) Kt := by
  unfold halfSt midSt
  iintro ⟨#HC, HO, ⟨Hr0, Hr1, Hr2, Hs0, Hs1, Hs2, Hc, Hcr, Ht, Hrd⟩, #Hrdy, Hk⟩
  ihave Hcr := (Entails.of_eq (BI.bigSep_Ico_succ_bot (show j < 31 by omega)
    (fun i => (cred (tallyAt (rcvAt c ℓ b i) (rI i) N) : sProp 𝕄)))) $$ Hcr
  icases Hcr with ⟨Hc1, Hcr⟩
  ihave Ht := (Entails.of_eq (BI.bigSep_Ico_succ_bot (show j + 1 < 31 by omega)
    (fun i => (hopTok c ℓ b i : sProp 𝕄)))) $$ Ht
  icases Ht with ⟨Ht1, Ht⟩
  iapply (passP_wp pr c ℓ b hj hm hnb hn hd)
  isplitr; · iexact HC
  isplitl [HO]; · iexact HO
  isplitl [Hr0 Hc1]
  · isplitl [Hr0] <;> iassumption
  isplitl [Ht1]; · iexact Ht1
  isplitl [Hs1]; · iexact Hs1
  isplitr; · iexact Hrdy
  iintro ⟨HO, Hr3, Hs1, Hc2⟩
  iapply Hk
  isplitl [HO]; · iexact HO
  isplitl [Hr1]; · iexact Hr1
  isplitl [Hr2]; · iexact Hr2
  isplitl [Hr3]; · iexact Hr3
  isplitl [Hs0]; · iexact Hs0
  isplitl [Hs1]; · iexact Hs1
  isplitl [Hs2]; · iexact Hs2
  isplitl [Hc]; · iexact Hc
  isplitl [Hc2]; · iexact Hc2
  isplitl [Hcr]; · iexact Hcr
  isplitl [Ht] <;> iassumption

theorem sentH_wp (c : Dev nD) (ℓ : Bool) (b : Fin 2) {j r : ℕ} (hj : j < 31) (k : Pg F) (Kt : PUnit → sProp 𝕄) :
    iprop(Ctx pr K ιs ∗ ow c n d ∗ midSt c ℓ b j r
        ∗ ((ow c n d ∗ halfSt c ℓ b (j + 1) r ∗ slotAny c ℓ (sl j) b) -∗ WP c k Kt))
      ⊢ WP c (sentP (lane ℓ) j b k) Kt := by
  unfold halfSt midSt
  iintro ⟨#HC, HO, ⟨Hr1, Hr2, Hr3, Hs0, Hs1, Hs2, Hc, Hc2, Hcr, Ht, Hrd⟩, Hk⟩
  iapply (sentP_wp pr c ℓ b hj)
  isplitr; · iexact HC
  isplitl [HO]; · iexact HO
  isplitl [Hs0]; · iexact Hs0
  isplitl [Hc]; · iexact Hc
  iintro ⟨HO, Hs3, Hsl⟩
  iapply Hk
  isplitl [HO]; · iexact HO
  isplitr [Hsl]
  · isplitl [Hr1]; · iexact Hr1
    isplitl [Hr2]; · iexact Hr2
    isplitl [Hr3]; · iexact Hr3
    isplitl [Hs1]; · iexact Hs1
    isplitl [Hs2]; · iexact Hs2
    isplitl [Hs3]; · iexact Hs3
    isplitl [Hc2]; · iexact Hc2
    isplitl [Hcr]; · iexact Hcr
    isplitl [Ht] <;> iassumption
  iexact Hsl

/-- What a lane has of its slots besides: what is handed over, or from the last step on the last slot freed. -/
def tail (c : Dev nD) (ℓ : Bool) (j : ℕ) : sProp 𝕄 :=
  if j < 30 then ready c ℓ (j + 2) else iprop(slotAny c ℓ (sl 29) 0 ∗ slotAny c ℓ (sl 29) 1)

/-- One credit more, while there are any to give. -/
abbrev capC (d : Bool → ℕ) (ℓ : Bool) : Bool → ℕ := fun ℓ' => if ℓ' = ℓ then min (d ℓ' + 1) 29 else d ℓ'

theorem giveH_wp (c : Dev nD) (ℓ : Bool) {j : ℕ} (hj : j < 30) (hd : d ℓ = min j 29) (k : Pg F) (Kt : PUnit → sProp 𝕄) :
    iprop(Ctx pr K ιs ∗ ow c n d ∗ (halfSt c ℓ 0 (j + 1) (j + 2) ∗ halfSt c ℓ 1 (j + 1) (j + 2))
        ∗ (slotAny c ℓ (sl j) 0 ∗ slotAny c ℓ (sl j) 1) ∗ tail c ℓ j ∗ duties c ℓ j
        ∗ reached ER (cell (up ℓ c) (.crd ℓ)) 0
        ∗ ((ow c n (capC d ℓ) ∗ (halfSt c ℓ 0 (j + 1) (j + 3) ∗ halfSt c ℓ 1 (j + 1) (j + 3))
            ∗ tail c ℓ (j + 1) ∗ duties c ℓ (j + 1)) -∗ WP c k Kt))
      ⊢ WP c (giveP (lane ℓ) (up ℓ c) j k) Kt := by
  by_cases hj' : j < 29
  · have e1 : tail (F := F) c ℓ j = ready c ℓ (j + 2) := if_pos hj
    have e2 : tail (F := F) c ℓ (j + 1) = ready c ℓ (j + 3) := if_pos (by omega)
    have e3 : capC d ℓ = bumpC d ℓ := by
      funext ℓ'
      by_cases h : ℓ' = ℓ
      · subst h; simp only [capC, bumpC, if_true]; omega
      · simp only [capC, bumpC, if_neg h]
    rw [e1, e2, e3]
    unfold halfSt
    iintro ⟨#HC, HO, ⟨⟨Ha0, Ha1, Ha2, Ha3, Ha4, Ha5, Ha6, Ha7, Ha8, Har⟩, ⟨Hb0, Hb1, Hb2, Hb3, Hb4, Hb5, Hb6, Hb7, Hb8, Hbr⟩⟩, Hsl, Hrdy, Hdu, #Hre, Hk⟩
    ihave Har := (Entails.of_eq (BI.bigSep_Ico_succ_bot (show j + 2 < 31 by omega)
      (fun i => (readerAt EK ((c, ℓ, 0, i) : Key) 0 : sProp 𝕄)))) $$ Har
    icases Har with ⟨Har0, Har⟩
    ihave Hbr := (Entails.of_eq (BI.bigSep_Ico_succ_bot (show j + 2 < 31 by omega)
      (fun i => (readerAt EK ((c, ℓ, 1, i) : Key) 0 : sProp 𝕄)))) $$ Hbr
    icases Hbr with ⟨Hbr0, Hbr⟩
    ihave Hdu := (Entails.of_eq (BI.bigSep_Ico_succ_bot hj'
      (fun i => (dutyTok ER (cell (up ℓ c) (.crd ℓ)) 0 i : sProp 𝕄)))) $$ Hdu
    icases Hdu with ⟨Hd0, Hdu⟩
    unfold nextRecv
    icases Ha1 with ⟨Ha1, #Hra⟩
    icases Hb1 with ⟨Hb1, #Hrb⟩
    iapply (giveP_wp pr c ℓ hj' (show d ℓ = j by omega))
    isplitr; · iexact HC
    isplitl [HO]; · iexact HO
    isplitl [Hsl]; · iexact Hsl
    isplitl [Har0 Hbr0]
    · isplitl [Har0] <;> iassumption
    isplitl [Hrdy]; · iexact Hrdy
    isplitl [Hd0]; · iexact Hd0
    isplitr; · iexact Hre
    isplitr
    · isplitr
      · iexact Hra
      · iexact Hrb
    iintro ⟨HO, Hrdy⟩
    iapply Hk
    isplitl [HO]; · iexact HO
    isplitr [Hrdy Hdu]
    · isplitl [Ha0 Ha1 Ha2 Ha3 Ha4 Ha5 Ha6 Ha7 Ha8 Har]
      · isplitl [Ha0]; · iexact Ha0
        isplitl [Ha1]
        · isplitl; · iexact Ha1
          iexact Hra
        isplitl [Ha2]; · iexact Ha2
        isplitl [Ha3]; · iexact Ha3
        isplitl [Ha4]; · iexact Ha4
        isplitl [Ha5]; · iexact Ha5
        isplitl [Ha6]; · iexact Ha6
        isplitl [Ha7]; · iexact Ha7
        isplitl [Ha8] <;> iassumption
      · isplitl [Hb0]; · iexact Hb0
        isplitl [Hb1]
        · isplitl; · iexact Hb1
          iexact Hrb
        isplitl [Hb2]; · iexact Hb2
        isplitl [Hb3]; · iexact Hb3
        isplitl [Hb4]; · iexact Hb4
        isplitl [Hb5]; · iexact Hb5
        isplitl [Hb6]; · iexact Hb6
        isplitl [Hb7]; · iexact Hb7
        isplitl [Hb8] <;> iassumption
    isplitl [Hrdy] <;> iassumption
  · obtain rfl : j = 29 := by omega
    have e2 : tail (F := F) c ℓ (29 + 1) = iprop(slotAny c ℓ (sl 29) 0 ∗ slotAny c ℓ (sl 29) 1) := if_neg (by omega)
    have e3 : capC d ℓ = d := by
      funext ℓ'
      by_cases h : ℓ' = ℓ
      · subst h; simp only [capC, if_true]; omega
      · simp only [capC, if_neg h]
    rw [e2, e3, giveP_last]
    iintro ⟨-, HO, Hh, Hsl, -, Hdu, -, Hk⟩
    iapply Hk
    isplitl [HO]; · iexact HO
    isplitl [Hh]; · iexact Hh
    isplitl [Hsl]; · iexact Hsl
    iexact Hdu

/-- A lane before the step between hops `j` and `j + 1`. -/
def laneSt (c : Dev nD) (ℓ : Bool) (j : ℕ) : sProp 𝕄 :=
  iprop(crdSt c ℓ (j - 1) ∗ (halfSt c ℓ 0 j (j + 2) ∗ halfSt c ℓ 1 j (j + 2)) ∗ tail c ℓ j ∗ duties c ℓ j)

/-- What a device knows of its neighbours in a direction. -/
def nbr (c : Dev nD) (ℓ : Bool) : sProp 𝕄 :=
  iprop(ready (tgt ℓ c) ℓ 2 ∗ reached ER (cell (up ℓ c) (.crd ℓ)) 0)

instance nbr_persistent (c : Dev nD) (ℓ : Bool) : BI.Persistent (nbr (F := F) c ℓ) := by
  unfold nbr; infer_instance

/-- What a device has before the step between hops `j` and `j + 1`. -/
def devSt (c : Dev nD) (j : ℕ) : sProp 𝕄 :=
  iprop(ow c (fun _ _ => j + 1) (fun _ => min j 29) ∗ laneSt c false j ∗ laneSt c true j)

/-- A lane once hop `j + 1` has been started. -/
def laneMid (c : Dev nD) (ℓ : Bool) (j : ℕ) : sProp 𝕄 :=
  iprop(crdSt c ℓ j ∗ (midSt c ℓ 0 j (j + 2) ∗ midSt c ℓ 1 j (j + 2)) ∗ tail c ℓ j ∗ duties c ℓ j)

/-- The first half of a step: take the credits, pass on what arrived. -/
theorem passes_wp (c : Dev nD) {j : ℕ} (hj : j < 30) (k : Pg F) (Kt : PUnit → sProp 𝕄) :
    iprop(Ctx pr K ιs ∗ nbr c false ∗ nbr c true ∗ devSt c j
        ∗ ((ow c (fun _ _ => j + 2) (fun _ => min j 29) ∗ laneMid c false j ∗ laneMid c true j) -∗ WP c k Kt))
      ⊢ WP c (takeP (lane false) j <| takeP (lane true) j <|
          passP (lane false) (tgt false c) j 0 (pr c false (j + 1)) <| passP (lane true) (tgt true c) j 0 (pr c true (j + 1)) <|
          passP (lane false) (tgt false c) j 1 (pr c false (j + 1)) <|
          passP (lane true) (tgt true c) j 1 (pr c true (j + 1)) k) Kt := by
  unfold devSt laneSt laneMid nbr
  iintro ⟨#HC, ⟨#Hf2, #Hfr⟩, ⟨#Ht2, #Htr⟩, ⟨HO, ⟨Hfc, ⟨Hf0, Hf1⟩, Hft⟩, ⟨Htc, ⟨Ht0, Ht1⟩, Htt⟩⟩, Hk⟩
  iapply (takeP_wp pr c false hj (n := fun _ _ => j + 1) (d := fun _ => min j 29) (fun _ _ => Nat.le_succ j) (fun _ h => by omega))
  isplitr; · iexact HC
  isplitl [HO]; · iexact HO
  isplitl [Hfc]; · iexact Hfc
  isplitr; · iexact Hf2
  iintro ⟨HO, Hfc, #Hfrd⟩
  iapply (takeP_wp pr c true hj (n := fun _ _ => j + 1) (d := fun _ => min j 29) (fun _ _ => Nat.le_succ j) (fun _ h => by omega))
  isplitr; · iexact HC
  isplitl [HO]; · iexact HO
  isplitl [Htc]; · iexact Htc
  isplitr; · iexact Ht2
  iintro ⟨HO, Htc, #Htrd⟩
  iapply (passH_wp pr c false 0 (n := fun _ _ => j + 1) (d := fun _ => min j 29) hj (Nat.lt_succ_self _) rfl
    (fun _ _ => Nat.le_refl _) (fun _ h => by omega))
  isplitr; · iexact HC
  isplitl [HO]; · iexact HO
  isplitl [Hf0]; · iexact Hf0
  isplitr; · iexact Hfrd
  iintro ⟨HO, Hf0⟩
  iapply (passH_wp pr c true 0 (n := fun ℓ b => if ℓ = false ∧ b = 0 then j + 2 else j + 1) (d := fun _ => min j 29) hj
    (Nat.lt_succ_self _) (by simp) (fun _ _ => by split <;> omega) (fun _ h => by omega))
  isplitr; · iexact HC
  isplitl [HO]; · iexact HO
  isplitl [Ht0]; · iexact Ht0
  isplitr; · iexact Htrd
  iintro ⟨HO, Ht0⟩
  rw [show bump (fun ℓ b => if ℓ = false ∧ b = 0 then j + 2 else j + 1) true 0 = fun _ b => if b = 0 then j + 2 else j + 1 from by
    funext ℓ b; fin_cases b <;> cases ℓ <;> simp [bump]]
  iapply (passH_wp pr c false 1 (n := fun _ b => if b = 0 then j + 2 else j + 1) (d := fun _ => min j 29) hj
    (Nat.lt_succ_self _) (by simp) (fun _ _ => by split <;> omega) (fun _ h => by omega))
  isplitr; · iexact HC
  isplitl [HO]; · iexact HO
  isplitl [Hf1]; · iexact Hf1
  isplitr; · iexact Hfrd
  iintro ⟨HO, Hf1⟩
  rw [show bump (fun _ b => if b = 0 then j + 2 else j + 1) false 1 = fun ℓ b => if ℓ = false ∨ b = 0 then j + 2 else j + 1 from by
    funext ℓ b; fin_cases b <;> cases ℓ <;> simp [bump]]
  iapply (passH_wp pr c true 1 (n := fun ℓ b => if ℓ = false ∨ b = 0 then j + 2 else j + 1) (d := fun _ => min j 29) hj
    (Nat.lt_succ_self _) (by simp) (fun _ _ => by split <;> omega) (fun _ h => by omega))
  isplitr; · iexact HC
  isplitl [HO]; · iexact HO
  isplitl [Ht1]; · iexact Ht1
  isplitr; · iexact Htrd
  iintro ⟨HO, Ht1⟩
  rw [show bump (fun ℓ b => if ℓ = false ∨ b = 0 then j + 2 else j + 1) true 1 = fun _ _ => j + 2 from by
    funext ℓ b; fin_cases b <;> cases ℓ <;> simp [bump]]
  iapply Hk
  isplitl [HO]; · iexact HO
  isplitl [Hfc Hf0 Hf1 Hft]
  · isplitl [Hfc]; · iexact Hfc
    isplitl [Hf0 Hf1]
    · isplitl [Hf0] <;> iassumption
    iexact Hft
  · isplitl [Htc]; · iexact Htc
    isplitl [Ht0 Ht1]
    · isplitl [Ht0] <;> iassumption
    iexact Htt

/-- A lane's slots come back, and are handed over again. -/
theorem frees_wp (c : Dev nD) (ℓ : Bool) {j : ℕ} (hj : j < 30) (hd : d ℓ = min j 29) (k : Pg F) (Kt : PUnit → sProp 𝕄) :
    iprop(Ctx pr K ιs ∗ nbr c ℓ ∗ ow c n d ∗ laneMid c ℓ j
        ∗ ((ow c n (capC d ℓ) ∗ laneSt c ℓ (j + 1)) -∗ WP c k Kt))
      ⊢ WP c (sentP (lane ℓ) j 0 <| sentP (lane ℓ) j 1 <| giveP (lane ℓ) (up ℓ c) j k) Kt := by
  unfold laneSt laneMid nbr
  iintro ⟨#HC, ⟨-, #Hr⟩, HO, ⟨Hc, ⟨H0, H1⟩, Ht, Hdu⟩, Hk⟩
  iapply (sentH_wp pr c ℓ 0 (show j < 31 by omega))
  isplitr; · iexact HC
  isplitl [HO]; · iexact HO
  isplitl [H0]; · iexact H0
  iintro ⟨HO, H0, Hs0⟩
  iapply (sentH_wp pr c ℓ 1 (show j < 31 by omega))
  isplitr; · iexact HC
  isplitl [HO]; · iexact HO
  isplitl [H1]; · iexact H1
  iintro ⟨HO, H1, Hs1⟩
  iapply (giveH_wp pr c ℓ hj hd)
  isplitr; · iexact HC
  isplitl [HO]; · iexact HO
  isplitl [H0 H1]
  · isplitl [H0] <;> iassumption
  isplitl [Hs0 Hs1]
  · isplitl [Hs0] <;> iassumption
  isplitl [Ht]; · iexact Ht
  isplitl [Hdu]; · iexact Hdu
  isplitr; · iexact Hr
  iintro ⟨HO, Hh, Ht, Hdu⟩
  iapply Hk
  isplitl [HO]; · iexact HO
  isplitl [Hc]; · iexact Hc
  isplitl [Hh]; · iexact Hh
  isplitl [Ht] <;> iassumption

theorem stepP_wp (A : Args) (hA : A.lane = lane) (c : Dev nD) {v : BitVec 32} {T : S32.Idx → Elt F .i32}
    {X : S8192x256.Idx → Elt F .bf16} {W : S256x4096.Idx → Elt F .bf16} (hG : Good pr c v T X W) {j : ℕ} (hj : j < 30)
    (k : FVec F S256x2048 .f32 → FVec F S256x2048 .f32 → Pg F) (Kt : PUnit → sProp 𝕄) :
    iprop(Ctx pr K ιs ∗ nbr c false ∗ nbr c true ∗ inP A c T X W ∗ devSt c j
        ∗ ((inP A c T X W ∗ devSt c (j + 1)) -∗ WP c (k (pr c false (j + 2)) (pr c true (j + 2))) Kt))
      ⊢ WP c (stepP A v (tgt true c) (tgt false c) j (pr c false (j + 1)) (pr c true (j + 1)) k) Kt := by
  obtain ⟨sc, tbl, x, w, out, ln⟩ := A
  obtain rfl : ln = lane := hA
  iintro ⟨#HC, #Hf, #Ht, Hin, Hd, Hk⟩
  unfold stepP
  iapply (passes_wp pr c hj)
  isplitr; · iexact HC
  isplitr; · iexact Hf
  isplitr; · iexact Ht
  isplitl [Hd]; · iexact Hd
  iintro ⟨HO, Hlf, Hlt⟩
  iapply (frees_wp pr c false (n := fun _ _ => j + 2) (d := fun _ => min j 29) hj rfl)
  isplitr; · iexact HC
  isplitr; · iexact Hf
  isplitl [HO]; · iexact HO
  isplitl [Hlf]; · iexact Hlf
  iintro ⟨HO, Hlf⟩
  iapply (frees_wp pr c true (n := fun _ _ => j + 2) (d := capC (fun _ => min j 29) false) hj rfl)
  isplitr; · iexact HC
  isplitr; · iexact Ht
  isplitl [HO]; · iexact HO
  isplitl [Hlt]; · iexact Hlt
  iintro ⟨HO, Hlt⟩
  rw [show capC (capC (fun _ => min j 29) false) true = fun _ => min (j + 1) 29 from by
    funext ℓ
    cases ℓ <;> simp [capC] <;> omega]
  iapply (partialP_wp pr _ c false hG (show j + 2 < 32 by omega))
  isplitl [Hin]; · iexact Hin
  iintro Hin
  iapply (partialP_wp pr _ c true hG (show j + 2 < 32 by omega))
  isplitl [Hin]; · iexact Hin
  iintro Hin
  iapply Hk
  isplitl [Hin]; · iexact Hin
  unfold devSt
  isplitl [HO]; · iexact HO
  isplitl [Hlf] <;> iassumption

/-- Steps `j` to `29`. -/
theorem stepsP_wp (A : Args) (hA : A.lane = lane) (c : Dev nD) {v : BitVec 32} {T : S32.Idx → Elt F .i32}
    {X : S8192x256.Idx → Elt F .bf16} {W : S256x4096.Idx → Elt F .bf16} (hG : Good pr c v T X W)
    (k : FVec F S256x2048 .f32 → FVec F S256x2048 .f32 → Pg F) (Kt : PUnit → sProp 𝕄) (N : ℕ) :
    ∀ j, j + N = 30 → (iprop(Ctx pr K ιs ∗ nbr c false ∗ nbr c true ∗ inP A c T X W ∗ devSt c j
        ∗ ((inP A c T X W ∗ devSt c 30) -∗ WP c (k (pr c false 31) (pr c true 31)) Kt))
      ⊢ WP c (stepsP A v (tgt true c) (tgt false c) N j (pr c false (j + 1)) (pr c true (j + 1)) k) Kt) := by
  induction N with
  | zero =>
    intro j h
    obtain rfl : j = 30 := by omega
    iintro ⟨-, -, -, Hin, Hd, Hk⟩
    iapply Hk
    isplitl [Hin] <;> iassumption
  | succ N ih =>
    intro j h
    unfold stepsP
    iintro ⟨#HC, #Hf, #Ht, Hin, Hd, Hk⟩
    iapply (stepP_wp pr A hA c hG (show j < 30 by omega))
    isplitr; · iexact HC
    isplitr; · iexact Hf
    isplitr; · iexact Ht
    isplitl [Hin]; · iexact Hin
    isplitl [Hd]; · iexact Hd
    iintro ⟨Hin, Hd⟩
    iapply (ih (j + 1) (by omega))
    isplitr; · iexact HC
    isplitr; · iexact Hf
    isplitr; · iexact Ht
    isplitl [Hin]; · iexact Hin
    isplitl [Hd]; · iexact Hd
    iexact Hk

end Cert.KernelIdeal.Ring
-- ==== Proof.Ring.lean ====
/- The barrier among neighbours, the first hops and what follows the last. -/
module

public import proofs.«01_k».proof.Proof.Step

@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (pr : Dev nD → Bool → ℕ → FVec F S256x2048 .f32)
variable {K : GSem nD τ sig → ℕ} {ιs : Key → ℕ} {n : Bool → Fin 2 → ℕ} {d : Bool → ℕ}

/-! ## The slots that are free from the start -/

/-- A free slot is handed over to the hop that fills it. -/
theorem release_upd (c : Dev nD) (ℓ : Bool) {i : ℕ} (hi : i < 31) :
    iprop(Ctx (F := F) pr K ιs ∗ (slotAny c ℓ (sl (i + 1)) 0 ∗ slotAny c ℓ (sl (i + 1)) 1)
        ∗ (readerAt EK ((c, ℓ, 0, i) : Key) 0 ∗ readerAt EK ((c, ℓ, 1, i) : Key) 0) ∗ ready c ℓ i
        ∗ (reached ER (rcvAt c ℓ 0 i) (i / 3) ∗ reached ER (rcvAt c ℓ 1 i) (i / 3)))
      ⊢ (iprop(|={Set.univ}=> ready c ℓ (i + 1)) : sProp 𝕄) := by
  iintro ⟨#HC, ⟨Hs0, Hs1⟩, ⟨Hr0, Hr1⟩, #Hrdy, ⟨#Hq0, #Hq1⟩⟩
  ihave #HS0 := (Ctx_slot pr K ιs c ℓ 0 hi) $$ HC
  ihave #HS1 := (Ctx_slot pr K ιs c ℓ 1 hi) $$ HC
  imod (slot_release EK (Set.mem_univ (ιs (c, ℓ, 0, i))) (slotAny_false c ℓ (sl (i + 1)) 0) 0) $$ [Hs0 Hr0] with ⟨-, #Hl0⟩
  · isplitr; · iexact HS0
    isplitl [Hr0] <;> iassumption
  imod (slot_release EK (Set.mem_univ (ιs (c, ℓ, 1, i))) (slotAny_false c ℓ (sl (i + 1)) 1) 0) $$ [Hs1 Hr1] with ⟨-, #Hl1⟩
  · isplitr; · iexact HS1
    isplitl [Hr1] <;> iassumption
  imodintro
  iapply (ready_succ c ℓ i)
  isplitr; · iexact Hrdy
  isplitr
  · isplitr; · iexact Hl0
    iexact Hq0
  · isplitr; · iexact Hl1
    iexact Hq1

/-- Half a lane before the first hop, where `r` is the first hop whose slot has yet to be handed over. -/
def preHalf (c : Dev nD) (ℓ : Bool) (b : Fin 2) (r : ℕ) : sProp 𝕄 :=
  iprop(nextRecv c ℓ b 0 ∗ nextRecv c ℓ b 1 ∗ nextRecv c ℓ b 2
    ∗ nextSend c ℓ b 0 ∗ nextSend c ℓ b 1 ∗ nextSend c ℓ b 2
    ∗ rcvCreds c ℓ b 0 ∗ hopToks c ℓ b 0 ∗ readers c ℓ b r)

/-- One more slot of a lane is handed over. -/
theorem preHalf_release (c : Dev nD) (ℓ : Bool) {i : ℕ} (hi : i < 2) :
    iprop(Ctx (F := F) pr K ιs ∗ (preHalf c ℓ 0 i ∗ preHalf c ℓ 1 i) ∗ (slotAny c ℓ (sl (i + 1)) 0 ∗ slotAny c ℓ (sl (i + 1)) 1)
        ∗ ready c ℓ i)
      ⊢ (iprop(|={Set.univ}=> ((preHalf c ℓ 0 (i + 1) ∗ preHalf c ℓ 1 (i + 1)) ∗ ready c ℓ (i + 1))) : sProp 𝕄) := by
  have hq (b : Fin 2) : preHalf (F := F) c ℓ b i
      ⊢ iprop(preHalf c ℓ b (i + 1) ∗ readerAt EK ((c, ℓ, b, i) : Key) 0 ∗ reached ER (rcvAt c ℓ b i) (i / 3)) := by
    unfold preHalf
    iintro ⟨Hr0, Hr1, Hr2, Hs0, Hs1, Hs2, Hc, Ht, Hrd⟩
    ihave Hrd := (Entails.of_eq (BI.bigSep_Ico_succ_bot (show i < 31 by omega)
      (fun i => (readerAt EK ((c, ℓ, b, i) : Key) 0 : sProp 𝕄)))) $$ Hrd
    icases Hrd with ⟨Hrd0, Hrd⟩
    unfold nextRecv
    icases Hr0 with ⟨Ha0, #Hp0⟩
    icases Hr1 with ⟨Ha1, #Hp1⟩
    isplitr [Hrd0]
    · isplitl [Ha0]
      · isplitl; · iexact Ha0
        iexact Hp0
      isplitl [Ha1]
      · isplitl; · iexact Ha1
        iexact Hp1
      isplitl [Hr2]; · iexact Hr2
      isplitl [Hs0]; · iexact Hs0
      isplitl [Hs1]; · iexact Hs1
      isplitl [Hs2]; · iexact Hs2
      isplitl [Hc]; · iexact Hc
      isplitl [Ht] <;> iassumption
    isplitl [Hrd0]; · iexact Hrd0
    match i, hi with
    | 0, _ => iexact Hp0
    | 1, _ => iexact Hp1
  iintro ⟨#HC, ⟨H0, H1⟩, Hs, Hr⟩
  ihave H0 := (hq 0) $$ H0
  ihave H1 := (hq 1) $$ H1
  icases H0 with ⟨H0, Ha, Hb⟩
  icases H1 with ⟨H1, Ha', Hb'⟩
  imod (release_upd pr (K := K) (ιs := ιs) c ℓ (show i < 31 by omega)) $$ [Hs Hr Ha Hb Ha' Hb'] with Hr
  · isplitr; · iexact HC
    isplitl [Hs]; · iexact Hs
    isplitl [Ha Ha']
    · isplitl [Ha] <;> iassumption
    isplitl [Hr]; · iexact Hr
    isplitl [Hb] <;> iassumption
  imodintro
  isplitr [Hr]
  · isplitl [H0] <;> iassumption
  iexact Hr

/-! ## The barrier -/

/-- What a device owes its neighbours' barriers. -/
def barOwe (c : Dev nD) : CellTallies nD τ sig ℕ :=
  tallyAt (cell (up true c) .bar) 1 1 + tallyAt (cell (up false c) .bar) 1 1

theorem barOwe_eq (c : Dev nD) : Owe c (fun _ _ => 0) (fun _ => 0) + barOwe c
    = Owe c (fun _ _ => 0) (fun _ => 0) + tallyAt (cell (up true c) .bar) 1 1 + tallyAt (cell (up false c) .bar) 1 1 :=
  (add_assoc _ _ _).symm

theorem mem_bar0 (c : Dev nD) : 0 ∈ (Rd (F := F) pr).duties (cell c .bar) 0 := by
  rw [duties_cell]; decide

theorem mem_bar1 (c : Dev nD) : 1 ∈ (Rd (F := F) pr).duties (cell c .bar) 0 := by
  rw [duties_cell]; decide

theorem barrierP_wp (c : Dev nD) (k : Pg F) (Kt : PUnit → sProp 𝕄) :
    iprop(Ctx pr K ιs ∗ (∃ W, owes (c : Thread nD τ) (Owe c (fun _ _ => 0) (fun _ => 0) + barOwe c) W)
        ∗ (reached ER (cell (up false c) .bar) 0 ∗ reached ER (cell (up true c) .bar) 0)
        ∗ (dutyTok ER (cell (up false c) .bar) 0 0 ∗ dutyTok ER (cell (up true c) .bar) 0 1)
        ∗ (ready c false 2 ∗ reached ER (cell c (.crd true)) 0)
        ∗ (ready c true 2 ∗ reached ER (cell c (.crd false)) 0)
        ∗ atPos ER (cell c .bar) 0 ∅ 0 ∗ cred (tallyAt (cell c .bar) 1 2)
        ∗ ((ow c (fun _ _ => 0) (fun _ => 0) ∗ nbr c false ∗ nbr c true ∗ atPos ER (cell c .bar) 1 ∅ 0) -∗ WP c k Kt))
      ⊢ WP c (barrierP (up false c) (up true c) k) Kt := by
  have hp : barrierP (up false c) (up true c) k
      = .op (.semSignal ((up false c : Thread nD τ)) barSem 1) fun _ =>
        .op (.semSignal ((up true c : Thread nD τ)) barSem 1) fun _ => .op (.semWait barSem 2) fun _ => k := rfl
  rw [hp]
  iintro ⟨#HC, ⟨%W, HO⟩, ⟨#Hrf, #Hrt⟩, ⟨Htf, Htt⟩, Hpf, Hpt, Hat, Hcr, Hk⟩
  ihave #HIf := (Ctx_cell pr K ιs (up false c) .bar) $$ HC
  ihave #HIt := (Ctx_cell pr K ιs (up true c) .bar) $$ HC
  ihave #HI := (Ctx_cell pr K ιs c .bar) $$ HC
  iapply (Rounds.wp_signal 𝒱₀ ER (Rd pr) (c : Thread nD τ) none (dst := (up false c : Thread nD τ)) (sem := barSem)
      (r := 0) (d := 0) (k' := 1) (κ := K (cell (up false c) .bar))
      (mem_bar0 pr (up false c)) (amount_cell pr (up false c) .bar 0 0) 1
      (Owe c (fun _ _ => 0) (fun _ => 0) + tallyAt (cell (up true c) .bar) 1 1)
      (barOwe_eq c)) $$ [HO Htf Hpf]
  · isplitr; · iexact HIf
    isplitl [HO]; · iexact HO
    isplitl [Htf]; · iexact Htf
    isplitl [Hpf]
    · iapply (Entails.of_eq (show iprop(ready c false 2 ∗ reached ER (cell c (.crd true)) 0)
          = (Rd (F := F) pr).payload ((up false c : Thread nD τ), .reg barSem) 0 0 from
        ((payload_cell pr (up false c) .bar 0 0).trans (by
          show iprop(ready (tgt false (up false c)) false 2 ∗ reached ER (cell (tgt false (up false c)) (.crd true)) 0) = _
          rw [tgt_up])).symm))
      iexact Hpf
    iexact Hrf
  iintro HO
  iapply (Rounds.wp_signal 𝒱₀ ER (Rd pr) (c : Thread nD τ) none (dst := (up true c : Thread nD τ)) (sem := barSem)
      (r := 0) (d := 1) (k' := 1) (κ := K (cell (up true c) .bar))
      (mem_bar1 pr (up true c))
      (amount_cell pr (up true c) .bar 0 1) 1
      (Owe c (fun _ _ => 0) (fun _ => 0)) rfl) $$ [HO Htt Hpt]
  · isplitr; · iexact HIt
    isplitl [HO]; · iexact HO
    isplitl [Htt]; · iexact Htt
    isplitl [Hpt]
    · iapply (Entails.of_eq (show iprop(ready c true 2 ∗ reached ER (cell c (.crd false)) 0)
          = (Rd (F := F) pr).payload ((up true c : Thread nD τ), .reg barSem) 0 1 from
        ((payload_cell pr (up true c) .bar 0 1).trans (by
          show iprop(ready (tgt true (up true c)) true 2 ∗ reached ER (cell (tgt true (up true c)) (.crd false)) 0) = _
          rw [tgt_up])).symm))
      iexact Hpt
    iexact Hrt
  iintro HO
  iapply (Rounds.wp_wait_rest_token 𝒱₀ ER (Rd pr) (c : Thread nD τ) none (κ := K (cell c .bar)) (sm := semOf .bar)
      (wpE_semWait_eq 𝒱₀ (c : Thread nD τ) none Set.univ) (Set.mem_univ _) 1 (O := Owe c (fun _ _ => 0) (fun _ => 0))
      (R := 0) (m := 0) (T := ∅)
      (by rw [expect_cell]; rfl)) $$ [Hcr HO Hat]
  · isplitr; · iexact HI
    isplitl [Hcr]; · iexact Hcr
    isplitl [HO]; · iexact HO
    isplitr
    · iapply ((Ctx_lev (F := F) pr K ιs).trans <| mayWait c .bar (fun _ _ => 0) (fun _ => 0) (ι := 1) (by omega)
        (fun ℓ b => by unfold rI; omega) (fun ℓ h => by unfold cI; omega))
      iexact HC
    iexact Hat
  iintro ⟨HO, Hat, -, Hpay⟩
  have hpay : bigSep ((Rd (F := F) pr).duties (cell c .bar) 0 \ ∅) (fun d => (Rd (F := F) pr).payload (cell c .bar) 0 d)
      ⊢ iprop((ready (tgt false c) false 2 ∗ reached ER (cell (tgt false c) (.crd true)) 0)
        ∗ (ready (tgt true c) true 2 ∗ reached ER (cell (tgt true c) (.crd false)) 0)) := by
    rw [duties_cell, Finset.sdiff_empty, bigSep_congr fun i _ => payload_cell pr c .bar 0 i]
    show bigSep ({0, 1} : Finset ℕ) _ ⊢ _
    rw [bigSep_insert (by decide), bigSep_singleton]
    exact .rfl
  ihave Hpay := hpay $$ Hpay
  icases Hpay with ⟨⟨Hf, Hf'⟩, ⟨Ht, Ht'⟩⟩
  iapply Hk
  isplitl [HO]
  · unfold ow; iexists _; iexact HO
  unfold nbr
  isplitl [Hf Ht']
  · isplitl [Hf]; · iexact Hf
    iexact Ht'
  isplitl [Ht Hf']
  · isplitl [Ht]; · iexact Ht
    iexact Hf'
  iexact Hat

/-! ## The first hops -/

/-- A lane before the first hop. -/
def preLane (c : Dev nD) (ℓ : Bool) : sProp 𝕄 :=
  iprop(crdSt c ℓ 0 ∗ (preHalf c ℓ 0 2 ∗ preHalf c ℓ 1 2) ∗ ready c ℓ 2 ∗ duties c ℓ 0
    ∗ (slotAny c ℓ 0 0 ∗ slotAny c ℓ 0 1))

/-- The first hop of a lane. -/
theorem firstL_wp (c : Dev nD) (ℓ : Bool) (h0 : n ℓ 0 = 0) (h1 : n ℓ 1 = 0) (k : Pg F) (Kt : PUnit → sProp 𝕄) :
    iprop(Ctx pr K ιs ∗ nbr c ℓ ∗ ow c n d ∗ preLane c ℓ
        ∗ ((ow c (bump (bump n ℓ 0) ℓ 1) d ∗ laneSt c ℓ 0) -∗ WP c k Kt))
      ⊢ WP c (firstP (lane ℓ) (tgt ℓ c) (pr c ℓ 0) k) Kt := by
  have ht : tail (F := F) c ℓ 0 = ready c ℓ 2 := if_pos (by omega)
  unfold preLane laneSt preHalf halfSt nbr
  rw [ht]
  iintro ⟨#HC, ⟨#Hn, -⟩, HO, ⟨Hc, ⟨⟨Ha0, Ha1, Ha2, Hb0, Hb1, Hb2, Hac, Hat, Har⟩, ⟨Hd0, Hd1, Hd2, He0, He1, He2, Hdc, Hdt, Hdr⟩⟩, Hr, Hdu, Hsl⟩, Hk⟩
  ihave Hat := (Entails.of_eq (BI.bigSep_Ico_succ_bot (show 0 < 31 by omega)
    (fun i => (hopTok c ℓ 0 i : sProp 𝕄)))) $$ Hat
  icases Hat with ⟨Hat0, Hat⟩
  ihave Hdt := (Entails.of_eq (BI.bigSep_Ico_succ_bot (show 0 < 31 by omega)
    (fun i => (hopTok c ℓ 1 i : sProp 𝕄)))) $$ Hdt
  icases Hdt with ⟨Hdt0, Hdt⟩
  iapply (firstP_wp pr c ℓ (show 0 < 2 by omega) h0 h1)
  isplitr; · iexact HC
  isplitl [HO]; · iexact HO
  isplitl [Hat0 Hdt0]
  · isplitl [Hat0] <;> iassumption
  isplitl [Hb0 He0]
  · isplitl [Hb0] <;> iassumption
  isplitr; · iexact Hn
  isplitl [Hsl]; · iexact Hsl
  iintro ⟨HO, ⟨Hb0, He0⟩, ⟨Hx, Hy⟩⟩
  iapply Hk
  isplitl [HO]; · iexact HO
  isplitl [Hc]; · iexact Hc
  isplitr [Hr Hdu]
  · isplitl [Ha0 Ha1 Ha2 Hb0 Hb1 Hb2 Hx Hac Hat Har]
    · isplitl [Ha0]; · iexact Ha0
      isplitl [Ha1]; · iexact Ha1
      isplitl [Ha2]; · iexact Ha2
      isplitl [Hb0]; · iexact Hb0
      isplitl [Hb1]; · iexact Hb1
      isplitl [Hb2]; · iexact Hb2
      isplitl [Hx]; · iexact Hx
      isplitl [Hac]; · iexact Hac
      isplitl [Hat] <;> iassumption
    · isplitl [Hd0]; · iexact Hd0
      isplitl [Hd1]; · iexact Hd1
      isplitl [Hd2]; · iexact Hd2
      isplitl [He0]; · iexact He0
      isplitl [He1]; · iexact He1
      isplitl [He2]; · iexact He2
      isplitl [Hy]; · iexact Hy
      isplitl [Hdc]; · iexact Hdc
      isplitl [Hdt] <;> iassumption
  isplitl [Hr] <;> iassumption

/-! ## The end -/

/-- Half a lane in the end. -/
def endHalf (c : Dev nD) (ℓ : Bool) (b : Fin 2) : sProp 𝕄 :=
  iprop((nextRecv c ℓ b 31 ∗ nextRecv c ℓ b 32 ∗ nextRecv c ℓ b 33)
    ∗ (nextSend c ℓ b 31 ∗ nextSend c ℓ b 32 ∗ nextSend c ℓ b 33)
    ∗ (slotAny c ℓ (sl 29) b ∗ slotAny c ℓ (sl 30) b ∗ slotAny c ℓ (sl 31) b))

/-- Half a lane once the last arrival has been used. -/
def lateHalf (c : Dev nD) (ℓ : Bool) (b : Fin 2) : sProp 𝕄 :=
  iprop((nextRecv c ℓ b 31 ∗ nextRecv c ℓ b 32 ∗ nextRecv c ℓ b 33)
    ∗ (nextSend c ℓ b 30 ∗ nextSend c ℓ b 31 ∗ nextSend c ℓ b 32)
    ∗ cred (tallyAt (sndAt c ℓ b 30) 0 N) ∗ slotAny c ℓ (sl 31) b)

theorem lastH_wp (A : Args) (hA : A.lane = lane) (c : Dev nD) (val : Bool → Fin 2 → FVec F S128x2048 .f32) (S : Finset (Bool × Fin 2))
    (ℓ : Bool) (b : Fin 2) (hval : val ℓ b = acc b (pr c ℓ 31) (sent pr 30 (up ℓ c) ℓ b)) (k : Pg F) (Kt : PUnit → sProp 𝕄) :
    iprop(Ctx pr K ιs ∗ ow c (fun _ _ => 31) (fun _ => 29) ∗ halfSt c ℓ b 30 32 ∗ outP A c val S
        ∗ ((ow c (fun _ _ => 31) (fun _ => 29) ∗ lateHalf c ℓ b ∗ outP A c val (insert (ℓ, b) S)) -∗ WP c k Kt))
      ⊢ WP c (lastP A ℓ b (pr c ℓ 31) k) Kt := by
  unfold halfSt lateHalf
  iintro ⟨#HC, HO, ⟨Hr0, Hr1, Hr2, Hs0, Hs1, Hs2, Hc, Hcr, -⟩, Hout, Hk⟩
  ihave Hcr := (Entails.of_eq (BI.bigSep_Ico_succ_bot (show 30 < 31 by omega)
    (fun i => (cred (tallyAt (rcvAt c ℓ b i) (rI i) N) : sProp 𝕄)))) $$ Hcr
  icases Hcr with ⟨Hc1, -⟩
  iapply (lastP_wp pr A hA c val S ℓ b (n := fun _ _ => 31) (d := fun _ => 29) hval (fun _ _ => Nat.le_refl _) (fun _ h => absurd h (Nat.lt_irrefl _)))
  isplitr; · iexact HC
  isplitl [HO]; · iexact HO
  isplitl [Hr0 Hc1]
  · isplitl [Hr0] <;> iassumption
  isplitl [Hout]; · iexact Hout
  iintro ⟨HO, Hr3, Hsl, Hout⟩
  iapply Hk
  isplitl [HO]; · iexact HO
  isplitr [Hout]
  · isplitl [Hr1 Hr2 Hr3]
    · isplitl [Hr1]; · iexact Hr1
      isplitl [Hr2] <;> iassumption
    isplitl [Hs0 Hs1 Hs2]
    · isplitl [Hs0]; · iexact Hs0
      isplitl [Hs1] <;> iassumption
    isplitl [Hc] <;> iassumption
  iexact Hout

theorem sentL_wp (c : Dev nD) (ℓ : Bool) (b : Fin 2) (k : Pg F) (Kt : PUnit → sProp 𝕄) :
    iprop(Ctx pr K ιs ∗ ow c n d ∗ lateHalf c ℓ b ∗ slotAny c ℓ (sl 29) b
        ∗ ((ow c n d ∗ endHalf c ℓ b) -∗ WP c k Kt))
      ⊢ WP c (sentP (lane ℓ) 30 b k) Kt := by
  unfold lateHalf endHalf
  iintro ⟨#HC, HO, ⟨Hr, ⟨Hs0, Hs1, Hs2⟩, Hc, Hsl⟩, Hsl', Hk⟩
  iapply (sentP_wp pr c ℓ b (show 30 < 31 by omega))
  isplitr; · iexact HC
  isplitl [HO]; · iexact HO
  isplitl [Hs0]; · iexact Hs0
  isplitl [Hc]; · iexact Hc
  iintro ⟨HO, Hs3, Hsl''⟩
  iapply Hk
  isplitl [HO]; · iexact HO
  isplitl [Hr]; · iexact Hr
  isplitl [Hs1 Hs2 Hs3]
  · isplitl [Hs1]; · iexact Hs1
    isplitl [Hs2] <;> iassumption
  isplitl [Hsl']; · iexact Hsl'
  isplitl [Hsl''] <;> iassumption

/-- A lane in the end. -/
def endLane (c : Dev nD) (ℓ : Bool) : sProp 𝕄 :=
  iprop(crdSt c ℓ 29 ∗ (endHalf c ℓ 0 ∗ endHalf c ℓ 1))

/-- The four parts of a result. -/
def parts : Finset (Bool × Fin 2) := insert (true, 1) (insert (false, 1) (insert (true, 0) {(false, 0)}))

theorem mem_parts (ℓ : Bool) (b : Fin 2) : (ℓ, b) ∈ parts := by revert ℓ b; decide

theorem epilogueP_wp (A : Args) (hA : A.lane = lane) (c : Dev nD) (val : Bool → Fin 2 → FVec F S128x2048 .f32)
    (hval : ∀ ℓ b, val ℓ b = acc b (pr c ℓ 31) (sent pr 30 (up ℓ c) ℓ b)) (Kt : PUnit → sProp 𝕄) :
    iprop(Ctx pr K ιs ∗ devSt c 30 ∗ outP A c val ∅
        ∗ ((ow c (fun _ _ => 31) (fun _ => 29) ∗ endLane c false ∗ endLane c true ∗ outP A c val parts) -∗ |={Set.univ}=> Kt ⟨⟩))
      ⊢ WP c (epilogueP A (pr c false 31) (pr c true 31)) Kt := by
  obtain ⟨sc, tbl, x, w, out, ln⟩ := A
  obtain rfl : ln = lane := hA
  have ht (ℓ : Bool) : tail (F := F) c ℓ 30 = iprop(slotAny c ℓ (sl 29) 0 ∗ slotAny c ℓ (sl 29) 1) := if_neg (by omega)
  unfold epilogueP devSt laneSt endLane
  rw [ht, ht]
  iintro ⟨#HC, ⟨HO, ⟨Hfc, ⟨Hf0, Hf1⟩, ⟨Hfs0, Hfs1⟩, -⟩, ⟨Htc, ⟨Ht0, Ht1⟩, ⟨Hts0, Hts1⟩, -⟩⟩, Hout, Hk⟩
  iapply (lastH_wp pr _ rfl c val ∅ false 0 (hval false 0))
  isplitr; · iexact HC
  isplitl [HO]; · iexact HO
  isplitl [Hf0]; · iexact Hf0
  isplitl [Hout]; · iexact Hout
  iintro ⟨HO, Hf0, Hout⟩
  iapply (lastH_wp pr _ rfl c val _ true 0 (hval true 0))
  isplitr; · iexact HC
  isplitl [HO]; · iexact HO
  isplitl [Ht0]; · iexact Ht0
  isplitl [Hout]; · iexact Hout
  iintro ⟨HO, Ht0, Hout⟩
  iapply (lastH_wp pr _ rfl c val _ false 1 (hval false 1))
  isplitr; · iexact HC
  isplitl [HO]; · iexact HO
  isplitl [Hf1]; · iexact Hf1
  isplitl [Hout]; · iexact Hout
  iintro ⟨HO, Hf1, Hout⟩
  iapply (lastH_wp pr _ rfl c val _ true 1 (hval true 1))
  isplitr; · iexact HC
  isplitl [HO]; · iexact HO
  isplitl [Ht1]; · iexact Ht1
  isplitl [Hout]; · iexact Hout
  iintro ⟨HO, Ht1, Hout⟩
  iapply (sentL_wp pr c false 0)
  isplitr; · iexact HC
  isplitl [HO]; · iexact HO
  isplitl [Hf0]; · iexact Hf0
  isplitl [Hfs0]; · iexact Hfs0
  iintro ⟨HO, Hf0⟩
  iapply (sentL_wp pr c false 1)
  isplitr; · iexact HC
  isplitl [HO]; · iexact HO
  isplitl [Hf1]; · iexact Hf1
  isplitl [Hfs1]; · iexact Hfs1
  iintro ⟨HO, Hf1⟩
  iapply (sentL_wp pr c true 0)
  isplitr; · iexact HC
  isplitl [HO]; · iexact HO
  isplitl [Ht0]; · iexact Ht0
  isplitl [Hts0]; · iexact Hts0
  iintro ⟨HO, Ht0⟩
  iapply (sentL_wp pr c true 1)
  isplitr; · iexact HC
  isplitl [HO]; · iexact HO
  isplitl [Ht1]; · iexact Ht1
  isplitl [Hts1]; · iexact Hts1
  iintro ⟨HO, Ht1⟩
  iapply (show iprop(|={Set.univ}=> Kt ⟨⟩) ⊢ WP c (.ret ⟨⟩) Kt from .rfl)
  iapply Hk
  isplitl [HO]; · iexact HO
  isplitl [Hfc Hf0 Hf1]
  · isplitl [Hfc]; · iexact Hfc
    isplitl [Hf0] <;> iassumption
  isplitl [Htc Ht0 Ht1]
  · isplitl [Htc]; · iexact Htc
    isplitl [Ht0] <;> iassumption
  iexact Hout

/-! ## The ring -/

/-- What follows the barrier. -/
theorem ringP_wp (A : Args) (hA : A.lane = lane) (c : Dev nD) {v : BitVec 32} {T : S32.Idx → Elt F .i32}
    {X : S8192x256.Idx → Elt F .bf16} {W : S256x4096.Idx → Elt F .bf16} (hG : Good pr c v T X W)
    (val : Bool → Fin 2 → FVec F S128x2048 .f32)
    (hval : ∀ ℓ b, val ℓ b = acc b (pr c ℓ 31) (sent pr 30 (up ℓ c) ℓ b)) (Kt : PUnit → sProp 𝕄) :
    iprop(Ctx pr K ιs ∗ nbr c false ∗ nbr c true ∗ inP A c T X W ∗ outP A c val ∅
        ∗ ow c (fun _ _ => 0) (fun _ => 0) ∗ preLane c false ∗ preLane c true
        ∗ ((ow c (fun _ _ => 31) (fun _ => 29) ∗ endLane c false ∗ endLane c true ∗ inP A c T X W ∗ outP A c val parts)
          -∗ |={Set.univ}=> Kt ⟨⟩))
      ⊢ WP c (ringP A v (tgt true c) (tgt false c)) Kt := by
  obtain ⟨sc, tbl, x, w, out, ln⟩ := A
  obtain rfl : ln = lane := hA
  unfold ringP
  iintro ⟨#HC, #Hf, #Ht, Hin, Hout, HO, Hlf, Hlt, Hk⟩
  iapply (partialP_wp pr _ c false hG (i := 0) (by omega))
  isplitl [Hin]; · iexact Hin
  iintro Hin
  iapply (firstL_wp pr c false (n := fun _ _ => 0) (d := fun _ => 0) rfl rfl)
  isplitr; · iexact HC
  isplitr; · iexact Hf
  isplitl [HO]; · iexact HO
  isplitl [Hlf]; · iexact Hlf
  iintro ⟨HO, Hlf⟩
  rw [show bump (bump (fun _ _ => 0) false 0) false 1 = fun ℓ _ => if ℓ = false then 1 else 0 from by
    funext ℓ b; fin_cases b <;> cases ℓ <;> simp [bump]]
  iapply (partialP_wp pr _ c true hG (i := 0) (by omega))
  isplitl [Hin]; · iexact Hin
  iintro Hin
  iapply (firstL_wp pr c true (n := fun ℓ _ => if ℓ = false then 1 else 0) (d := fun _ => 0) rfl rfl)
  isplitr; · iexact HC
  isplitr; · iexact Ht
  isplitl [HO]; · iexact HO
  isplitl [Hlt]; · iexact Hlt
  iintro ⟨HO, Hlt⟩
  rw [show bump (bump (fun ℓ _ => if ℓ = false then 1 else 0) true 0) true 1 = fun _ _ => 0 + 1 from by
    funext ℓ b; fin_cases b <;> cases ℓ <;> simp [bump]]
  iapply (partialP_wp pr _ c false hG (i := 1) (by omega))
  isplitl [Hin]; · iexact Hin
  iintro Hin
  iapply (partialP_wp pr _ c true hG (i := 1) (by omega))
  isplitl [Hin]; · iexact Hin
  iintro Hin
  iapply (stepsP_wp pr _ rfl c hG (epilogueP _) _ 30 0 rfl)
  isplitr; · iexact HC
  isplitr; · iexact Hf
  isplitr; · iexact Ht
  isplitl [Hin]; · iexact Hin
  isplitl [HO Hlf Hlt]
  · unfold devSt
    isplitl [HO]; · iexact HO
    isplitl [Hlf] <;> iassumption
  iintro ⟨Hin, Hd⟩
  iapply (epilogueP_wp pr _ rfl c val hval)
  isplitr; · iexact HC
  isplitl [Hd]; · iexact Hd
  isplitl [Hout]; · iexact Hout
  iintro ⟨HO, Hlf, Hlt, Hout⟩
  iapply Hk
  isplitl [HO]; · iexact HO
  isplitl [Hlf]; · iexact Hlf
  isplitl [Hlt]; · iexact Hlt
  isplitl [Hin] <;> iassumption

end Cert.KernelIdeal.Ring
-- ==== Proof.Body.lean ====
/- The whole body on a device: the entry, the ring and the end. -/
module

public import proofs.«01_k».proof.Proof.Ring

@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (pr : Dev nD → Bool → ℕ → FVec F S256x2048 .f32)
variable {K : GSem nD τ sig → ℕ} {ιs : Key → ℕ}

/-! ## A lane's cells -/

/-- The cells of a lane: the credit, and those of the departures (`false`) and the arrivals (`true`). -/
abbrev Own : Type := Option (Bool × Fin 3 × Fin 2)

/-- A lane's cell. -/
def own (ℓ : Bool) : Own → Cell
  | none => .crd ℓ
  | some (false, s, b) => .snd ℓ s b
  | some (true, s, b) => .rcv ℓ s b

theorem bigSep_own (Φ : Own → sProp 𝕄) : bigSep Finset.univ Φ
    = iprop(Φ none ∗ Φ (some (false, 0, 0)) ∗ Φ (some (false, 1, 0)) ∗ Φ (some (false, 2, 0))
      ∗ Φ (some (false, 0, 1)) ∗ Φ (some (false, 1, 1)) ∗ Φ (some (false, 2, 1))
      ∗ Φ (some (true, 0, 0)) ∗ Φ (some (true, 1, 0)) ∗ Φ (some (true, 2, 0))
      ∗ Φ (some (true, 0, 1)) ∗ Φ (some (true, 1, 1)) ∗ Φ (some (true, 2, 1))) :=
  bigSep_univ_eq_bigSepL [none, some (false, 0, 0), some (false, 1, 0), some (false, 2, 0), some (false, 0, 1),
    some (false, 1, 1), some (false, 2, 1), some (true, 0, 0), some (true, 1, 0), some (true, 2, 0), some (true, 0, 1),
    some (true, 1, 1), some (true, 2, 1)] (by decide) (by decide) Φ

theorem bigSep_slots (Φ : Fin 3 × Fin 2 → sProp 𝕄) : bigSep Finset.univ Φ
    = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

/-! ## The entry -/

/-- A device's places at a lane's cells once they are open. -/
def lanePos (c : Dev nD) (ℓ : Bool) : sProp 𝕄 :=
  bigSep Finset.univ fun j : Own => iprop(atPos ER (cell c (own ℓ j)) 0 ∅ 0 ∗ reached ER (cell c (own ℓ j)) 0)

/-- The rights and credits of half a lane. -/
def startHalf (c : Dev nD) (ℓ : Bool) (b : Fin 2) : sProp 𝕄 :=
  iprop(rcvCreds c ℓ b 0 ∗ hopToks c ℓ b 0 ∗ readers c ℓ b 0)

/-- The rights and credits of a lane. -/
def laneStart (c : Dev nD) (ℓ : Bool) : sProp 𝕄 :=
  iprop(bigSep (Finset.Ico 0 29) (fun i => cred (tallyAt (cell c (.crd ℓ)) (cI i) 1))
    ∗ startHalf c ℓ 0 ∗ startHalf c ℓ 1 ∗ duties c ℓ 0)

theorem preHalf_intro (c : Dev nD) (ℓ : Bool) (b : Fin 2) :
    iprop((nextRecv c ℓ b 0 ∗ nextRecv c ℓ b 1 ∗ nextRecv c ℓ b 2) ∗ (nextSend c ℓ b 0 ∗ nextSend c ℓ b 1 ∗ nextSend c ℓ b 2)
      ∗ startHalf c ℓ b) ⊢ (preHalf c ℓ b 0 : sProp 𝕄) := by
  unfold preHalf startHalf
  iintro ⟨⟨H0, H1, H2⟩, ⟨H3, H4, H5⟩, H6, H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7] <;> iassumption

theorem nextRecv_intro (c : Dev nD) (ℓ : Bool) (b : Fin 2) (i : ℕ) {s : Fin 3} (hs : s = sl (i + 1)) (hi : i / 3 = 0) :
    iprop(atPos ER (cell c (own ℓ (some (true, s, b)))) 0 ∅ 0 ∗ reached ER (cell c (own ℓ (some (true, s, b)))) 0)
      ⊢ (nextRecv c ℓ b i : sProp 𝕄) := by
  subst hs
  unfold nextRecv
  rw [hi]
  exact .rfl

theorem nextSend_intro (c : Dev nD) (ℓ : Bool) (b : Fin 2) (i : ℕ) {s : Fin 3} (hs : s = sl i) (hi : i / 3 = 0) :
    iprop(atPos ER (cell c (own ℓ (some (false, s, b)))) 0 ∅ 0 ∗ reached ER (cell c (own ℓ (some (false, s, b)))) 0)
      ⊢ (nextSend c ℓ b i : sProp 𝕄) := by
  subst hs
  unfold nextSend
  rw [hi]
  exact .rfl

/-- A lane's places sorted by half. -/
theorem lanePos_split (c : Dev nD) (ℓ : Bool) : lanePos (F := F) c ℓ
    ⊢ iprop((atPos ER (cell c (.crd ℓ)) 0 ∅ 0 ∗ reached ER (cell c (.crd ℓ)) 0)
      ∗ ((nextRecv c ℓ 0 0 ∗ nextRecv c ℓ 0 1 ∗ nextRecv c ℓ 0 2) ∗ (nextSend c ℓ 0 0 ∗ nextSend c ℓ 0 1 ∗ nextSend c ℓ 0 2))
      ∗ ((nextRecv c ℓ 1 0 ∗ nextRecv c ℓ 1 1 ∗ nextRecv c ℓ 1 2) ∗ (nextSend c ℓ 1 0 ∗ nextSend c ℓ 1 1 ∗ nextSend c ℓ 1 2))) := by
  unfold lanePos
  rw [bigSep_own]
  iintro ⟨Hc, Hs00, Hs10, Hs20, Hs01, Hs11, Hs21, Hr00, Hr10, Hr20, Hr01, Hr11, Hr21⟩
  isplitl [Hc]; · iexact Hc
  isplitl [Hs00 Hs10 Hs20 Hr00 Hr10 Hr20]
  · isplitl [Hr00 Hr10 Hr20]
    · isplitl [Hr10]; · iapply (nextRecv_intro c ℓ 0 0 rfl rfl); iexact Hr10
      isplitl [Hr20]; · iapply (nextRecv_intro c ℓ 0 1 rfl rfl); iexact Hr20
      iapply (nextRecv_intro c ℓ 0 2 rfl rfl); iexact Hr00
    isplitl [Hs00]; · iapply (nextSend_intro c ℓ 0 0 rfl rfl); iexact Hs00
    isplitl [Hs10]; · iapply (nextSend_intro c ℓ 0 1 rfl rfl); iexact Hs10
    iapply (nextSend_intro c ℓ 0 2 rfl rfl); iexact Hs20
  isplitl [Hr01 Hr11 Hr21]
  · isplitl [Hr11]; · iapply (nextRecv_intro c ℓ 1 0 rfl rfl); iexact Hr11
    isplitl [Hr21]; · iapply (nextRecv_intro c ℓ 1 1 rfl rfl); iexact Hr21
    iapply (nextRecv_intro c ℓ 1 2 rfl rfl); iexact Hr01
  isplitl [Hs01]; · iapply (nextSend_intro c ℓ 1 0 rfl rfl); iexact Hs01
  isplitl [Hs11]; · iapply (nextSend_intro c ℓ 1 1 rfl rfl); iexact Hs11
  iapply (nextSend_intro c ℓ 1 2 rfl rfl); iexact Hs21

theorem ready_zero (c : Dev nD) (ℓ : Bool) : ⊢ (ready c ℓ 0 : sProp 𝕄) := by
  unfold ready
  rw [Finset.range_zero, Finset.product_empty, bigSep_empty]
  exact .rfl

theorem crdSt_intro (c : Dev nD) (ℓ : Bool) :
    iprop(atPos ER (cell c (.crd ℓ)) 0 ∅ 0 ∗ bigSep (Finset.Ico 0 29) (fun i => cred (tallyAt (cell c (.crd ℓ)) (cI i) 1)))
      ⊢ (crdSt c ℓ 0 : sProp 𝕄) := by
  unfold crdSt
  iintro ⟨H, Hc⟩
  iexists (∅ : Finset ℕ)
  isplitr; · ipureintro; exact ⟨Nat.zero_le _, Finset.empty_subset _⟩
  isplitl [H]; · iexact H
  isplitr; · rw [bigSep_empty]; iempintro
  iexact Hc

/-- A lane is made ready: the two slots that nothing leaves first are handed over. -/
theorem lane_enter (c : Dev nD) (ℓ : Bool) :
    iprop(Ctx (F := F) pr K ιs ∗ lanePos c ℓ ∗ laneStart c ℓ ∗ (∃ f : Buf (Elt F) (cmLoc c ℓ), cmLoc c ℓ ↦{fullShare} f))
      ⊢ (iprop(|={Set.univ}=> (preLane c ℓ ∗ ready c ℓ 2 ∗ reached ER (cell c (.crd ℓ)) 0)) : sProp 𝕄) := by
  iintro ⟨#HC, HP, HS, Hb⟩
  ihave HP := (lanePos_split c ℓ) $$ HP
  icases HP with ⟨⟨Hc, #Hr⟩, ⟨Hr0, Hs0⟩, ⟨Hr1, Hs1⟩⟩
  unfold laneStart
  icases HS with ⟨Hcr, H0, H1, Hd⟩
  ihave Hsl := (slots_split c ℓ) $$ Hb
  ihave Hsl := (Entails.of_eq (bigSep_slots (F := F) fun q => slotAny c ℓ q.1 q.2)) $$ Hsl
  icases Hsl with ⟨S00, S01, S10, S11, S20, S21⟩
  ihave Hc := (crdSt_intro c ℓ) $$ [Hc Hcr]
  · isplitl [Hc] <;> iassumption
  ihave H0 := (preHalf_intro c ℓ 0) $$ [Hr0 Hs0 H0]
  · isplitl [Hr0]; · iexact Hr0
    isplitl [Hs0] <;> iassumption
  ihave H1 := (preHalf_intro c ℓ 1) $$ [Hr1 Hs1 H1]
  · isplitl [Hr1]; · iexact Hr1
    isplitl [Hs1] <;> iassumption
  imod (preHalf_release pr (K := K) (ιs := ιs) c ℓ (i := 0) (by omega)) $$ [H0 H1 S10 S11] with ⟨H, Hrdy⟩
  · isplitr; · iexact HC
    isplitl [H0 H1]; · isplitl [H0] <;> iassumption
    isplitl [S10 S11]
    · isplitl [S10]; · iexact S10
      iexact S11
    iapply (ready_zero c ℓ)
  imod (preHalf_release pr (K := K) (ιs := ιs) c ℓ (i := 1) (by omega)) $$ [H S20 S21 Hrdy] with ⟨H, #Hrdy⟩
  · isplitr; · iexact HC
    isplitl [H]; · iexact H
    isplitl [S20 S21]
    · isplitl [S20]; · iexact S20
      iexact S21
    iexact Hrdy
  imodintro
  isplitl
  · unfold preLane
    isplitl [Hc]; · iexact Hc
    isplitl [H]; · iexact H
    isplitr; · iexact Hrdy
    isplitl [Hd]; · iexact Hd
    isplitl [S00] <;> iassumption
  isplitr; · iexact Hrdy
  iexact Hr

/-! ## The end -/

/-- A cell with no more duties gives its counter back at zero. -/
theorem close_at (c : Dev nD) (x : Cell) {R : ℕ} (hR : ∀ r, R ≤ r → (Rd (F := F) pr).duties (cell c x) r = ∅) :
    iprop(Ctx pr K ιs ∗ atPos ER (cell c x) R ∅ 0) ⊢ (iprop(|={Set.univ}=> semVal (cell c x) 0) : sProp 𝕄) := by
  iintro ⟨#HC, H⟩
  ihave #HI := (Ctx_cell pr K ιs c x) $$ HC
  iapply (Rounds.cell_close ER (Rd (F := F) pr) (g := cell c x) (Set.mem_univ (K (cell c x))) id hR)
  isplitr; · iexact HI
  iexact H

theorem close_rcv (c : Dev nD) (ℓ : Bool) (b : Fin 2) {i : ℕ} (hi : 31 ≤ i) :
    iprop(Ctx pr K ιs ∗ nextRecv c ℓ b i) ⊢ (iprop(|={Set.univ}=> semVal (rcvAt c ℓ b i) 0) : sProp 𝕄) := by
  unfold nextRecv
  iintro ⟨#HC, H, -⟩
  iapply (close_at pr (K := K) (ιs := ιs) c (.rcv ℓ (sl (i + 1)) b) (duties_rcv_none pr c ℓ b hi))
  isplitr; · iexact HC
  iexact H

theorem close_snd (c : Dev nD) (ℓ : Bool) (b : Fin 2) {i : ℕ} (hi : 31 ≤ i) :
    iprop(Ctx pr K ιs ∗ nextSend c ℓ b i) ⊢ (iprop(|={Set.univ}=> semVal (sndAt c ℓ b i) 0) : sProp 𝕄) := by
  unfold nextSend
  iintro ⟨#HC, H, -⟩
  iapply (close_at pr (K := K) (ιs := ιs) c (.snd ℓ (sl i) b) (duties_snd_none pr c ℓ b hi))
  isplitr; · iexact HC
  iexact H

theorem close_crd (c : Dev nD) (ℓ : Bool) :
    iprop(Ctx pr K ιs ∗ crdSt c ℓ 29) ⊢ (iprop(|={Set.univ}=> semVal (cell c (.crd ℓ)) 0) : sProp 𝕄) := by
  unfold crdSt
  iintro ⟨#HC, ⟨%S, %hS, H, -, -⟩⟩
  ihave #HI := (Ctx_cell pr K ιs c (.crd ℓ)) $$ HC
  have hd : (Rd (F := F) pr).duties (cell c (.crd ℓ)) 0 = Finset.range 29 := by rw [duties_cell]; rfl
  have he : S = Finset.range 29 := Finset.eq_of_subset_of_card_le hS.2 (by rw [Finset.card_range]; exact hS.1)
  imod (Rounds.fupd_skip ER (Rd (F := F) pr) (κ := K (cell c (.crd ℓ))) (g := cell c (.crd ℓ)) (R := 0) (m := 29) (T := S)
    (by rw [hd, he]) (expect_crd pr c ℓ).symm (Set.mem_univ _)) $$ [H] with ⟨H, -⟩
  · isplitr; · iexact HI
    iexact H
  iapply (close_at pr (K := K) (ιs := ιs) c (.crd ℓ) (R := 1) fun r hr => by
    rw [duties_cell]; dsimp only [dutiesX]; rw [if_neg (by omega)])
  isplitr; · iexact HC
  iexact H

/-- Half a lane's counters in the end. -/
def zeroHalf (c : Dev nD) (ℓ : Bool) (b : Fin 2) : sProp 𝕄 :=
  iprop((semVal (rcvAt c ℓ b 31) 0 ∗ semVal (rcvAt c ℓ b 32) 0 ∗ semVal (rcvAt c ℓ b 33) 0)
    ∗ (semVal (sndAt c ℓ b 31) 0 ∗ semVal (sndAt c ℓ b 32) 0 ∗ semVal (sndAt c ℓ b 33) 0))

theorem half_leave (c : Dev nD) (ℓ : Bool) (b : Fin 2) :
    iprop(Ctx pr K ιs ∗ endHalf c ℓ b)
      ⊢ (iprop(|={Set.univ}=> (zeroHalf c ℓ b ∗ (slotAny c ℓ 0 b ∗ slotAny c ℓ 1 b ∗ slotAny c ℓ 2 b))) : sProp 𝕄) := by
  unfold endHalf zeroHalf
  iintro ⟨#HC, ⟨R1, R2, R3⟩, ⟨S1, S2, S3⟩, ⟨T1, T2, T3⟩⟩
  imod (close_rcv pr (K := K) (ιs := ιs) c ℓ b (i := 31) (by omega)) $$ [R1] with R1
  · isplitr; · iexact HC
    iexact R1
  imod (close_rcv pr (K := K) (ιs := ιs) c ℓ b (i := 32) (by omega)) $$ [R2] with R2
  · isplitr; · iexact HC
    iexact R2
  imod (close_rcv pr (K := K) (ιs := ιs) c ℓ b (i := 33) (by omega)) $$ [R3] with R3
  · isplitr; · iexact HC
    iexact R3
  imod (close_snd pr (K := K) (ιs := ιs) c ℓ b (i := 31) (by omega)) $$ [S1] with S1
  · isplitr; · iexact HC
    iexact S1
  imod (close_snd pr (K := K) (ιs := ιs) c ℓ b (i := 32) (by omega)) $$ [S2] with S2
  · isplitr; · iexact HC
    iexact S2
  imod (close_snd pr (K := K) (ιs := ιs) c ℓ b (i := 33) (by omega)) $$ [S3] with S3
  · isplitr; · iexact HC
    iexact S3
  imodintro
  isplitr [T1 T2 T3]
  · isplitl [R1 R2 R3]
    · isplitl [R1]; · iexact R1
      isplitl [R2] <;> iassumption
    isplitl [S1]; · iexact S1
    isplitl [S2] <;> iassumption
  isplitl [T2]; · iexact T2
  isplitl [T3]; · iexact T3
  iexact T1

/-- A lane's counters in the end. -/
def laneZero (c : Dev nD) (ℓ : Bool) : sProp 𝕄 :=
  bigSep Finset.univ fun j : Own => semVal (cell c (own ℓ j)) 0

theorem lane_leave (c : Dev nD) (ℓ : Bool) (f₀ : Buf (Elt F) (cmLoc c ℓ)) :
    iprop(Ctx pr K ιs ∗ endLane c ℓ)
      ⊢ (iprop(|={Set.univ}=> (laneZero c ℓ ∗ (∃ f : Buf (Elt F) (cmLoc c ℓ), cmLoc c ℓ ↦{fullShare} f))) : sProp 𝕄) := by
  unfold endLane
  iintro ⟨#HC, Hc, H0, H1⟩
  imod (close_crd pr (K := K) (ιs := ιs) c ℓ) $$ [Hc] with Hc
  · isplitr; · iexact HC
    iexact Hc
  imod (half_leave pr (K := K) (ιs := ιs) c ℓ 0) $$ [H0] with ⟨H0, ⟨S00, S10, S20⟩⟩
  · isplitr; · iexact HC
    iexact H0
  imod (half_leave pr (K := K) (ιs := ιs) c ℓ 1) $$ [H1] with ⟨H1, ⟨S01, S11, S21⟩⟩
  · isplitr; · iexact HC
    iexact H1
  imodintro
  isplitr [S00 S10 S20 S01 S11 S21]
  · unfold laneZero zeroHalf
    rw [bigSep_own]
    icases H0 with ⟨⟨R20, R00, R10⟩, ⟨L10, L20, L00⟩⟩
    icases H1 with ⟨⟨R21, R01, R11⟩, ⟨L11, L21, L01⟩⟩
    isplitl [Hc]; · iexact Hc
    isplitl [L00]; · iexact L00
    isplitl [L10]; · iexact L10
    isplitl [L20]; · iexact L20
    isplitl [L01]; · iexact L01
    isplitl [L11]; · iexact L11
    isplitl [L21]; · iexact L21
    isplitl [R00]; · iexact R00
    isplitl [R10]; · iexact R10
    isplitl [R20]; · iexact R20
    isplitl [R01]; · iexact R01
    isplitl [R11]; · iexact R11
    iexact R21
  iapply (slots_join c ℓ f₀)
  iapply (Entails.of_eq (bigSep_slots (F := F) fun q => slotAny c ℓ q.1 q.2).symm)
  isplitl [S00]; · iexact S00
  isplitl [S01]; · iexact S01
  isplitl [S10]; · iexact S10
  isplitl [S11]; · iexact S11
  isplitl [S20]; · iexact S20
  iexact S21

/-! ## The scalars -/

theorem chk3 (v : BitVec 32) : k0_chk3 v := by
  refine ⟨?_, ?_⟩
  · unfold k0_chk3_0
    repeat' apply And.intro
    all_goals exact fun a => tblOff_inb _ a
  · unfold k0_chk3_1
    repeat' apply And.intro
    all_goals exact fun a => tblOff_inb _ a

theorem chk1 {v : BitVec 32} (h : devN v < nD) : k0_chk1 v := by
  refine ⟨?_, ?_, ?_⟩
  · unfold k0_chk1_0
    repeat' apply And.intro
    all_goals exact h
  · unfold k0_chk1_1
    repeat' apply And.intro
    all_goals exact h
  · unfold k0_chk1_2
    repeat' apply And.intro
    all_goals exact h

theorem chk2 {v : BitVec 32} (h : devN v < nD) : k0_chk2 v := by
  refine ⟨?_, ?_, ?_⟩
  · unfold k0_chk2_0
    repeat' apply And.intro
    all_goals exact h
  · unfold k0_chk2_1
    repeat' apply And.intro
    all_goals exact h
  · unfold k0_chk2_2
    repeat' apply And.intro
    all_goals exact h

/-! ## The whole body -/

/-- The entry of the scalars at a place. -/
def scAt (Z : S3.Idx → Elt F .i32) (i : Fin 3) : BitVec 32 := Z (fun a => match a with | 0 => i)

theorem load_sc (A : Args) (c : Dev nD) (Z : S3.Idx → Elt F .i32) (i : Fin 3) (o : Fin 1 → ℕ) (ho : o 0 = i.val)
    (hi : ∀ a, o a + S1.size a ≤ S3.size a) (k : Elt F .i32 → Pg F) (Kt : PUnit → sProp 𝕄) :
    (owns (c : Thread nD τ) A.sc fullShare Z : sProp 𝕄)
      ⊢ iprop((owns (c : Thread nD τ) A.sc fullShare Z -∗ WP c (k (scAt (F := F) Z i)) Kt)
        -∗ WP c ((smemLoad (Val := Elt F) A.sc (Rect.unit (s := S3) o S1.size hi) numel1_S1 rfl).bind k) Kt) := by
  have e : scAt (F := F) Z i = Z ((Rect.unit (s := S3) o S1.size hi).emb (Shape.Idx.first (s := S1) (by decide))) := by
    unfold scAt
    congr 1
    funext a
    match a with
    | 0 => exact Fin.ext (show i.val = o 0 + 1 * 0 by omega)
  rw [e]
  exact load_owns c A.sc Z (Rect.unit (s := S3) o S1.size hi) _ (fun f => k (f (Shape.Idx.first (s := S1) (by decide)))) Kt

/-- What a device starts the body with, besides the operands. -/
def devStart (c : Dev nD) : sProp 𝕄 :=
  iprop((∃ W, owes (c : Thread nD τ) (Owe c (fun _ _ => 0) (fun _ => 0) + barOwe c) W)
    ∗ (reached ER (cell (up false c) .bar) 0 ∗ reached ER (cell (up true c) .bar) 0)
    ∗ (dutyTok ER (cell (up false c) .bar) 0 0 ∗ dutyTok ER (cell (up true c) .bar) 0 1)
    ∗ atPos ER (cell c .bar) 0 ∅ 0 ∗ cred (tallyAt (cell c .bar) 1 2)
    ∗ (lanePos c false ∗ laneStart c false ∗ (∃ f : Buf (Elt F) (cmLoc c false), cmLoc c false ↦{fullShare} f))
    ∗ (lanePos c true ∗ laneStart c true ∗ (∃ f : Buf (Elt F) (cmLoc c true), cmLoc c true ↦{fullShare} f)))

/-- What a device ends the body with, besides the operands and the result. -/
def devEnd (c : Dev nD) : sProp 𝕄 :=
  iprop((∃ W, owes (c : Thread nD τ) (0 : CellTallies nD τ sig ℕ) W) ∗ semVal (cell c .bar) 0
    ∗ (laneZero c false ∗ (∃ f : Buf (Elt F) (cmLoc c false), cmLoc c false ↦{fullShare} f))
    ∗ (laneZero c true ∗ (∃ f : Buf (Elt F) (cmLoc c true), cmLoc c true ↦{fullShare} f)))

theorem dev_leave (c : Dev nD) (f₀ : Buf (Elt F) (cmLoc c false)) (f₁ : Buf (Elt F) (cmLoc c true)) :
    iprop(Ctx (F := F) pr K ιs ∗ atPos ER (cell c .bar) 1 ∅ 0 ∗ ow c (fun _ _ => 31) (fun _ => 29) ∗ endLane c false ∗ endLane c true)
      ⊢ (iprop(|={Set.univ}=> devEnd c) : sProp 𝕄) := by
  iintro ⟨#HC, Hat, HO, Hf, Ht⟩
  imod (lane_leave pr (K := K) (ιs := ιs) c false f₀) $$ [Hf] with Hf
  · isplitr; · iexact HC
    iexact Hf
  imod (lane_leave pr (K := K) (ιs := ιs) c true f₁) $$ [Ht] with Ht
  · isplitr; · iexact HC
    iexact Ht
  imod (close_at pr (K := K) (ιs := ιs) c .bar (R := 1) fun r hr => by
    rw [duties_cell]; dsimp only [dutiesX]; rw [if_neg (by omega)]) $$ [Hat] with Hat
  · isplitr; · iexact HC
    iexact Hat
  imodintro
  unfold devEnd ow
  rw [Owe_end c (fun _ _ => le_rfl) (fun _ => le_rfl)]
  isplitl [HO]; · iexact HO
  isplitl [Hat]; · iexact Hat
  isplitl [Hf] <;> iassumption

/-- The whole body on a device. -/
theorem bodyP_wp (A : Args) (hA : A.lane = lane) (c : Dev nD) {Z : S3.Idx → Elt F .i32} {T : S32.Idx → Elt F .i32}
    {X : S8192x256.Idx → Elt F .bf16} {W : S256x4096.Idx → Elt F .bf16}
    (h1 : devN (scAt (F := F) Z 1) = (tgt true c).val) (h2 : devN (scAt (F := F) Z 2) = (tgt false c).val)
    (hG : Good pr c (scAt (F := F) Z 0) T X W)
    (val : Bool → Fin 2 → FVec F S128x2048 .f32)
    (hval : ∀ ℓ b, val ℓ b = acc b (pr c ℓ 31) (sent pr 30 (up ℓ c) ℓ b))
    (f₀ : Buf (Elt F) (cmLoc c false)) (f₁ : Buf (Elt F) (cmLoc c true)) (Kt : PUnit → sProp 𝕄) :
    iprop(Ctx pr K ιs ∗ devStart c ∗ owns (c : Thread nD τ) A.sc fullShare Z ∗ inP A c T X W ∗ outP A c val ∅
        ∗ ((devEnd c ∗ owns (c : Thread nD τ) A.sc fullShare Z ∗ inP A c T X W ∗ outP A c val parts) -∗ Kt ⟨⟩))
      ⊢ WP c (bodyP A) Kt := by
  have d1 : devN (scAt (F := F) Z 1) < nD := by rw [h1]; exact (tgt true c).isLt
  have d2 : devN (scAt (F := F) Z 2) < nD := by rw [h2]; exact (tgt false c).isLt
  have e1 : (⟨devN (scAt (F := F) Z 1), k0_dev1_lt _ (chk1 d1)⟩ : Dev nD) = tgt true c := Fin.ext h1
  have e2 : (⟨devN (scAt (F := F) Z 2), k0_dev2_lt _ (chk2 d2)⟩ : Dev nD) = tgt false c := Fin.ext h2
  unfold bodyP devStart
  iintro ⟨#HC, ⟨HO, Hrb, Htb, Hat, Hcr, ⟨Pf, Sf, Bf⟩, ⟨Pt, St, Bt⟩⟩, Hsc, Hin, Hout, Hk⟩
  iapply (fupd_wp)
  imod (lane_enter pr (K := K) (ιs := ιs) c false) $$ [Pf Sf Bf] with ⟨Hf, #Rf, #Cf⟩
  · isplitr; · iexact HC
    isplitl [Pf]; · iexact Pf
    isplitl [Sf] <;> iassumption
  imod (lane_enter pr (K := K) (ιs := ιs) c true) $$ [Pt St Bt] with ⟨Ht, #Rt, #Ct⟩
  · isplitr; · iexact HC
    isplitl [Pt]; · iexact Pt
    isplitl [St] <;> iassumption
  imodintro
  iapply (load_sc A c Z 0 _ rfl) $$ Hsc
  iintro Hsc
  iapply (wp_assume 𝒱₀ (c : Thread nD τ) none Set.univ (chk3 _))
  iapply (load_sc A c Z 1 _ rfl) $$ Hsc
  iintro Hsc
  iapply (wp_assume 𝒱₀ (c : Thread nD τ) none Set.univ (chk1 d1))
  iapply (load_sc A c Z 2 _ rfl) $$ Hsc
  iintro Hsc
  iapply (wp_assume 𝒱₀ (c : Thread nD τ) none Set.univ (chk2 d2))
  rw [e1, e2]
  iapply (barrierP_wp pr (K := K) (ιs := ιs) c)
  isplitr; · iexact HC
  isplitl [HO]; · iexact HO
  isplitl [Hrb]; · iexact Hrb
  isplitl [Htb]; · iexact Htb
  isplitr
  · isplitr; · iexact Rf
    iexact Ct
  isplitr
  · isplitr; · iexact Rt
    iexact Cf
  isplitl [Hat]; · iexact Hat
  isplitl [Hcr]; · iexact Hcr
  iintro ⟨HO, Nf, Nt, Hat⟩
  iapply (ringP_wp pr (K := K) (ιs := ιs) A hA c hG val hval)
  isplitr; · iexact HC
  isplitl [Nf]; · iexact Nf
  isplitl [Nt]; · iexact Nt
  isplitl [Hin]; · iexact Hin
  isplitl [Hout]; · iexact Hout
  isplitl [HO]; · iexact HO
  isplitl [Hf]; · iexact Hf
  isplitl [Ht]; · iexact Ht
  iintro ⟨HO, Hf, Ht, Hin, Hout⟩
  imod (dev_leave pr (K := K) (ιs := ιs) c f₀ f₁) $$ [Hat HO Hf Ht] with HE
  · isplitr; · iexact HC
    isplitl [Hat]; · iexact Hat
    isplitl [HO]; · iexact HO
    isplitl [Hf] <;> iassumption
  imodintro
  iapply Hk
  isplitl [HE]; · iexact HE
  isplitl [Hsc]; · iexact Hsc
  isplitl [Hin] <;> iassumption

end Cert.KernelIdeal.Ring
-- ==== Proof.Host.lean ====
/- The three words that the host hands the kernel: its ring position and its two neighbours. -/
module

public import proofs.«01_k».proof.Proof.Body

public import proofs.«01_k».proof.Proof.Gen.KernelIdeal.Regions
public import Idealize.ShloMosaic.Lib.StableHlo.ReadAt
public import Idealize.ShloMosaic.Lib.StableHlo.RunClose
@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-- The tables, from ring position to device and back. -/
def ringT : S32.Idx → BitVec 32 := fun i => lit0 (S32.rowMajor i)
def backT : S32.Idx → BitVec 32 := fun i => lit1 (S32.rowMajor i)

/-- A table entry at a word, counted from the end when the word is negative. -/
def pick (T : S32.Idx → BitVec 32) (v : S_.Idx → BitVec 32) : S_.Idx → BitVec 32 :=
  fun i => shapeCast S_ (Host.dynamicSlice S1 T
    (fun k => BitVec.toInt ((![select (cmpi CmpIPredicate.slt v (constantI S_ 32 0#32)) (addi v (constantI S_ 32 32#32)) v]
      : Fin 1 → S_.Idx → BitVec 32) k (Shape.Idx.first h_S_))) sliceFits_S32_S1) shapeCasts_S1_S_ i

/-- The word of a small number. -/
abbrev w32 (k : Fin 32) : BitVec 32 := BitVec.ofNat 32 k.val

theorem pick_ring : ∀ k : Fin 32, pick ringT (fun _ => w32 k) (Shape.Idx.first h_S_) = w32 (mesh k) := by
  decide +kernel

theorem pick_back : ∀ c : Dev nD,
    pick backT (id (Host.remui (Host.divui (constantI S_ 32 c.word) (constantI S_ 32 1#32)) (constantI S_ 32 32#32)))
      (Shape.Idx.first h_S_) = w32 (pos c) := by
  decide +kernel

theorem only_first (j : S_.Idx) : j = Shape.Idx.first h_S_ := funext fun a => a.elim0

variable (m : (ℓ : Loc nD τ sig) → Buf (Elt F) ℓ)

theorem V1_v9 (c : Dev nD) : (V1 m c main_v9 : S_.Idx → Elt F .i32) = fun _ => w32 (pos c) := by
  have e : (V1 m c main_v9 : S_.Idx → Elt F .i32) =
      pick backT (id (Host.remui (Host.divui (constantI S_ 32 c.word) (constantI S_ 32 1#32)) (constantI S_ 32 32#32))) := by
    unfold V1 V0
    after_reads_simp [StableHlo.unaryIndexed_result_read, StableHlo.indexContents_tref_cons, StableHlo.indexContents_tref_empty, StableHlo.indexContents_cons, StableHlo.indexContents_empty, StableHlo.dropContentsCast]
    rfl
  rw [e]
  funext j
  rw [only_first j]
  exact pick_back c

theorem V1_v11 (c : Dev nD) : (V1 m c main_v11 : S_.Idx → Elt F .i32) = fun _ => w32 (pos c) + 31#32 := by
  have e : (V1 m c main_v11 : S_.Idx → Elt F .i32) =
      subi (addi (V1 m c main_v9) (constantI S_ 32 32#32)) (constantI S_ 32 1#32) := by
    unfold V1 V0
    after_reads_simp [StableHlo.unaryIndexed_result_read, StableHlo.indexContents_tref_cons, StableHlo.indexContents_tref_empty, StableHlo.indexContents_cons, StableHlo.indexContents_empty, StableHlo.dropContentsCast]
  rw [e, V1_v9]
  funext j
  exact (show ∀ v : BitVec 32, v + 32#32 - 1#32 = v + 31#32 by intro v; bv_omega) _

theorem V1_c (c : Dev nD) : (V1 m c main_c : S32.Idx → Elt F .i32) = ringT := by
  unfold V1 V0
  after_reads_simp [StableHlo.unaryIndexed_result_read, StableHlo.indexContents_tref_cons, StableHlo.indexContents_tref_empty, StableHlo.indexContents_cons, StableHlo.indexContents_empty, StableHlo.dropContentsCast]
  rfl

theorem V1_c7 (c : Dev nD) : (V1 m c main_c_7 : S_.Idx → Elt F .i32) = fun _ => 32#32 := by
  unfold V1 V0
  after_reads_simp [StableHlo.unaryIndexed_result_read, StableHlo.indexContents_tref_cons, StableHlo.indexContents_tref_empty, StableHlo.indexContents_cons, StableHlo.indexContents_empty, StableHlo.dropContentsCast]
  rfl

/-- The host's remainder of a word by 32, made positive. -/
def hostRem (x : BitVec 32) : BitVec 32 :=
  let m : BitVec 32 := Scalar.select (IntOp.cmpi CmpIPredicate.eq 32#32 0#32) 1#32 32#32
  let r : BitVec 32 := IntOp.remsi ArithUnit.host x m
  Scalar.select (IntOp.andi (IntOp.cmpi CmpIPredicate.ne (IntOp.cmpi CmpIPredicate.slt r 0#32)
    (IntOp.cmpi CmpIPredicate.slt m 0#32)) (IntOp.cmpi CmpIPredicate.ne r 0#32)) (IntOp.addi r m) r

theorem hostRem_down : ∀ k : Fin 32, hostRem (w32 k + 31#32) = w32 (k - 1) := by
  unfold hostRem
  rw [show Scalar.select (IntOp.cmpi CmpIPredicate.eq 32#32 0#32) (1#32 : BitVec 32) 32#32 = 32#32 from by decide]
  simp only [IntOp.remsi_of_pos _ (show 0 < (32#32 : BitVec 32).toInt by decide)]
  decide +kernel

theorem hostRem_up : ∀ k : Fin 32, hostRem (w32 k + 1#32) = w32 (k + 1) := by
  unfold hostRem
  rw [show Scalar.select (IntOp.cmpi CmpIPredicate.eq 32#32 0#32) (1#32 : BitVec 32) 32#32 = 32#32 from by decide]
  simp only [IntOp.remsi_of_pos _ (show 0 < (32#32 : BitVec 32).toInt by decide)]
  decide +kernel

theorem rem_down {V : Valuation τ sig (Elt F)} {k : Fin 32}
    (h : (V main_v11 : S_.Idx → Elt F .i32) = fun _ => w32 k + 31#32)
    (h' : (V main_c_7 : S_.Idx → Elt F .i32) = fun _ => 32#32) :
    (StableHlo.after hostOps0_1 V main_v12 : S_.Idx → Elt F .i32) = fun _ => w32 (k - 1) := by
  funext j
  after_reads_at
  rw [h, h']
  exact hostRem_down k
theorem rem_up {V : Valuation τ sig (Elt F)} {k : Fin 32}
    (h : (V main_v18 : S_.Idx → Elt F .i32) = fun _ => w32 k + 1#32)
    (h' : (V main_c_11 : S_.Idx → Elt F .i32) = fun _ => 32#32) :
    (StableHlo.after hostOps0_3 V main_v19 : S_.Idx → Elt F .i32) = fun _ => w32 (k + 1) := by
  funext j
  after_reads_at
  rw [h, h']
  exact hostRem_up k

theorem read_left {V : Valuation τ sig (Elt F)} {k : Fin 32} (hc : (V main_c : S32.Idx → Elt F .i32) = ringT)
    (h : (V main_v12 : S_.Idx → Elt F .i32) = fun _ => w32 k) :
    (StableHlo.after hostOps0_2 V main_v17 : S_.Idx → Elt F .i32) = fun _ => w32 (mesh k) := by
  have e : (StableHlo.after hostOps0_2 V main_v17 : S_.Idx → Elt F .i32) = pick (V main_c) (V main_v12) := by
    after_reads_simp [StableHlo.unaryIndexed_result_read, StableHlo.indexContents_tref_cons, StableHlo.indexContents_tref_empty, StableHlo.indexContents_cons, StableHlo.indexContents_empty, StableHlo.dropContentsCast]
    rfl
  rw [e, hc, h]
  funext j
  rw [only_first j]
  exact pick_ring k

theorem read_next {V : Valuation τ sig (Elt F)} {k : Fin 32} (h : (V main_v9 : S_.Idx → Elt F .i32) = fun _ => w32 k) :
    (StableHlo.after hostOps0_2 V main_v18 : S_.Idx → Elt F .i32) = (fun _ => w32 k + 1#32) ∧
    (StableHlo.after hostOps0_2 V main_c_11 : S_.Idx → Elt F .i32) = fun _ => 32#32 := by
  constructor
  · after_reads_simp [StableHlo.unaryIndexed_result_read, StableHlo.indexContents_tref_cons, StableHlo.indexContents_tref_empty, StableHlo.indexContents_cons, StableHlo.indexContents_empty, StableHlo.dropContentsCast]
    rw [h]
    rfl
  · after_reads_simp [StableHlo.unaryIndexed_result_read, StableHlo.indexContents_tref_cons, StableHlo.indexContents_tref_empty, StableHlo.indexContents_cons, StableHlo.indexContents_empty, StableHlo.dropContentsCast]
    rfl

theorem read_scalars {V : Valuation τ sig (Elt F)} {p k l : Fin 32} (hc : (V main_c : S32.Idx → Elt F .i32) = ringT)
    (h9 : (V main_v9 : S_.Idx → Elt F .i32) = fun _ => w32 p) (h17 : (V main_v17 : S_.Idx → Elt F .i32) = fun _ => w32 l)
    (h19 : (V main_v19 : S_.Idx → Elt F .i32) = fun _ => w32 k) :
    scAt (StableHlo.after hostOps0_4 V main_v28 : S3.Idx → Elt F .i32) 0 = w32 p ∧
    scAt (StableHlo.after hostOps0_4 V main_v28 : S3.Idx → Elt F .i32) 1 = w32 l ∧
    scAt (StableHlo.after hostOps0_4 V main_v28 : S3.Idx → Elt F .i32) 2 = w32 (mesh k) := by
  have e : (StableHlo.upto hostOps0_4 V 10 main_v25 : S1.Idx → Elt F .i32) = fun _ => w32 p := by
    after_reads_simp [StableHlo.unaryIndexed_result_read, StableHlo.indexContents_tref_cons, StableHlo.indexContents_tref_empty, StableHlo.indexContents_cons, StableHlo.indexContents_empty, StableHlo.dropContentsCast]
    rw [h9]
    rfl
  have e' : (StableHlo.upto hostOps0_4 V 10 main_v26 : S1.Idx → Elt F .i32) = fun _ => w32 l := by
    after_reads_simp [StableHlo.unaryIndexed_result_read, StableHlo.indexContents_tref_cons, StableHlo.indexContents_tref_empty, StableHlo.indexContents_cons, StableHlo.indexContents_empty, StableHlo.dropContentsCast]
    rw [h17]
    rfl
  have e'' : (StableHlo.upto hostOps0_4 V 10 main_v27 : S1.Idx → Elt F .i32) = fun _ => w32 (mesh k) := by
    have e : (StableHlo.upto hostOps0_4 V 10 main_v27 : S1.Idx → Elt F .i32) =
        broadcastInDim S1 ![] bcast_S_S1 (pick (V main_c) (V main_v19)) := by
      after_reads_simp [StableHlo.unaryIndexed_result_read, StableHlo.indexContents_tref_cons, StableHlo.indexContents_tref_empty, StableHlo.indexContents_cons, StableHlo.indexContents_empty, StableHlo.dropContentsCast]
      rfl
    rw [e, hc, h19]
    funext j
    exact (congrArg _ (only_first _)).trans (pick_ring k)
  have q : (StableHlo.after hostOps0_4 V main_v28 : S3.Idx → Elt F .i32) =
      concatenate S3 0 [⟨S1, fun _ => w32 p⟩, ⟨S1, fun _ => w32 l⟩, ⟨S1, fun _ => w32 (mesh k)⟩]
        concatenates_S1_S1_S1_S3_d0 := by
    after_reads_simp
    dsimp only [Matrix.cons_val]
    rw [e, e', e'']
    rfl
  rw [q]
  exact ⟨rfl, rfl, rfl⟩

/-- What the kernel's first operand holds. -/
theorem V5_scalars (c : Dev nD) :
    scAt (V5 m c main_v28 : S3.Idx → Elt F .i32) 0 = w32 (pos c) ∧
    scAt (V5 m c main_v28 : S3.Idx → Elt F .i32) 1 = w32 (tgt true c) ∧
    scAt (V5 m c main_v28 : S3.Idx → Elt F .i32) 2 = w32 (tgt false c) := by
  have c2 : (V2 m c main_c : S32.Idx → Elt F .i32) = ringT := (V2_of m c main_c (by decide)).trans (V1_c m c)
  have c4 : (V4 m c main_c : S32.Idx → Elt F .i32) = ringT :=
    (V4_of m c main_c (by decide)).trans <| (V3_of m c main_c (by decide)).trans c2
  have n2 : (V2 m c main_v9 : S_.Idx → Elt F .i32) = fun _ => w32 (pos c) :=
    (V2_of m c main_v9 (by decide)).trans (V1_v9 m c)
  have n4 : (V4 m c main_v9 : S_.Idx → Elt F .i32) = fun _ => w32 (pos c) :=
    (V4_of m c main_v9 (by decide)).trans <| (V3_of m c main_v9 (by decide)).trans n2
  have l4 : (V4 m c main_v17 : S_.Idx → Elt F .i32) = fun _ => w32 (mesh (pos c - 1)) :=
    (V4_of m c main_v17 (by decide)).trans <| read_left c2 (rem_down (V1_v11 m c) (V1_c7 m c))
  have r4 : (V4 m c main_v19 : S_.Idx → Elt F .i32) = fun _ => w32 (pos c + 1) :=
    rem_up (read_next n2).1 (read_next n2).2
  exact read_scalars c4 n4 l4 r4

/-- What the kernel's second operand holds. -/
theorem V5_table (c : Dev nD) : (V5 m c main_c : S32.Idx → Elt F .i32) = ringT :=
  (V5_of m c main_c (by decide)).trans <| (V4_of m c main_c (by decide)).trans <|
    (V3_of m c main_c (by decide)).trans <| (V2_of m c main_c (by decide)).trans (V1_c m c)

theorem V5_x (c : Dev nD) : V5 m c main_arg0 = m ((c : Thread nD τ).loc main_arg0) :=
  (V5_of m c main_arg0 (by decide)).trans <| (V4_of m c main_arg0 (by decide)).trans <|
    (V3_of m c main_arg0 (by decide)).trans <| (V2_of m c main_arg0 (by decide)).trans <|
    (V1_of m c main_arg0 (by decide)).trans rfl

theorem V5_w (c : Dev nD) : V5 m c main_arg1 = m ((c : Thread nD τ).loc main_arg1) :=
  (V5_of m c main_arg1 (by decide)).trans <| (V4_of m c main_arg1 (by decide)).trans <|
    (V3_of m c main_arg1 (by decide)).trans <| (V2_of m c main_arg1 (by decide)).trans <|
    (V1_of m c main_arg1 (by decide)).trans rfl

theorem devN_w32 : ∀ k : Fin 32, devN (w32 k) = k.val := by decide +kernel
end Cert.KernelIdeal.Ring
-- ==== Proof.Data.lean ====
/- The partial products as functions of the operands, and what the launch hands the kernel. -/
module

public import proofs.«01_k».proof.Proof.Host

@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-- The chunk that a direction works on at hop `i`, seen from ring position `k`. -/
def chunk (ℓ : Bool) (k : Fin 32) (i : Fin 32) : Fin 32 := match ℓ with | false => k - 1 - i | true => k + 1 + i

theorem wrap_mod (x : BitVec 32) : (wrap x).toNat = x.toNat % 32 := by
  rw [wrap_toNat]
  have h := BitVec.toInt_eq_toNat_cond x
  have := x.isLt
  split at h <;> omega

theorem wrap_word (ℓ : Bool) (k : Fin 32) {i : ℕ} (hi : i < 32) : (wrap (word ℓ (w32 k) i)).toNat = (chunk ℓ k ⟨i, hi⟩).val := by
  rw [wrap_mod]
  have hk := k.isLt
  have h1 : ((k - 1 - ⟨i, hi⟩ : Fin 32)).val = (k.val + 63 - i) % 32 := by
    rw [Fin.sub_def, Fin.sub_def]; show (32 - i + (32 - 1 + k.val) % 32) % 32 = _; omega
  have h2 : ((k + 1 + ⟨i, hi⟩ : Fin 32)).val = (k.val + 1 + i) % 32 := by
    rw [Fin.add_def, Fin.add_def]; show ((k.val + 1) % 32 + i) % 32 = _; omega
  match i, ℓ with
  | 0, false =>
    show (w32 k + 64#32 - 1#32 - 0#32).toNat % 32 = _
    rw [chunk, h1]; simp only [w32, BitVec.toNat_sub, BitVec.toNat_add, BitVec.toNat_ofNat]; omega
  | 0, true =>
    show (w32 k + 1#32 + 0#32).toNat % 32 = _
    rw [chunk, h2]; simp only [w32, BitVec.toNat_sub, BitVec.toNat_add, BitVec.toNat_ofNat]; omega
  | i + 1, false =>
    show (w32 k + 64#32 - 2#32 - BitVec.ofNat 32 i).toNat % 32 = _
    rw [chunk, h1]; simp only [w32, BitVec.toNat_sub, BitVec.toNat_add, BitVec.toNat_ofNat]; omega
  | i + 1, true =>
    show (w32 k + 2#32 + BitVec.ofNat 32 i).toNat % 32 = _
    rw [chunk, h2]; simp only [w32, BitVec.toNat_sub, BitVec.toNat_add, BitVec.toNat_ofNat]; omega

theorem lit0_mesh : ∀ k : Fin 32, lit0 k = w32 (mesh k) := by decide

theorem tbl_ring (x : BitVec 32) : tblAt (F := F) ringT x = lit0 ⟨(wrap x).toNat, wrap_lt x⟩ := by
  refine congrArg lit0 (Fin.ext ?_)
  rw [Shape.rowMajor_val_one]
  show tblOff x 0 + 1 * 0 = (wrap x).toNat
  rw [Nat.mul_zero, Nat.add_zero]
  rfl

theorem tbl_word (ℓ : Bool) (k : Fin 32) {i : ℕ} (hi : i < 32) :
    tblAt (F := F) ringT (word ℓ (w32 k) i) = w32 (mesh (chunk ℓ k ⟨i, hi⟩)) := by
  rw [tbl_ring, lit0_mesh]
  exact congrArg (fun q => w32 (mesh q)) (Fin.ext (wrap_word ℓ k hi))

theorem row_ok : ∀ k : Fin 32, rowOk (w32 k) := by decide +kernel

/-- A direction's partial product at hop `i`. -/
def prOf (X : Dev nD → S8192x256.Idx → Elt F .bf16) (W : Dev nD → S256x4096.Idx → Elt F .bf16) (c : Dev nD) (ℓ : Bool) (i : ℕ) :
    FVec F S256x2048 .f32 :=
  product (fun j => X c ((rowsR (w32 (mesh (chunk ℓ (pos c) (Fin.ofNat 32 i)))) (row_ok _)).emb j)) (fun j => W c ((colsR ℓ).emb j))

theorem good_prOf (X : Dev nD → S8192x256.Idx → Elt F .bf16) (W : Dev nD → S256x4096.Idx → Elt F .bf16) (c : Dev nD) :
    Good (prOf X W) c (w32 (pos c)) ringT (X c) (W c) := by
  intro ℓ i hi
  have e := tbl_word (F := F) ℓ (pos c) hi
  have hm : Fin.ofNat 32 i = ⟨i, hi⟩ := Fin.ext (Nat.mod_eq_of_lt hi)
  have key : ∀ {v v' : BitVec 32} (h : rowOk v), v = v' → ∃ hv : rowOk v',
      product (fun j => X c ((rowsR v h).emb j)) (fun j => W c ((colsR ℓ).emb j)) =
        product (fun j => X c ((rowsR v' hv).emb j)) (fun j => W c ((colsR ℓ).emb j)) := by
    rintro _ _ h rfl
    exact ⟨h, rfl⟩
  exact key (row_ok _) (by rw [e, hm])

/-- Half a direction's columns of the result. -/
def valOf (pr : Dev nD → Bool → ℕ → FVec F S256x2048 .f32) (c : Dev nD) (ℓ : Bool) (b : Fin 2) : FVec F S128x2048 .f32 :=
  acc b (pr c ℓ 31) (sent pr 30 (up ℓ c) ℓ b)

/-- The result. -/
def outOf (val : Bool → Fin 2 → FVec F S128x2048 .f32) : S256x4096.Idx → Elt F .f32 := fun i =>
  val (decide (2048 ≤ (i 1).val)) ⟨(i 0).val / 128, Nat.div_lt_of_lt_mul (i 0).isLt⟩ (fun a => match a with
    | 0 => ⟨(i 0).val % 128, Nat.mod_lt _ (show 0 < 128 by decide)⟩
    | 1 => ⟨(i 1).val % 2048, Nat.mod_lt _ (show 0 < 2048 by decide)⟩)

theorem outOf_emb (val : Bool → Fin 2 → FVec F S128x2048 .f32) (ℓ : Bool) (b : Fin 2) (j : S128x2048.Idx) :
    outOf val ((outR ℓ b).emb j) = val ℓ b j := by
  have h0 : ((outR ℓ b).emb j 0).val = 128 * b.val + 1 * (j 0).val := rfl
  have h1 : ((outR ℓ b).emb j 1).val = lo ℓ + 1 * (j 1).val := rfl
  have l0 : (j 0).val < 128 := (j 0).isLt
  have l1 : (j 1).val < 2048 := (j 1).isLt
  have hb := b.isLt
  unfold outOf
  have e1 : decide (2048 ≤ ((outR ℓ b).emb j 1).val) = ℓ := by
    cases ℓ
    · exact decide_eq_false (by rw [h1]; simp only [lo]; omega)
    · exact decide_eq_true (by rw [h1]; simp only [lo]; omega)
  have e2 : (⟨((outR ℓ b).emb j 0).val / 128, Nat.div_lt_of_lt_mul ((outR ℓ b).emb j 0).isLt⟩ : Fin 2) = b :=
    Fin.ext (by show ((outR ℓ b).emb j 0).val / 128 = b.val; rw [h0]; omega)
  rw [e1, e2]
  refine congrArg _ (funext fun a => ?_)
  match a with
  | 0 => exact Fin.ext (by show ((outR ℓ b).emb j 0).val % 128 = (j 0).val; rw [h0]; omega)
  | 1 => exact Fin.ext (by
      show ((outR ℓ b).emb j 1).val % 2048 = (j 1).val
      rw [h1]; cases ℓ <;> simp only [lo] <;> omega)

theorem out_cover (i : S256x4096.Idx) : ∃ ℓ b j, i = (outR ℓ b).emb j := by
  have l0 : (i 0).val < 256 := (i 0).isLt
  have l1 : (i 1).val < 4096 := (i 1).isLt
  refine ⟨decide (2048 ≤ (i 1).val), ⟨(i 0).val / 128, by omega⟩, fun a => match a with
    | 0 => ⟨(i 0).val % 128, Nat.mod_lt _ (show 0 < 128 by decide)⟩
    | 1 => ⟨(i 1).val % 2048, Nat.mod_lt _ (show 0 < 2048 by decide)⟩, funext fun a => ?_⟩
  match a with
  | 0 => exact Fin.ext (show (i 0).val = 128 * ((i 0).val / 128) + 1 * ((i 0).val % 128) by omega)
  | 1 =>
    refine Fin.ext (show (i 1).val = lo (decide (2048 ≤ (i 1).val)) + 1 * ((i 1).val % 2048) from ?_)
    by_cases h : 2048 ≤ (i 1).val
    · rw [decide_eq_true h]; simp only [lo]; omega
    · rw [decide_eq_false h]; simp only [lo]; omega

theorem outP_owns (A : Args) (c : Dev nD) (val : Bool → Fin 2 → FVec F S128x2048 .f32) :
    (outP A c val parts : sProp 𝕄) ⊢ owns (c : Thread nD τ) A.out fullShare (outOf val) := by
  unfold outP owns
  iintro ⟨%f, %hf, H⟩
  iexists f
  isplitr
  · ipureintro
    funext i
    obtain ⟨ℓ, b, j, rfl⟩ := out_cover i
    rw [outOf_emb]
    exact hf ℓ b (mem_parts ℓ b) j
  iexact H

theorem owns_outP (A : Args) (c : Dev nD) (val : Bool → Fin 2 → FVec F S128x2048 .f32) (X : S256x4096.Idx → Elt F .f32) :
    (owns (c : Thread nD τ) A.out fullShare X : sProp 𝕄) ⊢ outP A c val ∅ := by
  unfold outP owns
  iintro ⟨%f, -, H⟩
  iexists f
  isplitr
  · ipureintro
    exact fun _ _ h => absurd h (Finset.notMem_empty _)
  iexact H

end Cert.KernelIdeal.Ring
-- ==== Proof.Deal.lean ====
/- What the launch deals to the devices: the tokens of the duties, the slots' records, the credits. -/
module

public import proofs.«01_k».proof.Proof.Data

@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (pr : Dev nD → Bool → ℕ → FVec F S256x2048 .f32)

/-! ## Sums over the ring -/

theorem sep_union {α : Type} [DecidableEq α] {s t : Finset α} (h : Disjoint s t) {Φ : α → sProp 𝕄} :
    bigSep (s ∪ t) Φ = iprop(bigSep s Φ ∗ bigSep t Φ) := BI.bigSep_union h

/-- A sum over pairs, first component first. -/
theorem sep_prod {α β : Type} [DecidableEq α] [DecidableEq β] (s : Finset α) (t : Finset β) (Φ : α × β → sProp 𝕄) :
    bigSep (s ×ˢ t) Φ = bigSep s fun i => bigSep t fun j => Φ (i, j) := by
  refine Finset.induction_on (motive := fun s => bigSep (s ×ˢ t) Φ = bigSep s fun i => bigSep t fun j => Φ (i, j)) s ?_ ?_
  · rw [Finset.empty_product, bigSep_empty, bigSep_empty]
  · intro a s ha ih
    have e : (insert a s) ×ˢ t = t.map ⟨fun j => (a, j), fun _ _ h => congrArg Prod.snd h⟩ ∪ s ×ˢ t := by
      ext ⟨i, j⟩
      rw [Finset.mem_product, Finset.mem_insert, Finset.mem_union, Finset.mem_map, Finset.mem_product]
      constructor
      · rintro ⟨h | h, hj⟩
        · exact .inl ⟨j, hj, Prod.ext h.symm rfl⟩
        · exact .inr ⟨h, hj⟩
      · rintro (⟨j', hj, h⟩ | ⟨h, hj⟩)
        · obtain rfl : a = i := congrArg Prod.fst h
          obtain rfl : j' = j := congrArg Prod.snd h
          exact ⟨.inl rfl, hj⟩
        · exact ⟨.inr h, hj⟩
    have d : Disjoint (t.map ⟨fun j => (a, j), fun _ _ h => congrArg Prod.snd h⟩) (s ×ˢ t) := by
      rw [Finset.disjoint_left]
      rintro ⟨i, j⟩ h1 h2
      obtain ⟨j', -, h⟩ := Finset.mem_map.mp h1
      obtain rfl : a = i := congrArg Prod.fst h
      exact ha (Finset.mem_product.mp h2).1
    rw [e, sep_union d, bigSep_map, ih, bigSep_insert ha]
    rfl

/-- Passing on in a direction, as a permutation of the devices. -/
def tgtE (ℓ : Bool) : Dev nD ≃ Dev nD := ⟨tgt ℓ, up ℓ, up_tgt ℓ, tgt_up ℓ⟩

theorem sep_tgt (ℓ : Bool) (Φ : Dev nD → sProp 𝕄) :
    bigSep Finset.univ (fun c => Φ (tgt ℓ c)) = bigSep Finset.univ Φ := (bigSep_univ_equiv (tgtE ℓ) Φ).symm

theorem sep_up (ℓ : Bool) (Φ : Dev nD → sProp 𝕄) :
    bigSep Finset.univ (fun c => Φ (up ℓ c)) = bigSep Finset.univ Φ := (bigSep_univ_equiv (tgtE ℓ).symm Φ).symm

theorem sep_bool (Φ : Bool → sProp 𝕄) : bigSep Finset.univ Φ = iprop(Φ false ∗ Φ true) :=
  bigSep_univ_eq_bigSepL [false, true] (by decide) (by decide) Φ

theorem sep_two (Φ : Fin 2 → sProp 𝕄) : bigSep Finset.univ Φ = iprop(Φ 0 ∗ Φ 1) := BI.bigSep_fin_two Φ

theorem sep_keys (Φ : Key → sProp 𝕄) : bigSep keys Φ = bigSep Finset.univ fun c : Dev nD =>
    bigSep Finset.univ fun ℓ : Bool => bigSep Finset.univ fun b : Fin 2 => bigSep (Finset.Ico 0 31) fun i => Φ (c, ℓ, b, i) := by
  unfold keys
  rw [sep_prod]
  refine bigSep_congr fun c _ => ?_
  rw [sep_prod]
  refine bigSep_congr fun ℓ _ => ?_
  rw [sep_prod, Finset.range_eq_Ico]

theorem sep_keys_tgt (Φ : Key → sProp 𝕄) :
    bigSep keys (fun k => Φ (tgt k.2.1 k.1, k.2.1, k.2.2.1, k.2.2.2)) = bigSep keys Φ := by
  rw [sep_keys, sep_keys, ← bigSep_univ_prod (fun q : Dev nD × Bool => bigSep Finset.univ fun b : Fin 2 =>
      bigSep (Finset.Ico 0 31) fun i => Φ (tgt q.2 q.1, q.2, b, i)),
    ← bigSep_univ_prod (fun q : Dev nD × Bool => bigSep Finset.univ fun b : Fin 2 =>
      bigSep (Finset.Ico 0 31) fun i => Φ (q.1, q.2, b, i)),
    bigSep_univ_equiv (⟨fun q => (tgt q.2 q.1, q.2), fun q => (up q.2 q.1, q.2), fun q => Prod.ext (up_tgt q.2 q.1) rfl, fun q => Prod.ext (tgt_up q.2 q.1) rfl⟩ :
      Dev nD × Bool ≃ Dev nD × Bool)
      (fun q : Dev nD × Bool => bigSep Finset.univ fun b : Fin 2 => bigSep (Finset.Ico 0 31) fun i => Φ (q.1, q.2, b, i))]
  rfl

/-- A device's credits, by device and direction. -/
def crdKeys : Finset (Dev nD × Bool × ℕ) := Finset.univ ×ˢ (Finset.univ ×ˢ Finset.range 29)

theorem sep_crd (Φ : Dev nD × Bool × ℕ → sProp 𝕄) : bigSep crdKeys Φ = bigSep Finset.univ fun c : Dev nD =>
    bigSep Finset.univ fun ℓ : Bool => bigSep (Finset.Ico 0 29) fun i => Φ (c, ℓ, i) := by
  unfold crdKeys
  rw [sep_prod]
  refine bigSep_congr fun c _ => ?_
  rw [sep_prod, Finset.range_eq_Ico]

theorem sep_crd_up (Φ : Dev nD × Bool × ℕ → sProp 𝕄) :
    bigSep crdKeys (fun k => Φ (up k.2.1 k.1, k.2.1, k.2.2)) = bigSep crdKeys Φ := by
  rw [sep_crd, sep_crd, ← bigSep_univ_prod (fun q : Dev nD × Bool => bigSep (Finset.Ico 0 29) fun i => Φ (up q.2 q.1, q.2, i)),
    ← bigSep_univ_prod (fun q : Dev nD × Bool => bigSep (Finset.Ico 0 29) fun i => Φ (q.1, q.2, i)),
    bigSep_univ_equiv (⟨fun q => (up q.2 q.1, q.2), fun q => (tgt q.2 q.1, q.2), fun q => Prod.ext (tgt_up q.2 q.1) rfl, fun q => Prod.ext (up_tgt q.2 q.1) rfl⟩ :
      Dev nD × Bool ≃ Dev nD × Bool) (fun q : Dev nD × Bool => bigSep (Finset.Ico 0 29) fun i => Φ (q.1, q.2, i))]
  rfl

/-! ## The duties' tokens -/

/-- A duty: its cell, its round, its number. -/
abbrev Duty : Type := GSem nD τ sig × ℕ × ℕ

def barD : Dev nD × ℕ ↪ Duty := ⟨fun q => (cell q.1 .bar, 0, q.2), fun q q' h => by
  have h1 := (cell_inj (congrArg Prod.fst h)).1
  have h2 : q.2 = q'.2 := congrArg (fun t : Duty => t.2.2) h
  exact Prod.ext h1 h2⟩

theorem hop_eq {s i j : ℕ} (h1 : (i + s) % 3 = (j + s) % 3) (h2 : i / 3 = j / 3) : i = j := by omega

def sndD : Key ↪ Duty := ⟨fun k => (sndAt k.1 k.2.1 k.2.2.1 k.2.2.2, k.2.2.2 / 3, 0), fun k k' h => by
  obtain ⟨c, ℓ, b, i⟩ := k
  obtain ⟨c', ℓ', b', i'⟩ := k'
  obtain ⟨h1, h2⟩ := cell_inj (congrArg Prod.fst h)
  have h3 : i / 3 = i' / 3 := congrArg (fun t : Duty => t.2.1) h
  injection h2 with e1 e2 e3
  have e4 : i % 3 = i' % 3 := congrArg Fin.val e2
  have e5 : i = i' := hop_eq (s := 0) e4 h3
  exact Prod.ext h1 (Prod.ext e1 (Prod.ext e3 e5))⟩

def rcvD : Key ↪ Duty := ⟨fun k => (rcvAt k.1 k.2.1 k.2.2.1 k.2.2.2, k.2.2.2 / 3, 0), fun k k' h => by
  obtain ⟨c, ℓ, b, i⟩ := k
  obtain ⟨c', ℓ', b', i'⟩ := k'
  obtain ⟨h1, h2⟩ := cell_inj (congrArg Prod.fst h)
  have h3 : i / 3 = i' / 3 := congrArg (fun t : Duty => t.2.1) h
  injection h2 with e1 e2 e3
  have e4 : (i + 1) % 3 = (i' + 1) % 3 := congrArg Fin.val e2
  have e5 : i = i' := hop_eq e4 h3
  exact Prod.ext h1 (Prod.ext e1 (Prod.ext e3 e5))⟩

def crdD : Dev nD × Bool × ℕ ↪ Duty := ⟨fun k => (cell k.1 (.crd k.2.1), 0, k.2.2), fun k k' h => by
  obtain ⟨c, ℓ, i⟩ := k
  obtain ⟨c', ℓ', i'⟩ := k'
  obtain ⟨h1, h2⟩ := cell_inj (congrArg Prod.fst h)
  have h3 : i = i' := congrArg (fun t : Duty => t.2.2) h
  injection h2 with e1
  exact Prod.ext h1 (Prod.ext e1 h3)⟩

/-- Every duty of the machine. -/
def allD : Finset Duty :=
  ((Finset.univ ×ˢ Finset.range 2).map barD) ∪ (keys.map sndD ∪ (keys.map rcvD ∪ crdKeys.map crdD))

theorem disj_map {α β : Type} {s : Finset α} {t : Finset β} {f : α ↪ Duty} {g : β ↪ Duty}
    (h : ∀ a b, (f a).1 ≠ (g b).1) : Disjoint (s.map f) (t.map g) := by
  rw [Finset.disjoint_left]
  intro x h1 h2
  obtain ⟨a, -, rfl⟩ := Finset.mem_map.mp h1
  obtain ⟨b, -, e⟩ := Finset.mem_map.mp h2
  exact h a b (congrArg Prod.fst e).symm

theorem cell_ne {c c' : Dev nD} {x y : Cell} (h : x ≠ y) : cell c x ≠ cell c' y := fun e => h (cell_inj e).2

theorem allD_eq (Φ : Duty → sProp 𝕄) : bigSep allD Φ
    = iprop(bigSep (Finset.univ ×ˢ Finset.range 2) (fun q => Φ (barD q)) ∗ bigSep keys (fun k => Φ (sndD k))
      ∗ bigSep keys (fun k => Φ (rcvD k)) ∗ bigSep crdKeys (fun k => Φ (crdD k))) := by
  unfold allD
  rw [sep_union (by
      rw [Finset.disjoint_union_right, Finset.disjoint_union_right]
      exact ⟨disj_map fun _ _ => cell_ne (by nofun), disj_map fun _ _ => cell_ne (by nofun), disj_map fun _ _ => cell_ne (by nofun)⟩),
    sep_union (by
      rw [Finset.disjoint_union_right]
      exact ⟨disj_map fun _ _ => cell_ne (by nofun), disj_map fun _ _ => cell_ne (by nofun)⟩),
    sep_union (disj_map fun _ _ => cell_ne (by nofun)), bigSep_map, bigSep_map, bigSep_map, bigSep_map]

/-- The tokens of the barrier, each handed to the device that pays it. -/
theorem bar_deal : bigSep (Finset.univ ×ˢ Finset.range 2 : Finset (Dev nD × ℕ)) (fun q => dutyTok ER (barD q).1 (barD q).2.1 (barD q).2.2)
    = (bigSep Finset.univ fun c : Dev nD => iprop(dutyTok ER (cell (up false c) .bar) 0 0 ∗ dutyTok ER (cell (up true c) .bar) 0 1) : sProp 𝕄) := by
  rw [sep_prod, bigSep_sep', sep_up false (fun c => (dutyTok ER (cell c .bar) 0 0 : sProp 𝕄)),
    sep_up true (fun c => (dutyTok ER (cell c .bar) 0 1 : sProp 𝕄)), ← bigSep_sep']
  refine bigSep_congr fun c _ => ?_
  rw [show Finset.range 2 = {0, 1} from rfl, bigSep_insert (by decide), bigSep_singleton]
  rfl

/-- The tokens of the hops, each handed to the device that starts it. -/
theorem hop_deal : iprop(bigSep keys (fun k => dutyTok ER (sndD k).1 (sndD k).2.1 (sndD k).2.2)
      ∗ bigSep keys (fun k => dutyTok ER (rcvD k).1 (rcvD k).2.1 (rcvD k).2.2) ∗ bigSep keys (fun k => writeTok EK k 1))
    = (bigSep keys fun k => hopTok k.1 k.2.1 k.2.2.1 k.2.2.2 : sProp 𝕄) := by
  rw [← sep_keys_tgt (fun k => (dutyTok ER (rcvD k).1 (rcvD k).2.1 (rcvD k).2.2 : sProp 𝕄)),
    ← sep_keys_tgt (fun k => (writeTok EK k 1 : sProp 𝕄)), ← bigSep_sep', ← bigSep_sep']
  rfl

/-- The tokens of the credits, each handed to the device that gives it. -/
theorem crd_deal : bigSep crdKeys (fun k => dutyTok ER (crdD k).1 (crdD k).2.1 (crdD k).2.2)
    = (bigSep Finset.univ fun c : Dev nD => bigSep Finset.univ fun ℓ : Bool => duties c ℓ 0 : sProp 𝕄) := by
  rw [← sep_crd_up (fun k => (dutyTok ER (crdD k).1 (crdD k).2.1 (crdD k).2.2 : sProp 𝕄)), sep_crd]
  rfl

/-! ## The cells -/

/-- The cells of the barrier, whose counters are at hand when the program starts. -/
def barCells : Finset (GSem nD τ sig) := Finset.univ.map ⟨fun c : Dev nD => cell c .bar, fun _ _ h => (cell_inj h).1⟩

theorem own_inj {ℓ ℓ' : Bool} {j j' : Own} (h : own ℓ j = own ℓ' j') : ℓ = ℓ' ∧ j = j' := by
  rcases j with _ | ⟨_ | _, s, b⟩ <;> rcases j' with _ | ⟨_ | _, s', b'⟩ <;> simp [own] at h ⊢ <;> tauto

def ownE : Dev nD × Bool × Own ↪ GSem nD τ sig := ⟨fun q => cell q.1 (own q.2.1 q.2.2), fun q q' h => by
  obtain ⟨h1, h2⟩ := cell_inj h
  obtain ⟨h3, h4⟩ := own_inj h2
  exact Prod.ext h1 (Prod.ext h3 h4)⟩

/-- The cells of the lanes, whose counters come with the call. -/
def laneCells : Finset (GSem nD τ sig) := Finset.univ.map ownE

theorem own_ne_bar (ℓ : Bool) (j : Own) : own ℓ j ≠ .bar := by
  rcases j with _ | ⟨_ | _, s, b⟩ <;> nofun

theorem cells_disjoint : Disjoint barCells laneCells := by
  rw [Finset.disjoint_left]
  intro g h1 h2
  obtain ⟨c, -, rfl⟩ := Finset.mem_map.mp h1
  obtain ⟨q, -, e⟩ := Finset.mem_map.mp h2
  exact cell_ne (own_ne_bar q.2.1 q.2.2) e

theorem own_surj (x : Cell) (h : x ≠ .bar) : ∃ ℓ j, x = own ℓ j := by
  rcases x with _ | ⟨ℓ, s, b⟩ | ⟨ℓ, s, b⟩ | ℓ
  · exact absurd rfl h
  · exact ⟨ℓ, some (false, s, b), rfl⟩
  · exact ⟨ℓ, some (true, s, b), rfl⟩
  · exact ⟨ℓ, none, rfl⟩

theorem cell_mem (c : Dev nD) (x : Cell) : cell c x ∈ barCells ∪ laneCells := by
  by_cases h : x = .bar
  · subst h; exact Finset.mem_union_left _ (Finset.mem_map.mpr ⟨c, Finset.mem_univ _, rfl⟩)
  · obtain ⟨ℓ, j, rfl⟩ := own_surj x h
    exact Finset.mem_union_right _ (Finset.mem_map.mpr ⟨(c, ℓ, j), Finset.mem_univ _, rfl⟩)

theorem lane_cells (Φ : GSem nD τ sig → sProp 𝕄) : bigSep laneCells Φ
    = bigSep Finset.univ fun c : Dev nD => bigSep Finset.univ fun ℓ : Bool => bigSep Finset.univ fun j : Own => Φ (cell c (own ℓ j)) := by
  unfold laneCells
  rw [bigSep_map, bigSep_univ_prod]
  refine bigSep_congr fun c _ => ?_
  rw [bigSep_univ_prod]
  rfl

theorem bar_cells (Φ : GSem nD τ sig → sProp 𝕄) : bigSep barCells Φ = bigSep Finset.univ fun c : Dev nD => Φ (cell c .bar) := by
  unfold barCells
  rw [bigSep_map]
  rfl

/-! ## A device's part -/

/-- What is dealt to a device. -/
def dealt (c : Dev nD) : sProp 𝕄 :=
  iprop((dutyTok ER (cell (up false c) .bar) 0 0 ∗ dutyTok ER (cell (up true c) .bar) 0 1) ∗ atPos ER (cell c .bar) 0 ∅ 0
    ∗ (bigSep Finset.univ fun ℓ : Bool => bigSep Finset.univ fun j : Own => openTok ER (cell c (own ℓ j)))
    ∗ (bigSep Finset.univ fun ℓ : Bool => bigSep Finset.univ fun b : Fin 2 => hopToks c ℓ b 0)
    ∗ (bigSep Finset.univ fun ℓ : Bool => bigSep Finset.univ fun b : Fin 2 => readers c ℓ b 0)
    ∗ (bigSep Finset.univ fun ℓ : Bool => duties c ℓ 0))

theorem sep_six (A B C D E G : Dev nD → sProp 𝕄) :
    (bigSep Finset.univ fun c => iprop(A c ∗ B c ∗ C c ∗ D c ∗ E c ∗ G c))
      = iprop(bigSep Finset.univ A ∗ bigSep Finset.univ B ∗ bigSep Finset.univ C ∗ bigSep Finset.univ D
        ∗ bigSep Finset.univ E ∗ bigSep Finset.univ G) := by
  rw [bigSep_sep', bigSep_sep', bigSep_sep', bigSep_sep', bigSep_sep']

theorem deal : iprop(bigSep barCells (fun g => atPos ER g 0 ∅ 0) ∗ bigSep laneCells (fun g => openTok ER g)
      ∗ bigSep allD (fun x => dutyTok ER x.1 x.2.1 x.2.2)
      ∗ bigSep keys (fun k => readerAt EK k 0) ∗ bigSep keys (fun k => writeTok EK k 1))
    ⊢ (bigSep Finset.univ fun c : Dev nD => dealt c : sProp 𝕄) := by
  have hh := hop_deal (F := F)
  rw [sep_keys (fun k => (hopTok k.1 k.2.1 k.2.2.1 k.2.2.2 : sProp 𝕄))] at hh
  rw [allD_eq (fun x => (dutyTok ER x.1 x.2.1 x.2.2 : sProp 𝕄)), bar_deal, crd_deal, bar_cells, lane_cells,
    sep_keys (fun k => (readerAt EK k 0 : sProp 𝕄))]
  unfold dealt
  rw [sep_six]
  iintro ⟨Hat, Hop, ⟨Hb, Hs, Hr, Hc⟩, Hrd, Hw⟩
  ihave Hh := (Entails.of_eq hh) $$ [Hs Hr Hw]
  · isplitl [Hs]; · iexact Hs
    isplitl [Hr] <;> iassumption
  isplitl [Hb]; · iexact Hb
  isplitl [Hat]; · iexact Hat
  isplitl [Hop]; · iexact Hop
  isplitl [Hh]; · iexact Hh
  isplitl [Hrd] <;> iassumption

/-! ## The launch credit -/

/-- What a device owes at the start. -/
def owe₀ (c : Dev nD) : CellTallies nD τ sig ℕ := Owe c (fun _ _ => 0) (fun _ => 0) + barOwe c

/-- The credits of a device's own waits. -/
def creds₀ (c : Dev nD) : sProp 𝕄 :=
  iprop(cred (tallyAt (cell c .bar) 1 2)
    ∗ (bigSep Finset.univ fun ℓ : Bool => iprop(bigSep (Finset.Ico 0 29) (fun i => cred (tallyAt (cell c (.crd ℓ)) (cI i) 1))
      ∗ bigSep Finset.univ fun b : Fin 2 => rcvCreds c ℓ b 0)))

theorem launch_bar (c : Dev nD) : (Pipeline.launchCred barOwe c : sProp 𝕄) ⊢ cred (tallyAt (cell c .bar) 1 2) := by
  have e := Pipeline.launchCred_add (Val := Elt F) (Name := ℕ) (U := UU) (Lvl := ℕ)
    (fun d => tallyAt (cell (up true d) .bar) 1 1) (fun d => tallyAt (cell (up false d) .bar) 1 1) c
  refine (Entails.of_eq e).trans ?_
  refine (BIClass.sep_mono (Pipeline.launchCred_tallyAt (semOf .bar) (up true) (tgt true) (up_tgt true) (tgt_up true) 1 1 c)
    (Pipeline.launchCred_tallyAt (semOf .bar) (up false) (tgt false) (up_tgt false) (tgt_up false) 1 1 c)).trans ?_
  refine ((cred_add _ _).2).trans (Entails.of_eq ?_)
  exact congrArg cred (tallyAt_add _ _ _ _)

theorem launch_lane (c : Dev nD) (ℓ : Bool) :
    (Pipeline.launchCred (fun d => oweC d ℓ 0 + ∑ b, oweR d ℓ b 0) c : sProp 𝕄)
      ⊢ iprop(bigSep (Finset.Ico 0 29) (fun i => cred (tallyAt (cell c (.crd ℓ)) (cI i) 1)) ∗ bigSep Finset.univ fun b : Fin 2 => rcvCreds c ℓ b 0) := by
  rw [Pipeline.launchCred_add (fun d => oweC d ℓ 0) (fun d => ∑ b, oweR d ℓ b 0) c,
    Pipeline.launchCred_sum Finset.univ (fun b d => oweR d ℓ b 0) c]
  refine BIClass.sep_mono ?_ (bigSep_mono fun b _ => ?_)
  · unfold oweC
    rw [Pipeline.launchCred_sum (Finset.Ico 0 29) (fun i d => tallyAt (cell (up ℓ d) (.crd ℓ)) (cI i) 1) c]
    exact bigSep_mono fun i _ => Pipeline.launchCred_tallyAt (semOf (.crd ℓ)) (up ℓ) (tgt ℓ) (up_tgt ℓ) (tgt_up ℓ) (cI i) 1 c
  · unfold oweR rcvCreds
    rw [Pipeline.launchCred_sum (Finset.Ico 0 31) (fun i d => tallyAt (rcvAt (tgt ℓ d) ℓ b i) (rI i) N) c]
    exact bigSep_mono fun i _ => Pipeline.launchCred_tallyAt (semOf (.rcv ℓ (sl (i + 1)) b)) (tgt ℓ) (up ℓ) (tgt_up ℓ) (up_tgt ℓ) (rI i) N c

theorem launch_creds (c : Dev nD) : (Pipeline.launchCred owe₀ c : sProp 𝕄) ⊢ creds₀ c := by
  have e := Pipeline.launchCred_add (Val := Elt F) (Name := ℕ) (U := UU) (Lvl := ℕ)
    (fun d => Owe d (fun _ _ => 0) (fun _ => 0)) barOwe c
  have e2 := Pipeline.launchCred_sum (Val := Elt F) (Name := ℕ) (U := UU) (Lvl := ℕ) Finset.univ
    (fun (ℓ : Bool) (d : Dev nD) => oweC d ℓ 0 + ∑ b, oweR d ℓ b 0) c
  refine (Entails.of_eq e).trans ?_
  refine (BIClass.sep_mono (Entails.of_eq e2) (launch_bar c)).trans ?_
  unfold creds₀
  iintro ⟨H, Hb⟩
  isplitl [Hb]; · iexact Hb
  iapply (show (bigSep Finset.univ fun ℓ : Bool => (Pipeline.launchCred (fun d => oweC d ℓ 0 + ∑ b, oweR d ℓ b 0) c : sProp 𝕄)) ⊢ _
    from bigSep_mono fun ℓ _ => launch_lane c ℓ)
  iexact H

theorem lane_intro (c : Dev nD) (ℓ : Bool) :
    iprop((bigSep (Finset.Ico 0 29) (fun i => cred (tallyAt (cell c (.crd ℓ)) (cI i) 1)) ∗ rcvCreds c ℓ 0 0 ∗ rcvCreds c ℓ 1 0)
      ∗ (hopToks c ℓ 0 0 ∗ hopToks c ℓ 1 0) ∗ (readers c ℓ 0 0 ∗ readers c ℓ 1 0) ∗ duties c ℓ 0)
    ⊢ (laneStart c ℓ : sProp 𝕄) := by
  unfold laneStart startHalf
  iintro ⟨⟨Hc, Hr0, Hr1⟩, ⟨Hh0, Hh1⟩, ⟨Hd0, Hd1⟩, Hdu⟩
  isplitl [Hc]; · iexact Hc
  isplitl [Hr0 Hh0 Hd0]
  · isplitl [Hr0]; · iexact Hr0
    isplitl [Hh0] <;> iassumption
  isplitl [Hr1 Hh1 Hd1]
  · isplitl [Hr1]; · iexact Hr1
    isplitl [Hh1] <;> iassumption
  iexact Hdu

/-- The rights and the credits of a device, sorted by lane. -/
theorem lanes_intro (c : Dev nD) :
    iprop((bigSep Finset.univ fun ℓ : Bool => iprop(bigSep (Finset.Ico 0 29) (fun i => cred (tallyAt (cell c (.crd ℓ)) (cI i) 1))
        ∗ bigSep Finset.univ fun b : Fin 2 => rcvCreds c ℓ b 0))
      ∗ (bigSep Finset.univ fun ℓ : Bool => bigSep Finset.univ fun b : Fin 2 => hopToks c ℓ b 0)
      ∗ (bigSep Finset.univ fun ℓ : Bool => bigSep Finset.univ fun b : Fin 2 => readers c ℓ b 0)
      ∗ (bigSep Finset.univ fun ℓ : Bool => duties c ℓ 0))
    ⊢ (iprop(laneStart c false ∗ laneStart c true) : sProp 𝕄) := by
  rw [← sep_bool (fun ℓ => laneStart c ℓ), ← bigSep_sep', ← bigSep_sep', ← bigSep_sep']
  refine bigSep_mono fun ℓ _ => ?_
  rw [sep_two, sep_two, sep_two]
  exact lane_intro c ℓ

end Cert.KernelIdeal.Ring
-- ==== Proof.BodyEq.lean ====
/- The printed body is the structured one. -/
module

public import proofs.«01_k».proof.Proof.Prog

@[expose] public section

noncomputable section

namespace Cert.KernelIdeal.Ring

open Idealize.ShloMosaic Idealize.SL.Sem Cert.KernelIdeal Cert.KernelIdeal.Gen

variable {F : FTy → Type} [FloatOps F]

set_option maxRecDepth 65536 in
/-- The printed body is the structured one, by unfolding. -/
theorem body_eq (arg0 : Memref sig .tc .smem S3 .i32) (harg0 : arg0.IsWhole)
    (arg1 : Memref sig .tc .smem S32 .i32) (harg1 : arg1.IsWhole)
    (arg2 : Memref sig .tc .vmem S8192x256 .bf16) (harg2 : arg2.IsWhole)
    (arg3 : Memref sig .tc .vmem S256x4096 .bf16) (harg3 : arg3.IsWhole)
    (arg4 : Memref sig .tc .vmem S256x4096 .f32) (harg4 : arg4.IsWhole)
    (arg5 : Memref sig .tc .vmem S3x256x2048 .bf16) (harg5 : arg5.IsWhole)
    (arg6 : Memref sig .tc .vmem S3x256x2048 .bf16) (harg6 : arg6.IsWhole)
    (arg7 arg8 arg9 arg10 : DmaSems sig S3x2) (arg11 arg12 : Sems sig S_) :
    cc0_body (F := F) arg0 harg0 arg1 harg1 arg2 harg2 arg3 harg3 arg4 harg4 arg5 harg5 arg6 harg6
      arg7 arg8 arg9 arg10 arg11 arg12
    = bodyP ⟨arg0, arg1, arg2, arg3, arg4,
        fun ℓ => match ℓ with
          | false => ⟨arg5, harg5, arg7, arg8, arg11⟩
          | true => ⟨arg6, harg6, arg9, arg10, arg12⟩⟩ := by
  chain_rfl

end Cert.KernelIdeal.Ring
-- ==== Proof.Region.lean ====
/- The call of the kernel on a device: what goes in, what comes out. -/
module

public import proofs.«01_k».proof.Proof.Deal
public import proofs.«01_k».proof.Proof.BodyEq
public import proofs.«01_k».proof.Proof.Gen.KernelIdeal.Regions
public import proofs.«01_k».proof.Proof.Gen.KernelIdeal.Points
public import Idealize.ShloMosaic.Lib.Pipeline.RegionTalk

@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ## The values -/

/-- The blocks of the left operand, by device. -/
abbrev xs (c : Dev nD) : S8192x256.Idx → Elt F .bf16 := m ((c : Thread nD τ).loc main_arg0)
/-- The blocks of the right operand, by device. -/
abbrev ws (c : Dev nD) : S256x4096.Idx → Elt F .bf16 := m ((c : Thread nD τ).loc main_arg1)

/-- The products of this memory. -/
abbrev prM : Dev nD → Bool → ℕ → FVec F S256x2048 .f32 := prOf (xs m) (ws m)

/-- What a device's result holds at the end. -/
def res (c : Dev nD) : S256x4096.Idx → Elt F .f32 := outOf (valOf (prM m) c)

/-- The buffers of a device after the call. -/
abbrev Vend (c : Dev nD) : Valuation τ sig (Elt F) := Function.update (V5 m c) (Proc.devRef .tc main_v29) (res m c)

/-! ## What the call takes in and leaves -/

/-- The cells of the lanes, by number. -/
def osem (k : Bool × Own) : SemLoc sig := semOf (own k.1 k.2)

theorem osem_facts : Pipeline.OwnSemFacts spec0 osem := by decide +kernel

/-- A device's own part before the call. -/
def kept (c : Dev nD) : sProp 𝕄 :=
  iprop((dutyTok ER (cell (up false c) .bar) 0 0 ∗ dutyTok ER (cell (up true c) .bar) 0 1) ∗ atPos ER (cell c .bar) 0 ∅ 0
    ∗ cred (tallyAt (cell c .bar) 1 2)
    ∗ (bigSep Finset.univ fun ℓ : Bool => bigSep Finset.univ fun j : Own => openTok ER (cell c (own ℓ j)))
    ∗ laneStart c false ∗ laneStart c true)

/-- The same with the lanes' cells open. -/
def opened (c : Dev nD) : sProp 𝕄 :=
  iprop((reached ER (cell (up false c) .bar) 0 ∗ reached ER (cell (up true c) .bar) 0)
    ∗ (dutyTok ER (cell (up false c) .bar) 0 0 ∗ dutyTok ER (cell (up true c) .bar) 0 1) ∗ atPos ER (cell c .bar) 0 ∅ 0
    ∗ cred (tallyAt (cell c .bar) 1 2)
    ∗ (lanePos c false ∗ lanePos c true) ∗ laneStart c false ∗ laneStart c true)

def Tk (c : Dev nD) : sProp 𝕄 :=
  iprop(∃ (K : GSem nD τ sig → ℕ) (ιs : Key → ℕ), (Ctx (prM m) K ιs
    ∗ (reached ER (cell (up false c) .bar) 0 ∗ reached ER (cell (up true c) .bar) 0)) ∗ kept c)

def Xk (c : Dev nD) : sProp 𝕄 :=
  iprop(∃ (K : GSem nD τ sig → ℕ) (ιs : Key → ℕ), Ctx (prM m) K ιs ∗ opened c)

def Yk (c : Dev nD) : sProp 𝕄 := semVal (cell c .bar) 0

theorem ownSems_eq (c : Dev nD) : (Pipeline.ownSems0 osem c : sProp 𝕄)
    = bigSep Finset.univ fun k : Bool × Own => semVal (cell c (own k.1 k.2)) 0 := rfl

theorem lanes_open (K : GSem nD τ sig → ℕ) (ιs : Key → ℕ) (c : Dev nD) :
    iprop(Ctx (prM m) K ιs ∗ (bigSep Finset.univ fun ℓ : Bool => bigSep Finset.univ fun j : Own => openTok ER (cell c (own ℓ j)))
        ∗ Pipeline.ownSems0 osem c) ⊢ (|={Set.univ}=> (lanePos c false ∗ lanePos c true) : sProp 𝕄) := by
  rw [ownSems_eq, ← sep_bool (fun ℓ => lanePos c ℓ)]
  unfold lanePos
  rw [← bigSep_univ_prod (fun k : Bool × Own => (openTok ER (cell c (own k.1 k.2)) : sProp 𝕄)),
    ← bigSep_univ_prod (fun k : Bool × Own => (iprop(atPos ER (cell c (own k.1 k.2)) 0 ∅ 0 ∗ reached ER (cell c (own k.1 k.2)) 0) : sProp 𝕄))]
  refine BIBase.Entails.trans ?_ (Rounds.cells_open ER (Rd (prM m)) (Finset.univ : Finset (Bool × Own)) (fun k => cell c (own k.1 k.2))
    (fun k => K (cell c (own k.1 k.2))) (Es := Set.univ) (fun k _ => Set.mem_univ _))
  iintro ⟨#HC, Hop, Hz⟩
  isplitl [Hop]
  · iapply (show iprop(Ctx (prM m) K ιs ∗ (bigSep Finset.univ fun k : Bool × Own => (openTok ER (cell c (own k.1 k.2)) : sProp 𝕄))) ⊢ _ from
      bigSep_with_persistent (R := Ctx (prM m) K ιs) fun k _ => (show iprop(Ctx (prM m) K ιs ∗ openTok ER (cell c (own k.1 k.2)))
        ⊢ iprop(cellInv ER (Rd (prM m)) (K (cell c (own k.1 k.2))) (cell c (own k.1 k.2)) ∗ openTok ER (cell c (own k.1 k.2))) from by
          iintro ⟨#H, Ho⟩
          isplitr
          · iapply (Ctx_cell (prM m) K ιs c (own k.1 k.2)); iexact H
          · iexact Ho))
    isplitr; · iexact HC
    iexact Hop
  · iexact Hz

theorem hopen (c : Dev nD) : iprop(Tk m c ∗ Pipeline.ownSems0 osem c ∗ levAts L lv) ⊢ (|={Set.univ}=> Xk m c : sProp 𝕄) := by
  unfold Tk Xk kept opened
  iintro ⟨⟨%K, %ιs, ⟨#HC, #Hr⟩, Hd, Hat, Hcr, Hop, H0, H1⟩, Hz, -⟩
  imod (lanes_open m K ιs c) $$ [Hop Hz] with Hp
  · isplitr; · iexact HC
    isplitl [Hop] <;> iassumption
  imodintro
  iexists K; iexists ιs
  isplitr; · iexact HC
  isplitr; · iexact Hr
  isplitl [Hd]; · iexact Hd
  isplitl [Hat]; · iexact Hat
  isplitl [Hcr]; · iexact Hcr
  isplitl [Hp]; · iexact Hp
  isplitl [H0] <;> iassumption

/-! ## The proof data of the call -/

/-- The scratch buffers. -/
abbrev scr (c : Dev nD) : sProp 𝕄 :=
  iprop((∃ f : Buf (Elt F) (cmLoc c false), cmLoc c false ↦{fullShare} f) ∗ (∃ f : Buf (Elt F) (cmLoc c true), cmLoc c true ↦{fullShare} f))

def dat0 (c : Dev nD) : Dat τ (Elt F) ℕ ℕ UU ℕ cfg0 c where
  A w := V5 m c (Proc.devRef .tc (Pipeline.arrRef spec0 w))
  after w _ := match w with
    | ⟨0, _⟩ => V5 m c main_v28
    | ⟨1, _⟩ => V5 m c main_c
    | ⟨2, _⟩ => V5 m c main_arg0
    | ⟨3, _⟩ => V5 m c main_arg1
    | ⟨4, _⟩ => res m c
  Φ t := if t.val = 0 then iprop(Xk m c ∗ scr c ∗ ∃ r, prngReg c r)
    else iprop(Yk c ∗ (laneZero c false ∗ laneZero c true) ∗ scr c ∗ ∃ r, prngReg c r)
  q _ := fullShare
  owed t := if t.val = 0 then owe₀ c else 0

def pdats : (p : Fin 1) → (c : Dev nD) → Dat τ (Elt F) ℕ ℕ UU ℕ (Pipeline.pin (pcfgs (F := F)) adm p) c
  | 0 => dat0 m

theorem owed_zero (c : Dev nD) : (pdats m 0 c).owed 0 = owe₀ c := by
  show (if ((0 : Fin (cfg0.N + 1)).val = 0) then owe₀ c else 0) = owe₀ c; exact if_pos rfl
theorem owed_first (c : Dev nD) : (dat0 m c).owed (t0_0 : Fin cfg0.N).castSucc = owe₀ c := by
  show (if (((t0_0 : Fin cfg0.N).castSucc : Fin (cfg0.N + 1)).val = 0) then owe₀ c else 0) = owe₀ c; exact if_pos rfl
theorem owed_last (c : Dev nD) : (pdats m 0 c).owed (Fin.last _) = 0 := by
  show (if (Fin.last cfg0.N).val = 0 then owe₀ c else 0) = 0
  rw [Fin.val_last, if_neg (by rw [show cfg0.N = 1 from N_0]; decide)]
theorem owed_succ (c : Dev nD) : (dat0 m c).owed (t0_0 : Fin cfg0.N).succ = 0 := by
  show (if ((t0_0 : Fin cfg0.N).succ : Fin (cfg0.N + 1)).val = 0 then owe₀ c else 0) = 0
  exact if_neg (by rw [Fin.val_succ]; exact Nat.succ_ne_zero _)

theorem owesAt_intro (c : Dev nD) (t : Fin (cfg0.N + 1)) (O : CellTallies nD τ sig ℕ) (h0 : (dat0 m c).owed t = O) (W : Waits sig ℕ) :
    (owes (c : Thread nD τ) O W : sProp 𝕄) ⊢ ((dat0 m c).owesAt 0 t : sProp 𝕄) := by
  unfold Dat.owesAt Pipeline.owesWithin Dat.bound
  rw [h0, show (dat0 m c).recorded t = Set.univ from rfl]
  iintro HO; iexists W; isplitr; · ipureintro; exact fun _ _ => Or.inl trivial
  iexact HO
theorem owesAt_elim (c : Dev nD) (t : Fin (cfg0.N + 1)) (O : CellTallies nD τ sig ℕ) (h0 : (dat0 m c).owed t = O) :
    ((dat0 m c).owesAt 0 t : sProp 𝕄) ⊢ iprop(∃ W, owes (c : Thread nD τ) O W) := by
  unfold Dat.owesAt Pipeline.owesWithin; rw [h0]
  iintro ⟨%W, -, HO⟩; iexists W; iexact HO

/-! ## The body of the call -/

/-- What the body is called with. -/
def args0 : Args := ⟨Memref.whole cc0_stg0_0, Memref.whole cc0_stg1_0, Memref.whole cc0_stg2_0, Memref.whole cc0_stg3_0,
  Memref.whole cc0_stg4_0, lane⟩

theorem body_at : defs₀ (F := F) .tc cfg0.body (cfg0.bodyArgs t0_0 (cfg0.slots t0_0)) = bodyP args0 := by
  refine (show _ = bodyAt0 (F := F) t0_0 from rfl).trans ?_
  unfold bodyAt0
  rw [body_eq]
  unfold args0
  congr 1

theorem blk_read (b : Ref sig .tc) (off size : Fin b.ty.shape.rank → Nat) (inb) (h0 : ∀ a, off a = 0)
    (f : b.ty.Contents (Elt F)) (j : (Rect.unit off size inb).shape.Idx) :
    ((View.whole b).slice (Rect.unit off size inb)).read (Elt F) f j = f (fun a => ⟨(j a).val, by
      have h1 := inb a
      have h2 : (j a).val < size a := (j a).isLt
      omega⟩) := by
  refine congrArg f (funext fun a => Fin.ext ?_)
  show off a + 1 * (j a).val = (j a).val
  rw [h0, Nat.zero_add, Nat.one_mul]

theorem before_0 (c : Dev nD) (d) : (dat0 m c).before 0 t0_0 d = V5 m c main_v28 := by
  unfold Dat.before
  rw [if_pos (by decide)]
  refine (show _ = ((cfg0.win 0).blk t0_0).view.read (Elt F) (V5 m c main_v28) from rfl).trans ?_
  funext j
  exact (blk_read main_v28 _ _ _ (by decide) _ j).trans rfl
theorem before_1 (c : Dev nD) (d) : (dat0 m c).before 1 t0_0 d = V5 m c main_c := by
  unfold Dat.before
  rw [if_pos (by decide)]
  refine (show _ = ((cfg0.win 1).blk t0_0).view.read (Elt F) (V5 m c main_c) from rfl).trans ?_
  funext j
  exact (blk_read main_c _ _ _ (by decide) _ j).trans rfl
theorem before_2 (c : Dev nD) (d) : (dat0 m c).before 2 t0_0 d = V5 m c main_arg0 := by
  unfold Dat.before
  rw [if_pos (by decide)]
  refine (show _ = ((cfg0.win 2).blk t0_0).view.read (Elt F) (V5 m c main_arg0) from rfl).trans ?_
  funext j
  exact (blk_read main_arg0 _ _ _ (by decide) _ j).trans rfl
theorem before_3 (c : Dev nD) (d) : (dat0 m c).before 3 t0_0 d = V5 m c main_arg1 := by
  unfold Dat.before
  rw [if_pos (by decide)]
  refine (show _ = ((cfg0.win 3).blk t0_0).view.read (Elt F) (V5 m c main_arg1) from rfl).trans ?_
  funext j
  exact (blk_read main_arg1 _ _ _ (by decide) _ j).trans rfl

/-- The body of the call, from its part of the device to what it leaves. -/
theorem body_run (c : Dev nD) (K : GSem nD τ sig → ℕ) (ιs : Key → ℕ)
    (f₀ : Buf (Elt F) (cmLoc c false)) (f₁ : Buf (Elt F) (cmLoc c true)) (Kt : PUnit → sProp 𝕄) :
    iprop(Ctx (prM m) K ιs ∗ devStart c ∗ owns (c : Thread nD τ) args0.sc fullShare (V5 m c main_v28)
        ∗ inP args0 c (V5 m c main_c) (V5 m c main_arg0) (V5 m c main_arg1) ∗ outP args0 c (valOf (prM m) c) ∅
        ∗ ((devEnd c ∗ owns (c : Thread nD τ) args0.sc fullShare (V5 m c main_v28)
            ∗ inP args0 c (V5 m c main_c) (V5 m c main_arg0) (V5 m c main_arg1) ∗ outP args0 c (valOf (prM m) c) parts) -∗ Kt ⟨⟩))
      ⊢ WP c (bodyP args0) Kt := by
  obtain ⟨h0, h1, h2⟩ := V5_scalars m c
  have hG : Good (prM m) c (scAt (F := F) (V5 m c main_v28) 0) (V5 m c main_c) (V5 m c main_arg0) (V5 m c main_arg1) := by
    rw [h0, V5_table, V5_x, V5_w]
    exact good_prOf (xs m) (ws m) c
  exact bodyP_wp (prM m) (K := K) (ιs := ιs) args0 rfl c (by rw [h1, devN_w32]) (by rw [h2, devN_w32]) hG
    (valOf (prM m) c) (fun _ _ => rfl) f₀ f₁ Kt

omit [FloatOps F] in
theorem Xk_start (c : Dev nD) (W : Waits sig ℕ) :
    iprop(opened (F := F) c ∗ scr c ∗ owes (c : Thread nD τ) (owe₀ c) W) ⊢ (devStart c : sProp 𝕄) := by
  unfold opened devStart owe₀
  iintro ⟨⟨Hr, Hd, Hat, Hcr, ⟨Hp0, Hp1⟩, H0, H1⟩, ⟨Hs0, Hs1⟩, HO⟩
  isplitl [HO]; · iexists W; iexact HO
  isplitl [Hr]; · iexact Hr
  isplitl [Hd]; · iexact Hd
  isplitl [Hat]; · iexact Hat
  isplitl [Hcr]; · iexact Hcr
  isplitl [Hp0 H0 Hs0]
  · isplitl [Hp0]; · iexact Hp0
    isplitl [H0] <;> iassumption
  · isplitl [Hp1]; · iexact Hp1
    isplitl [H1] <;> iassumption

theorem Phi_first (c : Dev nD) : (dat0 m c).Φ (t0_0 : Fin cfg0.N).castSucc = iprop(Xk m c ∗ scr c ∗ ∃ r, prngReg c r) := by
  dsimp only [dat0]
  exact if_pos rfl
theorem Phi_succ (c : Dev nD) : (dat0 m c).Φ (t0_0 : Fin cfg0.N).succ
    = iprop(Yk c ∗ (laneZero c false ∗ laneZero c true) ∗ scr c ∗ ∃ r, prngReg c r) := by
  dsimp only [dat0]
  exact if_neg (by rw [Fin.val_succ]; exact Nat.succ_ne_zero _)

theorem body_obligation (c : Dev nD) : BodyObligation (dat0 m c) (defs₀ (F := F)) 𝒱₀ 0 Set.univ := fun t => by
  obtain rfl := fin_N0 t
  rw [bigSep_W0, bigSep_W0, Phi_first, Phi_succ]
  rw [show defs₀ (F := F) .tc cfg0.body (cfg0.bodyArgs t0_0 (cfg0.slots t0_0)) = bodyP args0 from body_at]
  simp only [before_0, before_1, before_2, before_3]
  unfold Xk Yk
  iintro ⟨⟨⟨%K, %ιs, #HC, Ho⟩, ⟨⟨%f₀, Hs0⟩, %f₁, Hs1⟩, Hreg⟩, HO, ⟨%d0, H0⟩, ⟨%d1, H1⟩, ⟨%d2, H2⟩, ⟨%d3, H3⟩, ⟨%d4, H4⟩⟩
  ihave HO := (owesAt_elim m c _ (owe₀ c) (owed_first m c)) $$ HO
  icases HO with ⟨%W, HO⟩
  ihave Hout := (owns_outP args0 c (valOf (prM m) c) ((dat0 m c).before 4 t0_0 d4)) $$ [H4]
  · iexact H4
  iapply (body_run m c K ιs f₀ f₁ _)
  isplitr; · iexact HC
  isplitl [Ho Hs0 Hs1 HO]
  · iapply (Xk_start c W)
    isplitl [Ho]; · iexact Ho
    isplitl [Hs0 Hs1]
    · isplitl [Hs0]
      · iexists f₀; iexact Hs0
      · iexists f₁; iexact Hs1
    · iexact HO
  isplitl [H0]; · iexact H0
  isplitl [H1 H2 H3]
  · unfold inP
    isplitl [H1]; · iexact H1
    isplitl [H2]; · iexact H2
    iexact H3
  isplitl [Hout]; · iexact Hout
  unfold devEnd inP
  iintro ⟨⟨⟨%W', HO⟩, Hb, ⟨Hz0, Hs0⟩, Hz1, Hs1⟩, H0, ⟨H1, H2, H3⟩, Hout⟩
  ihave H4 := (outP_owns args0 c (valOf (prM m) c)) $$ Hout
  isplitl [Hb Hz0 Hz1 Hs0 Hs1 Hreg]
  · isplitl [Hb]; · iexact Hb
    isplitl [Hz0 Hz1]; · isplitl [Hz0] <;> iassumption
    isplitl [Hs0 Hs1]; · isplitl [Hs0] <;> iassumption
    iexact Hreg
  isplitl [HO]; · iapply (owesAt_intro m c _ 0 (owed_succ m c) W'); iexact HO
  isplitl [H0]; · iexact H0
  isplitl [H1]; · iexact H1
  isplitl [H2]; · iexact H2
  isplitl [H3]; · iexact H3
  iexact H4

end Cert.KernelIdeal.Ring
-- ==== Proof.Record.lean ====
/- The call's record for the program, and what its arrays hold at the end. -/
module

public import proofs.«01_k».proof.Proof.Region
public import Idealize.ShloMosaic.Lib.Pipeline.RegionTalk

@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ## What the arrays hold at the end -/

/-- The whole-array view of a window, at its one block, is every element. -/
theorem blk_mem (b : Ref sig .tc) (off size : Fin b.ty.shape.rank → Nat) (inb) (h0 : ∀ a, off a = 0) (hs : ∀ a, size a = b.ty.shape.size a)
    (i : b.ty.shape.Idx) : i ∈ ((View.whole b).slice (Rect.unit off size inb)).set := by
  rw [View.set_slice_whole, Rect.mem_set_unit]
  intro a
  rw [h0, hs, Nat.zero_add]
  exact ⟨Nat.zero_le _, (i a).isLt⟩

theorem flushed_out (c : Dev nD) : (dat0 m c).flushed 4 t0_0 = ((cfg0.win 4).blk t0_0).view.read (Elt F) (res m c) := by
  have ha : (dat0 m c).after 4 t0_0 = res m c := by dsimp only [dat0]
  unfold Dat.flushed
  rw [ha]
  funext j
  exact (show _ = res m c (fun a => ⟨(j a).val, _⟩) from rfl).trans (blk_read main_v29 _ _ _ (by decide) _ j).symm

theorem arr_out (c : Dev nD) : (dat0 m c).arrAt 4 cfg0.N = res m c :=
  (dat0 m c).arrAt_eq_of_cover 4 (res m c) (fun t _ => by obtain rfl := fin_N0 t; exact flushed_out m c)
    fun i => ⟨t0_0, flush0_4 t0_0, blk_mem main_v29 _ _ _ (by decide) (by decide) i⟩

theorem Vend_ne (c : Dev nD) (r : Ref sig .tc) (h : r ≠ main_v29) : Vend m c (Proc.devRef .tc r) = V5 m c (Proc.devRef .tc r) :=
  Function.update_of_ne (StableHlo.devRef_ne_of_ne h) _ _

theorem Vend_out (c : Dev nD) : Vend m c (Proc.devRef .tc main_v29) = res m c := Function.update_self _ _ _

theorem end_0 (c : Dev nD) : (dat0 m c).arrAt 0 cfg0.N = Vend m c (Proc.devRef .tc main_v28) :=
  ((dat0 m c).arrAt_in 0 rfl _).trans (Vend_ne m c main_v28 (by decide)).symm
theorem end_1 (c : Dev nD) : (dat0 m c).arrAt 1 cfg0.N = Vend m c (Proc.devRef .tc main_c) :=
  ((dat0 m c).arrAt_in 1 rfl _).trans (Vend_ne m c main_c (by decide)).symm
theorem end_2 (c : Dev nD) : (dat0 m c).arrAt 2 cfg0.N = Vend m c (Proc.devRef .tc main_arg0) :=
  ((dat0 m c).arrAt_in 2 rfl _).trans (Vend_ne m c main_arg0 (by decide)).symm
theorem end_3 (c : Dev nD) : (dat0 m c).arrAt 3 cfg0.N = Vend m c (Proc.devRef .tc main_arg1) :=
  ((dat0 m c).arrAt_in 3 rfl _).trans (Vend_ne m c main_arg1 (by decide)).symm

theorem hW' (c : Dev nD) (w : Fin cfg0.W) : (dat0 m c).arrAt w cfg0.N = Vend m c (Proc.devRef .tc (Pipeline.arrRef spec0 w)) := by
  match w with
  | ⟨0, _⟩ => exact end_0 m c
  | ⟨1, _⟩ => exact end_1 m c
  | ⟨2, _⟩ => exact end_2 m c
  | ⟨3, _⟩ => exact end_3 m c
  | ⟨4, _⟩ => exact (arr_out m c).trans (Vend_out m c).symm

/-! ## The record -/

/-- The unscoped buffers that are no array of the call. -/
def restRefs : Finset (DevRef τ sig) := Pipeline.ucRefs τ sig \ Pipeline.arrRefs (τ := τ) spec0

theorem arrRefs_sub : Pipeline.arrRefs (τ := τ) spec0 ⊆ Pipeline.ucRefs τ sig := by decide

theorem v29_arr : Proc.devRef .tc main_v29 ∈ Pipeline.arrRefs (τ := τ) spec0 := by decide

theorem Vend_rest (c : Dev nD) (b : DevRef τ sig) (hb : b ∈ restRefs \ (∅ : Finset (DevRef τ sig))) : Vend m c b = V5 m c b := by
  refine Function.update_of_ne (fun h => ?_) _ _
  subst h
  exact (Finset.mem_sdiff.mp (Finset.mem_sdiff.mp hb).1).2 v29_arr

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owe₀_cut (c : Dev nD) (g : GSem nD τ sig) (i : ℕ) (h : 0 < owe₀ c g i) : i ∈ L g ∧ 0 < lv g i := by
  unfold owe₀ at h
  rcases Pipeline.add_pos_cases h with h | h
  · obtain ⟨h1, h2, h3⟩ := Owe_pos h
    refine ⟨by unfold L; rw [if_pos h1]; exact Finset.mem_range.mpr h2, ?_⟩
    show 0 < i
    rcases h3 with ⟨ℓ, b, h3⟩ | ⟨ℓ, -, h3⟩
    · exact Nat.lt_of_lt_of_le (show 0 < rI 0 by decide) h3
    · exact Nat.lt_of_lt_of_le (show 0 < cI 0 by decide) h3
  · unfold barOwe at h
    rcases Pipeline.add_pos_cases h with h | h <;> rw [tallyAt_apply] at h <;> split at h
    · next hg => obtain ⟨rfl, rfl⟩ := hg; exact ⟨by rw [cell, L_tc]; decide, Nat.one_pos⟩
    · exact absurd h (Nat.lt_irrefl 0)
    · next hg => obtain ⟨rfl, rfl⟩ := hg; exact ⟨by rw [cell, L_tc]; decide, Nat.one_pos⟩
    · exact absurd h (Nat.lt_irrefl 0)

theorem cut (c : Dev nD) (t : Fin ((Pipeline.pin (pcfgs (F := F)) adm 0).N + 1)) (g : GSem nD τ sig) (i : ℕ)
    (h : 0 < (pdats m 0 c).owed t g i) : i ∈ L g ∧ (0 : ℕ) < lv g i := by
  have e : (pdats m 0 c).owed t = if t.val = 0 then owe₀ c else 0 := rfl
  rw [e] at h
  split at h
  · exact owe₀_cut c g i h
  · exact absurd h (Nat.lt_irrefl 0)

theorem scopedRest_scr (c : Dev nD) :
    (Pipeline.scopedRest (Ix := ℕ) (Name := ℕ) (U := UU) (Lvl := ℕ) (Val := Elt F) (Pipeline.pin (pcfgs (F := F)) adm 0).spec c : sProp 𝕄) = scr c :=
  scopedRest0_eq c

theorem held_none (c : Dev nD) (W : Valuation τ sig (Elt F)) : (StableHlo.held (c.tc : Thread nD τ) ∅ W : sProp 𝕄) = BI.emp := by
  unfold StableHlo.held
  exact BI.bigSep_empty

theorem hin (c : Dev nD) : iprop(Pipeline.scopedRest (Pipeline.pin (pcfgs (F := F)) adm 0).spec c ∗ (∃ r, prngReg c r)
      ∗ StableHlo.held (c.tc : Thread nD τ) ∅ (V5 m c) ∗ Xk m c) ⊢ (pdats m 0 c).Φ 0 := by
  rw [show (pdats m 0 c).Φ 0 = iprop(Xk m c ∗ scr c ∗ ∃ r, prngReg c r) from rfl, scopedRest_scr]
  iintro ⟨Hs, Hp, -, HX⟩
  isplitl [HX]; · iexact HX
  isplitl [Hs] <;> iassumption

theorem Phi_last (c : Dev nD) : (pdats m 0 c).Φ (Fin.last (Pipeline.pin (pcfgs (F := F)) adm 0).N)
    = iprop(Yk c ∗ (laneZero c false ∗ laneZero c true) ∗ scr c ∗ ∃ r, prngReg c r) := Phi_succ m c

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Vend m c) ∗ Pipeline.ownSems0 osem c ∗ Yk c) := by
  rw [Phi_last, scopedRest_scr, ownSems_eq, held_none, bigSep_univ_prod, sep_bool]
  unfold laneZero
  iintro ⟨HY, Hz, Hs, Hp⟩
  isplitl [Hs]; · iexact Hs
  isplitl [Hp]; · iexact Hp
  isplitr; · iempintro
  isplitl [Hz]; · iexact Hz
  iexact HY

theorem share_full (c : Dev nD) (w : Fin cfg0.W) : (pdats m 0 c).share w = fullShare := by
  unfold Dat.share
  split <;> rfl

set_option backward.isDefEq.respectTransparency.types false in
/-- The call's record. -/
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem osem_facts
    ∅ restRefs (Finset.empty_subset _) kitP rfl (fun c => (body_obligation m c).loose)
    (fun _ => 0) owe₀ (fun c => (owed_zero m c).trans (zero_add _).symm) (owed_last m) (fun _ => rfl) (share_full m)
    (V5 m) (Vend m) (Vend_rest m)
    (Tk m) Yk (Xk m) Yk (hopen m) (hin m) (hout m)
    (fun c => by iintro H; imodintro; iexact H)
    (fun _ => 0)
    ⟨fun c w s => by rw [L_tc]; exact Finset.mem_range.mpr (by decide), fun _ _ _ => Nat.le_refl 0, fun c t g i h => cut m c t g i h⟩
    (fun _ => iprop(emp)) (fun c w => rfl) (hW' m)

end Cert.KernelIdeal.Ring
-- ==== Proof.Run.lean ====
/- The launch and the run of the whole program. -/
module

public import proofs.«01_k».proof.Proof.Record

@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Seg)

variable {F : FTy → Type} [FloatOps F]

local notation "𝕄" => MT nD τ sig ℕ (Elt F) ℕ UU ℕ

variable (m : (ℓ : Loc nD τ sig) → Buf (Elt F) ℓ) (ρ : Dev nD → PrngReg)

/-! ## What rides beside the buffers -/

/-- Before the call, and after it. -/
def E (k : Fin 2) (c : Dev nD) : sProp 𝕄 :=
  if k = 0 then iprop(Tk m c ∗ (∃ r, prngReg c r) ∗ ∃ W, owes (c : Thread nD τ) (owe₀ c) W)
  else iprop(semVal (cell c .bar) 0 ∗ ∃ W, owes (c : Thread nD τ) (0 : CellTallies nD τ sig ℕ) W)

theorem E_0 (c : Dev nD) : E m 0 c = iprop(Tk m c ∗ (∃ r, prngReg c r) ∗ ∃ W, owes (c : Thread nD τ) (owe₀ c) W) := if_pos rfl

theorem held_split (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) restRefs W) :=
  StableHlo.held_sub_split (c.tc : Thread nD τ) arrRefs_sub W

theorem reg0_pre (c : Dev nD) : iprop(StableHlo.held (c : Thread nD τ) (Pipeline.ucRefs τ sig) (V5 m c) ∗ E m 0 c) ⊢ (reg0 m).pre c := by
  show _ ⊢ iprop(StableHlo.held (c.tc : Thread nD τ) (Pipeline.arrRefs (τ := τ) (pcfgs (F := F) 0).spec) (V5 m c) ∗ (∃ r, prngReg c r)
    ∗ (StableHlo.held (c.tc : Thread nD τ) restRefs (V5 m c) ∗ emp) ∗ Tk m c ∗ ∃ Wd, owes (c : Thread nD τ) (0 + owe₀ c) Wd)
  rw [zero_add, E_0, held_split]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What a device holds at the end. -/
abbrev Tₙ (c : Dev nD) : sProp 𝕄 := iprop(StableHlo.held (c : Thread nD τ) (Pipeline.ucRefs τ sig) (Vend m c) ∗ semVal (cell c .bar) 0)

theorem reg0_post (c : Dev nD) : (reg0 m).post c
    ⊢ iprop(Tₙ m c ∗ ∃ W, owes (c : Thread nD τ) (0 : CellTallies nD τ sig ℕ) W) := by
  show iprop(StableHlo.held (c.tc : Thread nD τ) (Pipeline.arrRefs (τ := τ) (pcfgs (F := F) 0).spec) (Vend m c) ∗ (∃ r, prngReg c r)
    ∗ (StableHlo.held (c.tc : Thread nD τ) restRefs (Vend m c) ∗ emp) ∗ Yk c ∗ ∃ Wd, owes (c : Thread nD τ) (0 : CellTallies nD τ sig ℕ) Wd) ⊢ _
  rw [show Tₙ m c = iprop(StableHlo.held (c : Thread nD τ) (Pipeline.ucRefs τ sig) (Vend m c) ∗ semVal (cell c .bar) 0) from rfl, held_split]
  unfold Yk
  iintro ⟨Ha, -, ⟨Hr, -⟩, Hb, HO⟩
  isplitr [HO]
  · isplitr [Hb]
    · isplitl [Ha]; · iexact Ha
      iexact Hr
    · iexact Hb
  · iexact HO

/-! ## The launch -/

/-- The launch element of the protocol. -/
def proto₀ : UA × UB := (launchOf barCells laneCells allD, initSlots keys 1)

/-- The launch element. -/
def u₀ : UU :=
  (initOf (Pipeline.cells (Pipeline.pin (pcfgs (F := F)) adm) cellOf_inj) (Pipeline.launchToks (Pipeline.pin (pcfgs (F := F)) adm) cellOf_inj), proto₀)

/-- The protocol's part of it, all of it with the first device. -/
def G (c : Dev nD) : sProp 𝕄 :=
  if c = 0 then iprop(BI.own (ER (launchOf barCells laneCells allD)) ∗ BI.own (EK (initSlots keys 1))) else iprop(emp)

theorem G_all : bigSep Finset.univ (G (F := F))
    = iprop(BI.own (ER (launchOf barCells laneCells allD)) ∗ BI.own (EK (initSlots keys 1))) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

theorem own_proto : (BI.own (embR (proto₀ : UA × UB)) : sProp 𝕄)
    ⊢ iprop(BI.own (ER (launchOf barCells laneCells allD)) ∗ BI.own (EK (initSlots keys 1))) := by
  unfold ER EK proto₀
  exact own_pair_emb _ _ _

theorem unscopedSems_eq (c : Dev nD) : (unscopedSems0 c : sProp 𝕄) = semVal (cell c .bar) 0 := by
  unfold unscopedSems0
  rw [show (Finset.univ.filter fun sm : SemLoc sig => ¬ sm.isScoped .tc) = {semOf .bar} from by decide, BI.bigSep_singleton]

/-- What of a device's launch holdings is its own. -/
def bundle (c : Dev nD) : sProp 𝕄 :=
  iprop(StableHlo.held (c : Thread nD τ) (Pipeline.ucRefs τ sig) (V0 m c) ∗ creds₀ c
    ∗ owes (c : Thread nD τ) (owe₀ c) ∅ ∗ ∃ r, prngReg c r)

/-- What every device may consult. -/
def records (K : GSem nD τ sig → ℕ) (ιs : Key → ℕ) : sProp 𝕄 :=
  iprop(Ctx (prM m) K ιs ∗ bigSep barCells fun g => reached ER g 0)

instance records_persistent (K : GSem nD τ sig → ℕ) (ιs : Key → ℕ) : BI.Persistent (records m K ιs) := by
  unfold records; infer_instance

theorem reached_at (c : Dev nD) : (bigSep barCells fun g => (reached ER g 0 : sProp 𝕄)) ⊢ reached ER (cell c .bar) 0 :=
  bigSep_elim (Finset.mem_map.mpr ⟨c, Finset.mem_univ _, rfl⟩)

/-- The state before the host operations. -/
abbrev T₀ (c : Dev nD) : sProp 𝕄 := iprop(StableHlo.held (c : Thread nD τ) (Pipeline.ucRefs τ sig) (V0 m c) ∗ E m 0 c)

theorem T₀_intro (K : GSem nD τ sig → ℕ) (ιs : Key → ℕ) (c : Dev nD) :
    iprop(records m K ιs ∗ (dealt c ∗ bundle m c)) ⊢ T₀ m c := by
  rw [show T₀ m c = iprop(StableHlo.held (c : Thread nD τ) (Pipeline.ucRefs τ sig) (V0 m c) ∗ E m 0 c) from rfl, E_0]
  unfold bundle dealt records Tk kept creds₀
  iintro ⟨⟨#HC, #HR⟩, ⟨Hd, Hat, Hop, Hh, Hrd, Hdu⟩, Hb, ⟨Hcr, Hcs⟩, HO, Hp⟩
  isplitl [Hb]; · iexact Hb
  isplitr [HO Hp]
  · iexists K; iexists ιs
    isplitr
    · isplitr; · iexact HC
      isplitr
      · iapply (reached_at (F := F) (up false c)); iexact HR
      · iapply (reached_at (F := F) (up true c)); iexact HR
    isplitl [Hd]; · iexact Hd
    isplitl [Hat]; · iexact Hat
    isplitl [Hcr]; · iexact Hcr
    isplitl [Hop]; · iexact Hop
    iapply (lanes_intro c)
    isplitl [Hcs]; · iexact Hcs
    isplitl [Hh]; · iexact Hh
    isplitl [Hrd] <;> iassumption
  isplitl [Hp]; · iexact Hp
  iexists ∅; iexact HO

theorem core (c : Dev nD) : iprop(unscopedBufs c (fun b => m ((c : Thread nD τ).loc b)) ∗ unscopedSems0 c
      ∗ owes (c : Thread nD τ) (owe₀ c) ∅ ∗ Pipeline.launchCred owe₀ c ∗ prngReg c (ρ c) ∗ G c)
    ⊢ (iprop(bundle m c ∗ (semVal (cell c .bar) 0 ∗ G c)) : sProp 𝕄) := by
  rw [show unscopedBufs c (fun b => m ((c : Thread nD τ).loc b)) = StableHlo.held (c : Thread nD τ) (Pipeline.ucRefs τ sig) (V0 m c) from
    Pipeline.unscopedBufs_held (Ix := ℕ) (Name := ℕ) (U := UU) (Lvl := ℕ) c (V0 m c), unscopedSems_eq]
  unfold bundle
  iintro ⟨Hh, Hus, HO, Hcr, Hp, HG⟩
  ihave Hc := (launch_creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The invariants of every cell, from those of the two families. -/
theorem ctx_intro (K : GSem nD τ sig → ℕ) (ιs : Key → ℕ) :
    iprop((bigSep (barCells ∪ laneCells) fun g => cellInv ER (Rd (prM m)) (K g) g)
      ∗ (bigSep keys fun k => slotInv EK (ιs k) k (keySlot k)) ∗ levAts L lv) ⊢ (Ctx (prM m) K ιs : sProp 𝕄) := by
  unfold Ctx lvs
  iintro ⟨#HI, #HS, #HL⟩
  isplitr
  · iapply (show (bigSep (barCells ∪ laneCells) fun g => (cellInv ER (Rd (prM m)) (K g) g : sProp 𝕄))
      ⊢ bigSep (Finset.univ : Finset (Dev nD × Cell)) (fun q => cellInv ER (Rd (prM m)) (K (cell q.1 q.2)) (cell q.1 q.2)) from
        bigSep_intro_persistent fun q _ => bigSep_elim (cell_mem q.1 q.2))
    iexact HI
  isplitr; · iexact HS
  iexact HL

theorem init :
    iprop((bigSep Finset.univ fun c : Dev nD => iprop(unscopedBufs c (fun b => m ((c : Thread nD τ).loc b)) ∗ unscopedSems0 c
          ∗ owes (c : Thread nD τ) (owe₀ c) ∅ ∗ Pipeline.launchCred owe₀ c ∗ prngReg c (ρ c) ∗ G c)) ∗ levAts L lv)
      ⊢ (|={Set.univ}=> bigSep Finset.univ (T₀ m) : sProp 𝕄) := by
  iintro ⟨H, #HL⟩
  ihave H := (show (bigSep Finset.univ fun c : Dev nD => iprop(unscopedBufs c (fun b => m ((c : Thread nD τ).loc b)) ∗ unscopedSems0 c
          ∗ owes (c : Thread nD τ) (owe₀ c) ∅ ∗ Pipeline.launchCred owe₀ c ∗ prngReg c (ρ c) ∗ G c))
      ⊢ (bigSep Finset.univ fun c : Dev nD => iprop(bundle m c ∗ (semVal (cell c .bar) 0 ∗ G c)) : sProp 𝕄) from
      bigSep_mono fun c _ => core m ρ c) $$ H
  ihave H := (Entails.of_eq (bigSep_sep' _ _ _)) $$ H; icases H with ⟨HB, H⟩
  ihave H := (Entails.of_eq (bigSep_sep' _ _ _)) $$ H; icases H with ⟨Hv, HG⟩
  ihave HG := (Entails.of_eq (G_all (F := F))) $$ HG
  icases HG with ⟨HA, HK⟩
  ihave Hv := (Entails.of_eq (bar_cells (F := F) (fun g => semVal g 0)).symm) $$ Hv
  imod (Rounds.fund_launch ER (Rd (prM m)) cells_disjoint (fun g _ h => h) allD) $$ [Hv HA] with ⟨%K, -, #HI, #HR, Hat, Hop, Htok⟩
  · isplitl [Hv] <;> iassumption
  imod (Release.slots_init EK keys 1 keySlot) $$ HK with ⟨%ιs, -, #HS, Hrd, Hw⟩
  imodintro
  iapply (show iprop(records m K ιs ∗ bigSep Finset.univ fun c => iprop(dealt c ∗ bundle m c)) ⊢ bigSep Finset.univ (T₀ m) from
    bigSep_with_persistent (R := records m K ιs) (Φ := fun c => iprop(dealt c ∗ bundle m c)) fun c _ => T₀_intro m K ιs c)
  isplitr
  · unfold records
    isplitr
    · iapply (ctx_intro m K ιs)
      isplitr; · iexact HI
      isplitr; · iexact HS
      iexact HL
    · iexact HR
  iapply (Entails.of_eq (bigSep_sep' _ _ _).symm)
  isplitr [HB]
  · iapply (deal (F := F))
    isplitl [Hat]; · iexact Hat
    isplitl [Hop]; · iexact Hop
    isplitl [Htok]; · iexact Htok
    isplitl [Hrd]; · iexact Hrd
    iapply (show (bigSep (keys ×ˢ Finset.range 1) fun x => (writeTok EK x.1 (x.2 + 1) : sProp 𝕄)) ⊢ bigSep keys fun k => writeTok EK k 1 from
      Entails.of_eq (by rw [sep_prod]; exact bigSep_congr fun k _ => by rw [show Finset.range 1 = {0} from rfl, bigSep_singleton]))
    iexact Hw
  · iexact HB

/-! ## The run -/

theorem unscoped_bar : ∀ sm : SemLoc sig, sm.isScoped .tc = false → sm = semOf .bar := by decide

set_option backward.isDefEq.respectTransparency.types false in
/-- Every fair execution ends, with the operands as launched, the result computed and every counter at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v29) = res m c) ∧ r.2.sem = fun _ => 0) := by
  refine Pipeline.θ_run_regions_kit_dev_sems (pcfgs (F := F)) adm (pdats m) 0 cellOf_inj EP defs₀ 𝒱₀ L lv m ρ main
    (segs m 𝒱₀ L lv (E m) 0 (pdats m) (reg0 m))
    (fun c Q => by
      rewrite [main_chain c, Seg.run_eq_chain,
        show (segs m 𝒱₀ L lv (E m) 0 (pdats m) (reg0 m) c).map Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact .rfl)
    (fun c => by simp only [segs, Seg.pipes_host, Seg.pipes_region, Seg.pipes_nil]; decide) owe₀ L_of_ne (G (F := F)) (u₀ (F := F)) ?_
    (T₀ := T₀ m) (Tₙ := Tₙ m)
    (hch := fun c => ⟨.rfl, .rfl, .rfl, .rfl, .rfl, reg0_pre m c, reg0_post m c⟩)
    (hinit := init m ρ)
    (QY := fun c s => (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_v29) = res m c) ∧ s.sem (cell c .bar) = 0)
    (hfin := fun c s' => ?_)
    (hQ := fun s h hs => ⟨fun c => (h c).1, sem_eq_zero hs fun c sm hsm => by
      obtain rfl := unscoped_bar sm hsm
      exact (h c).2⟩)
  · unfold u₀
    iintro Hu
    ihave H := (ownU_pair _ _) $$ Hu
    icases H with ⟨HP, HX⟩
    imodintro
    isplitl [HP]; · iexact HP
    rw [G_all]
    iapply (own_proto (F := F))
    iexact HX
  · rw [show Tₙ m c = iprop(StableHlo.held (c : Thread nD τ) (Pipeline.ucRefs τ sig) (Vend m c) ∗ semVal (cell c .bar) 0) from rfl]
    unfold StableHlo.held
    iintro ⟨⟨Hh, Hb⟩, HSI⟩
    icombine HSI Hb gives %hb
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans
            ((Vend_ne m c main_arg0 (by decide)).trans (V5_x m c)),
          (h (Proc.devRef .tc main_arg1) (Finset.mem_filter.mpr ⟨StableHlo.devRef_mem_tcRefs main_arg1, by decide⟩)).trans
            ((Vend_ne m c main_arg1 (by decide)).trans (V5_w m c)),
          (h (Proc.devRef .tc main_v29) (Finset.mem_filter.mpr ⟨StableHlo.devRef_mem_tcRefs main_v29, by decide⟩)).trans (Vend_out m c)⟩,
        by simpa using hb⟩
    · iexact HSI

end Cert.KernelIdeal.Ring
-- ==== Proof.Sum.lean ====
/- The result at exact arithmetic: what the ring adds up is one long contraction. -/
module

public import proofs.«01_k».proof.Proof.Data
public import Idealize.ShloMosaic.Lib.MatmulPlain
public import Idealize.ShloMosaic.Lib.StackMember
public import Idealize.ShloMosaic.Lib.ValueIdx
public import Idealize.ShloMosaic.Lib.Pipeline.Value
public import Idealize.ShloMosaic.Lib.Pipeline.ValueKit.Acc
public import Idealize.ShloMosaic.PureOps.Ideal

@[expose] public section

set_option synthInstance.maxSize 4096

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

open scoped BigOperators

/-! ## Where a partial sum comes from -/

/-- The device `t` steps against a direction. -/
def back (ℓ : Bool) (c : Dev nD) (t : ℕ) : Dev nD := (up ℓ)^[t] c

theorem back_succ (ℓ : Bool) (c : Dev nD) (t : ℕ) : back ℓ c (t + 1) = back ℓ (up ℓ c) t := rfl

theorem pos_up (ℓ : Bool) (c : Dev nD) : pos (up ℓ c) = match ℓ with | false => pos c - 1 | true => pos c + 1 := by
  cases ℓ <;> simp [up, tgt, pos_mesh]

/-- Its place in the ring. -/
theorem pos_back (ℓ : Bool) (c : Dev nD) {t : ℕ} (ht : t < 32) :
    (pos (back ℓ c t)).val = match ℓ with | false => ((pos c).val + 32 - t) % 32 | true => ((pos c).val + t) % 32 := by
  have hp := (pos c).isLt
  induction t with
  | zero => cases ℓ <;> (show (pos c).val = _) <;> simp only <;> omega
  | succ t ih =>
    have e : back ℓ c (t + 1) = up ℓ (back ℓ c t) := Function.iterate_succ_apply' _ _ _
    have i := ih (by omega)
    rw [e, pos_up]
    cases ℓ
    · show (pos (back false c t) - 1).val = _
      rw [Fin.sub_def]
      show (32 - 1 + (pos (back false c t)).val) % 32 = _
      rw [i]; simp only; omega
    · show (pos (back true c t) + 1).val = _
      rw [Fin.add_def]
      show ((pos (back true c t)).val + 1) % 32 = _
      rw [i]; simp only; omega

theorem back_injective (ℓ : Bool) (c : Dev nD) : Function.Injective fun t : Fin 32 => back ℓ c t.val := by
  intro t t' h
  have h1 := pos_back ℓ c t.isLt
  have h2 := pos_back ℓ c t'.isLt
  have := t.isLt
  have := t'.isLt
  have hp := (pos c).isLt
  have h' : (pos (back ℓ c t.val)).val = (pos (back ℓ c t'.val)).val := congrArg (fun d => (pos d).val) h
  rw [h1, h2] at h'
  refine Fin.ext ?_
  cases ℓ <;> simp only at h' <;> omega

/-- Over the steps of a direction every device contributes once. -/
theorem sum_back {M : Type} [AddCommMonoid M] (ℓ : Bool) (c : Dev nD) (f : Dev nD → M) :
    ∑ t : Fin 32, f (back ℓ c t.val) = ∑ d : Fin 32, f d :=
  Function.Bijective.sum_comp (Finite.injective_iff_bijective.mp (back_injective ℓ c)) f

/-- The chunk that every one of them works on is the receiver's. -/
theorem chunk_back (ℓ : Bool) (c : Dev nD) {t : ℕ} (ht : t < 32) : mesh (chunk ℓ (pos (back ℓ c t)) (Fin.ofNat 32 (31 - t))) = c := by
  have hp := (pos c).isLt
  have hb := pos_back ℓ c ht
  have : chunk ℓ (pos (back ℓ c t)) (Fin.ofNat 32 (31 - t)) = pos c := by
    refine Fin.ext ?_
    have hm : (Fin.ofNat 32 (31 - t)).val = 31 - t := Nat.mod_eq_of_lt (by omega)
    cases ℓ
    · show (pos (back false c t) - 1 - Fin.ofNat 32 (31 - t)).val = _
      rw [Fin.sub_def, Fin.sub_def]
      show (32 - (Fin.ofNat 32 (31 - t)).val + (32 - 1 + (pos (back false c t)).val) % 32) % 32 = _
      rw [hm, hb]; simp only; omega
    · show (pos (back true c t) + 1 + Fin.ofNat 32 (31 - t)).val = _
      rw [Fin.add_def, Fin.add_def]
      show (((pos (back true c t)).val + 1) % 32 + (Fin.ofNat 32 (31 - t)).val) % 32 = _
      rw [hm, hb]; simp only; omega
  rw [this, mesh_pos]

/-! ## The ring's sum -/

variable (pr : Dev nD → Bool → ℕ → FVec Ideal S256x2048 .f32)

theorem sent_apply (ℓ : Bool) (b : Fin 2) (j : S128x2048.Idx) (i : ℕ) (c : Dev nD) :
    sent pr i c ℓ b j = ∑ t ∈ Finset.range (i + 1), half b (pr (back ℓ c t) ℓ (i - t)) j := by
  induction i generalizing c with
  | zero =>
    rw [Finset.sum_range_one]
    rfl
  | succ i ih =>
    rw [Finset.sum_range_succ', show sent pr (i + 1) c ℓ b j = half b (pr c ℓ (i + 1)) j + sent pr i (up ℓ c) ℓ b j from rfl, ih, add_comm]
    refine congrArg₂ (· + ·) (Finset.sum_congr rfl fun t _ => ?_) rfl
    rw [back_succ, Nat.add_sub_add_right]

theorem valOf_apply (c : Dev nD) (ℓ : Bool) (b : Fin 2) (j : S128x2048.Idx) :
    valOf pr c ℓ b j = ∑ t : Fin 32, half b (pr (back ℓ c t.val) ℓ (31 - t.val)) j := by
  have h := sent_apply pr ℓ b j 31 c
  rw [← Fin.sum_univ_eq_sum_range (fun t => half b (pr (back ℓ c t) ℓ (31 - t)) j)] at h
  exact h

/-! ## A partial product -/

theorem half_apply (b : Fin 2) (p : FVec Ideal S256x2048 .f32) (r : Fin 128) (l : Fin 2048) :
    half b p (ValueIdx.ix2 r l) = p (ValueIdx.ix2 (⟨128 * b.val + r.val, by omega⟩ : Fin 256) l) :=
  Idealize.ShloMosaic.extractStridedSlice_apply _ _ _ _ _ fun a => match a with
    | ⟨0, _⟩ => rfl
    | ⟨1, _⟩ => (Nat.zero_add _).symm

theorem product_apply (x : Vec Ideal S256x256 .bf16) (w : Vec Ideal S256x2048 .bf16) (r : Fin 256) (l : Fin 2048) :
    product x w (ValueIdx.ix2 r l) = (∑ k : Fin 256, (x (ValueIdx.ix2 r k) : EReal) * w (ValueIdx.ix2 k l) : EReal) := by
  unfold product
  rw [shapeCast_self, shapeCast_self]
  refine (Ideal.matmul_plain_apply (φ₁ := .bf16) (φ₂ := .bf16) none x w (constant S256x2048 .f32 0x00000000#32) r l).trans ?_
  show Ideal.ofBits .f32 0x00000000#32 + _ = _
  rw [Ideal.ofBits_zero_f32, zero_add]

theorem rows_emb : ∀ (c : Dev nD) (hv : rowOk (w32 c)) (r k : Fin 256),
    (rowsR (w32 c) hv).emb (ValueIdx.ix2 r k) = ValueIdx.ix2 (⟨256 * c.val + r.val, by have : c.val < 32 := c.isLt; omega⟩ : Fin 8192) k := by
  intro c hv r k
  have h0 : ∀ c : Dev nD, k0_off2 (w32 c) 0 = 256 * c.val := by decide
  have h1 : k0_off2 (w32 c) 1 = 0 := rfl
  funext a
  match a with
  | ⟨0, _⟩ => exact Fin.ext (show k0_off2 (w32 c) 0 + 1 * r.val = 256 * c.val + r.val by rw [h0, Nat.one_mul])
  | ⟨1, _⟩ => exact Fin.ext (show k0_off2 (w32 c) 1 + 1 * k.val = k.val by rw [h1, Nat.one_mul, Nat.zero_add])

theorem cols_emb (ℓ : Bool) (k : Fin 256) (l : Fin 2048) :
    (colsR ℓ).emb (ValueIdx.ix2 k l) = ValueIdx.ix2 k (⟨lo ℓ + l.val, by cases ℓ <;> simp only [lo] <;> omega⟩ : Fin 4096) := by
  funext a
  match a with
  | ⟨0, _⟩ => exact Fin.ext (show 0 + 1 * k.val = k.val by rw [Nat.one_mul, Nat.zero_add])
  | ⟨1, _⟩ => exact Fin.ext (show lo ℓ + 1 * l.val = lo ℓ + l.val by rw [Nat.one_mul])

variable (X : Dev nD → S8192x256.Idx → Elt Ideal .bf16) (W : Dev nD → S256x4096.Idx → Elt Ideal .bf16)

/-- The result at an index: every device's share of the contraction. -/
theorem outOf_apply (c : Dev nD) (r : Fin 256) (l : Fin 4096) :
    outOf (valOf (prOf X W) c) (ValueIdx.ix2 r l)
      = (∑ d : Fin 32, ∑ k : Fin 256, (X d (ValueIdx.ix2 (⟨256 * c.val + r.val, by have : c.val < 32 := c.isLt; omega⟩ : Fin 8192) k) : EReal) * W d (ValueIdx.ix2 k l) : EReal) := by
  obtain ⟨ℓ, b, j, e⟩ := out_cover (ValueIdx.ix2 r l)
  obtain ⟨r', l', rfl⟩ : ∃ r' l', j = ValueIdx.ix2 r' l' := ⟨_, _, ValueIdx.eq_ix2 j⟩
  have e0 : r.val = 128 * b.val + r'.val := (congrArg (fun q => (q 0).val) e).trans (show 128 * b.val + 1 * r'.val = _ by omega)
  have e1 : l.val = lo ℓ + l'.val := (congrArg (fun q => (q 1).val) e).trans (show lo ℓ + 1 * l'.val = _ by omega)
  rw [e, outOf_emb, valOf_apply,
    ← sum_back ℓ c fun d => (∑ k : Fin 256, (X d (ValueIdx.ix2 (⟨256 * c.val + r.val, by have : c.val < 32 := c.isLt; omega⟩ : Fin 8192) k) : EReal) * W d (ValueIdx.ix2 k l) : EReal)]
  refine Finset.sum_congr rfl fun t _ => ?_
  rw [half_apply]
  unfold prOf
  rw [product_apply]
  refine Finset.sum_congr rfl fun k _ => ?_
  rw [rows_emb, cols_emb]
  have h := chunk_back ℓ c t.isLt
  refine congrArg₂ (· * ·) (congrArg _ ?_) (congrArg _ ?_)
  · funext a
    match a with
    | ⟨0, _⟩ =>
      refine Fin.ext ?_
      show 256 * (mesh (chunk ℓ (pos (back ℓ c t.val)) (Fin.ofNat 32 (31 - t.val)))).val + (128 * b.val + r'.val) = 256 * c.val + r.val
      rw [h, e0]
    | ⟨1, _⟩ => rfl
  · funext a
    match a with
    | ⟨0, _⟩ => rfl
    | ⟨1, _⟩ => exact Fin.ext (by show lo ℓ + l'.val = l.val; rw [e1])

end Cert.KernelIdeal.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Sum
public import Idealize.ShloMosaic.Lib.Quiescent
public import Idealize.ShloMosaic.Lib.Tactic
public import Idealize.ShloMosaic.Adequacy
public import Idealize.ShloMosaic.Init

@[expose] public section

noncomputable section

namespace Cert.Proof

open Idealize.ShloMosaic Idealize.SL.Sem Idealize.ShloMosaic.TcCoe
open scoped BigOperators

/-- The idealized kernel's frame: its run, the result dropped. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.Ring.run_main (F := Ideal) m ρ)

/-- The frame of the idealized kernel's text, its floats being the bit patterns. -/
def FrameAtBits : Prop :=
  ∀ (m : (ℓ : Loc Cert.KernelIdeal.nD Cert.KernelIdeal.τ Cert.KernelIdeal.sig) → Buf (Elt Bits) ℓ) (ρ : Dev Cert.KernelIdeal.nD → PrngReg), True →
    θ_run (Cert.KernelIdeal.defs (F := Bits)) (onTc (τ := Cert.KernelIdeal.τ) (Cert.KernelIdeal.main (F := Bits))) ⟨m, fun _ => 0, ρ⟩
      (fun r => (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0)

/-- The two programs have the same text, so their frames at the bit patterns are the same statement. -/
theorem frame_same : Cert.quiescent_Kernel (hKernel := Cert.Kernel.Gen.facts) = FrameAtBits := by sl_kernel_rfl

/-- The kernel's frame: the same run at the bit patterns, the result dropped. -/
theorem frame_kernel : Cert.quiescent_Kernel (hKernel := Cert.Kernel.Gen.facts) :=
  frame_same.mpr fun m ρ _ =>
    (θ_run Cert.KernelIdeal.defs _ _).mono (fun _ h => ⟨fun c => ⟨(h.1 c).1, (h.1 c).2.1⟩, h.2⟩) (Cert.KernelIdeal.Ring.run_main (F := Bits) m ρ)

/-- The reference's frame. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- The reference's result at an index. -/
theorem reference_apply (X : FVec Ideal ⟨2, ![8192, 8192]⟩ .bf16) (W : FVec Ideal ⟨2, ![8192, 4096]⟩ .bf16) (r : Fin 8192) (l : Fin 4096) :
    Host.dotGeneral (F := Ideal) Cert.ReferenceIdeal.dot_S8192x8192_S8192x4096_S8192x4096_1_0_0_1_n_n none X W (ValueIdx.ix2 r l)
      = (∑ q : Fin 8192, (X (ValueIdx.ix2 r q) : EReal) * W (ValueIdx.ix2 q l) : EReal) :=
  StackMember.dotGeneral_plain_apply none X W r l

/-- Block `c` of the reference's result is what device `c` computes of its blocks of the operands. -/
theorem result_block (X : FVec Ideal ⟨2, ![8192, 8192]⟩ .bf16) (W : FVec Ideal ⟨2, ![8192, 4096]⟩ .bf16) (c : Fin 32) :
    Cert.KernelIdeal.Ring.outOf (Cert.KernelIdeal.Ring.valOf (Cert.KernelIdeal.Ring.prOf (F := Ideal)
        (fun d => Layout.block ⟨2, ![8192, 256]⟩ ⟨2, ![8192, 8192]⟩ 1 32 d X)
        (fun d => Layout.block ⟨2, ![256, 4096]⟩ ⟨2, ![8192, 4096]⟩ 0 32 d W)) c)
      = Layout.block ⟨2, ![256, 4096]⟩ ⟨2, ![8192, 4096]⟩ 0 32 c
          (Host.dotGeneral (F := Ideal) Cert.ReferenceIdeal.dot_S8192x8192_S8192x4096_S8192x4096_1_0_0_1_n_n none X W) := by
  funext j
  obtain ⟨r, l, rfl⟩ : ∃ r l, j = ValueIdx.ix2 r l := ⟨_, _, ValueIdx.eq_ix2 j⟩
  have hc : c.val < 32 := c.isLt
  have hj : (show Layout.Tiles ⟨2, ![256, 4096]⟩ ⟨2, ![8192, 4096]⟩ 0 32 by decide).idx c (ValueIdx.ix2 r l)
      = ValueIdx.ix2 (⟨256 * c.val + r.val, by omega⟩ : Fin 8192) l := by
    funext a
    match a with
    | ⟨0, _⟩ => exact Fin.ext (show c.val * 256 + r.val = 256 * c.val + r.val by omega)
    | ⟨1, _⟩ => rfl
  refine (Cert.KernelIdeal.Ring.outOf_apply _ _ c r l).trans ?_
  rw [Layout.block_apply, hj, reference_apply]
  refine Eq.trans ?_ (Fin.sum_mul_add_fin 32 256 fun q : Fin 8192 =>
    ((X (ValueIdx.ix2 (⟨256 * c.val + r.val, by omega⟩ : Fin 8192) q) : EReal) * W (ValueIdx.ix2 q l) : EReal))
  refine Finset.sum_congr rfl fun d _ => Finset.sum_congr rfl fun k _ => ?_
  refine congrArg₂ (· * ·) (congrArg X ?_) (congrArg W ?_)
  · funext a
    match a with
    | ⟨0, _⟩ => rfl
    | ⟨1, _⟩ => rfl
  · funext a
    match a with
    | ⟨0, _⟩ => rfl
    | ⟨1, _⟩ => rfl

/-- The value claim. -/
theorem value : Cert.algebraic_KernelIdeal_ReferenceIdeal := by
  intro m g m' g' _ hm
  refine ⟨extf .f32 (truncf .bf16 (Host.dotGeneral (F := Ideal) (φ₁ := .bf16) (φ₂ := .bf16) Cert.ReferenceIdeal.dot_S8192x8192_S8192x4096_S8192x4096_1_0_0_1_n_n none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)))
        Cert.ReferenceIdeal.Gen.facts.bitsLt_bf16_f32) Cert.ReferenceIdeal.Gen.facts.bitsLt_bf16_f32, ?_, ?_⟩
  · refine (θ_run Cert.KernelIdeal.defs _ _).mono (fun r h c => ⟨(h.1 c).2.2.trans ?_, (h.1 c).1, (h.1 c).2.1⟩)
      (Cert.KernelIdeal.Ring.run_main (F := Ideal) m g)
    have hx : Cert.KernelIdeal.Ring.xs m = fun d => Layout.block ⟨2, ![8192, 256]⟩ ⟨2, ![8192, 8192]⟩ 1 32 d
        (m' (((0 : Dev Cert.ReferenceIdeal.nD).tc : Thread Cert.ReferenceIdeal.nD Cert.ReferenceIdeal.τ).loc Cert.ReferenceIdeal.main_arg0)) :=
      funext fun d => (hm d).1
    have hw : Cert.KernelIdeal.Ring.ws m = fun d => Layout.block ⟨2, ![256, 4096]⟩ ⟨2, ![8192, 4096]⟩ 0 32 d
        (m' (((0 : Dev Cert.ReferenceIdeal.nD).tc : Thread Cert.ReferenceIdeal.nD Cert.ReferenceIdeal.τ).loc Cert.ReferenceIdeal.main_arg1)) :=
      funext fun d => (hm d).2
    unfold Cert.KernelIdeal.Ring.res Cert.KernelIdeal.Ring.prM
    rw [hx, hw]
    exact result_block _ _ c
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  frame_kernel, frame_kernelIdeal, frame_reference, trivial, value⟩

end Cert.Proof

end
